-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)) (v5 : (c : Dev Cert.Kernel3Ideal.nD) → Buf (Elt Ideal) ((c.tc : Thread Cert.Kernel3Ideal.nD Cert.Kernel3Ideal.τ).loc Cert.Kernel3Ideal.main_v3_5)) (v6 : (c : Dev Cert.Kernel3Ideal.nD) → Buf (Elt Ideal) ((c.tc : Thread Cert.Kernel3Ideal.nD Cert.Kernel3Ideal.τ).loc Cert.Kernel3Ideal.main_v3_6)) (v7 : (c : Dev Cert.Kernel3Ideal.nD) → Buf (Elt Ideal) ((c.tc : Thread Cert.Kernel3Ideal.nD Cert.Kernel3Ideal.τ).loc Cert.Kernel3Ideal.main_v3_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_v3_5) = v5 c
          ∧ r.2.mem ((c.tc : Thread Cert.Kernel3Ideal.nD Cert.Kernel3Ideal.τ).loc Cert.Kernel3Ideal.main_v3_6) = v6 c
          ∧ r.2.mem ((c.tc : Thread Cert.Kernel3Ideal.nD Cert.Kernel3Ideal.τ).loc Cert.Kernel3Ideal.main_v3_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_v46) = v3 c
          ∧ r.2.mem ((c.tc : Thread Cert.Reference3Ideal.nD Cert.Reference3Ideal.τ).loc Cert.Reference3Ideal.main_v47) = v4 c
          ∧ r.2.mem ((c.tc : Thread Cert.Reference3Ideal.nD Cert.Reference3Ideal.τ).loc Cert.Reference3Ideal.main_v48) = v5 c
          ∧ r.2.mem ((c.tc : Thread Cert.Reference3Ideal.nD Cert.Reference3Ideal.τ).loc Cert.Reference3Ideal.main_v50) = v6 c
          ∧ r.2.mem ((c.tc : Thread Cert.Reference3Ideal.nD Cert.Reference3Ideal.τ).loc Cert.Reference3Ideal.main_v51) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x512 : Shape := ⟨2, ![16384, 512]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S4x64 : S_.BroadcastsInDim S4x64 (![] : Fin 0 → Fin S4x64.rank)

variable [Facts]

def fn {F : FTy → Type} [FloatOps F] (main_arg0 : FVec F S16384x512 .bf16) (main_arg1 : FVec F S16384x512 .f32) (main_arg2 : FVec F S16384x512 .f32) (main_arg3 : FVec F S4x64 .f32) (main_arg4 : FVec F S1x128 .f32) : IVec S16384x512 1 × IVec S16384x512 1 × IVec S16384x512 1 × IVec S4x64 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_v7 : FVec F S16384x512 .f32 := Host.absf main_arg2
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  let main_v10 : FVec F S4x64 .f32 := Host.absf main_arg3
  let main_cst_2 : FVec F S_ .f32 := constant S_ .f32 0x7F800000#32
  let main_v11 : FVec F S4x64 .f32 := broadcastInDim S4x64 ![] bcast_S_S4x64 main_cst_2
  let main_v12 : IVec S4x64 1 := cmpf .olt main_v10 main_v11
  (main_v3, main_v6, main_v9, main_v12)
-- ==== Kernel.lean ====
abbrev S16384x512 : Shape := ⟨2, ![16384, 512]⟩
abbrev S4x64 : Shape := ⟨2, ![4, 64]⟩
abbrev S1x128 : Shape := ⟨2, ![1, 128]⟩
abbrev S512x256 : Shape := ⟨2, ![512, 256]⟩
abbrev S4096x256 : Shape := ⟨2, ![4096, 256]⟩
abbrev S2x2x8x512x128 : Shape := ⟨5, ![2, 2, 8, 512, 128]⟩
abbrev S2x8x144x512 : Shape := ⟨4, ![2, 8, 144, 512]⟩
abbrev S2x2x1x512 : Shape := ⟨4, ![2, 2, 1, 512]⟩
abbrev S2x2x144x512 : Shape := ⟨4, ![2, 2, 144, 512]⟩
abbrev S2x2x512x512 : Shape := ⟨4, ![2, 2, 512, 512]⟩
abbrev S512x128 : Shape := ⟨2, ![512, 128]⟩
abbrev S1x1x1x512x128 : Shape := ⟨5, ![1, 1, 1, 512, 128]⟩
abbrev S128x512 : Shape := ⟨2, ![128, 512]⟩
abbrev S16x512 : Shape := ⟨2, ![16, 512]⟩
abbrev S144x512 : Shape := ⟨2, ![144, 512]⟩
abbrev S1x1x144x512 : Shape := ⟨4, ![1, 1, 144, 512]⟩
abbrev S512x512 : Shape := ⟨2, ![512, 512]⟩
abbrev S1x1x512x512 : Shape := ⟨4, ![1, 1, 512, 512]⟩
abbrev S1x1 : Shape := ⟨2, ![1, 1]⟩
abbrev S1x1x1x512 : Shape := ⟨4, ![1, 1, 1, 512]⟩
abbrev S1x512 : Shape := ⟨2, ![1, 512]⟩
abbrev S64x512 : Shape := ⟨2, ![64, 512]⟩
abbrev S512 : Shape := ⟨1, ![512]⟩
abbrev S1x64 : Shape := ⟨2, ![1, 64]⟩
abbrev S1 : Shape := ⟨1, ![1]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S4x64, .f32⟩
  | .hbm, ⟨4, _⟩ => ⟨S1x128, .f32⟩
  | .hbm, ⟨5, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4x64, .f32⟩
  | .local _ .vmem, ⟨7, _⟩ => ⟨S1x128, .f32⟩
  | .local _ .vmem, ⟨8, _⟩ => ⟨S512x256, .bf16⟩
  | .local _ .vmem, ⟨9, _⟩ => ⟨S512x256, .bf16⟩
  | .local _ .vmem, ⟨10, _⟩ => ⟨S2x2x8x512x128, .bf16⟩
  | .local _ .vmem, ⟨11, _⟩ => ⟨S2x8x144x512, .bf16⟩
  | .local _ .vmem, ⟨12, _⟩ => ⟨S2x2x1x512, .f32⟩
  | .local _ .vmem, ⟨13, _⟩ => ⟨S2x2x144x512, .f32⟩
  | .local _ .vmem, ⟨14, _⟩ => ⟨S2x2x512x512, .f32⟩
  | .local _ .vmem, ⟨15, _⟩ => ⟨S2x2x512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_91 : BitVec 32 := 1#32
  ⟨c0_i32_89, v168, c1_i32_91⟩
def k0_off1 (i : grid0.Coords) (k0_t1 : Fin (k0_t1_loop i).trips) (c1_i32_147 : BitVec 32) : Fin 5 → Nat :=
  let c0_148 : Index := 0#32
  let c0_149 : Index := 0#32
  let c2_i32_146 : BitVec 32 := 2#32
  let c0_i32_89 : BitVec 32 := 0#32
  let c1_i32_91 : BitVec 32 := 1#32
  let arg15 : BitVec 32 := Scf.iv c0_i32_89 c1_i32_91 k0_t1
  let v277 : BitVec 32 := Scalar.muli c2_i32_146 arg15
  let v278 : BitVec 32 := Scalar.addi v277 c1_i32_147
  let v279 : Index := Scalar.indexCast v278
  let c0_150 : Index := 0#32
  let c0_151 : Index := 0#32
  ![0, 0, v279.toNat, 0, 0]
def k0_off2 (i : grid0.Coords) (k0_t1 : Fin (k0_t1_loop i).trips) (c1_i32_147 : BitVec 32) : Fin 5 → Nat :=
  let c0_157 : Index := 0#32
  let c1_158 : Index := 1#32
  let c2_i32_146 : BitVec 32 := 2#32
  let c0_i32_89 : BitVec 32 := 0#32
  let c1_i32_91 : BitVec 32 := 1#32
  let arg15 : BitVec 32 := Scf.iv c0_i32_89 c1_i32_91 k0_t1
  let v277 : BitVec 32 := Scalar.muli c2_i32_146 arg15
  let v278 : BitVec 32 := Scalar.addi v277 c1_i32_147
  let v286 : Index := Scalar.indexCast v278
  let c0_159 : Index := 0#32
  let c0_160 : Index := 0#32
  ![0, 1, v286.toNat, 0, 0]
def k0_off3 (i : grid0.Coords) (k0_t1 : Fin (k0_t1_loop i).trips) (c1_i32_147 : BitVec 32) : Fin 5 → Nat :=
  let c1_166 : Index := 1#32
  let c0_167 : Index := 0#32
  let c2_i32_146 : BitVec 32 := 2#32
  let c0_i32_89 : BitVec 32 := 0#32
  let c1_i32_91 : BitVec 32 := 1#32
  let arg15 : BitVec 32 := Scf.iv c0_i32_89 c1_i32_91 k0_t1
  let v277 : BitVec 32 := Scalar.muli c2_i32_146 arg15
  let v278 : BitVec 32 := Scalar.addi v277 c1_i32_147
  let v293 : Index := Scalar.indexCast v278
  let c0_168 : Index := 0#32
  let c0_169 : Index := 0#32
  ![1, 0, v293.toNat, 0, 0]
def k0_off4 (i : grid0.Coords) (k0_t1 : Fin (k0_t1_loop i).trips) (c1_i32_147 : BitVec 32) : Fin 5 → Nat :=
  let c1_175 : Index := 1#32
  let c1_176 : Index := 1#32
  let c2_i32_146 : BitVec 32 := 2#32
  let c0_i32_89 : BitVec 32 := 0#32
  let c1_i32_91 : BitVec 32 := 1#32
  let arg15 : BitVec 32 := Scf.iv c0_i32_89 c1_i32_91 k0_t1
  let v277 : BitVec 32 := Scalar.muli c2_i32_146 arg15
  let v278 : BitVec 32 := Scalar.addi v277 c1_i32_147
  let v300 : Index := Scalar.indexCast v278
  let c0_177 : Index := 0#32
  let c0_178 : Index := 0#32
  ![1, 1, v300.toNat, 0, 0]
def k0_off5 (i : grid0.Coords) (k0_t1 : Fin (k0_t1_loop i).trips) : Fin 4 → Nat :=
  let c0_186 : Index := 0#32
  let c2_i32_184 : BitVec 32 := 2#32
  let c0_i32_89 : BitVec 32 := 0#32
  let c1_i32_91 : BitVec 32 := 1#32
  let arg15 : BitVec 32 := Scf.iv c0_i32_89 c1_i32_91 k0_t1
  let v307 : BitVec 32 := Scalar.muli c2_i32_184 arg15
  let v316 : Index := Scalar.indexCast v307
  let c0_187 : Index := 0#32
  let c0_188 : Index := 0#32
  ![0, v316.toNat, 0, 0]
def k0_off6 (i : grid0.Coords) (k0_t1 : Fin (k0_t1_loop i).trips) : Fin 4 → Nat :=
  let c1_235 : Index := 1#32
  let c2_i32_184 : BitVec 32 := 2#32
  let c0_i32_89 : BitVec 32 := 0#32
  let c1_i32_91 : BitVec 32 := 1#32
  let arg15 : BitVec 32 := Scf.iv c0_i32_89 c1_i32_91 k0_t1
  let v307 : BitVec 32 := Scalar.muli c2_i32_184 arg15
  let v415 : Index := Scalar.indexCast v307
  let c0_236 : Index := 0#32
  let c0_237 : Index := 0#32
  ![1, v415.toNat, 0, 0]
def k0_off7 (i : grid0.Coords) (k0_t1 : Fin (k0_t1_loop i).trips) : Fin 4 → Nat :=
  let c0_324 : Index := 0#32
  let c2_i32_320 : BitVec 32 := 2#32
  let c0_i32_89 : BitVec 32 := 0#32
  let c1_i32_91 : BitVec 32 := 1#32
  let arg15 : BitVec 32 := Scf.iv c0_i32_89 c1_i32_91 k0_t1
  let v536 : BitVec 32 := Scalar.muli c2_i32_320 arg15
  let c1_i32_321 : BitVec 32 := 1#32
  let v537 : BitVec 32 := Scalar.addi v536 c1_i32_321
  let v546 : Index := Scalar.indexCast v537
  let c0_325 : Index := 0#32
  let c0_326 : Index := 0#32
  ![0, v546.toNat, 0, 0]
def k0_off8 (i : grid0.Coords) (k0_t1 : Fin (k0_t1_loop i).trips) : Fin 4 → Nat :=
  let c1_373 : Index := 1#32
  let c2_i32_320 : BitVec 32 := 2#32
  let c0_i32_89 : BitVec 32 := 0#32
  let c1_i32_91 : BitVec 32 := 1#32
  let arg15 : BitVec 32 := Scf.iv c0_i32_89 c1_i32_91 k0_t1
  let v536 : BitVec 32 := Scalar.muli c2_i32_320 arg15
  let c1_i32_321 : BitVec 32 := 1#32
  let v537 : BitVec 32 := Scalar.addi v536 c1_i32_321
  let v645 : Index := Scalar.indexCast v537
  let c0_374 : Index := 0#32
  let c0_375 : Index := 0#32
  ![1, v645.toNat, 0, 0]
@[reducible] def k0_t2_loop (i : grid0.Coords) : Scf.Loop 32 :=
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let v165 : BitVec 32 := Scalar.addi c0_i32_89 v164
  let c1_i32_92 : BitVec 32 := 1#32
  ⟨v168, v165, c1_i32_92⟩
def k0_off9 (i : grid0.Coords) (k0_t2 : Fin (k0_t2_loop i).trips) (c1_i32_147 : BitVec 32) : Fin 5 → Nat :=
  let c0_148 : Index := 0#32
  let c0_149 : Index := 0#32
  let c2_i32_146 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v277 : BitVec 32 := Scalar.muli c2_i32_146 arg15
  let v278 : BitVec 32 := Scalar.addi v277 c1_i32_147
  let v279 : Index := Scalar.indexCast v278
  let c0_150 : Index := 0#32
  let c0_151 : Index := 0#32
  ![0, 0, v279.toNat, 0, 0]
def k0_off10 (i : grid0.Coords) (k0_t2 : Fin (k0_t2_loop i).trips) (c1_i32_147 : BitVec 32) : Fin 5 → Nat :=
  let c0_157 : Index := 0#32
  let c1_158 : Index := 1#32
  let c2_i32_146 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v277 : BitVec 32 := Scalar.muli c2_i32_146 arg15
  let v278 : BitVec 32 := Scalar.addi v277 c1_i32_147
  let v286 : Index := Scalar.indexCast v278
  let c0_159 : Index := 0#32
  let c0_160 : Index := 0#32
  ![0, 1, v286.toNat, 0, 0]
def k0_off11 (i : grid0.Coords) (k0_t2 : Fin (k0_t2_loop i).trips) (c1_i32_147 : BitVec 32) : Fin 5 → Nat :=
  let c1_166 : Index := 1#32
  let c0_167 : Index := 0#32
  let c2_i32_146 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v277 : BitVec 32 := Scalar.muli c2_i32_146 arg15
  let v278 : BitVec 32 := Scalar.addi v277 c1_i32_147
  let v293 : Index := Scalar.indexCast v278
  let c0_168 : Index := 0#32
  let c0_169 : Index := 0#32
  ![1, 0, v293.toNat, 0, 0]
def k0_off12 (i : grid0.Coords) (k0_t2 : Fin (k0_t2_loop i).trips) (c1_i32_147 : BitVec 32) : Fin 5 → Nat :=
  let c1_175 : Index := 1#32
  let c1_176 : Index := 1#32
  let c2_i32_146 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v277 : BitVec 32 := Scalar.muli c2_i32_146 arg15
  let v278 : BitVec 32 := Scalar.addi v277 c1_i32_147
  let v300 : Index := Scalar.indexCast v278
  let c0_177 : Index := 0#32
  let c0_178 : Index := 0#32
  ![1, 1, v300.toNat, 0, 0]
def k0_off13 (i : grid0.Coords) (k0_t2 : Fin (k0_t2_loop i).trips) : Fin 4 → Nat :=
  let c0_186 : Index := 0#32
  let c2_i32_184 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v307 : BitVec 32 := Scalar.muli c2_i32_184 arg15
  let v316 : Index := Scalar.indexCast v307
  let c0_187 : Index := 0#32
  let c0_188 : Index := 0#32
  ![0, v316.toNat, 0, 0]
def k0_off14 (i : grid0.Coords) (k0_t2 : Fin (k0_t2_loop i).trips) : Fin 4 → Nat :=
  let c1_235 : Index := 1#32
  let c2_i32_184 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v307 : BitVec 32 := Scalar.muli c2_i32_184 arg15
  let v415 : Index := Scalar.indexCast v307
  let c0_236 : Index := 0#32
  let c0_237 : Index := 0#32
  ![1, v415.toNat, 0, 0]
def k0_off15 (i : grid0.Coords) (k0_t2 : Fin (k0_t2_loop i).trips) : Fin 4 → Nat :=
  let c0_324 : Index := 0#32
  let c2_i32_320 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v536 : BitVec 32 := Scalar.muli c2_i32_320 arg15
  let c1_i32_321 : BitVec 32 := 1#32
  let v537 : BitVec 32 := Scalar.addi v536 c1_i32_321
  let v546 : Index := Scalar.indexCast v537
  let c0_325 : Index := 0#32
  let c0_326 : Index := 0#32
  ![0, v546.toNat, 0, 0]
def k0_off16 (i : grid0.Coords) (k0_t2 : Fin (k0_t2_loop i).trips) : Fin 4 → Nat :=
  let c1_373 : Index := 1#32
  let c2_i32_320 : BitVec 32 := 2#32
  let c0_i32_89 : BitVec 32 := 0#32
  let arg2 : BitVec 32 := BitVec.ofNat 32 (i 2).val
  let c0_i32_82 : BitVec 32 := 0#32
  let v148 : BitVec 1 := Scalar.cmpi .sgt arg2 c0_i32_82
  let v149 : BitVec 32 := Scalar.extui v148
  let c0_i32_83 : BitVec 32 := 0#32
  let v150 : BitVec 1 := Scalar.cmpi .slt arg2 c0_i32_83
  let v151 : BitVec 32 := Scalar.extui v150
  let v152 : BitVec 32 := Scalar.subi v149 v151
  let c2_i32_81 : BitVec 32 := 2#32
  let c0_i32_84 : BitVec 32 := 0#32
  let v153 : BitVec 1 := Scalar.cmpi .sgt c2_i32_81 c0_i32_84
  let v154 : BitVec 32 := Scalar.extui v153
  let c0_i32_85 : BitVec 32 := 0#32
  let v155 : BitVec 1 := Scalar.cmpi .slt c2_i32_81 c0_i32_85
  let v156 : BitVec 32 := Scalar.extui v155
  let v157 : BitVec 32 := Scalar.subi v154 v156
  let v158 : BitVec 1 := Scalar.cmpi .ne v152 v157
  let v159 : BitVec 32 := Scalar.remsi arg2 c2_i32_81
  let c0_i32_86 : BitVec 32 := 0#32
  let v160 : BitVec 1 := Scalar.cmpi .ne v159 c0_i32_86
  let v161 : BitVec 1 := Scalar.andi v158 v160
  let v147 : BitVec 32 := Scalar.divsi arg2 c2_i32_81
  let c1_i32_87 : BitVec 32 := 1#32
  let v162 : BitVec 32 := Scalar.subi v147 c1_i32_87
  let v163 : BitVec 32 := Scalar.select v161 v162 v147
  let v164 : BitVec 32 := Scalar.subi v163 c0_i32_89
  let c1_i32_90 : BitVec 32 := 1#32
  let v166 : BitVec 32 := Scalar.divsi v164 c1_i32_90
  let v167 : BitVec 32 := Scalar.muli v166 c1_i32_90
  let v168 : BitVec 32 := Scalar.addi c0_i32_89 v167
  let c1_i32_92 : BitVec 32 := 1#32
  let arg15 : BitVec 32 := Scf.iv v168 c1_i32_92 k0_t2
  let v536 : BitVec 32 := Scalar.muli c2_i32_320 arg15
  let c1_i32_321 : BitVec 32 := 1#32
  let v537 : BitVec 32 := Scalar.addi v536 c1_i32_321
  let v645 : Index := Scalar.indexCast v537
  let c0_374 : Index := 0#32
  let c0_375 : Index := 0#32
  ![1, v645.toNat, 0, 0]
def k0_cond2 (i : grid0.Coords) : BitVec 1 :=
  let arg2 : BitVec 32 := BitVec.ofNat 32 (i 2).val
  let c2_i32_93 : BitVec 32 := 2#32
  let c0_i32_94 : BitVec 32 := 0#32
  let v169 : BitVec 1 := Scalar.cmpi .eq c2_i32_93 c0_i32_94
  let c1_i32_95 : BitVec 32 := 1#32
  let v170 : BitVec 32 := Scalar.select v169 c1_i32_95 c2_i32_93
  let v171 : BitVec 32 := Scalar.remsi arg2 v170
  let c0_i32_97 : BitVec 32 := 0#32
  let v173 : BitVec 1 := Scalar.cmpi .slt v171 c0_i32_97
  let c0_i32_98 : BitVec 32 := 0#32
  let v174 : BitVec 1 := Scalar.cmpi .slt v170 c0_i32_98
  let v175 : BitVec 1 := Scalar.xori v173 v174
  let c0_i32_96 : BitVec 32 := 0#32
  let v172 : BitVec 1 := Scalar.cmpi .ne v171 c0_i32_96
  let v176 : BitVec 1 := Scalar.andi v175 v172
  let v177 : BitVec 32 := Scalar.addi v171 v170
  let v178 : BitVec 32 := Scalar.select v176 v177 v171
  let c1_i32_99 : BitVec 32 := 1#32
  let v179 : BitVec 1 := Scalar.cmpi .eq v178 c1_i32_99
  let v180 : BitVec 32 := Scalar.extui v179
  let c0_i32_100 : BitVec 32 := 0#32
  let v181 : BitVec 1 := Scalar.cmpi .ne v180 c0_i32_100
  v181

def k0_off17 (i : grid0.Coords) : Fin 5 → Nat :=
  let c0_146 : Index := 0#32
  let c0_147 : Index := 0#32
  let arg2 : BitVec 32 := BitVec.ofNat 32 (i 2).val
  let v277 : Index := Scalar.indexCast arg2
  let c0_148 : Index := 0#32
  let c0_149 : Index := 0#32
  ![0, 0, v277.toNat, 0, 0]
def k0_off18 (i : grid0.Coords) : Fin 5 → Nat :=
  let c0_155 : Index := 0#32
  let c1_156 : Index := 1#32
  let arg2 : BitVec 32 := BitVec.ofNat 32 (i 2).val
  let v284 : Index := Scalar.indexCast arg2
  let c0_157 : Index := 0#32
  let c0_158 : Index := 0#32
  ![0, 1, v284.toNat, 0, 0]
def k0_off19 (i : grid0.Coords) : Fin 5 → Nat :=
  let c1_164 : Index := 1#32
  let c0_165 : Index := 0#32
  let arg2 : BitVec 32 := BitVec.ofNat 32 (i 2).val
  let v291 : Index := Scalar.indexCast arg2
  let c0_166 : Index := 0#32
  let c0_167 : Index := 0#32
  ![1, 0, v291.toNat, 0, 0]
def k0_off20 (i : grid0.Coords) : Fin 5 → Nat :=
  let c1_173 : Index := 1#32
  let c1_174 : Index := 1#32
  let arg2 : BitVec 32 := BitVec.ofNat 32 (i 2).val
  let v298 : Index := Scalar.indexCast arg2
  let c0_175 : Index := 0#32
  let c0_176 : Index := 0#32
  ![1, 1, v298.toNat, 0, 0]
def k0_off21 (i : grid0.Coords) : Fin 4 → Nat :=
  let c0_184 : Index := 0#32
  let arg2 : BitVec 32 := BitVec.ofNat 32 (i 2).val
  let c1_i32_182 : BitVec 32 := 1#32
  let v305 : BitVec 32 := Scalar.subi arg2 c1_i32_182
  let v314 : Index := Scalar.indexCast v305
  let c0_185 : Index := 0#32
  let c0_186 : Index := 0#32
  ![0, v314.toNat, 0, 0]
def k0_off22 (i : grid0.Coords) : Fin 4 → Nat :=
  let c1_233 : Index := 1#32
  let arg2 : BitVec 32 := BitVec.ofNat 32 (i 2).val
  let c1_i32_182 : BitVec 32 := 1#32
  let v305 : BitVec 32 := Scalar.subi arg2 c1_i32_182
  let v413 : Index := Scalar.indexCast v305
  let c0_234 : Index := 0#32
  let c0_235 : Index := 0#32
  ![1, v413.toNat, 0, 0]
def k0_off23 (i : grid0.Coords) : Fin 4 → Nat :=
  let c0_282 : Index := 0#32
  let arg2 : BitVec 32 := BitVec.ofNat 32 (i 2).val
  let v512 : Index := Scalar.indexCast arg2
  let c0_283 : Index := 0#32
  let c0_284 : Index := 0#32
  ![0, v512.toNat, 0, 0]
def k0_off24 (i : grid0.Coords) : Fin 4 → Nat :=
  let c1_333 : Index := 1#32
  let arg2 : BitVec 32 := BitVec.ofNat 32 (i 2).val
  let v621 : Index := Scalar.indexCast arg2
  let c0_334 : Index := 0#32
  let c0_335 : Index := 0#32
  ![1, v621.toNat, 0, 0]
def k0_cond3 (i : grid0.Coords) : BitVec 1 :=
  let arg2 : BitVec 32 := BitVec.ofNat 32 (i 2).val
  let c2_i32_101 : BitVec 32 := 2#32
  let c0_i32_102 : BitVec 32 := 0#32
  let v182 : BitVec 1 := Scalar.cmpi .eq c2_i32_101 c0_i32_102
  let c1_i32_103 : BitVec 32 := 1#32
  let v183 : BitVec 32 := Scalar.select v182 c1_i32_103 c2_i32_101
  let v184 : BitVec 32 := Scalar.remsi arg2 v183
  let c0_i32_105 : BitVec 32 := 0#32
  let v186 : BitVec 1 := Scalar.cmpi .slt v184 c0_i32_105
  let c0_i32_106 : BitVec 32 := 0#32
  let v187 : BitVec 1 := Scalar.cmpi .slt v183 c0_i32_106
  let v188 : BitVec 1 := Scalar.xori v186 v187
  let c0_i32_104 : BitVec 32 := 0#32
  let v185 : BitVec 1 := Scalar.cmpi .ne v184 c0_i32_104
  let v189 : BitVec 1 := Scalar.andi v188 v185
  let v190 : BitVec 32 := Scalar.addi v184 v183
  let v191 : BitVec 32 := Scalar.select v189 v190 v184
  let c0_i32_107 : BitVec 32 := 0#32
  let v192 : BitVec 1 := Scalar.cmpi .eq v191 c0_i32_107
  let v193 : BitVec 32 := Scalar.extui v192
  let c0_i32_108 : BitVec 32 := 0#32
  let v194 : BitVec 1 := Scalar.cmpi .ne v193 c0_i32_108
  v194

def k0_off25 (i : grid0.Coords) : Fin 4 → Nat :=
  let c0_147 : Index := 0#32
  let arg2 : BitVec 32 := BitVec.ofNat 32 (i 2).val
  let v285 : Index := Scalar.indexCast arg2
  let c0_148 : Index := 0#32
  let c0_149 : Index := 0#32
  ![0, v285.toNat, 0, 0]
def k0_off26 (i : grid0.Coords) : Fin 4 → Nat :=
  let c1_198 : Index := 1#32
  let arg2 : BitVec 32 := BitVec.ofNat 32 (i 2).val
  let v394 : Index := Scalar.indexCast arg2
  let c0_199 : Index := 0#32
  let c0_200 : Index := 0#32
  ![1, v394.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S4x64 : Shape := ⟨2, ![4, 64]⟩
abbrev S1x128 : Shape := ⟨2, ![1, 128]⟩
abbrev S4x4096x4x2x64 : Shape := ⟨5, ![4, 4096, 4, 2, 64]⟩
abbrev S4x4096x4x128 : Shape := ⟨4, ![4, 4096, 4, 128]⟩
abbrev S1x64 : Shape := ⟨2, ![1, 64]⟩
abbrev S64 : Shape := ⟨1, ![64]⟩
abbrev S_ : Shape := ⟨0, ![]⟩
abbrev S4096 : Shape := ⟨1, ![4096]⟩
abbrev S4x4x2x4096x4096 : Shape := ⟨5, ![4, 4, 2, 4096, 4096]⟩
abbrev S4096x1 : Shape := ⟨2, ![4096, 1]⟩
abbrev S1x4096 : Shape := ⟨2, ![1, 4096]⟩
abbrev S4096x4096 : Shape := ⟨2, ![4096, 4096]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S4x64, .f32⟩
  | .hbm, ⟨4, _⟩ => ⟨S1x128, .f32⟩
  | .hbm, ⟨5, _⟩ => ⟨S16384x512, .f32⟩
  | .hbm, ⟨6, _⟩ => ⟨S4x4096x4x2x64, .f32⟩
  | .hbm, ⟨7, _⟩ => ⟨S4x4096x4x2x64, .f32⟩
  | .hbm, ⟨8, _⟩ => ⟨S4x4096x4x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .i32⟩
  | .hbm, ⟨29, _⟩ => ⟨S4x4x2x4096x4096, .f32⟩
  | .hbm, ⟨30, _⟩ => ⟨S4096x1, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4x1x1, .f32⟩
  | .hbm, ⟨49, _⟩ => ⟨S4x1x1, .f32⟩
  | .hbm, ⟨50, _⟩ => ⟨S4096x4096, .f32⟩
  | .hbm, ⟨51, _⟩ => ⟨S1x4096x4096, .f32⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S_, .i32⟩
  | .hbm, ⟨56, _⟩ => ⟨S4096x4096, .i32⟩
  | .hbm, ⟨57, _⟩ => ⟨S4096x4096, .i1⟩
  | .hbm, ⟨58, _⟩ => ⟨S1x4x1x4096x4096, .f32⟩
  | .hbm, ⟨59, _⟩ => ⟨S4x4x2x4096x4096, .f32⟩
  | .hbm, ⟨60, _⟩ => ⟨S4x4x2x4096x4096, .f32⟩
  | .hbm, ⟨61, _⟩ => ⟨S_, .f32⟩
  | .hbm, ⟨62, _⟩ => ⟨S_, .f32⟩
  | .hbm, ⟨63, _⟩ => ⟨S4x4x2x4096x4096, .i1⟩
  | .hbm, ⟨64, _⟩ => ⟨S4x4x2x4096x4096, .f32⟩
  | .hbm, ⟨65, _⟩ => ⟨S4x4x2x4096x4096, .f32⟩
  | .hbm, ⟨66, _⟩ => ⟨S_, .f32⟩
  | .hbm, ⟨67, _⟩ => ⟨S4x4x2x4096, .f32⟩
  | .hbm, ⟨68, _⟩ => ⟨S_, .f32⟩
  | .hbm, ⟨69, _⟩ => ⟨S4x4x2x4096, .f32⟩
  | .hbm, ⟨70, _⟩ => ⟨S4x4x2x4096, .f32⟩
  | .hbm, ⟨71, _⟩ => ⟨S4x4x2x4096x1, .f32⟩
  | .hbm, ⟨72, _⟩ => ⟨S4x4x2x4096x4096, .f32⟩
  | .hbm, ⟨73, _⟩ => ⟨S4x4x2x4096x4096, .f32⟩
  | .hbm, ⟨74, _⟩ => ⟨S4x4x2x4096x4096, .f32⟩
  | .hbm, ⟨75, _⟩ => ⟨S_, .f32⟩
  | .hbm, ⟨76, _⟩ => ⟨S4x4x2x4096, .f32⟩
  | .hbm, ⟨77, _⟩ => ⟨S4x4x2x4096x1, .f32⟩
  | .hbm, ⟨78, _⟩ => ⟨S4x4x2x4096x4096, .f32⟩
  | .hbm, ⟨79, _⟩ => ⟨S4x4x2x4096x4096, .f32⟩
  | .hbm, ⟨80, _⟩ => ⟨S4x4x1x4096x4096, .f32⟩
  | .hbm, ⟨81, _⟩ => ⟨S4x4x4096x4096, .f32⟩
  | .hbm, ⟨82, _⟩ => ⟨S4x4x1x4096x4096, .f32⟩
  | .hbm, ⟨83, _⟩ => ⟨S4x4x4096x4096, .f32⟩
  | .hbm, ⟨84, _⟩ => ⟨S4x4x4096x4096, .f32⟩
  | .hbm, ⟨85, _⟩ => ⟨S4x4x4096x4096, .f32⟩
  | .hbm, ⟨86, _⟩ => ⟨S4x4x4096x4096, .f32⟩
  | .hbm, ⟨87, _⟩ => ⟨S4x4x128x4096, .f32⟩
  | .hbm, ⟨88, _⟩ => ⟨S4x4096x4x128, .f32⟩
  | .hbm, ⟨89, _⟩ => ⟨S128, .f32⟩
  | .hbm, ⟨90, _⟩ => ⟨S4x4096x4x128, .f32⟩
  | .hbm, ⟨91, _⟩ => ⟨S_, .f32⟩
  | .hbm, ⟨92, _⟩ => ⟨S4x4096x4, .f32⟩
  | .hbm, ⟨93, _⟩ => ⟨S4x4096x4x1, .f32⟩
  | .hbm, ⟨94, _⟩ => ⟨S_, .f32⟩
  | .hbm, ⟨95, _⟩ => ⟨S4x4096x4x1, .f32⟩
  | .hbm, ⟨96, _⟩ => ⟨S4x4096x4x1, .f32⟩
  | .hbm, ⟨97, _⟩ => ⟨S_, .f32⟩
  | .hbm, ⟨98, _⟩ => ⟨S4x4096x4x1, .f32⟩
  | .hbm, ⟨99, _⟩ => ⟨S4x4096x4x1, .f32⟩
  | .hbm, ⟨100, _⟩ => ⟨S4x4096x4x1, .f32⟩
  | .hbm, ⟨101, _⟩ => ⟨S4x4096x4x128, .f32⟩
  | .hbm, ⟨102, _⟩ => ⟨S4x4096x4x128, .f32⟩
  | .hbm, ⟨103, _⟩ => ⟨S1x1x1x128, .f32⟩
  | .hbm, ⟨104, _⟩ => ⟨S4x4096x4x128, .f32⟩
  | .hbm, ⟨105, _⟩ => ⟨S4x4096x4x128, .f32⟩
  | .hbm, ⟨106, _⟩ => ⟨S_, .f32⟩
  | .hbm, ⟨107, _⟩ => ⟨S4x4096x4x128, .f32⟩
  | .hbm, ⟨108, _⟩ => ⟨S4x4096x4x128, .f32⟩
  | .hbm, ⟨109, _⟩ => ⟨S16384x512, .f32⟩
  | .hbm, ⟨110, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_cst_12 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S16384x2048 : Shape := ⟨2, ![16384, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .bf16⟩
  | .hbm, ⟨5, _⟩ => ⟨S4x4096x2048, .bf16⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S16384x2048, .bf16⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S16384x2048 : Shape := ⟨2, ![16384, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .bf16⟩
  | .hbm, ⟨5, _⟩ => ⟨S4x4096x2048, .bf16⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S16384x2048, .bf16⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4096x1024 : Shape := ⟨2, ![4096, 1024]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .bf16⟩
  | .hbm, ⟨5, _⟩ => ⟨S4x4096x2048, .bf16⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S4x4096x512, .f32⟩
  | .hbm, ⟨14, _⟩ => ⟨S4x4096x512, .f32⟩
  | .hbm, ⟨15, _⟩ => ⟨S4x4096x2048, .f32⟩
  | .hbm, ⟨16, _⟩ => ⟨S4x4096x1024, .f32⟩
  | .hbm, ⟨17, _⟩ => ⟨S4x4096x1024, .f32⟩
  | .hbm, ⟨18, _⟩ => ⟨S512x1024, .f32⟩
  | .hbm, ⟨19, _⟩ => ⟨S4x4096x1024, .f32⟩
  | .hbm, ⟨20, _⟩ => ⟨S4x4096x1024, .f32⟩
  | .hbm, ⟨21, _⟩ => ⟨S4x4096x512, .f32⟩
  | .hbm, ⟨22, _⟩ => ⟨S512x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S1024x1024, .f32⟩
  | .hbm, ⟨27, _⟩ => ⟨S4x4096x1024, .f32⟩
  | .hbm, ⟨28, _⟩ => ⟨S4x4096x1024, .f32⟩
  | .hbm, ⟨29, _⟩ => ⟨S1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S1024x4096, .f32⟩
  | .hbm, ⟨47, _⟩ => ⟨S4x4096x4096, .f32⟩
  | .hbm, ⟨48, _⟩ => ⟨S_, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S1x1x1024, .f32⟩
  | .hbm, ⟨69, _⟩ => ⟨S4x4096x1024, .f32⟩
  | .hbm, ⟨70, _⟩ => ⟨S4x4096x1024, .f32⟩
  | .hbm, ⟨71, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024 : Shape := ⟨2, ![1, 1024]⟩
abbrev S1x1024x5376 : Shape := ⟨3, ![1, 1024, 5376]⟩
abbrev S1x1792 : Shape := ⟨2, ![1, 1792]⟩
abbrev S16384x1024 : Shape := ⟨2, ![16384, 1024]⟩
abbrev S1024x5376 : Shape := ⟨2, ![1024, 5376]⟩
abbrev S16384x1792 : Shape := ⟨2, ![16384, 1792]⟩
abbrev S16384x512 : Shape := ⟨2, ![16384, 512]⟩
abbrev S65536x128 : Shape := ⟨2, ![65536, 128]⟩
abbrev S16384x2048 : Shape := ⟨2, ![16384, 2048]⟩
abbrev S4x1x1024 : Shape := ⟨3, ![4, 1, 1024]⟩
abbrev S512x1024 : Shape := ⟨2, ![512, 1024]⟩
abbrev S512x1792 : Shape := ⟨2, ![512, 1792]⟩
abbrev S512x512 : Shape := ⟨2, ![512, 512]⟩
abbrev S2048x128 : Shape := ⟨2, ![2048, 128]⟩
abbrev S512x2048 : Shape := ⟨2, ![512, 2048]⟩
abbrev S1x1x1024 : Shape := ⟨3, ![1, 1, 1024]⟩
abbrev S8x1792 : Shape := ⟨2, ![8, 1792]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1024x2048 : Shape := ⟨2, ![1024, 2048]⟩
abbrev S256x2048 : Shape := ⟨2, ![256, 2048]⟩
abbrev S1024x1792 : Shape := ⟨2, ![1024, 1792]⟩
abbrev S256x1792 : Shape := ⟨2, ![256, 1792]⟩

abbrev nBuf : Space → Nat
  | .hbm => 15
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5376, .f32⟩
  | .hbm, ⟨3, _⟩ => ⟨S1x1792, .f32⟩
  | .hbm, ⟨4, _⟩ => ⟨S16384x1024, .f32⟩
  | .hbm, ⟨5, _⟩ => ⟨S1024x5376, .f32⟩
  | .hbm, ⟨6, _⟩ => ⟨S1024x5376, .bf16⟩
  | .hbm, ⟨7, _⟩ => ⟨S16384x1792, .f32⟩
  | .hbm, ⟨8, _⟩ => ⟨S16384x512, .bf16⟩
  | .hbm, ⟨9, _⟩ => ⟨S16384x512, .f32⟩
  | .hbm, ⟨10, _⟩ => ⟨S16384x512, .f32⟩
  | .hbm, ⟨11, _⟩ => ⟨S65536x128, .f32⟩
  | .hbm, ⟨12, _⟩ => ⟨S65536x128, .f32⟩
  | .hbm, ⟨13, _⟩ => ⟨S16384x2048, .bf16⟩
  | .hbm, ⟨14, _⟩ => ⟨S4x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5376, .bf16⟩
  | .local _ .vmem, ⟨4, _⟩ => ⟨S1x1792, .f32⟩
  | .local _ .vmem, ⟨5, _⟩ => ⟨S512x1792, .f32⟩
  | .local _ .vmem, ⟨6, _⟩ => ⟨S512x1792, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S512x2048, .bf16⟩
  | .local _ .vmem, ⟨18, _⟩ => ⟨S512x2048, .bf16⟩
  | .local _ .vmem, ⟨19, _⟩ => ⟨S1x1x1024, .f32⟩
  | .local _ .vmem, ⟨20, _⟩ => ⟨S1x1x1024, .f32⟩
  | .local _ .vmem, ⟨21, _⟩ => ⟨S8x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S4x4096x1024 : Shape := ⟨3, ![4, 4096, 1024]⟩
abbrev S1x1024 : Shape := ⟨2, ![1, 1024]⟩
abbrev S1x1024x5376 : Shape := ⟨3, ![1, 1024, 5376]⟩
abbrev S1x1792 : Shape := ⟨2, ![1, 1792]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5376 : Shape := ⟨2, ![1024, 5376]⟩
abbrev S4x4096x5376 : Shape := ⟨3, ![4, 4096, 5376]⟩
abbrev S4x4096x1792 : Shape := ⟨3, ![4, 4096, 1792]⟩
abbrev S4x1024 : Shape := ⟨2, ![4, 1024]⟩
abbrev S1024x1792 : Shape := ⟨2, ![1024, 1792]⟩
abbrev S4x1792 : Shape := ⟨2, ![4, 1792]⟩
abbrev S4x1x1792 : Shape := ⟨3, ![4, 1, 1792]⟩
abbrev S4x4095x1792 : Shape := ⟨3, ![4, 4095, 1792]⟩
abbrev S1792 : Shape := ⟨1, ![1792]⟩
abbrev S1x1x1792 : Shape := ⟨3, ![1, 1, 1792]⟩
abbrev S4x4096x512 : Shape := ⟨3, ![4, 4096, 512]⟩
abbrev S4x4096x2048 : Shape := ⟨3, ![4, 4096, 2048]⟩
abbrev S16384x1792 : Shape := ⟨2, ![16384, 1792]⟩
abbrev S16384x512 : Shape := ⟨2, ![16384, 512]⟩
abbrev S65536x128 : Shape := ⟨2, ![65536, 128]⟩
abbrev S16384x2048 : Shape := ⟨2, ![16384, 2048]⟩
abbrev S4x1x1024 : Shape := ⟨3, ![4, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5376, .f32⟩
  | .hbm, ⟨3, _⟩ => ⟨S1x1792, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x5376, .f32⟩
  | .hbm, ⟨22, _⟩ => ⟨S4x4096x5376, .f32⟩
  | .hbm, ⟨23, _⟩ => ⟨S4x4096x1792, .f32⟩
  | .hbm, ⟨24, _⟩ => ⟨S_, .f32⟩
  | .hbm, ⟨25, _⟩ => ⟨S4x1024, .f32⟩
  | .hbm, ⟨26, _⟩ => ⟨S1024x5376, .f32⟩
  | .hbm, ⟨27, _⟩ => ⟨S1024x1792, .f32⟩
  | .hbm, ⟨28, _⟩ => ⟨S4x1792, .f32⟩
  | .hbm, ⟨29, _⟩ => ⟨S4x1x1792, .f32⟩
  | .hbm, ⟨30, _⟩ => ⟨S4x4095x1792, .f32⟩
  | .hbm, ⟨31, _⟩ => ⟨S4x4096x1792, .f32⟩
  | .hbm, ⟨32, _⟩ => ⟨S4x4096x1792, .f32⟩
  | .hbm, ⟨33, _⟩ => ⟨S1792, .f32⟩
  | .hbm, ⟨34, _⟩ => ⟨S1x1x1792, .f32⟩
  | .hbm, ⟨35, _⟩ => ⟨S4x4096x1792, .f32⟩
  | .hbm, ⟨36, _⟩ => ⟨S4x4096x1792, .f32⟩
  | .hbm, ⟨37, _⟩ => ⟨S4x4096x1792, .f32⟩
  | .hbm, ⟨38, _⟩ => ⟨S4x4096x512, .f32⟩
  | .hbm, ⟨39, _⟩ => ⟨S_, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096x2048, .f32⟩
  | .hbm, ⟨52, _⟩ => ⟨S4x4096x2048, .f32⟩
  | .hbm, ⟨53, _⟩ => ⟨S16384x1792, .f32⟩
  | .hbm, ⟨54, _⟩ => ⟨S16384x512, .f32⟩
  | .hbm, ⟨55, _⟩ => ⟨S16384x512, .bf16⟩
  | .hbm, ⟨56, _⟩ => ⟨S16384x512, .f32⟩
  | .hbm, ⟨57, _⟩ => ⟨S16384x512, .f32⟩
  | .hbm, ⟨58, _⟩ => ⟨S65536x128, .f32⟩
  | .hbm, ⟨59, _⟩ => ⟨S65536x128, .f32⟩
  | .hbm, ⟨60, _⟩ => ⟨S16384x2048, .f32⟩
  | .hbm, ⟨61, _⟩ => ⟨S16384x2048, .bf16⟩
  | .hbm, ⟨62, _⟩ => ⟨S4x1x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel4.lean ====
abbrev S128x8x1024 : Shape := ⟨3, ![128, 8, 1024]⟩
abbrev S128x8x512 : Shape := ⟨3, ![128, 8, 512]⟩
abbrev S128x8x2048 : Shape := ⟨3, ![128, 8, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1024x512 : Shape := ⟨2, ![1024, 512]⟩
abbrev S1024x2048 : Shape := ⟨2, ![1024, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 21
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x512, .bf16⟩
  | .hbm, ⟨5, _⟩ => ⟨S128x8x2048, .bf16⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S1024x1024, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x512, .bf16⟩
  | .hbm, ⟨29, _⟩ => ⟨S1024x2048, .bf16⟩
  | .hbm, ⟨30, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S128x8x1024 : Shape := ⟨3, ![128, 8, 1024]⟩
abbrev S128x8x512 : Shape := ⟨3, ![128, 8, 512]⟩
abbrev S128x8x2048 : Shape := ⟨3, ![128, 8, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x4096 : Shape := ⟨2, ![1024, 4096]⟩
abbrev S128x8x4096 : Shape := ⟨3, ![128, 8, 4096]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x512, .bf16⟩
  | .hbm, ⟨5, _⟩ => ⟨S128x8x2048, .bf16⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S128x8x512, .f32⟩
  | .hbm, ⟨14, _⟩ => ⟨S128x8x512, .f32⟩
  | .hbm, ⟨15, _⟩ => ⟨S128x8x2048, .f32⟩
  | .hbm, ⟨16, _⟩ => ⟨S128x8x1024, .f32⟩
  | .hbm, ⟨17, _⟩ => ⟨S128x8x1024, .f32⟩
  | .hbm, ⟨18, _⟩ => ⟨S512x1024, .f32⟩
  | .hbm, ⟨19, _⟩ => ⟨S128x8x1024, .f32⟩
  | .hbm, ⟨20, _⟩ => ⟨S128x8x1024, .f32⟩
  | .hbm, ⟨21, _⟩ => ⟨S128x8x512, .f32⟩
  | .hbm, ⟨22, _⟩ => ⟨S512x1024, .f32⟩
  | .hbm, ⟨23, _⟩ => ⟨S128x8x1024, .f32⟩
  | .hbm, ⟨24, _⟩ => ⟨S128x8x1024, .f32⟩
  | .hbm, ⟨25, _⟩ => ⟨S128x8x1024, .f32⟩
  | .hbm, ⟨26, _⟩ => ⟨S1024x1024, .f32⟩
  | .hbm, ⟨27, _⟩ => ⟨S128x8x1024, .f32⟩
  | .hbm, ⟨28, _⟩ => ⟨S128x8x1024, .f32⟩
  | .hbm, ⟨29, _⟩ => ⟨S1024, .f32⟩
  | .hbm, ⟨30, _⟩ => ⟨S128x8x1024, .f32⟩
  | .hbm, ⟨31, _⟩ => ⟨S_, .f32⟩
  | .hbm, ⟨32, _⟩ => ⟨S128x8, .f32⟩
  | .hbm, ⟨33, _⟩ => ⟨S128x8x1, .f32⟩
  | .hbm, ⟨34, _⟩ => ⟨S_, .f32⟩
  | .hbm, ⟨35, _⟩ => ⟨S128x8x1, .f32⟩
  | .hbm, ⟨36, _⟩ => ⟨S128x8x1, .f32⟩
  | .hbm, ⟨37, _⟩ => ⟨S_, .f32⟩
  | .hbm, ⟨38, _⟩ => ⟨S128x8x1, .f32⟩
  | .hbm, ⟨39, _⟩ => ⟨S128x8x1, .f32⟩
  | .hbm, ⟨40, _⟩ => ⟨S128x8x1, .f32⟩
  | .hbm, ⟨41, _⟩ => ⟨S128x8x1024, .f32⟩
  | .hbm, ⟨42, _⟩ => ⟨S128x8x1024, .f32⟩
  | .hbm, ⟨43, _⟩ => ⟨S1x1x1024, .f32⟩
  | .hbm, ⟨44, _⟩ => ⟨S128x8x1024, .f32⟩
  | .hbm, ⟨45, _⟩ => ⟨S128x8x1024, .f32⟩
  | .hbm, ⟨46, _⟩ => ⟨S1024x4096, .f32⟩
  | .hbm, ⟨47, _⟩ => ⟨S128x8x4096, .f32⟩
  | .hbm, ⟨48, _⟩ => ⟨S_, .f32⟩
  | .hbm, ⟨49, _⟩ => ⟨S128x8x4096, .f32⟩
  | .hbm, ⟨50, _⟩ => ⟨S128x8x4096, .f32⟩
  | .hbm, ⟨51, _⟩ => ⟨S128x8x4096, .f32⟩
  | .hbm, ⟨52, _⟩ => ⟨S4096x1024, .f32⟩
  | .hbm, ⟨53, _⟩ => ⟨S128x8x1024, .f32⟩
  | .hbm, ⟨54, _⟩ => ⟨S128x8x1024, .f32⟩
  | .hbm, ⟨55, _⟩ => ⟨S128x8x1024, .f32⟩
  | .hbm, ⟨56, _⟩ => ⟨S_, .f32⟩
  | .hbm, ⟨57, _⟩ => ⟨S128x8, .f32⟩
  | .hbm, ⟨58, _⟩ => ⟨S128x8x1, .f32⟩
  | .hbm, ⟨59, _⟩ => ⟨S_, .f32⟩
  | .hbm, ⟨60, _⟩ => ⟨S128x8x1, .f32⟩
  | .hbm, ⟨61, _⟩ => ⟨S128x8x1, .f32⟩
  | .hbm, ⟨62, _⟩ => ⟨S_, .f32⟩
  | .hbm, ⟨63, _⟩ => ⟨S128x8x1, .f32⟩
  | .hbm, ⟨64, _⟩ => ⟨S128x8x1, .f32⟩
  | .hbm, ⟨65, _⟩ => ⟨S128x8x1, .f32⟩
  | .hbm, ⟨66, _⟩ => ⟨S128x8x1024, .f32⟩
  | .hbm, ⟨67, _⟩ => ⟨S128x8x1024, .f32⟩
  | .hbm, ⟨68, _⟩ => ⟨S1x1x1024, .f32⟩
  | .hbm, ⟨69, _⟩ => ⟨S128x8x1024, .f32⟩
  | .hbm, ⟨70, _⟩ => ⟨S128x8x1024, .f32⟩
  | .hbm, ⟨71, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Proof.AttnState.lean ====
module

public import proofs.«01_k».proof.Proof.Gen.KernelIdeal.Skeleton
public import Idealize.ShloMosaic.Lib.Exec
public import Idealize.ShloMosaic.Lib.Tactic
public import Idealize.ShloMosaic.Lib.Pipeline.FrameBody

@[expose] public section

noncomputable section

namespace Cert.KernelIdeal.Attn

open Idealize.ShloMosaic Idealize.ShloMosaic.TcCoe

variable {F : FTy → Type} [FloatOps F] [Named F]

section slots

variable {sig : RefSig} {κ : Kind} {sp : Space} {s : Shape} {e : EltTy} {Val : EltTy → Type} [∀ e, Nonempty (Val e)]

/-- Two boxes are apart on some axis. -/
def apart {n : ℕ} (o z o' z' : Fin n → ℕ) : Prop := ∃ a : Fin n, o a + z a ≤ o' a ∨ o' a + z' a ≤ o a

instance {n : ℕ} (o z o' z' : Fin n → ℕ) : Decidable (apart o z o' z') := inferInstanceAs (Decidable (∃ _, _))

/-- A slot just written reads what was written. -/
theorem readAt_hit (v : View sig κ sp s e) (f : v.ty.Contents Val) {o z : Fin s.rank → ℕ} (i : ∀ a, o a + z a ≤ s.size a)
    (w : (Rect.unit o z i).shape.Idx → Val e) (L : List (View.Piece Val s e)) :
    v.readAt Val (Rect.unit o z i).toLoadRect (v.writes Val f (⟨Rect.unit o z i, w⟩ :: L)) = w := by
  exact (View.readAt_writes_of_cover v f _ (Rect.unit o z i).toLoadRect fun j =>
    ⟨⟨Rect.unit o z i, w⟩, List.mem_cons_self .., (Rect.unit o z i).idx_mem j⟩).trans (View.readCov_cons_toLoadRect v _ w L)

/-- A slot is not changed by a write apart from it. -/
theorem readAt_skip (v : View sig κ sp s e) (f : v.ty.Contents Val) {o z o' z' : Fin s.rank → ℕ} (i : ∀ a, o a + z a ≤ s.size a)
    (i' : ∀ a, o' a + z' a ≤ s.size a) (w : (Rect.unit o' z' i').shape.Idx → Val e) (L : List (View.Piece Val s e))
    (h : apart o' z' o z) :
    v.readAt Val (Rect.unit o z i).toLoadRect (v.writes Val f (⟨Rect.unit o' z' i', w⟩ :: L))
      = v.readAt Val (Rect.unit o z i).toLoadRect (v.writes Val f L) := by
  obtain ⟨a, ha⟩ := h
  funext j
  exact View.read_writes_apply_of_forall_not_mem v (v.writes Val f L) ((Rect.unit o z i).idx j) [⟨Rect.unit o' z' i', w⟩] fun p hp => by
    rw [List.mem_singleton] at hp; subst hp
    exact Finset.disjoint_right.mp (Rect.unit_disjoint (inb := i') (inb' := i) a ha) ((Rect.unit o z i).idx_mem j)

theorem readAt_nil (v : View sig κ sp s e) (f : v.ty.Contents Val) (B : LoadRect s) : v.readAt Val B (v.writes Val f []) = v.readAt Val B f := rfl

theorem readCov_hit (v : View sig κ sp s e) {o z : Fin s.rank → ℕ} (i : ∀ a, o a + z a ≤ s.size a)
    (w : (Rect.unit o z i).shape.Idx → Val e) (L : List (View.Piece Val s e)) :
    v.readCov (⟨Rect.unit o z i, w⟩ :: L) (Rect.unit o z i).toLoadRect = w := View.readCov_cons_toLoadRect v _ w L

theorem readCov_skip (v : View sig κ sp s e) {o z o' z' : Fin s.rank → ℕ} (i : ∀ a, o a + z a ≤ s.size a)
    (i' : ∀ a, o' a + z' a ≤ s.size a) (w : (Rect.unit o' z' i').shape.Idx → Val e) (L : List (View.Piece Val s e))
    (h : apart o' z' o z) :
    v.readCov (⟨Rect.unit o' z' i', w⟩ :: L) (Rect.unit o z i).toLoadRect = v.readCov L (Rect.unit o z i).toLoadRect := by
  obtain ⟨a, ha⟩ := h
  exact View.readCov_cons_of_disjoint v _ L _ (Rect.unit_disjoint (inb := i') (inb' := i) a ha)

end slots

/-- The three scratch arrays of one query block, by head and branch: the running maxima, the
    accumulators and the scores waiting to be consumed. -/
structure St (F : FTy → Type) [FloatOps F] where
  m : Fin 2 → Fin 2 → Vec F S1x1x1x512 .f32
  a : Fin 2 → Fin 2 → Vec F S1x1x144x512 .f32
  s : Fin 2 → Fin 2 → Vec F S1x1x512x512 .f32

/-- The scores of one key block against the query block. -/
def score (q : FVec F S512x128 .bf16) (k : Vec F S1x1x1x512x128 .bf16) : Vec F S1x1x512x512 .f32 := Gen.k0_pay63 q k

/-- The bias a whole key block carries: minus the slope times the distance of the blocks. -/
def biasOf (qi kj : BitVec 32) (sl : FVec F S1x128 .f32) : FVec F S1x1 .f32 :=
  mulf (subf (broadcast S1x1 (Scalar.ofBits .f32 0x00000000#32)) (extractStridedSlice S1x1 ![0, 0] sl Gen.slices_S1x128_o0_0_S1x1))
    (broadcast S1x1 (Scalar.sitofp .f32 (Scalar.muli 512#32 (Scalar.subi qi kj))))

/-- The column maxima of a block of scores. -/
def colMax (s : FVec F S512x512 .f32) : FVec F S512 .f32 :=
  multiReduction .maximumf [0] S512
    (maximumf (maximumf (maximumf (maximumf (maximumf (maximumf (maximumf
      (extractStridedSlice S64x512 ![0, 0] s Gen.slices_S512x512_o0_0_S64x512)
      (extractStridedSlice S64x512 ![64, 0] s Gen.slices_S512x512_o64_0_S64x512))
      (extractStridedSlice S64x512 ![128, 0] s Gen.slices_S512x512_o128_0_S64x512))
      (extractStridedSlice S64x512 ![192, 0] s Gen.slices_S512x512_o192_0_S64x512))
      (extractStridedSlice S64x512 ![256, 0] s Gen.slices_S512x512_o256_0_S64x512))
      (extractStridedSlice S64x512 ![320, 0] s Gen.slices_S512x512_o320_0_S64x512))
      (extractStridedSlice S64x512 ![384, 0] s Gen.slices_S512x512_o384_0_S64x512))
      (extractStridedSlice S64x512 ![448, 0] s Gen.slices_S512x512_o448_0_S64x512))
    0xFF800000#32 Gen.reduces_S64x512_S512 (.inl rfl) rfl

/-- The new running maximum. -/
def newMax (b : FVec F S1x1 .f32) (s : FVec F S512x512 .f32) (m : Vec F S1x1x1x512 .f32) : Vec F S1x1x1x512 .f32 :=
  Gen.k0_pay74 b (Gen.k0_pay70 m) (colMax s)

/-- The new accumulator. -/
def newAcc (b : FVec F S1x1 .f32) (v : Vec F S1x1x144x512 .bf16) (s : FVec F S512x512 .f32) (m : Vec F S1x1x1x512 .f32)
    (a : Vec F S1x1x144x512 .f32) : Vec F S1x1x144x512 .f32 :=
  Gen.k0_pay73 b (Gen.k0_pay68 v) s (Gen.k0_pay70 m) (colMax s) a

/-- A block of scores as a matrix. -/
def flat (s : Vec F S1x1x512x512 .f32) : FVec F S512x512 .f32 := shapeCast S512x512 s Gen.shapeCasts_S1x1x512x512_S512x512

/-- A block of scores as a matrix, the keys after the query masked. -/
def masked (s : Vec F S1x1x512x512 .f32) : FVec F S512x512 .f32 := Gen.k0_pay246 s

end Cert.KernelIdeal.Attn

end
-- ==== Proof.AttnFill.lean ====
module

public import proofs.«01_k».proof.Proof.AttnState
public import proofs.«01_k».proof.Proof.Gen.KernelIdeal.Launch
public import Idealize.ShloMosaic.Lib.Pipeline.Kit
public import Idealize.ShloMosaic.Lib.Pipeline.FrameBody

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The lane and row numbers. -/
def lane : IVec S512x128 32 := iota .tc S512x128 32 [1] Gen.iota_S512x128_d1_w32
def row : IVec S512x128 32 := iota .tc S512x128 32 [0] Gen.iota_S512x128_d0_w32

/-- The key features of one block for each branch: the branch's own lanes hold the keys, four of the
    others the positions times the slope. -/
def kfeat (c : Fin 2) (sl : FVec F S1x128 .f32) (x : Vec F S512x128 .f32) : Vec F S1x1x1x512x128 .bf16 :=
  ![Gen.k0_pay5 sl (Gen.k0_pay277 lane) (Gen.k0_pay2 lane Gen.k0_pay274 (Gen.k0_pay275 row 16#32) Gen.k0_pay276) x,
    Gen.k0_pay45 sl (Gen.k0_pay278 lane) (Gen.k0_pay26 lane (Gen.k0_pay275 row 16#32) (Gen.k0_pay22 Gen.k0_pay276) (Gen.k0_pay23 Gen.k0_pay276) (Gen.k0_pay24 lane Gen.k0_pay274) Gen.k0_pay25) x] c

/-- The value block, transposed, over rows of ones. -/
def vfeat (x : Vec F S512x128 .f32) : Vec F S1x1x144x512 .bf16 := Gen.k0_pay281 x

theorem inb4 : ∀ (h : Fin 2) (j : Fin 8) (a : Fin 2), (![512 * j.val, 128 * h.val] : Fin 2 → ℕ) a + S512x128.size a ≤ S4096x256.size a := by decide
theorem inb9 : ∀ (h c : Fin 2) (j : Fin 8) (a : Fin 5), (![h.val, c.val, j.val, 0, 0] : Fin 5 → ℕ) a + S1x1x1x512x128.size a ≤ S2x2x8x512x128.size a := by decide
theorem inb10 : ∀ (h : Fin 2) (j : Fin 8) (a : Fin 4), (![h.val, j.val, 0, 0] : Fin 4 → ℕ) a + S1x1x144x512.size a ≤ S2x8x144x512.size a := by decide

/-- One block of one head of the keys or the values. -/
def blk (x : Vec F S4096x256 .f32) (h : Fin 2) (j : Fin 8) : Vec F S512x128 .f32 := View.ld x (Rect.unit (s := S4096x256) ![512 * j.val, 128 * h.val] S512x128.size (inb4 h j))

/-- The key array holds the blocks `kb`. -/
def HoldsK (arg9 : Memref sig .tc .vmem S2x2x8x512x128 .bf16) (kb : Fin 2 → Fin 2 → Fin 8 → Vec F S1x1x1x512x128 .bf16) (f9 : BufTy.Contents (Elt F) arg9.view.ty) : Prop :=
  ∀ (h c : Fin 2) (j : Fin 8), arg9.view.readAt (Elt F) (Rect.unit (s := S2x2x8x512x128) ![h.val, c.val, j.val, 0, 0] S1x1x1x512x128.size (inb9 h c j)).toLoadRect f9 = kb h c j

/-- The value array holds the blocks `vb`. -/
def HoldsV (arg10 : Memref sig .tc .vmem S2x8x144x512 .bf16) (vb : Fin 2 → Fin 8 → Vec F S1x1x144x512 .bf16) (f10 : BufTy.Contents (Elt F) arg10.view.ty) : Prop :=
  ∀ (h : Fin 2) (j : Fin 8), arg10.view.readAt (Elt F) (Rect.unit (s := S2x8x144x512) ![h.val, j.val, 0, 0] S1x1x144x512.size (inb10 h j)).toLoadRect f10 = vb h j

/-- The key blocks of the two heads with slopes `v7` and `v14`. -/
def kbOf (v7 v14 : FVec F S1x128 .f32) (x1 : Vec F S4096x256 .f32) (h c : Fin 2) (j : Fin 8) : Vec F S1x1x1x512x128 .bf16 := kfeat c (![v7, v14] h) (blk x1 h j)
def vbOf (x2 : Vec F S4096x256 .f32) (h : Fin 2) (j : Fin 8) : Vec F S1x1x144x512 .bf16 := vfeat (blk x2 h j)

/-- What the fill hands on. -/
def ret55 : Σ' (v58 : FVec F S512x128 .f32) (v59 : FVec F S512x128 .f32) (v64 : IVec S512x128 1) (v69 : IVec S512x128 1) (v82 : FVec F S512x128 .f32), IVec S512x128 32 :=
  ⟨Gen.k0_pay275 row 16#32, Gen.k0_pay276, Gen.k0_pay277 lane, Gen.k0_pay278 lane, Gen.k0_pay282 lane Gen.k0_pay274, Gen.k0_pay283⟩

structure Slots9 (arg9 : Memref sig .tc .vmem S2x2x8x512x128 .bf16) (v7 v14 : FVec F S1x128 .f32) (x1 : Vec F S4096x256 .f32) (f9 : BufTy.Contents (Elt F) arg9.view.ty) : Prop where
  k000 : (arg9.view.readAt (Elt F) (Rect.unit (s := S2x2x8x512x128) ![0, 0, 0, 0, 0] S1x1x1x512x128.size Gen.inb_S2x2x8x512x128_S1x1x1x512x128_0_0_0_0_0).toLoadRect f9) = kfeat 0 v7 (View.ld x1 (Rect.unit (s := S4096x256) ![0, 0] S512x128.size Gen.inb_S4096x256_S512x128_0_0))
  k001 : (arg9.view.readAt (Elt F) (Rect.unit (s := S2x2x8x512x128) ![0, 0, 1, 0, 0] S1x1x1x512x128.size Gen.inb_S2x2x8x512x128_S1x1x1x512x128_0_0_1_0_0).toLoadRect f9) = kfeat 0 v7 (View.ld x1 (Rect.unit (s := S4096x256) ![512, 0] S512x128.size Gen.inb_S4096x256_S512x128_512_0))
  k002 : (arg9.view.readAt (Elt F) (Rect.unit (s := S2x2x8x512x128) ![0, 0, 2, 0, 0] S1x1x1x512x128.size Gen.inb_S2x2x8x512x128_S1x1x1x512x128_0_0_2_0_0).toLoadRect f9) = kfeat 0 v7 (View.ld x1 (Rect.unit (s := S4096x256) ![1024, 0] S512x128.size Gen.inb_S4096x256_S512x128_1024_0))
  k003 : (arg9.view.readAt (Elt F) (Rect.unit (s := S2x2x8x512x128) ![0, 0, 3, 0, 0] S1x1x1x512x128.size Gen.inb_S2x2x8x512x128_S1x1x1x512x128_0_0_3_0_0).toLoadRect f9) = kfeat 0 v7 (View.ld x1 (Rect.unit (s := S4096x256) ![1536, 0] S512x128.size Gen.inb_S4096x256_S512x128_1536_0))
  k004 : (arg9.view.readAt (Elt F) (Rect.unit (s := S2x2x8x512x128) ![0, 0, 4, 0, 0] S1x1x1x512x128.size Gen.inb_S2x2x8x512x128_S1x1x1x512x128_0_0_4_0_0).toLoadRect f9) = kfeat 0 v7 (View.ld x1 (Rect.unit (s := S4096x256) ![2048, 0] S512x128.size Gen.inb_S4096x256_S512x128_2048_0))
  k005 : (arg9.view.readAt (Elt F) (Rect.unit (s := S2x2x8x512x128) ![0, 0, 5, 0, 0] S1x1x1x512x128.size Gen.inb_S2x2x8x512x128_S1x1x1x512x128_0_0_5_0_0).toLoadRect f9) = kfeat 0 v7 (View.ld x1 (Rect.unit (s := S4096x256) ![2560, 0] S512x128.size Gen.inb_S4096x256_S512x128_2560_0))
  k006 : (arg9.view.readAt (Elt F) (Rect.unit (s := S2x2x8x512x128) ![0, 0, 6, 0, 0] S1x1x1x512x128.size Gen.inb_S2x2x8x512x128_S1x1x1x512x128_0_0_6_0_0).toLoadRect f9) = kfeat 0 v7 (View.ld x1 (Rect.unit (s := S4096x256) ![3072, 0] S512x128.size Gen.inb_S4096x256_S512x128_3072_0))
  k007 : (arg9.view.readAt (Elt F) (Rect.unit (s := S2x2x8x512x128) ![0, 0, 7, 0, 0] S1x1x1x512x128.size Gen.inb_S2x2x8x512x128_S1x1x1x512x128_0_0_7_0_0).toLoadRect f9) = kfeat 0 v7 (View.ld x1 (Rect.unit (s := S4096x256) ![3584, 0] S512x128.size Gen.inb_S4096x256_S512x128_3584_0))
  k010 : (arg9.view.readAt (Elt F) (Rect.unit (s := S2x2x8x512x128) ![0, 1, 0, 0, 0] S1x1x1x512x128.size Gen.inb_S2x2x8x512x128_S1x1x1x512x128_0_1_0_0_0).toLoadRect f9) = kfeat 1 v7 (View.ld x1 (Rect.unit (s := S4096x256) ![0, 0] S512x128.size Gen.inb_S4096x256_S512x128_0_0))
  k011 : (arg9.view.readAt (Elt F) (Rect.unit (s := S2x2x8x512x128) ![0, 1, 1, 0, 0] S1x1x1x512x128.size Gen.inb_S2x2x8x512x128_S1x1x1x512x128_0_1_1_0_0).toLoadRect f9) = kfeat 1 v7 (View.ld x1 (Rect.unit (s := S4096x256) ![512, 0] S512x128.size Gen.inb_S4096x256_S512x128_512_0))
  k012 : (arg9.view.readAt (Elt F) (Rect.unit (s := S2x2x8x512x128) ![0, 1, 2, 0, 0] S1x1x1x512x128.size Gen.inb_S2x2x8x512x128_S1x1x1x512x128_0_1_2_0_0).toLoadRect f9) = kfeat 1 v7 (View.ld x1 (Rect.unit (s := S4096x256) ![1024, 0] S512x128.size Gen.inb_S4096x256_S512x128_1024_0))
  k013 : (arg9.view.readAt (Elt F) (Rect.unit (s := S2x2x8x512x128) ![0, 1, 3, 0, 0] S1x1x1x512x128.size Gen.inb_S2x2x8x512x128_S1x1x1x512x128_0_1_3_0_0).toLoadRect f9) = kfeat 1 v7 (View.ld x1 (Rect.unit (s := S4096x256) ![1536, 0] S512x128.size Gen.inb_S4096x256_S512x128_1536_0))
  k014 : (arg9.view.readAt (Elt F) (Rect.unit (s := S2x2x8x512x128) ![0, 1, 4, 0, 0] S1x1x1x512x128.size Gen.inb_S2x2x8x512x128_S1x1x1x512x128_0_1_4_0_0).toLoadRect f9) = kfeat 1 v7 (View.ld x1 (Rect.unit (s := S4096x256) ![2048, 0] S512x128.size Gen.inb_S4096x256_S512x128_2048_0))
  k015 : (arg9.view.readAt (Elt F) (Rect.unit (s := S2x2x8x512x128) ![0, 1, 5, 0, 0] S1x1x1x512x128.size Gen.inb_S2x2x8x512x128_S1x1x1x512x128_0_1_5_0_0).toLoadRect f9) = kfeat 1 v7 (View.ld x1 (Rect.unit (s := S4096x256) ![2560, 0] S512x128.size Gen.inb_S4096x256_S512x128_2560_0))
  k016 : (arg9.view.readAt (Elt F) (Rect.unit (s := S2x2x8x512x128) ![0, 1, 6, 0, 0] S1x1x1x512x128.size Gen.inb_S2x2x8x512x128_S1x1x1x512x128_0_1_6_0_0).toLoadRect f9) = kfeat 1 v7 (View.ld x1 (Rect.unit (s := S4096x256) ![3072, 0] S512x128.size Gen.inb_S4096x256_S512x128_3072_0))
  k017 : (arg9.view.readAt (Elt F) (Rect.unit (s := S2x2x8x512x128) ![0, 1, 7, 0, 0] S1x1x1x512x128.size Gen.inb_S2x2x8x512x128_S1x1x1x512x128_0_1_7_0_0).toLoadRect f9) = kfeat 1 v7 (View.ld x1 (Rect.unit (s := S4096x256) ![3584, 0] S512x128.size Gen.inb_S4096x256_S512x128_3584_0))
  k100 : (arg9.view.readAt (Elt F) (Rect.unit (s := S2x2x8x512x128) ![1, 0, 0, 0, 0] S1x1x1x512x128.size Gen.inb_S2x2x8x512x128_S1x1x1x512x128_1_0_0_0_0).toLoadRect f9) = kfeat 0 v14 (View.ld x1 (Rect.unit (s := S4096x256) ![0, 128] S512x128.size Gen.inb_S4096x256_S512x128_0_128))
  k101 : (arg9.view.readAt (Elt F) (Rect.unit (s := S2x2x8x512x128) ![1, 0, 1, 0, 0] S1x1x1x512x128.size Gen.inb_S2x2x8x512x128_S1x1x1x512x128_1_0_1_0_0).toLoadRect f9) = kfeat 0 v14 (View.ld x1 (Rect.unit (s := S4096x256) ![512, 128] S512x128.size Gen.inb_S4096x256_S512x128_512_128))
  k102 : (arg9.view.readAt (Elt F) (Rect.unit (s := S2x2x8x512x128) ![1, 0, 2, 0, 0] S1x1x1x512x128.size Gen.inb_S2x2x8x512x128_S1x1x1x512x128_1_0_2_0_0).toLoadRect f9) = kfeat 0 v14 (View.ld x1 (Rect.unit (s := S4096x256) ![1024, 128] S512x128.size Gen.inb_S4096x256_S512x128_1024_128))
  k103 : (arg9.view.readAt (Elt F) (Rect.unit (s := S2x2x8x512x128) ![1, 0, 3, 0, 0] S1x1x1x512x128.size Gen.inb_S2x2x8x512x128_S1x1x1x512x128_1_0_3_0_0).toLoadRect f9) = kfeat 0 v14 (View.ld x1 (Rect.unit (s := S4096x256) ![1536, 128] S512x128.size Gen.inb_S4096x256_S512x128_1536_128))
  k104 : (arg9.view.readAt (Elt F) (Rect.unit (s := S2x2x8x512x128) ![1, 0, 4, 0, 0] S1x1x1x512x128.size Gen.inb_S2x2x8x512x128_S1x1x1x512x128_1_0_4_0_0).toLoadRect f9) = kfeat 0 v14 (View.ld x1 (Rect.unit (s := S4096x256) ![2048, 128] S512x128.size Gen.inb_S4096x256_S512x128_2048_128))
  k105 : (arg9.view.readAt (Elt F) (Rect.unit (s := S2x2x8x512x128) ![1, 0, 5, 0, 0] S1x1x1x512x128.size Gen.inb_S2x2x8x512x128_S1x1x1x512x128_1_0_5_0_0).toLoadRect f9) = kfeat 0 v14 (View.ld x1 (Rect.unit (s := S4096x256) ![2560, 128] S512x128.size Gen.inb_S4096x256_S512x128_2560_128))
  k106 : (arg9.view.readAt (Elt F) (Rect.unit (s := S2x2x8x512x128) ![1, 0, 6, 0, 0] S1x1x1x512x128.size Gen.inb_S2x2x8x512x128_S1x1x1x512x128_1_0_6_0_0).toLoadRect f9) = kfeat 0 v14 (View.ld x1 (Rect.unit (s := S4096x256) ![3072, 128] S512x128.size Gen.inb_S4096x256_S512x128_3072_128))
  k107 : (arg9.view.readAt (Elt F) (Rect.unit (s := S2x2x8x512x128) ![1, 0, 7, 0, 0] S1x1x1x512x128.size Gen.inb_S2x2x8x512x128_S1x1x1x512x128_1_0_7_0_0).toLoadRect f9) = kfeat 0 v14 (View.ld x1 (Rect.unit (s := S4096x256) ![3584, 128] S512x128.size Gen.inb_S4096x256_S512x128_3584_128))
  k110 : (arg9.view.readAt (Elt F) (Rect.unit (s := S2x2x8x512x128) ![1, 1, 0, 0, 0] S1x1x1x512x128.size Gen.inb_S2x2x8x512x128_S1x1x1x512x128_1_1_0_0_0).toLoadRect f9) = kfeat 1 v14 (View.ld x1 (Rect.unit (s := S4096x256) ![0, 128] S512x128.size Gen.inb_S4096x256_S512x128_0_128))
  k111 : (arg9.view.readAt (Elt F) (Rect.unit (s := S2x2x8x512x128) ![1, 1, 1, 0, 0] S1x1x1x512x128.size Gen.inb_S2x2x8x512x128_S1x1x1x512x128_1_1_1_0_0).toLoadRect f9) = kfeat 1 v14 (View.ld x1 (Rect.unit (s := S4096x256) ![512, 128] S512x128.size Gen.inb_S4096x256_S512x128_512_128))
  k112 : (arg9.view.readAt (Elt F) (Rect.unit (s := S2x2x8x512x128) ![1, 1, 2, 0, 0] S1x1x1x512x128.size Gen.inb_S2x2x8x512x128_S1x1x1x512x128_1_1_2_0_0).toLoadRect f9) = kfeat 1 v14 (View.ld x1 (Rect.unit (s := S4096x256) ![1024, 128] S512x128.size Gen.inb_S4096x256_S512x128_1024_128))
  k113 : (arg9.view.readAt (Elt F) (Rect.unit (s := S2x2x8x512x128) ![1, 1, 3, 0, 0] S1x1x1x512x128.size Gen.inb_S2x2x8x512x128_S1x1x1x512x128_1_1_3_0_0).toLoadRect f9) = kfeat 1 v14 (View.ld x1 (Rect.unit (s := S4096x256) ![1536, 128] S512x128.size Gen.inb_S4096x256_S512x128_1536_128))
  k114 : (arg9.view.readAt (Elt F) (Rect.unit (s := S2x2x8x512x128) ![1, 1, 4, 0, 0] S1x1x1x512x128.size Gen.inb_S2x2x8x512x128_S1x1x1x512x128_1_1_4_0_0).toLoadRect f9) = kfeat 1 v14 (View.ld x1 (Rect.unit (s := S4096x256) ![2048, 128] S512x128.size Gen.inb_S4096x256_S512x128_2048_128))
  k115 : (arg9.view.readAt (Elt F) (Rect.unit (s := S2x2x8x512x128) ![1, 1, 5, 0, 0] S1x1x1x512x128.size Gen.inb_S2x2x8x512x128_S1x1x1x512x128_1_1_5_0_0).toLoadRect f9) = kfeat 1 v14 (View.ld x1 (Rect.unit (s := S4096x256) ![2560, 128] S512x128.size Gen.inb_S4096x256_S512x128_2560_128))
  k116 : (arg9.view.readAt (Elt F) (Rect.unit (s := S2x2x8x512x128) ![1, 1, 6, 0, 0] S1x1x1x512x128.size Gen.inb_S2x2x8x512x128_S1x1x1x512x128_1_1_6_0_0).toLoadRect f9) = kfeat 1 v14 (View.ld x1 (Rect.unit (s := S4096x256) ![3072, 128] S512x128.size Gen.inb_S4096x256_S512x128_3072_128))
  k117 : (arg9.view.readAt (Elt F) (Rect.unit (s := S2x2x8x512x128) ![1, 1, 7, 0, 0] S1x1x1x512x128.size Gen.inb_S2x2x8x512x128_S1x1x1x512x128_1_1_7_0_0).toLoadRect f9) = kfeat 1 v14 (View.ld x1 (Rect.unit (s := S4096x256) ![3584, 128] S512x128.size Gen.inb_S4096x256_S512x128_3584_128))

structure Slots10 (arg10 : Memref sig .tc .vmem S2x8x144x512 .bf16) (x2 : Vec F S4096x256 .f32) (f10 : BufTy.Contents (Elt F) arg10.view.ty) : Prop where
  k00 : (arg10.view.readAt (Elt F) (Rect.unit (s := S2x8x144x512) ![0, 0, 0, 0] S1x1x144x512.size Gen.inb_S2x8x144x512_S1x1x144x512_0_0_0_0).toLoadRect f10) = vfeat (View.ld x2 (Rect.unit (s := S4096x256) ![0, 0] S512x128.size Gen.inb_S4096x256_S512x128_0_0))
  k01 : (arg10.view.readAt (Elt F) (Rect.unit (s := S2x8x144x512) ![0, 1, 0, 0] S1x1x144x512.size Gen.inb_S2x8x144x512_S1x1x144x512_0_1_0_0).toLoadRect f10) = vfeat (View.ld x2 (Rect.unit (s := S4096x256) ![512, 0] S512x128.size Gen.inb_S4096x256_S512x128_512_0))
  k02 : (arg10.view.readAt (Elt F) (Rect.unit (s := S2x8x144x512) ![0, 2, 0, 0] S1x1x144x512.size Gen.inb_S2x8x144x512_S1x1x144x512_0_2_0_0).toLoadRect f10) = vfeat (View.ld x2 (Rect.unit (s := S4096x256) ![1024, 0] S512x128.size Gen.inb_S4096x256_S512x128_1024_0))
  k03 : (arg10.view.readAt (Elt F) (Rect.unit (s := S2x8x144x512) ![0, 3, 0, 0] S1x1x144x512.size Gen.inb_S2x8x144x512_S1x1x144x512_0_3_0_0).toLoadRect f10) = vfeat (View.ld x2 (Rect.unit (s := S4096x256) ![1536, 0] S512x128.size Gen.inb_S4096x256_S512x128_1536_0))
  k04 : (arg10.view.readAt (Elt F) (Rect.unit (s := S2x8x144x512) ![0, 4, 0, 0] S1x1x144x512.size Gen.inb_S2x8x144x512_S1x1x144x512_0_4_0_0).toLoadRect f10) = vfeat (View.ld x2 (Rect.unit (s := S4096x256) ![2048, 0] S512x128.size Gen.inb_S4096x256_S512x128_2048_0))
  k05 : (arg10.view.readAt (Elt F) (Rect.unit (s := S2x8x144x512) ![0, 5, 0, 0] S1x1x144x512.size Gen.inb_S2x8x144x512_S1x1x144x512_0_5_0_0).toLoadRect f10) = vfeat (View.ld x2 (Rect.unit (s := S4096x256) ![2560, 0] S512x128.size Gen.inb_S4096x256_S512x128_2560_0))
  k06 : (arg10.view.readAt (Elt F) (Rect.unit (s := S2x8x144x512) ![0, 6, 0, 0] S1x1x144x512.size Gen.inb_S2x8x144x512_S1x1x144x512_0_6_0_0).toLoadRect f10) = vfeat (View.ld x2 (Rect.unit (s := S4096x256) ![3072, 0] S512x128.size Gen.inb_S4096x256_S512x128_3072_0))
  k07 : (arg10.view.readAt (Elt F) (Rect.unit (s := S2x8x144x512) ![0, 7, 0, 0] S1x1x144x512.size Gen.inb_S2x8x144x512_S1x1x144x512_0_7_0_0).toLoadRect f10) = vfeat (View.ld x2 (Rect.unit (s := S4096x256) ![3584, 0] S512x128.size Gen.inb_S4096x256_S512x128_3584_0))
  k10 : (arg10.view.readAt (Elt F) (Rect.unit (s := S2x8x144x512) ![1, 0, 0, 0] S1x1x144x512.size Gen.inb_S2x8x144x512_S1x1x144x512_1_0_0_0).toLoadRect f10) = vfeat (View.ld x2 (Rect.unit (s := S4096x256) ![0, 128] S512x128.size Gen.inb_S4096x256_S512x128_0_128))
  k11 : (arg10.view.readAt (Elt F) (Rect.unit (s := S2x8x144x512) ![1, 1, 0, 0] S1x1x144x512.size Gen.inb_S2x8x144x512_S1x1x144x512_1_1_0_0).toLoadRect f10) = vfeat (View.ld x2 (Rect.unit (s := S4096x256) ![512, 128] S512x128.size Gen.inb_S4096x256_S512x128_512_128))
  k12 : (arg10.view.readAt (Elt F) (Rect.unit (s := S2x8x144x512) ![1, 2, 0, 0] S1x1x144x512.size Gen.inb_S2x8x144x512_S1x1x144x512_1_2_0_0).toLoadRect f10) = vfeat (View.ld x2 (Rect.unit (s := S4096x256) ![1024, 128] S512x128.size Gen.inb_S4096x256_S512x128_1024_128))
  k13 : (arg10.view.readAt (Elt F) (Rect.unit (s := S2x8x144x512) ![1, 3, 0, 0] S1x1x144x512.size Gen.inb_S2x8x144x512_S1x1x144x512_1_3_0_0).toLoadRect f10) = vfeat (View.ld x2 (Rect.unit (s := S4096x256) ![1536, 128] S512x128.size Gen.inb_S4096x256_S512x128_1536_128))
  k14 : (arg10.view.readAt (Elt F) (Rect.unit (s := S2x8x144x512) ![1, 4, 0, 0] S1x1x144x512.size Gen.inb_S2x8x144x512_S1x1x144x512_1_4_0_0).toLoadRect f10) = vfeat (View.ld x2 (Rect.unit (s := S4096x256) ![2048, 128] S512x128.size Gen.inb_S4096x256_S512x128_2048_128))
  k15 : (arg10.view.readAt (Elt F) (Rect.unit (s := S2x8x144x512) ![1, 5, 0, 0] S1x1x144x512.size Gen.inb_S2x8x144x512_S1x1x144x512_1_5_0_0).toLoadRect f10) = vfeat (View.ld x2 (Rect.unit (s := S4096x256) ![2560, 128] S512x128.size Gen.inb_S4096x256_S512x128_2560_128))
  k16 : (arg10.view.readAt (Elt F) (Rect.unit (s := S2x8x144x512) ![1, 6, 0, 0] S1x1x144x512.size Gen.inb_S2x8x144x512_S1x1x144x512_1_6_0_0).toLoadRect f10) = vfeat (View.ld x2 (Rect.unit (s := S4096x256) ![3072, 128] S512x128.size Gen.inb_S4096x256_S512x128_3072_128))
  k17 : (arg10.view.readAt (Elt F) (Rect.unit (s := S2x8x144x512) ![1, 7, 0, 0] S1x1x144x512.size Gen.inb_S2x8x144x512_S1x1x144x512_1_7_0_0).toLoadRect f10) = vfeat (View.ld x2 (Rect.unit (s := S4096x256) ![3584, 128] S512x128.size Gen.inb_S4096x256_S512x128_3584_128))

theorem Slots9.holds {arg9 : Memref sig .tc .vmem S2x2x8x512x128 .bf16} {v7 v14 : FVec F S1x128 .f32} {x1 : Vec F S4096x256 .f32} {f9 : BufTy.Contents (Elt F) arg9.view.ty} (s : Slots9 arg9 v7 v14 x1 f9) : HoldsK arg9 (kbOf v7 v14 x1) f9 := by
  intro h c j
  fin_cases h <;> fin_cases c <;> fin_cases j
  exacts [s.k000, s.k001, s.k002, s.k003, s.k004, s.k005, s.k006, s.k007, s.k010, s.k011, s.k012, s.k013, s.k014, s.k015, s.k016, s.k017, s.k100, s.k101, s.k102, s.k103, s.k104, s.k105, s.k106, s.k107, s.k110, s.k111, s.k112, s.k113, s.k114, s.k115, s.k116, s.k117]

theorem Slots10.holds {arg10 : Memref sig .tc .vmem S2x8x144x512 .bf16} {x2 : Vec F S4096x256 .f32} {f10 : BufTy.Contents (Elt F) arg10.view.ty} (s : Slots10 arg10 x2 f10) : HoldsV arg10 (vbOf x2) f10 := by
  intro h j
  fin_cases h <;> fin_cases j
  exacts [s.k00, s.k01, s.k02, s.k03, s.k04, s.k05, s.k06, s.k07, s.k10, s.k11, s.k12, s.k13, s.k14, s.k15, s.k16, s.k17]

abbrev first (arg2 : BitVec 32) : Prop := (Scalar.cmpi .ne (Scalar.extui (Scalar.cmpi .eq arg2 0#32)) 0#32) = 1#1

theorem fill_first (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole) (arg2 : BitVec 32) (hc : first arg2)
    (v7 v14 : FVec F S1x128 .f32)
    (X4 : BufTy.Contents (Elt F) arg4.view.ty) (X5 : BufTy.Contents (Elt F) arg5.view.ty) (f9 : BufTy.Contents (Elt F) arg9.view.ty) (f10 : BufTy.Contents (Elt F) arg10.view.ty) :
    (iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (Gen.k0_part55_skel (F := F) i arg3 harg3 arg4 harg4 arg5 harg5 arg6 harg6 arg7 harg7 arg8 harg8 arg9 harg9 arg10 harg10 arg11 harg11 arg12 harg12 arg13 harg13 arg14 harg14 arg2 v7 v14 lane row Gen.k0_pay274 16#32)
          (fun r => iprop((arg4.view.loc (c : Thread nD τ) ↦[arg4.view.set]{fullShare} X4) ∗ (arg5.view.loc (c : Thread nD τ) ↦[arg5.view.set]{fullShare} X5) ∗ ∃ f9 f10, (arg9.view.loc (c : Thread nD τ) ↦[arg9.view.set]{fullShare} f9) ∗ (arg10.view.loc (c : Thread nD τ) ↦[arg10.view.set]{fullShare} f10)
            ∗ ⌜r = ret55⌝ ∗ ⌜Slots9 arg9 v7 v14 (arg4.view.read (Elt F) X4) f9⌝ ∗ ⌜Slots10 arg10 (arg5.view.read (Elt F) X5) f10⌝)) := by
  unfold Gen.k0_part55_skel
  simp only [Gen.k0_part1_eq_skeleton, Gen.k0_part2_eq_skeleton, Gen.k0_part3_eq_skeleton, Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton]
  iintro ⟨HR_arg4, HR_arg5, HW_arg9, HW_arg10⟩
  sl_exec (disch := first | sl_exact hc)
  sl_step
  isplitl [HR_arg4]; · iexact HR_arg4
  isplitl [HR_arg5]; · iexact HR_arg5
  iexists _, _
  isplitl [HW_arg9]; · iexact HW_arg9
  isplitl [HW_arg10]; · iexact HW_arg10
  isplitl []; · ipureintro; rfl
  isplitl []
  · ipureintro
    constructor
    all_goals
      sl_unfold_run_names
      simp (disch := decide) only [readAt_hit, readAt_skip]
      rfl
  · ipureintro
    constructor
    all_goals
      sl_unfold_run_names
      simp (disch := decide) only [readAt_hit, readAt_skip]
      rfl

theorem fill_later (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole) (arg2 : BitVec 32) (hc : ¬ first arg2)
    (v7 v14 : FVec F S1x128 .f32)
    (X4 : BufTy.Contents (Elt F) arg4.view.ty) :
    (iprop((arg4.view.loc (c : Thread nD τ) ↦[arg4.view.set]{fullShare} X4)) : sProp 𝕄)
      ⊢ wp frame (wpE (defs₀ (F := F)) 𝒱 (c : Thread nD τ) bd) E (Gen.k0_part55_skel (F := F) i arg3 harg3 arg4 harg4 arg5 harg5 arg6 harg6 arg7 harg7 arg8 harg8 arg9 harg9 arg10 harg10 arg11 harg11 arg12 harg12 arg13 harg13 arg14 harg14 arg2 v7 v14 lane row Gen.k0_pay274 16#32)
          (fun r => iprop((arg4.view.loc (c : Thread nD τ) ↦[arg4.view.set]{fullShare} X4) ∗ ⌜r = ret55⌝)) := by
  unfold Gen.k0_part55_skel
  iintro HR_arg4
  sl_exec (disch := first | sl_exact hc)
  sl_step
  isplitl [HR_arg4]; · iexact HR_arg4
  ipureintro; rfl

end Cert.KernelIdeal.Attn

end
-- ==== Proof.AttnTrip.lean ====
module

public import proofs.«01_k».proof.Proof.AttnState
public import proofs.«01_k».proof.Proof.Gen.KernelIdeal.Launch
public import Idealize.ShloMosaic.Lib.Pipeline.Kit
public import Idealize.ShloMosaic.Lib.Pipeline.FrameBody

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The scratch arrays hold the state `st`. -/
structure Holds (arg11 : Memref sig .tc .vmem S2x2x1x512 .f32) (arg12 : Memref sig .tc .vmem S2x2x144x512 .f32) (arg13 : Memref sig .tc .vmem S2x2x512x512 .f32)
    (st : St F) (f11 : BufTy.Contents (Elt F) arg11.view.ty) (f12 : BufTy.Contents (Elt F) arg12.view.ty) (f13 : BufTy.Contents (Elt F) arg13.view.ty) : Prop where
  m00 : (arg11.view.readAt (Elt F) (Rect.unit (s := S2x2x1x512) ![0, 0, 0, 0] S1x1x1x512.size Gen.inb_S2x2x1x512_S1x1x1x512_0_0_0_0).toLoadRect f11) = st.m 0 0
  m01 : (arg11.view.readAt (Elt F) (Rect.unit (s := S2x2x1x512) ![0, 1, 0, 0] S1x1x1x512.size Gen.inb_S2x2x1x512_S1x1x1x512_0_1_0_0).toLoadRect f11) = st.m 0 1
  m10 : (arg11.view.readAt (Elt F) (Rect.unit (s := S2x2x1x512) ![1, 0, 0, 0] S1x1x1x512.size Gen.inb_S2x2x1x512_S1x1x1x512_1_0_0_0).toLoadRect f11) = st.m 1 0
  m11 : (arg11.view.readAt (Elt F) (Rect.unit (s := S2x2x1x512) ![1, 1, 0, 0] S1x1x1x512.size Gen.inb_S2x2x1x512_S1x1x1x512_1_1_0_0).toLoadRect f11) = st.m 1 1
  a00 : (arg12.view.readAt (Elt F) (Rect.unit (s := S2x2x144x512) ![0, 0, 0, 0] S1x1x144x512.size Gen.inb_S2x2x144x512_S1x1x144x512_0_0_0_0).toLoadRect f12) = st.a 0 0
  a01 : (arg12.view.readAt (Elt F) (Rect.unit (s := S2x2x144x512) ![0, 1, 0, 0] S1x1x144x512.size Gen.inb_S2x2x144x512_S1x1x144x512_0_1_0_0).toLoadRect f12) = st.a 0 1
  a10 : (arg12.view.readAt (Elt F) (Rect.unit (s := S2x2x144x512) ![1, 0, 0, 0] S1x1x144x512.size Gen.inb_S2x2x144x512_S1x1x144x512_1_0_0_0).toLoadRect f12) = st.a 1 0
  a11 : (arg12.view.readAt (Elt F) (Rect.unit (s := S2x2x144x512) ![1, 1, 0, 0] S1x1x144x512.size Gen.inb_S2x2x144x512_S1x1x144x512_1_1_0_0).toLoadRect f12) = st.a 1 1
  s00 : (arg13.view.readAt (Elt F) (Rect.unit (s := S2x2x512x512) ![0, 0, 0, 0] S1x1x512x512.size Gen.inb_S2x2x512x512_S1x1x512x512_0_0_0_0).toLoadRect f13) = st.s 0 0
  s01 : (arg13.view.readAt (Elt F) (Rect.unit (s := S2x2x512x512) ![0, 1, 0, 0] S1x1x512x512.size Gen.inb_S2x2x512x512_S1x1x512x512_0_1_0_0).toLoadRect f13) = st.s 0 1
  s10 : (arg13.view.readAt (Elt F) (Rect.unit (s := S2x2x512x512) ![1, 0, 0, 0] S1x1x512x512.size Gen.inb_S2x2x512x512_S1x1x512x512_1_0_0_0).toLoadRect f13) = st.s 1 0
  s11 : (arg13.view.readAt (Elt F) (Rect.unit (s := S2x2x512x512) ![1, 1, 0, 0] S1x1x512x512.size Gen.inb_S2x2x512x512_S1x1x512x512_1_1_0_0).toLoadRect f13) = st.s 1 1

/-- The state after one trip that consumes two key blocks: the biases, query features, key features
    and values of the two blocks, and the key features of the block scored for the next trip. -/
def twoBlocks (b b' : Fin 2 → FVec F S1x1 .f32) (q : Fin 2 → Fin 2 → FVec F S512x128 .bf16) (kA kB : Fin 2 → Fin 2 → Vec F S1x1x1x512x128 .bf16)
    (vA vB : Fin 2 → Vec F S1x1x144x512 .bf16) (st : St F) : St F where
  m h c := newMax (b' h) (flat (score (q h c) (kA h c))) (newMax (b h) (flat (st.s h c)) (st.m h c))
  a h c := newAcc (b' h) (vB h) (flat (score (q h c) (kA h c))) (newMax (b h) (flat (st.s h c)) (st.m h c))
    (newAcc (b h) (vA h) (flat (st.s h c)) (st.m h c) (st.a h c))
  s h c := score (q h c) (kB h c)

def tripSt (i : grid0.Coords) (arg2 : BitVec 32) (v7 v14 : FVec F S1x128 .f32) (q : Fin 2 → Fin 2 → FVec F S512x128 .bf16)
    (x9 : Vec F S2x2x8x512x128 .bf16) (x10 : Vec F S2x8x144x512 .bf16) (k : Fin (k0_t1_loop i).trips) : St F → St F :=
  twoBlocks ![biasOf arg2 (Scalar.muli 2#32 (Scf.iv 0#32 1#32 k)) v7, biasOf arg2 (Scalar.muli 2#32 (Scf.iv 0#32 1#32 k)) v14]
    ![biasOf arg2 (Scalar.addi (Scalar.muli 2#32 (Scf.iv 0#32 1#32 k)) 1#32) v7, biasOf arg2 (Scalar.addi (Scalar.muli 2#32 (Scf.iv 0#32 1#32 k)) 1#32) v14]
    q
    ![![View.ld x9 (Rect.unit (s := S2x2x8x512x128) (k0_off1 i k 1#32) S1x1x1x512x128.size (Gen.k0_off1_inb i k 0)), View.ld x9 (Rect.unit (s := S2x2x8x512x128) (k0_off2 i k 1#32) S1x1x1x512x128.size (Gen.k0_off2_inb i k 0))], ![View.ld x9 (Rect.unit (s := S2x2x8x512x128) (k0_off3 i k 1#32) S1x1x1x512x128.size (Gen.k0_off3_inb i k 0)), View.ld x9 (Rect.unit (s := S2x2x8x512x128) (k0_off4 i k 1#32) S1x1x1x512x128.size (Gen.k0_off4_inb i k 0))]]
    ![![View.ld x9 (Rect.unit (s := S2x2x8x512x128) (k0_off1 i k 2#32) S1x1x1x512x128.size (Gen.k0_off1_inb i k 1)), View.ld x9 (Rect.unit (s := S2x2x8x512x128) (k0_off2 i k 2#32) S1x1x1x512x128.size (Gen.k0_off2_inb i k 1))], ![View.ld x9 (Rect.unit (s := S2x2x8x512x128) (k0_off3 i k 2#32) S1x1x1x512x128.size (Gen.k0_off3_inb i k 1)), View.ld x9 (Rect.unit (s := S2x2x8x512x128) (k0_off4 i k 2#32) S1x1x1x512x128.size (Gen.k0_off4_inb i k 1))]]
    ![View.ld x10 (Rect.unit (s := S2x8x144x512) (k0_off5 i k) S1x1x144x512.size (Gen.k0_off5_inb i k)), View.ld x10 (Rect.unit (s := S2x8x144x512) (k0_off6 i k) S1x1x144x512.size (Gen.k0_off6_inb i k))]
    ![View.ld x10 (Rect.unit (s := S2x8x144x512) (k0_off7 i k) S1x1x144x512.size (Gen.k0_off7_inb i k)), View.ld x10 (Rect.unit (s := S2x8x144x512) (k0_off8 i k) S1x1x144x512.size (Gen.k0_off8_inb i k))]

theorem trip1 (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole)
    (arg2 : BitVec 32) (v7 v14 : FVec F S1x128 .f32) (q : Fin 2 → Fin 2 → FVec F S512x128 .bf16)
    (X9 : BufTy.Contents (Elt F) arg9.view.ty) (X10 : BufTy.Contents (Elt F) arg10.view.ty)
    (k : Fin (k0_t1_loop i).trips) (st : St F)
    (f11 : BufTy.Contents (Elt F) arg11.view.ty) (f12 : BufTy.Contents (Elt F) arg12.view.ty) (f13 : BufTy.Contents (Elt F) arg13.view.ty) (f14 : BufTy.Contents (Elt F) arg14.view.ty)
    (hst : Holds arg11 arg12 arg13 st f11 f12 f13) :
    iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) : sProp 𝕄)
      ⊢ wp frame (wpE (defs₀ (F := F)) 𝒱 (c : Thread nD τ) bd) E (Gen.k0_t1_body (F := F) i arg3 harg3 arg4 harg4 arg5 harg5 arg6 harg6 arg7 harg7 arg8 harg8 arg9 harg9 arg10 harg10 arg11 harg11 arg12 harg12 arg13 harg13 arg14 harg14 arg2 v7 v14 (q 0 0) (q 0 1) (q 1 0) (q 1 1) k PUnit.unit)
          (fun _ => iprop((arg9.view.loc (c : Thread nD τ) ↦[arg9.view.set]{fullShare} X9) ∗ (arg10.view.loc (c : Thread nD τ) ↦[arg10.view.set]{fullShare} X10)
            ∗ ∃ f11 f12 f13, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
              ∗ (∃ f14, arg14.view.loc (c : Thread nD τ) ↦[arg14.view.set]{fullShare} f14) ∗ ⌜Holds arg11 arg12 arg13 (tripSt i arg2 v7 v14 q (arg9.view.read (Elt F) X9) (arg10.view.read (Elt F) X10) k st) f11 f12 f13⌝)) := by
  unfold Gen.k0_t1_body
  iintro ⟨HR_arg9, HR_arg10, HW_arg11, HW_arg12, HW_arg13, HW_arg14⟩
  sl_exec
  sl_step
  isplitl [HR_arg9]; · iexact HR_arg9
  isplitl [HR_arg10]; · iexact HR_arg10
  iexists _, _, _
  isplitl [HW_arg11]; · iexact HW_arg11
  isplitl [HW_arg12]; · iexact HW_arg12
  isplitl [HW_arg13]; · iexact HW_arg13
  isplitl [HW_arg14]; · iexists _; iexact HW_arg14
  ipureintro
  constructor
  all_goals
    sl_unfold_run_names
    simp (disch := decide) only [readAt_hit, readAt_skip, readAt_nil, readCov_hit, readCov_skip, hst.m00, hst.m01, hst.m10, hst.m11, hst.a00, hst.a01, hst.a10, hst.a11, hst.s00, hst.s01, hst.s10, hst.s11]
    rfl

end Cert.KernelIdeal.Attn

end
-- ==== Proof.AttnLast.lean ====
module

public import proofs.«01_k».proof.Proof.AttnTrip
public import proofs.«01_k».proof.Proof.Gen.KernelIdeal.Launch
public import Idealize.ShloMosaic.Lib.Pipeline.Kit
public import Idealize.ShloMosaic.Lib.Pipeline.FrameBody

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The accumulators are `a`. -/
structure HoldsA (arg12 : Memref sig .tc .vmem S2x2x144x512 .f32) (a : Fin 2 → Fin 2 → Vec F S1x1x144x512 .f32) (f12 : BufTy.Contents (Elt F) arg12.view.ty) : Prop where
  a00 : (arg12.view.readAt (Elt F) (Rect.unit (s := S2x2x144x512) ![0, 0, 0, 0] S1x1x144x512.size Gen.inb_S2x2x144x512_S1x1x144x512_0_0_0_0).toLoadRect f12) = a 0 0
  a01 : (arg12.view.readAt (Elt F) (Rect.unit (s := S2x2x144x512) ![0, 1, 0, 0] S1x1x144x512.size Gen.inb_S2x2x144x512_S1x1x144x512_0_1_0_0).toLoadRect f12) = a 0 1
  a10 : (arg12.view.readAt (Elt F) (Rect.unit (s := S2x2x144x512) ![1, 0, 0, 0] S1x1x144x512.size Gen.inb_S2x2x144x512_S1x1x144x512_1_0_0_0).toLoadRect f12) = a 1 0
  a11 : (arg12.view.readAt (Elt F) (Rect.unit (s := S2x2x144x512) ![1, 1, 0, 0] S1x1x144x512.size Gen.inb_S2x2x144x512_S1x1x144x512_1_1_0_0).toLoadRect f12) = a 1 1

/-- What is kept for the end: the branch weight and the first accumulator. -/
def ret59 (x6 : Vec F S4x64 .f32) (a : Vec F S1x1x144x512 .f32) : Σ' (_ : FVec F S1x1 .f32), FVec F S144x512 .f32 :=
  ⟨Gen.k0_pay308 (View.ld x6 (Rect.unit (s := S4x64) ![0, 0] S4x64.size Gen.inb_S4x64_S4x64_0_0)), Gen.k0_pay309 a⟩

/-- The accumulators after the last two key blocks, the second one masked. -/
def lastOdd (b b' : Fin 2 → FVec F S1x1 .f32) (q : Fin 2 → Fin 2 → FVec F S512x128 .bf16) (kA : Fin 2 → Fin 2 → Vec F S1x1x1x512x128 .bf16)
    (vA vB : Fin 2 → Vec F S1x1x144x512 .bf16) (st : St F) (h c : Fin 2) : Vec F S1x1x144x512 .f32 :=
  newAcc (b' h) (vB h) (masked (score (q h c) (kA h c))) (newMax (b h) (flat (st.s h c)) (st.m h c))
    (newAcc (b h) (vA h) (flat (st.s h c)) (st.m h c) (st.a h c))

/-- The accumulators after the last key block, masked. -/
def lastEven (b : Fin 2 → FVec F S1x1 .f32) (vA : Fin 2 → Vec F S1x1x144x512 .bf16) (st : St F) (h c : Fin 2) : Vec F S1x1x144x512 .f32 :=
  newAcc (b h) (vA h) (masked (st.s h c)) (st.m h c) (st.a h c)

def oddSt (i : grid0.Coords) (hc : k0_cond2 i = 1#1) (arg2 : BitVec 32) (v7 v14 : FVec F S1x128 .f32) (q : Fin 2 → Fin 2 → FVec F S512x128 .bf16)
    (x9 : Vec F S2x2x8x512x128 .bf16) (x10 : Vec F S2x8x144x512 .bf16) : St F → Fin 2 → Fin 2 → Vec F S1x1x144x512 .f32 :=
  lastOdd ![biasOf arg2 (Scalar.subi arg2 1#32) v7, biasOf arg2 (Scalar.subi arg2 1#32) v14] ![biasOf arg2 arg2 v7, biasOf arg2 arg2 v14] q
    ![![View.ld x9 (Rect.unit (s := S2x2x8x512x128) (k0_off17 i) S1x1x1x512x128.size (Gen.k0_off17_inb i hc)), View.ld x9 (Rect.unit (s := S2x2x8x512x128) (k0_off18 i) S1x1x1x512x128.size (Gen.k0_off18_inb i hc))], ![View.ld x9 (Rect.unit (s := S2x2x8x512x128) (k0_off19 i) S1x1x1x512x128.size (Gen.k0_off19_inb i hc)), View.ld x9 (Rect.unit (s := S2x2x8x512x128) (k0_off20 i) S1x1x1x512x128.size (Gen.k0_off20_inb i hc))]]
    ![View.ld x10 (Rect.unit (s := S2x8x144x512) (k0_off21 i) S1x1x144x512.size (Gen.k0_off21_inb i hc)), View.ld x10 (Rect.unit (s := S2x8x144x512) (k0_off22 i) S1x1x144x512.size (Gen.k0_off22_inb i hc))]
    ![View.ld x10 (Rect.unit (s := S2x8x144x512) (k0_off23 i) S1x1x144x512.size (Gen.k0_off23_inb i hc)), View.ld x10 (Rect.unit (s := S2x8x144x512) (k0_off24 i) S1x1x144x512.size (Gen.k0_off24_inb i hc))]

def evenSt (i : grid0.Coords) (hc : k0_cond3 i = 1#1) (arg2 : BitVec 32) (v7 v14 : FVec F S1x128 .f32)
    (x10 : Vec F S2x8x144x512 .bf16) : St F → Fin 2 → Fin 2 → Vec F S1x1x144x512 .f32 :=
  lastEven ![biasOf arg2 arg2 v7, biasOf arg2 arg2 v14] ![View.ld x10 (Rect.unit (s := S2x8x144x512) (k0_off25 i) S1x1x144x512.size (Gen.k0_off25_inb i hc)), View.ld x10 (Rect.unit (s := S2x8x144x512) (k0_off26 i) S1x1x144x512.size (Gen.k0_off26_inb i hc))]

theorem last_odd (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole)
    (hc : k0_cond2 i = 1#1) (hn : ¬ k0_cond3 i = 1#1) (arg2 : BitVec 32) (v7 v14 : FVec F S1x128 .f32) (q : Fin 2 → Fin 2 → FVec F S512x128 .bf16) (w0 w1 : BitVec 32) (w2 w3 w4 : BitVec 1)
    (X6 : BufTy.Contents (Elt F) arg6.view.ty) (X9 : BufTy.Contents (Elt F) arg9.view.ty) (X10 : BufTy.Contents (Elt F) arg10.view.ty) (st : St F)
    (f11 : BufTy.Contents (Elt F) arg11.view.ty) (f12 : BufTy.Contents (Elt F) arg12.view.ty) (f13 : BufTy.Contents (Elt F) arg13.view.ty) (f14 : BufTy.Contents (Elt F) arg14.view.ty)
    (hst : Holds arg11 arg12 arg13 st f11 f12 f13) :
    (iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (Gen.k0_part59_skel (F := F) i arg3 harg3 arg4 harg4 arg5 harg5 arg6 harg6 arg7 harg7 arg8 harg8 arg9 harg9 arg10 harg10 arg11 harg11 arg12 harg12 arg13 harg13 arg14 harg14 arg2 v7 v14 (q 0 0) (q 0 1) (q 1 0) (q 1 1) w0 w1 w2 w3 w4)
          (fun (r : Σ' (_ : FVec F S1x1 .f32), FVec F S144x512 .f32) => iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10)
            ∗ (∃ f11, (arg11.view.loc (c : Thread nD τ) ↦[arg11.view.set]{fullShare} f11)) ∗ (∃ f13, (arg13.view.loc (c : Thread nD τ) ↦[arg13.view.set]{fullShare} f13)) ∗ (∃ f14, (arg14.view.loc (c : Thread nD τ) ↦[arg14.view.set]{fullShare} f14))
            ∗ ∃ f12, (arg12.view.loc (c : Thread nD τ) ↦[arg12.view.set]{fullShare} f12) ∗ ⌜HoldsA arg12 (oddSt i hc arg2 v7 v14 q (arg9.view.read (Elt F) X9) (arg10.view.read (Elt F) X10) st) f12⌝ ∗ ⌜r = ret59 (arg6.view.read (Elt F) X6) (oddSt i hc arg2 v7 v14 q (arg9.view.read (Elt F) X9) (arg10.view.read (Elt F) X10) st 0 0)⌝)) := by
  simp only [Gen.k0_part38_eq_skeleton, Gen.k0_part39_eq_skeleton, Gen.k0_part40_eq_skeleton, Gen.k0_part41_eq_skeleton, Gen.k0_part42_eq_skeleton, Gen.k0_part43_eq_skeleton, Gen.k0_part44_eq_skeleton, Gen.k0_part45_eq_skeleton, Gen.k0_part46_eq_skeleton, Gen.k0_part47_eq_skeleton, Gen.k0_part48_eq_skeleton]
  unfold Gen.k0_part59_skel
  iintro ⟨HR_arg6, HR_arg9, HR_arg10, HW_arg11, HW_arg12, HW_arg13, HW_arg14⟩
  sl_exec (disch := first | sl_exact hc | sl_exact hn)
  sl_step
  isplitl [HR_arg6]; · iexact HR_arg6
  isplitl [HR_arg9]; · iexact HR_arg9
  isplitl [HR_arg10]; · iexact HR_arg10
  isplitl [HW_arg11]; · iexists _; iexact HW_arg11
  isplitl [HW_arg13]; · iexists _; iexact HW_arg13
  isplitl [HW_arg14]; · iexists _; iexact HW_arg14
  iexists _
  isplitl [HW_arg12]; · iexact HW_arg12
  isplitl []
  · ipureintro
    constructor
    all_goals
      sl_unfold_run_names
      simp (disch := decide) only [readAt_hit, readAt_skip, readAt_nil, readCov_hit, readCov_skip, hst.m00, hst.m01, hst.m10, hst.m11, hst.a00, hst.a01, hst.a10, hst.a11, hst.s00, hst.s01, hst.s10, hst.s11]
      rfl
  · ipureintro
    sl_unfold_run_names
    simp (disch := decide) only [readAt_hit, readAt_skip, readAt_nil, readCov_hit, readCov_skip, hst.m00, hst.m01, hst.m10, hst.m11, hst.a00, hst.a01, hst.a10, hst.a11, hst.s00, hst.s01, hst.s10, hst.s11]
    rfl

theorem last_even (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole)
    (hc : k0_cond3 i = 1#1) (hn : ¬ k0_cond2 i = 1#1) (arg2 : BitVec 32) (v7 v14 : FVec F S1x128 .f32) (q : Fin 2 → Fin 2 → FVec F S512x128 .bf16) (w0 w1 : BitVec 32) (w2 w3 w4 : BitVec 1)
    (X6 : BufTy.Contents (Elt F) arg6.view.ty) (X9 : BufTy.Contents (Elt F) arg9.view.ty) (X10 : BufTy.Contents (Elt F) arg10.view.ty) (st : St F)
    (f11 : BufTy.Contents (Elt F) arg11.view.ty) (f12 : BufTy.Contents (Elt F) arg12.view.ty) (f13 : BufTy.Contents (Elt F) arg13.view.ty) (f14 : BufTy.Contents (Elt F) arg14.view.ty)
    (hst : Holds arg11 arg12 arg13 st f11 f12 f13) :
    (iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (Gen.k0_part59_skel (F := F) i arg3 harg3 arg4 harg4 arg5 harg5 arg6 harg6 arg7 harg7 arg8 harg8 arg9 harg9 arg10 harg10 arg11 harg11 arg12 harg12 arg13 harg13 arg14 harg14 arg2 v7 v14 (q 0 0) (q 0 1) (q 1 0) (q 1 1) w0 w1 w2 w3 w4)
          (fun (r : Σ' (_ : FVec F S1x1 .f32), FVec F S144x512 .f32) => iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10)
            ∗ (∃ f11, (arg11.view.loc (c : Thread nD τ) ↦[arg11.view.set]{fullShare} f11)) ∗ (∃ f13, (arg13.view.loc (c : Thread nD τ) ↦[arg13.view.set]{fullShare} f13)) ∗ (∃ f14, (arg14.view.loc (c : Thread nD τ) ↦[arg14.view.set]{fullShare} f14))
            ∗ ∃ f12, (arg12.view.loc (c : Thread nD τ) ↦[arg12.view.set]{fullShare} f12) ∗ ⌜HoldsA arg12 (evenSt i hc arg2 v7 v14 (arg10.view.read (Elt F) X10) st) f12⌝ ∗ ⌜r = ret59 (arg6.view.read (Elt F) X6) (evenSt i hc arg2 v7 v14 (arg10.view.read (Elt F) X10) st 0 0)⌝)) := by
  simp only [Gen.k0_part49_eq_skeleton, Gen.k0_part50_eq_skeleton, Gen.k0_part51_eq_skeleton, Gen.k0_part52_eq_skeleton, Gen.k0_part53_eq_skeleton]
  unfold Gen.k0_part59_skel
  iintro ⟨HR_arg6, HR_arg9, HR_arg10, HW_arg11, HW_arg12, HW_arg13, HW_arg14⟩
  sl_exec (disch := first | sl_exact hc | sl_exact hn)
  sl_step
  isplitl [HR_arg6]; · iexact HR_arg6
  isplitl [HR_arg9]; · iexact HR_arg9
  isplitl [HR_arg10]; · iexact HR_arg10
  isplitl [HW_arg11]; · iexists _; iexact HW_arg11
  isplitl [HW_arg13]; · iexists _; iexact HW_arg13
  isplitl [HW_arg14]; · iexists _; iexact HW_arg14
  iexists _
  isplitl [HW_arg12]; · iexact HW_arg12
  isplitl []
  · ipureintro
    constructor
    all_goals
      sl_unfold_run_names
      simp (disch := decide) only [readAt_hit, readAt_skip, readAt_nil, readCov_hit, readCov_skip, hst.m00, hst.m01, hst.m10, hst.m11, hst.a00, hst.a01, hst.a10, hst.a11, hst.s00, hst.s01, hst.s10, hst.s11]
      rfl
  · ipureintro
    sl_unfold_run_names
    simp (disch := decide) only [readAt_hit, readAt_skip, readAt_nil, readCov_hit, readCov_skip, hst.m00, hst.m01, hst.m10, hst.m11, hst.a00, hst.a01, hst.a10, hst.a11, hst.s00, hst.s01, hst.s10, hst.s11]
    rfl

end Cert.KernelIdeal.Attn

end
-- ==== Proof.AttnWords.lean ====
module

public import proofs.«01_k».proof.Proof.AttnTrip

@[expose] public section

set_option maxRecDepth 8192

namespace Cert.KernelIdeal.Attn

open Idealize.ShloMosaic Idealize.ShloMosaic.TcCoe

/-- The loop over pairs of key blocks makes half as many trips as there are blocks before the query's. -/
theorem trips1 (i : grid0.Coords) : (k0_t1_loop i).trips = (i 2).val / 2 := by
  unfold k0_t1_loop
  generalize i 2 = q
  revert q
  decide +kernel

/-- The other loop makes none. -/
theorem trips2 (i : grid0.Coords) : (k0_t2_loop i).trips = 0 := by
  unfold k0_t2_loop
  generalize i 2 = q
  revert q
  decide +kernel

theorem lt4 (i : grid0.Coords) (k : Fin (k0_t1_loop i).trips) : k.val < 4 := by
  have h1 : (i 2).val < 8 := (i 2).isLt
  have h2 := lt_of_lt_of_eq k.isLt (trips1 i)
  omega

theorem word_even {n : ℕ} (h : n < 4) : Scalar.muli 2#32 (Scf.iv 0#32 1#32 n) = BitVec.ofNat 32 (2 * n) := by
  interval_cases n <;> rfl

theorem word_odd {n : ℕ} (h : n < 4) : Scalar.addi (Scalar.muli 2#32 (Scf.iv 0#32 1#32 n)) 1#32 = BitVec.ofNat 32 (2 * n + 1) := by
  interval_cases n <;> rfl

theorem off1 (i : grid0.Coords) (k : Fin (k0_t1_loop i).trips) : k0_off1 i k 1#32 = ![0, 0, 2 * k.val + 1, 0, 0] ∧ k0_off1 i k 2#32 = ![0, 0, 2 * k.val + 2, 0, 0] := by
  have h := lt4 i k; unfold k0_off1; generalize k.val = n at h ⊢; interval_cases n <;> decide +kernel
theorem off2 (i : grid0.Coords) (k : Fin (k0_t1_loop i).trips) : k0_off2 i k 1#32 = ![0, 1, 2 * k.val + 1, 0, 0] ∧ k0_off2 i k 2#32 = ![0, 1, 2 * k.val + 2, 0, 0] := by
  have h := lt4 i k; unfold k0_off2; generalize k.val = n at h ⊢; interval_cases n <;> decide +kernel
theorem off3 (i : grid0.Coords) (k : Fin (k0_t1_loop i).trips) : k0_off3 i k 1#32 = ![1, 0, 2 * k.val + 1, 0, 0] ∧ k0_off3 i k 2#32 = ![1, 0, 2 * k.val + 2, 0, 0] := by
  have h := lt4 i k; unfold k0_off3; generalize k.val = n at h ⊢; interval_cases n <;> decide +kernel
theorem off4 (i : grid0.Coords) (k : Fin (k0_t1_loop i).trips) : k0_off4 i k 1#32 = ![1, 1, 2 * k.val + 1, 0, 0] ∧ k0_off4 i k 2#32 = ![1, 1, 2 * k.val + 2, 0, 0] := by
  have h := lt4 i k; unfold k0_off4; generalize k.val = n at h ⊢; interval_cases n <;> decide +kernel
theorem off5 (i : grid0.Coords) (k : Fin (k0_t1_loop i).trips) : k0_off5 i k = ![0, 2 * k.val, 0, 0] := by
  have h := lt4 i k; unfold k0_off5; generalize k.val = n at h ⊢; interval_cases n <;> decide +kernel
theorem off6 (i : grid0.Coords) (k : Fin (k0_t1_loop i).trips) : k0_off6 i k = ![1, 2 * k.val, 0, 0] := by
  have h := lt4 i k; unfold k0_off6; generalize k.val = n at h ⊢; interval_cases n <;> decide +kernel
theorem off7 (i : grid0.Coords) (k : Fin (k0_t1_loop i).trips) : k0_off7 i k = ![0, 2 * k.val + 1, 0, 0] := by
  have h := lt4 i k; unfold k0_off7; generalize k.val = n at h ⊢; interval_cases n <;> decide +kernel
theorem off8 (i : grid0.Coords) (k : Fin (k0_t1_loop i).trips) : k0_off8 i k = ![1, 2 * k.val + 1, 0, 0] := by
  have h := lt4 i k; unfold k0_off8; generalize k.val = n at h ⊢; interval_cases n <;> decide +kernel

/-- The offsets of the last blocks. -/
theorem offK (i : grid0.Coords) : k0_off17 i = ![0, 0, (i 2).val, 0, 0] ∧ k0_off18 i = ![0, 1, (i 2).val, 0, 0] ∧ k0_off19 i = ![1, 0, (i 2).val, 0, 0] ∧ k0_off20 i = ![1, 1, (i 2).val, 0, 0] := by
  unfold k0_off17 k0_off18 k0_off19 k0_off20
  generalize i 2 = q
  revert q
  decide +kernel
theorem offV (i : grid0.Coords) : k0_off23 i = ![0, (i 2).val, 0, 0] ∧ k0_off24 i = ![1, (i 2).val, 0, 0] ∧ k0_off25 i = ![0, (i 2).val, 0, 0] ∧ k0_off26 i = ![1, (i 2).val, 0, 0] := by
  unfold k0_off23 k0_off24 k0_off25 k0_off26
  generalize i 2 = q
  revert q
  decide +kernel
theorem offP (i : grid0.Coords) (h : 0 < (i 2).val) : k0_off21 i = ![0, (i 2).val - 1, 0, 0] ∧ k0_off22 i = ![1, (i 2).val - 1, 0, 0] ∧ Scalar.subi (BitVec.ofNat 32 (i 2).val) 1#32 = BitVec.ofNat 32 ((i 2).val - 1) := by
  revert h
  unfold k0_off21 k0_off22
  generalize i 2 = q
  revert q
  decide +kernel
theorem odd_iff (i : grid0.Coords) : k0_cond2 i = 1#1 ↔ (i 2).val % 2 = 1 := by
  unfold k0_cond2
  generalize i 2 = q
  revert q
  decide +kernel
theorem even_iff (i : grid0.Coords) : k0_cond3 i = 1#1 ↔ (i 2).val % 2 = 0 := by
  unfold k0_cond3
  generalize i 2 = q
  revert q
  decide +kernel

end Cert.KernelIdeal.Attn
-- ==== Proof.AttnFlash.lean ====
module

public import proofs.«01_k».proof.Proof.AttnFill
public import proofs.«01_k».proof.Proof.AttnLast
public import proofs.«01_k».proof.Proof.AttnWords
public import proofs.«01_k».proof.Proof.Gen.KernelIdeal.Launch
public import Idealize.ShloMosaic.Lib.Pipeline.Kit
public import Idealize.ShloMosaic.Lib.Pipeline.FrameBody

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The bias of key block `j` for the queries of block `qi`. -/
def bias (qi j : ℕ) (sl : FVec F S1x128 .f32) : FVec F S1x1 .f32 := biasOf (BitVec.ofNat 32 qi) (BitVec.ofNat 32 j) sl

/-- The running maxima and the accumulators before any key block. -/
def m0 : Vec F S1x1x1x512 .f32 := fun _ => Named.named κ "mask" 0xF149F2CA#32
def a0 : Vec F S1x1x144x512 .f32 := fun _ => Scalar.ofBits .f32 0x00000000#32

/-- Block `j` of eight. -/
def at8 (j : ℕ) : Fin 8 := Fin.ofNat 8 j

/-- The running maximum and the accumulator after `n` whole key blocks with biases `b`, values `v` and scores `s`. -/
def flash (b : ℕ → FVec F S1x1 .f32) (v : ℕ → Vec F S1x1x144x512 .bf16) (s : ℕ → FVec F S512x512 .f32) : ℕ → Vec F S1x1x1x512 .f32 × Vec F S1x1x144x512 .f32
  | 0 => (m0, a0)
  | n + 1 => (newMax (b n) (s n) (flash b v s n).1, newAcc (b n) (v n) (s n) (flash b v s n).1 (flash b v s n).2)

/-- The running pair of one head and one branch. -/
def run (qi : ℕ) (sl : Fin 2 → FVec F S1x128 .f32) (q : Fin 2 → Fin 2 → FVec F S512x128 .bf16) (kb : Fin 2 → Fin 2 → Fin 8 → Vec F S1x1x1x512x128 .bf16) (vb : Fin 2 → Fin 8 → Vec F S1x1x144x512 .bf16) (h c : Fin 2) : ℕ → Vec F S1x1x1x512 .f32 × Vec F S1x1x144x512 .f32 :=
  flash (fun j => bias qi j (sl h)) (fun j => vb h (at8 j)) (fun j => flat (score (q h c) (kb h c (at8 j))))

/-- The state before the trip over the pair `k` of key blocks. -/
def stAt (qi : ℕ) (sl : Fin 2 → FVec F S1x128 .f32) (q : Fin 2 → Fin 2 → FVec F S512x128 .bf16) (kb : Fin 2 → Fin 2 → Fin 8 → Vec F S1x1x1x512x128 .bf16) (vb : Fin 2 → Fin 8 → Vec F S1x1x144x512 .bf16) (k : ℕ) : St F where
  m h c := (run qi sl q kb vb h c (2 * k)).1
  a h c := (run qi sl q kb vb h c (2 * k)).2
  s h c := score (q h c) (kb h c (at8 (2 * k)))

/-- The accumulator at the end: the whole blocks before the query's, then the query's own, masked. -/
def final (qi : ℕ) (sl : Fin 2 → FVec F S1x128 .f32) (q : Fin 2 → Fin 2 → FVec F S512x128 .bf16) (kb : Fin 2 → Fin 2 → Fin 8 → Vec F S1x1x1x512x128 .bf16) (vb : Fin 2 → Fin 8 → Vec F S1x1x144x512 .bf16) (h c : Fin 2) : Vec F S1x1x144x512 .f32 :=
  newAcc (bias qi qi (sl h)) (vb h (at8 qi)) (masked (score (q h c) (kb h c (at8 qi)))) (run qi sl q kb vb h c qi).1 (run qi sl q kb vb h c qi).2

theorem ld_of_holdsK {arg9 : Memref sig .tc .vmem S2x2x8x512x128 .bf16} {kb : Fin 2 → Fin 2 → Fin 8 → Vec F S1x1x1x512x128 .bf16} {f9 : BufTy.Contents (Elt F) arg9.view.ty} (hk : HoldsK arg9 kb f9)
    {o : Fin 5 → ℕ} (inb : ∀ a, o a + S1x1x1x512x128.size a ≤ S2x2x8x512x128.size a) (h c : Fin 2) (j : Fin 8) (ho : o = ![h.val, c.val, j.val, 0, 0]) :
    View.ld (arg9.view.read (Elt F) f9) (Rect.unit (s := S2x2x8x512x128) o S1x1x1x512x128.size inb) = kb h c j := by
  subst ho
  exact hk h c j

theorem ld_of_holdsV {arg10 : Memref sig .tc .vmem S2x8x144x512 .bf16} {vb : Fin 2 → Fin 8 → Vec F S1x1x144x512 .bf16} {f10 : BufTy.Contents (Elt F) arg10.view.ty} (hv : HoldsV arg10 vb f10)
    {o : Fin 4 → ℕ} (inb : ∀ a, o a + S1x1x144x512.size a ≤ S2x8x144x512.size a) (h : Fin 2) (j : Fin 8) (ho : o = ![h.val, j.val, 0, 0]) :
    View.ld (arg10.view.read (Elt F) f10) (Rect.unit (s := S2x8x144x512) o S1x1x144x512.size inb) = vb h j := by
  subst ho
  exact hv h j

theorem at8_val {j : ℕ} (h : j < 8) : (at8 j).val = j := Nat.mod_eq_of_lt h

section
variable {arg9 : Memref sig .tc .vmem S2x2x8x512x128 .bf16} {arg10 : Memref sig .tc .vmem S2x8x144x512 .bf16} {kb : Fin 2 → Fin 2 → Fin 8 → Vec F S1x1x1x512x128 .bf16} {vb : Fin 2 → Fin 8 → Vec F S1x1x144x512 .bf16} {f9 : BufTy.Contents (Elt F) arg9.view.ty} {f10 : BufTy.Contents (Elt F) arg10.view.ty}

/-- One trip takes the state before it to the state after it. -/
theorem trip_stAt (hk : HoldsK arg9 kb f9) (hv : HoldsV arg10 vb f10) (i : grid0.Coords) (v7 v14 : FVec F S1x128 .f32) (q : Fin 2 → Fin 2 → FVec F S512x128 .bf16) (k : Fin (k0_t1_loop i).trips) :
    tripSt i (BitVec.ofNat 32 (i 2).val) v7 v14 q (arg9.view.read (Elt F) f9) (arg10.view.read (Elt F) f10) k (stAt (i 2).val ![v7, v14] q kb vb k.val)
      = stAt (i 2).val ![v7, v14] q kb vb (k.val + 1) := by
  have h4 := lt4 i k
  have h2 : 2 * k.val + 2 < 8 := by
    have h1 : (i 2).val < 8 := (i 2).isLt
    have h3 := lt_of_lt_of_eq k.isLt (trips1 i)
    omega
  have e0 := at8_val (show 2 * k.val < 8 by omega)
  have e1 := at8_val (show 2 * k.val + 1 < 8 by omega)
  have e2 := at8_val h2
  unfold tripSt
  rw [word_odd h4, word_even h4,
    ld_of_holdsK hk (o := k0_off1 i k 1#32) _ 0 0 (at8 (2 * k.val + 1)) (by rw [(off1 i k).1, e1]; rfl), ld_of_holdsK hk (o := k0_off1 i k 2#32) _ 0 0 (at8 (2 * k.val + 2)) (by rw [(off1 i k).2, e2]; rfl),
    ld_of_holdsK hk (o := k0_off2 i k 1#32) _ 0 1 (at8 (2 * k.val + 1)) (by rw [(off2 i k).1, e1]; rfl), ld_of_holdsK hk (o := k0_off2 i k 2#32) _ 0 1 (at8 (2 * k.val + 2)) (by rw [(off2 i k).2, e2]; rfl),
    ld_of_holdsK hk (o := k0_off3 i k 1#32) _ 1 0 (at8 (2 * k.val + 1)) (by rw [(off3 i k).1, e1]; rfl), ld_of_holdsK hk (o := k0_off3 i k 2#32) _ 1 0 (at8 (2 * k.val + 2)) (by rw [(off3 i k).2, e2]; rfl),
    ld_of_holdsK hk (o := k0_off4 i k 1#32) _ 1 1 (at8 (2 * k.val + 1)) (by rw [(off4 i k).1, e1]; rfl), ld_of_holdsK hk (o := k0_off4 i k 2#32) _ 1 1 (at8 (2 * k.val + 2)) (by rw [(off4 i k).2, e2]; rfl),
    ld_of_holdsV hv (o := k0_off5 i k) _ 0 (at8 (2 * k.val)) (by rw [off5 i k, e0]; rfl), ld_of_holdsV hv (o := k0_off6 i k) _ 1 (at8 (2 * k.val)) (by rw [off6 i k, e0]; rfl),
    ld_of_holdsV hv (o := k0_off7 i k) _ 0 (at8 (2 * k.val + 1)) (by rw [off7 i k, e1]; rfl), ld_of_holdsV hv (o := k0_off8 i k) _ 1 (at8 (2 * k.val + 1)) (by rw [off8 i k, e1]; rfl)]
  unfold twoBlocks stAt
  rw [show 2 * (k.val + 1) = 2 * k.val + 1 + 1 by ring]
  congr 1 <;> funext h c <;> fin_cases h <;> fin_cases c <;> rfl

theorem odd_final (hk : HoldsK arg9 kb f9) (hv : HoldsV arg10 vb f10) (i : grid0.Coords) (hc : k0_cond2 i = 1#1) (v7 v14 : FVec F S1x128 .f32) (q : Fin 2 → Fin 2 → FVec F S512x128 .bf16) :
    oddSt i hc (BitVec.ofNat 32 (i 2).val) v7 v14 q (arg9.view.read (Elt F) f9) (arg10.view.read (Elt F) f10) (stAt (i 2).val ![v7, v14] q kb vb ((i 2).val / 2))
      = final (i 2).val ![v7, v14] q kb vb := by
  have h1 : (i 2).val < 8 := (i 2).isLt
  have ho := (odd_iff i).mp hc
  have hp := offP i (by omega)
  have e0 := at8_val h1
  have e1 := at8_val (show (i 2).val - 1 < 8 by omega)
  obtain ⟨k1, k2, k3, k4⟩ := offK i
  obtain ⟨p1, p2, -, -⟩ := offV i
  unfold oddSt
  rw [hp.2.2, ld_of_holdsK hk (o := k0_off17 i) _ 0 0 (at8 (i 2).val) (by rw [k1, e0]; rfl), ld_of_holdsK hk (o := k0_off18 i) _ 0 1 (at8 (i 2).val) (by rw [k2, e0]; rfl),
    ld_of_holdsK hk (o := k0_off19 i) _ 1 0 (at8 (i 2).val) (by rw [k3, e0]; rfl), ld_of_holdsK hk (o := k0_off20 i) _ 1 1 (at8 (i 2).val) (by rw [k4, e0]; rfl),
    ld_of_holdsV hv (o := k0_off21 i) _ 0 (at8 ((i 2).val - 1)) (by rw [hp.1, e1]; rfl), ld_of_holdsV hv (o := k0_off22 i) _ 1 (at8 ((i 2).val - 1)) (by rw [hp.2.1, e1]; rfl),
    ld_of_holdsV hv (o := k0_off23 i) _ 0 (at8 (i 2).val) (by rw [p1, e0]; rfl), ld_of_holdsV hv (o := k0_off24 i) _ 1 (at8 (i 2).val) (by rw [p2, e0]; rfl)]
  obtain ⟨n, hn⟩ : ∃ n, (i 2).val = 2 * n + 1 := ⟨(i 2).val / 2, by omega⟩
  rw [hn, show (2 * n + 1) / 2 = n by omega, show 2 * n + 1 - 1 = 2 * n by omega]
  unfold lastOdd stAt final
  funext h c; fin_cases h <;> fin_cases c <;> rfl

theorem even_final (hv : HoldsV arg10 vb f10) (i : grid0.Coords) (hc : k0_cond3 i = 1#1) (v7 v14 : FVec F S1x128 .f32) (q : Fin 2 → Fin 2 → FVec F S512x128 .bf16) :
    evenSt i hc (BitVec.ofNat 32 (i 2).val) v7 v14 (arg10.view.read (Elt F) f10) (stAt (i 2).val ![v7, v14] q kb vb ((i 2).val / 2))
      = final (i 2).val ![v7, v14] q kb vb := by
  have h1 : (i 2).val < 8 := (i 2).isLt
  have ho := (even_iff i).mp hc
  have e0 := at8_val h1
  obtain ⟨-, -, p1, p2⟩ := offV i
  unfold evenSt
  rw [ld_of_holdsV hv (o := k0_off25 i) _ 0 (at8 (i 2).val) (by rw [p1, e0]; rfl), ld_of_holdsV hv (o := k0_off26 i) _ 1 (at8 (i 2).val) (by rw [p2, e0]; rfl)]
  obtain ⟨n, hn⟩ : ∃ n, (i 2).val = 2 * n := ⟨(i 2).val / 2, by omega⟩
  rw [hn, show (2 * n) / 2 = n by omega]
  unfold lastEven stAt final
  funext h c; fin_cases h <;> fin_cases c <;> rfl
end

end Cert.KernelIdeal.Attn

end
-- ==== Proof.AttnPieces.lean ====
module

public import proofs.«01_k».proof.Proof.AttnFlash
public import proofs.«01_k».proof.Proof.Gen.KernelIdeal.Launch
public import Idealize.ShloMosaic.Lib.Pipeline.Kit
public import Idealize.ShloMosaic.Lib.Pipeline.FrameBody

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The query features of the two heads for each branch. -/
def qOf (x0 : Vec F S512x256 .bf16) : Fin 2 → Fin 2 → FVec F S512x128 .bf16 :=
  ![![Gen.k0_pay286 lane (Gen.k0_pay275 row 16#32) (Gen.k0_pay277 lane) (Gen.k0_pay282 lane Gen.k0_pay274) Gen.k0_pay283 (View.ld x0 (Rect.unit (s := S512x256) ![0, 0] S512x128.size Gen.inb_S512x256_S512x128_0_0)),
      Gen.k0_pay287 lane Gen.k0_pay274 (Gen.k0_pay275 row 16#32) Gen.k0_pay276 (Gen.k0_pay278 lane) (View.ld x0 (Rect.unit (s := S512x256) ![0, 0] S512x128.size Gen.inb_S512x256_S512x128_0_0))],
    ![Gen.k0_pay288 lane (Gen.k0_pay275 row 16#32) (Gen.k0_pay277 lane) (Gen.k0_pay282 lane Gen.k0_pay274) Gen.k0_pay283 (View.ld x0 (Rect.unit (s := S512x256) ![0, 128] S512x128.size Gen.inb_S512x256_S512x128_0_128)),
      Gen.k0_pay289 lane Gen.k0_pay274 (Gen.k0_pay275 row 16#32) Gen.k0_pay276 (Gen.k0_pay278 lane) (View.ld x0 (Rect.unit (s := S512x256) ![0, 128] S512x128.size Gen.inb_S512x256_S512x128_0_128))]]

/-- The slopes of the point's two heads. -/
def slopes (i : grid0.Coords) : Fin 2 → FVec F S1x128 .f32 := ![Gen.k0_pay272 i, Gen.k0_pay273 i]

/-- One head's output from the accumulators of its two branches. -/
def outHead (x3 : Vec F S4x64 .f32) (x4 : Vec F S1x128 .f32) (a b : Vec F S1x1x144x512 .f32) : FVec F S512x128 .bf16 :=
  Gen.k0_pay310 (Gen.k0_pay308 (View.ld x3 (Rect.unit (s := S4x64) ![0, 0] S4x64.size Gen.inb_S4x64_S4x64_0_0))) (Gen.k0_pay309 a) b
    (View.ld x4 (Rect.unit (s := S1x128) ![0, 0] S1x128.size Gen.inb_S1x128_S1x128_0_0))

/-- The accumulators of a point. -/
def accOf (i : grid0.Coords) (x0 : Vec F S512x256 .bf16) (x1 x2 : Vec F S4096x256 .f32) (h c : Fin 2) : Vec F S1x1x144x512 .f32 :=
  final (i 2).val (slopes i) (qOf x0) (kbOf (Gen.k0_pay272 i) (Gen.k0_pay273 i) x1) (vbOf x2) h c

/-- One head's output at a point. -/
def headOut (i : grid0.Coords) (x0 : Vec F S512x256 .bf16) (x1 x2 : Vec F S4096x256 .f32) (x3 : Vec F S4x64 .f32) (x4 : Vec F S1x128 .f32) (h : Fin 2) : FVec F S512x128 .bf16 :=
  outHead x3 x4 (accOf i x0 x1 x2 h 0) (accOf i x0 x1 x2 h 1)

theorem fill (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole) (arg2 : BitVec 32) (v7 v14 : FVec F S1x128 .f32)
    (X4 : BufTy.Contents (Elt F) arg4.view.ty) (X5 : BufTy.Contents (Elt F) arg5.view.ty) (f9 : BufTy.Contents (Elt F) arg9.view.ty) (f10 : BufTy.Contents (Elt F) arg10.view.ty)
    (h : first arg2 ∨ ¬ first arg2 ∧ HoldsK arg9 (kbOf v7 v14 (arg4.view.read (Elt F) X4)) f9 ∧ HoldsV arg10 (vbOf (arg5.view.read (Elt F) X5)) f10) :
    (iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) 𝒱 (c : Thread nD τ) bd) E (Gen.k0_part55_skel (F := F) i arg3 harg3 arg4 harg4 arg5 harg5 arg6 harg6 arg7 harg7 arg8 harg8 arg9 harg9 arg10 harg10 arg11 harg11 arg12 harg12 arg13 harg13 arg14 harg14 arg2 v7 v14 lane row Gen.k0_pay274 16#32)
          (fun r => iprop((arg4.view.loc (c : Thread nD τ) ↦[arg4.view.set]{fullShare} X4) ∗ (arg5.view.loc (c : Thread nD τ) ↦[arg5.view.set]{fullShare} X5) ∗ ∃ f9 f10, (arg9.view.loc (c : Thread nD τ) ↦[arg9.view.set]{fullShare} f9) ∗ (arg10.view.loc (c : Thread nD τ) ↦[arg10.view.set]{fullShare} f10)
            ∗ ⌜r = ret55⌝ ∗ ⌜HoldsK arg9 (kbOf v7 v14 (arg4.view.read (Elt F) X4)) f9⌝ ∗ ⌜HoldsV arg10 (vbOf (arg5.view.read (Elt F) X5)) f10⌝)) := by
  rcases h with h | ⟨h, hk, hv⟩
  · iintro H
    iapply (wp_wand_r _ _ _)
    isplitl [H]
    · iapply (fill_first 𝒱 c bd E i arg3 harg3 arg4 harg4 arg5 harg5 arg6 harg6 arg7 harg7 arg8 harg8 arg9 harg9 arg10 harg10 arg11 harg11 arg12 harg12 arg13 harg13 arg14 harg14 arg2 h v7 v14 X4 X5 f9 f10); iexact H
    · iintro %r ⟨H4, H5, ⟨%f9, %f10, H9, H10, %hr, %hs, %ht⟩⟩
      isplitl [H4]; · iexact H4
      isplitl [H5]; · iexact H5
      iexists _, _
      isplitl [H9]; · iexact H9
      isplitl [H10]; · iexact H10
      isplitl []; · ipureintro; exact hr
      isplitl []; · ipureintro; exact hs.holds
      ipureintro; exact ht.holds
  · iintro ⟨H4, H5, H9, H10⟩
    iapply (wp_wand_r _ _ _)
    isplitl [H4]
    · iapply (fill_later 𝒱 c bd E i arg3 harg3 arg4 harg4 arg5 harg5 arg6 harg6 arg7 harg7 arg8 harg8 arg9 harg9 arg10 harg10 arg11 harg11 arg12 harg12 arg13 harg13 arg14 harg14 arg2 h v7 v14 X4); iexact H4
    · iintro %r ⟨H4, %hr⟩
      isplitl [H4]; · iexact H4
      isplitl [H5]; · iexact H5
      iexists _, _
      isplitl [H9]; · iexact H9
      isplitl [H10]; · iexact H10
      isplitl []; · ipureintro; exact hr
      isplitl []; · ipureintro; exact hk
      ipureintro; exact hv

theorem last (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole)
    (v7 v14 : FVec F S1x128 .f32) (q : Fin 2 → Fin 2 → FVec F S512x128 .bf16) (w0 w1 : BitVec 32) (w2 w3 w4 : BitVec 1) (kb : Fin 2 → Fin 2 → Fin 8 → Vec F S1x1x1x512x128 .bf16) (vb : Fin 2 → Fin 8 → Vec F S1x1x144x512 .bf16)
    (X6 : BufTy.Contents (Elt F) arg6.view.ty) (X9 : BufTy.Contents (Elt F) arg9.view.ty) (X10 : BufTy.Contents (Elt F) arg10.view.ty)
    (hk : HoldsK arg9 kb X9) (hv : HoldsV arg10 vb X10)
    (f11 : BufTy.Contents (Elt F) arg11.view.ty) (f12 : BufTy.Contents (Elt F) arg12.view.ty) (f13 : BufTy.Contents (Elt F) arg13.view.ty) (f14 : BufTy.Contents (Elt F) arg14.view.ty)
    (hst : Holds arg11 arg12 arg13 (stAt (i 2).val ![v7, v14] q kb vb ((i 2).val / 2)) f11 f12 f13) :
    (iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (Gen.k0_part59_skel (F := F) i arg3 harg3 arg4 harg4 arg5 harg5 arg6 harg6 arg7 harg7 arg8 harg8 arg9 harg9 arg10 harg10 arg11 harg11 arg12 harg12 arg13 harg13 arg14 harg14 (BitVec.ofNat 32 (i 2).val) v7 v14 (q 0 0) (q 0 1) (q 1 0) (q 1 1) w0 w1 w2 w3 w4)
          (fun (r : Σ' (_ : FVec F S1x1 .f32), FVec F S144x512 .f32) => iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10)
            ∗ (∃ f11, (arg11.view.loc (c : Thread nD τ) ↦[arg11.view.set]{fullShare} f11)) ∗ (∃ f13, (arg13.view.loc (c : Thread nD τ) ↦[arg13.view.set]{fullShare} f13)) ∗ (∃ f14, (arg14.view.loc (c : Thread nD τ) ↦[arg14.view.set]{fullShare} f14))
            ∗ ∃ f12, (arg12.view.loc (c : Thread nD τ) ↦[arg12.view.set]{fullShare} f12) ∗ ⌜HoldsA arg12 (final (i 2).val ![v7, v14] q kb vb) f12⌝ ∗ ⌜r = ret59 (arg6.view.read (Elt F) X6) (final (i 2).val ![v7, v14] q kb vb 0 0)⌝)) := by
  by_cases hc : k0_cond2 i = 1#1
  · have hn : ¬ k0_cond3 i = 1#1 := fun h => by have h1 := (odd_iff i).mp hc; have h2 := (even_iff i).mp h; omega
    have := last_odd 𝒱 c bd E i arg3 harg3 arg4 harg4 arg5 harg5 arg6 harg6 arg7 harg7 arg8 harg8 arg9 harg9 arg10 harg10 arg11 harg11 arg12 harg12 arg13 harg13 arg14 harg14 hc hn (BitVec.ofNat 32 (i 2).val) v7 v14 q w0 w1 w2 w3 w4 X6 X9 X10 _ f11 f12 f13 f14 hst
    rwa [odd_final hk hv i hc v7 v14 q] at this
  · have hn : k0_cond3 i = 1#1 := (even_iff i).mpr (by have h1 := (odd_iff i).not.mp hc; omega)
    have := last_even 𝒱 c bd E i arg3 harg3 arg4 harg4 arg5 harg5 arg6 harg6 arg7 harg7 arg8 harg8 arg9 harg9 arg10 harg10 arg11 harg11 arg12 harg12 arg13 harg13 arg14 harg14 hn hc (BitVec.ofNat 32 (i 2).val) v7 v14 q w0 w1 w2 w3 w4 X6 X9 X10 _ f11 f12 f13 f14 hst
    rwa [even_final hv i hn v7 v14 q] at this

theorem pairs (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole) (v7 v14 : FVec F S1x128 .f32) (q : Fin 2 → Fin 2 → FVec F S512x128 .bf16) (kb : Fin 2 → Fin 2 → Fin 8 → Vec F S1x1x1x512x128 .bf16) (vb : Fin 2 → Fin 8 → Vec F S1x1x144x512 .bf16)
    (X9 : BufTy.Contents (Elt F) arg9.view.ty) (X10 : BufTy.Contents (Elt F) arg10.view.ty)
    (hk : HoldsK arg9 kb X9) (hv : HoldsV arg10 vb X10)
    (f11 : BufTy.Contents (Elt F) arg11.view.ty) (f12 : BufTy.Contents (Elt F) arg12.view.ty) (f13 : BufTy.Contents (Elt F) arg13.view.ty) (f14 : BufTy.Contents (Elt F) arg14.view.ty)
    (hst : Holds arg11 arg12 arg13 (stAt (i 2).val ![v7, v14] q kb vb 0) f11 f12 f13) :
    (iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (Scf.Loop.for (k0_t1_loop i) (Gen.k0_t1_ok i) PUnit.unit (Gen.k0_t1_body (F := F) i arg3 harg3 arg4 harg4 arg5 harg5 arg6 harg6 arg7 harg7 arg8 harg8 arg9 harg9 arg10 harg10 arg11 harg11 arg12 harg12 arg13 harg13 arg14 harg14 (BitVec.ofNat 32 (i 2).val) v7 v14 (q 0 0) (q 0 1) (q 1 0) (q 1 1)))
          (fun _ => iprop((arg9.view.loc (c : Thread nD τ) ↦[arg9.view.set]{fullShare} X9) ∗ (arg10.view.loc (c : Thread nD τ) ↦[arg10.view.set]{fullShare} X10) ∗ ∃ f11 f12 f13, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
            ∗ (∃ f14, (arg14.view.loc (c : Thread nD τ) ↦[arg14.view.set]{fullShare} f14)) ∗ ⌜Holds arg11 arg12 arg13 (stAt (i 2).val ![v7, v14] q kb vb ((i 2).val / 2)) f11 f12 f13⌝)) := by
  iintro ⟨H9, H10, H11, H12, H13, H14⟩
  iapply (Scf.wp_for frame (wpE (defs₀ (F := F)) 𝒱 (c : Thread nD τ) bd) E _ _ _ (Gen.k0_t1_ok i) PUnit.unit _
    (fun (n : ℕ) (_ : PUnit) => iprop((arg9.view.loc (c : Thread nD τ) ↦[arg9.view.set]{fullShare} X9) ∗ (arg10.view.loc (c : Thread nD τ) ↦[arg10.view.set]{fullShare} X10) ∗ ∃ f11 f12 f13, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
            ∗ (∃ f14, (arg14.view.loc (c : Thread nD τ) ↦[arg14.view.set]{fullShare} f14)) ∗ ⌜Holds arg11 arg12 arg13 (stAt (i 2).val ![v7, v14] q kb vb n) f11 f12 f13⌝)) ?_)
  · intro k acc
    iintro ⟨H9, H10, ⟨%f11, %f12, %f13, H11, H12, H13, ⟨%f14, H14⟩, %hs⟩⟩
    have := trip1 𝒱 c bd E i arg3 harg3 arg4 harg4 arg5 harg5 arg6 harg6 arg7 harg7 arg8 harg8 arg9 harg9 arg10 harg10 arg11 harg11 arg12 harg12 arg13 harg13 arg14 harg14 (BitVec.ofNat 32 (i 2).val) v7 v14 q X9 X10 k _ f11 f12 f13 f14 hs
    rw [trip_stAt hk hv i v7 v14 q k] at this
    iapply this
    isplitl [H9]; · iexact H9
    isplitl [H10]; · iexact H10
    isplitl [H11]; · iexact H11
    isplitl [H12]; · iexact H12
    isplitl [H13]; · iexact H13
    iexact H14
  · isplitl [H9 H10 H11 H12 H13 H14]
    · isplitl [H9]; · iexact H9
      isplitl [H10]; · iexact H10
      iexists _, _, _
      isplitl [H11]; · iexact H11
      isplitl [H12]; · iexact H12
      isplitl [H13]; · iexact H13
      isplitl [H14]; · iexists _; iexact H14
      ipureintro; exact hst
    · rw [show Scf.trips (k0_t1_loop i).lb (k0_t1_loop i).ub (k0_t1_loop i).st = (i 2).val / 2 from trips1 i]
      iintro %acc H
      iexact H

end Cert.KernelIdeal.Attn

end
-- ==== Proof.AttnMath.lean ====
/- Softmax taken in blocks of keys with a running maximum equals softmax taken at once, over the extended reals: the
   weight of a key is the exponential of its score less any real number, and the quotient of two weighted sums does not
   depend on that number. -/
module

public import Idealize.ShloMosaic.Lib.Pipeline.Value
public import Idealize.ShloMosaic.Lib.ValueIdx
public import Idealize.ShloMosaic.PureOps.Ideal.Laws

@[expose] public section

noncomputable section

namespace Cert.AttnMath

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a key of score `z` where `μ` is subtracted. -/
def wt (z : EReal) (μ : ℝ) : ℝ := (Ideal.exp (z - (μ : EReal))).toReal

theorem wt_bot (μ : ℝ) : wt ⊥ μ = 0 := by
  unfold wt; rw [EReal.bot_sub]; simp

theorem wt_coe (x μ : ℝ) : wt (x : EReal) μ = Real.exp (x - μ) := by
  unfold wt; rw [← EReal.coe_sub, Ideal.exp_coe, EReal.toReal_coe]

theorem exp_wt {z : EReal} (hz : z ≠ ⊤) (μ : ℝ) : Ideal.exp (z - (μ : EReal)) = ((wt z μ : ℝ) : EReal) := by
  induction z using EReal.rec with
  | bot => rw [wt_bot, EReal.bot_sub]; simp
  | coe x => rw [wt_coe, ← EReal.coe_sub, Ideal.exp_coe]
  | top => exact absurd rfl hz

theorem wt_shift {z : EReal} (hz : z ≠ ⊤) (μ ν : ℝ) : wt z μ * Real.exp (μ - ν) = wt z ν := by
  induction z using EReal.rec with
  | bot => rw [wt_bot, wt_bot, zero_mul]
  | coe x => rw [wt_coe, wt_coe, ← Real.exp_add]; congr 1; ring
  | top => exact absurd rfl hz

theorem wt_nonneg (z : EReal) (μ : ℝ) : 0 ≤ wt z μ := by
  induction z using EReal.rec with
  | bot => rw [wt_bot]
  | coe x => rw [wt_coe]; exact (Real.exp_pos _).le
  | top => unfold wt; rw [EReal.top_sub_coe]; simp

theorem wt_pos {z : EReal} (hz : z ≠ ⊤) (hb : z ≠ ⊥) (μ : ℝ) : 0 < wt z μ := by
  induction z using EReal.rec with
  | bot => exact absurd rfl hb
  | coe x => rw [wt_coe]; exact Real.exp_pos _
  | top => exact absurd rfl hz

/-- The weighted sum of `v` over the first `n` blocks of 512 keys. -/
def part (z : ℕ → EReal) (v : ℕ → ℝ) (n : ℕ) (μ : ℝ) : ℝ :=
  ∑ j ∈ Finset.range n, ∑ k : Fin 512, v (512 * j + k.val) * wt (z (512 * j + k.val)) μ

theorem part_succ (z : ℕ → EReal) (v : ℕ → ℝ) (n : ℕ) (μ : ℝ) :
    part z v (n + 1) μ = part z v n μ + ∑ k : Fin 512, v (512 * n + k.val) * wt (z (512 * n + k.val)) μ :=
  Finset.sum_range_succ _ n

theorem part_shift {z : ℕ → EReal} (hz : ∀ p, z p ≠ ⊤) (v : ℕ → ℝ) (n : ℕ) (μ ν : ℝ) :
    part z v n μ * Real.exp (μ - ν) = part z v n ν := by
  unfold part
  rw [Finset.sum_mul]
  refine Finset.sum_congr rfl fun j _ => ?_
  rw [Finset.sum_mul]
  refine Finset.sum_congr rfl fun k _ => ?_
  rw [mul_assoc, wt_shift (hz _)]

/-- What a column holds after `n` blocks: nothing yet, or some real maximum and the weighted sums at it. -/
def Holds {ι : Type} (z : ℕ → EReal) (v : ι → ℕ → ℝ) (n : ℕ) (m : EReal) (a : ι → EReal) : Prop :=
  (n = 0 ∧ m = ⊥ ∧ ∀ e, a e = 0) ∨ ∃ μ : ℝ, m = (μ : EReal) ∧ ∀ e, a e = ((part z (v e) n μ : ℝ) : EReal)

/-- The largest score of a block with its bias is real when some score is. -/
theorem real_of_max {s : Fin 512 → EReal} {β : ℝ} {cm : EReal} (htop : cm ≠ ⊤) (hle : ∀ k, s k ≤ cm)
    (hex : ∃ k, s k ≠ ⊥) : ∃ γ : ℝ, cm + (β : EReal) = (γ : EReal) := by
  obtain ⟨k, hk⟩ := hex
  have hb : cm ≠ ⊥ := fun h => hk (le_bot_iff.1 (h ▸ hle k))
  refine ⟨cm.toReal + β, ?_⟩
  rw [EReal.coe_add, EReal.coe_toReal htop hb]

theorem max_real {m : EReal} (hm : m = ⊥ ∨ ∃ μ : ℝ, m = (μ : EReal)) (γ : ℝ) : ∃ ν : ℝ, max m (γ : EReal) = (ν : EReal) := by
  rcases hm with h | ⟨μ, h⟩
  · exact ⟨γ, by rw [h, max_eq_right bot_le]⟩
  · rcases le_total μ γ with h' | h'
    · exact ⟨γ, by rw [h, max_eq_right (EReal.coe_le_coe_iff.2 h')]⟩
    · exact ⟨μ, by rw [h, max_eq_left (EReal.coe_le_coe_iff.2 h')]⟩

theorem sub_bias {s : EReal} (ν β : ℝ) : s - ((ν : EReal) - (β : EReal)) = (s + (β : EReal)) - (ν : EReal) := by
  induction s using EReal.rec with
  | bot => rw [EReal.bot_sub, EReal.bot_add, EReal.bot_sub]
  | coe x => rw [← EReal.coe_sub, ← EReal.coe_sub, ← EReal.coe_add, ← EReal.coe_sub]; congr 1; ring
  | top => rw [← EReal.coe_sub, EReal.top_sub_coe, EReal.top_add_coe, EReal.top_sub_coe]

/-- One block more. -/
theorem step {ι : Type} {z : ℕ → EReal} (hz : ∀ p, z p ≠ ⊤) (v : ι → ℕ → ℝ) (n : ℕ) {m cm : EReal} {a : ι → EReal} {s : Fin 512 → EReal} {β : ℝ}
    (h : Holds z v n m a) (hs : ∀ k : Fin 512, s k + (β : EReal) = z (512 * n + k.val)) (htop : cm ≠ ⊤) (hle : ∀ k, s k ≤ cm) (hex : ∃ k, s k ≠ ⊥) :
    Holds z v (n + 1) (max m (cm + (β : EReal)))
      (fun e => Ideal.exp (m - max m (cm + (β : EReal))) * a e + ∑ k : Fin 512, (v e (512 * n + k.val) : EReal) * Ideal.exp (s k - (max m (cm + (β : EReal)) - (β : EReal)))) := by
  obtain ⟨γ, hγ⟩ := real_of_max (β := β) htop hle hex
  have hm : m = ⊥ ∨ ∃ μ : ℝ, m = (μ : EReal) := by
    rcases h with ⟨_, h, _⟩ | ⟨μ, h, _⟩
    · exact .inl h
    · exact .inr ⟨μ, h⟩
  obtain ⟨ν, hν⟩ := max_real hm γ
  rw [hγ, hν]
  refine .inr ⟨ν, rfl, fun e => ?_⟩
  have hsum : (∑ k : Fin 512, (v e (512 * n + k.val) : EReal) * Ideal.exp (s k - ((ν : EReal) - (β : EReal))))
      = ((∑ k : Fin 512, v e (512 * n + k.val) * wt (z (512 * n + k.val)) ν : ℝ) : EReal) := by
    rw [coe_sum]
    refine Finset.sum_congr rfl fun k _ => ?_
    rw [sub_bias, hs, exp_wt (hz _), EReal.coe_mul]
  show Ideal.exp (m - (ν : EReal)) * a e + _ = _
  rw [hsum, part_succ, EReal.coe_add]
  congr 1
  rcases h with ⟨h0, hm', ha⟩ | ⟨μ, hm', ha⟩
  · subst h0
    rw [ha, mul_zero]
    unfold part
    rw [Finset.range_zero, Finset.sum_empty]; rfl
  · rw [hm', ha, ← EReal.coe_sub, Ideal.exp_coe, ← EReal.coe_mul, mul_comm, part_shift hz]

/-- A sum over 4096 keys in eight blocks. -/
theorem sum_blocks (f : ℕ → ℝ) : ∑ p : Fin 4096, f p.val = ∑ j ∈ Finset.range 8, ∑ k : Fin 512, f (512 * j + k.val) := by
  have key : ∀ n : ℕ, ∑ p ∈ Finset.range (512 * n), f p = ∑ j ∈ Finset.range n, ∑ k : Fin 512, f (512 * j + k.val) := by
    intro n
    induction n with
    | zero => simp
    | succ n ih =>
      rw [Nat.mul_succ, Finset.sum_range_add, ih, Finset.sum_range_succ (fun j => ∑ k : Fin 512, f (512 * j + k.val)), Fin.sum_univ_eq_sum_range (fun k => f (512 * n + k)) 512]
  rw [Fin.sum_univ_eq_sum_range f 4096, ← key 8]

/-- All the keys' weighted sum is that of the blocks up to the last one with a key seen. -/
theorem part_all (z : ℕ → EReal) (v : ℕ → ℝ) (n : ℕ) (hn : n ≤ 8) (hb : ∀ p, 512 * n ≤ p → z p = ⊥) (μ : ℝ) :
    part z v n μ = ∑ p : Fin 4096, v p.val * wt (z p.val) μ := by
  rw [sum_blocks (fun p => v p * wt (z p) μ)]
  unfold part
  refine Finset.sum_subset (Finset.range_subset_range.2 hn) fun j _ hj => ?_
  refine Finset.sum_eq_zero fun k _ => ?_
  have hj' : n ≤ j := by simpa using hj
  rw [hb _ (by have := Nat.mul_le_mul_left 512 hj'; omega), wt_bot, mul_zero]

/-- Attention over 4096 keys with scores `z` and values `v`. -/
def att (z : ℕ → EReal) (v : ℕ → ℝ) : ℝ := (∑ p : Fin 4096, v p.val * wt (z p.val) 0) / ∑ p : Fin 4096, wt (z p.val) 0

theorem total_shift {z : ℕ → EReal} (hz : ∀ p, z p ≠ ⊤) (v : ℕ → ℝ) (μ ν : ℝ) :
    (∑ p : Fin 4096, v p.val * wt (z p.val) μ) * Real.exp (μ - ν) = ∑ p : Fin 4096, v p.val * wt (z p.val) ν := by
  rw [Finset.sum_mul]
  exact Finset.sum_congr rfl fun p _ => by rw [mul_assoc, wt_shift (hz _)]

theorem wsum_shift {z : ℕ → EReal} (hz : ∀ p, z p ≠ ⊤) (μ ν : ℝ) :
    (∑ p : Fin 4096, wt (z p.val) μ) * Real.exp (μ - ν) = ∑ p : Fin 4096, wt (z p.val) ν := by
  rw [Finset.sum_mul]
  exact Finset.sum_congr rfl fun p _ => by rw [wt_shift (hz _)]

theorem wsum_pos {z : ℕ → EReal} (hz : ∀ p, z p ≠ ⊤) (hb : z 0 ≠ ⊥) (μ : ℝ) : 0 < ∑ p : Fin 4096, wt (z p.val) μ :=
  Finset.sum_pos' (fun p _ => wt_nonneg _ _) ⟨0, Finset.mem_univ _, wt_pos (hz _) hb μ⟩

theorem att_eq {z : ℕ → EReal} (hz : ∀ p, z p ≠ ⊤) (v : ℕ → ℝ) (μ : ℝ) :
    (∑ p : Fin 4096, v p.val * wt (z p.val) μ) / (∑ p : Fin 4096, wt (z p.val) μ) = att z v := by
  unfold att
  rw [← total_shift hz v μ 0, ← wsum_shift hz μ 0, mul_div_mul_right _ _ (Real.exp_ne_zero _)]

theorem div_real (x : ℝ) {y : ℝ} (hy : y ≠ 0) : Ideal.div (x : EReal) (y : EReal) = ((x / y : ℝ) : EReal) := by
  rw [Ideal.div_coe hy, ← EReal.coe_mul]; congr 1; ring

/-- The quotient of a column's two sums is attention. -/
theorem quotient {ι : Type} {z : ℕ → EReal} (hz : ∀ p, z p ≠ ⊤) (hb0 : z 0 ≠ ⊥) (v : ι → ℕ → ℝ) (n : ℕ) (hn : n + 1 ≤ 8) (hb : ∀ p, 512 * (n + 1) ≤ p → z p = ⊥)
    {m : EReal} {a : ι → EReal} (h : Holds z v (n + 1) m a) (e o : ι) (ho : ∀ p, v o p = 1) :
    Ideal.div (a e) (a o) = ((att z (v e) : ℝ) : EReal) := by
  rcases h with ⟨h0, _⟩ | ⟨μ, _, ha⟩
  · exact absurd h0 (Nat.succ_ne_zero n)
  · have e1 : (∑ p : Fin 4096, v o p.val * wt (z p.val) μ) = ∑ p : Fin 4096, wt (z p.val) μ :=
      Finset.sum_congr rfl fun p _ => by rw [ho, one_mul]
    rw [ha, ha, part_all z _ (n + 1) hn hb, part_all z _ (n + 1) hn hb, e1, div_real _ (wsum_pos hz hb0 μ).ne', att_eq hz]

/-- Softmax taken at once, two branches' difference weighted by `v`. -/
theorem at_once {z w : ℕ → EReal} (hz : ∀ p, z p ≠ ⊤) (hz0 : z 0 ≠ ⊥) (hw : ∀ p, w p ≠ ⊤) (hw0 : w 0 ≠ ⊥) (v : ℕ → ℝ) (lam M N : ℝ) :
    ∑ p : Fin 4096, (v p.val : EReal) * (Ideal.div (Ideal.exp (z p.val - (M : EReal))) (∑ k : Fin 4096, Ideal.exp (z k.val - (M : EReal)))
        - (lam : EReal) * Ideal.div (Ideal.exp (w p.val - (N : EReal))) (∑ k : Fin 4096, Ideal.exp (w k.val - (N : EReal))))
      = ((att z v : ℝ) : EReal) - (lam : EReal) * ((att w v : ℝ) : EReal) := by
  have es : ∀ {y : ℕ → EReal} (hy : ∀ p, y p ≠ ⊤) (K : ℝ), (∑ k : Fin 4096, Ideal.exp (y k.val - (K : EReal))) = ((∑ k : Fin 4096, wt (y k.val) K : ℝ) : EReal) := by
    intro y hy K
    rw [coe_sum]
    exact Finset.sum_congr rfl fun k _ => exp_wt (hy _) K
  rw [es hz M, es hw N, ← EReal.coe_mul, ← EReal.coe_sub, ← att_eq hz v M, ← att_eq hw v N]
  have et : ∀ p : Fin 4096, (v p.val : EReal) * (Ideal.div (Ideal.exp (z p.val - (M : EReal))) ((∑ k : Fin 4096, wt (z k.val) M : ℝ) : EReal)
        - (lam : EReal) * Ideal.div (Ideal.exp (w p.val - (N : EReal))) ((∑ k : Fin 4096, wt (w k.val) N : ℝ) : EReal))
      = ((v p.val * (wt (z p.val) M / (∑ k : Fin 4096, wt (z k.val) M) - lam * (wt (w p.val) N / ∑ k : Fin 4096, wt (w k.val) N)) : ℝ) : EReal) := by
    intro p
    rw [exp_wt (hz _), exp_wt (hw _), div_real _ (wsum_pos hz hz0 M).ne', div_real _ (wsum_pos hw hw0 N).ne',
      EReal.coe_mul, EReal.coe_sub, EReal.coe_mul lam]
  rw [Finset.sum_congr rfl fun p _ => et p, ← coe_sum]
  congr 1
  rw [Finset.sum_div, Finset.sum_div, Finset.mul_sum, ← Finset.sum_sub_distrib]
  exact Finset.sum_congr rfl fun p _ => by ring

end Cert.AttnMath

end
-- ==== Proof.AttnFeat.lean ====
/- The key and query features of the attention call, entry by entry, over the extended reals, and a block of scores: the
   keys' product with the queries plus the slope times the distance inside the blocks. -/
module

public import proofs.«01_k».proof.Proof.AttnPieces
public import proofs.«01_k».proof.Proof.AttnMath
public import Idealize.ShloMosaic.Lib.ValueIdx
public import Idealize.ShloMosaic.Lib.ValueLayout
public import Idealize.ShloMosaic.Lib.MatmulPlain
public import Mathlib.Tactic.NormNum
public import Mathlib.Tactic.Ring

@[expose] public section

noncomputable section

namespace Cert.KernelIdeal.Attn

open Cert.AttnMath Idealize.ShloMosaic Idealize.ShloMosaic.ValueIdx
open scoped BigOperators

theorem bits_zero : (Scalar.ofBits (F := Ideal) .f32 0x00000000#32 : EReal) = ((0 : ℝ) : EReal) := by
  show Ideal.ofBits .f32 0x00000000#32 = _
  simp [Ideal.ofBits, Ideal.ieee]
theorem bits_one : (Scalar.ofBits (F := Ideal) .f32 0x3F800000#32 : EReal) = ((1 : ℝ) : EReal) := by
  show Ideal.ofBits .f32 0x3F800000#32 = _
  simp [Ideal.ofBits, Ideal.ieee, -EReal.coe_mul]; norm_num
theorem bits_16 : (Scalar.ofBits (F := Ideal) .f32 0x41800000#32 : EReal) = ((16 : ℝ) : EReal) := by
  show Ideal.ofBits .f32 0x41800000#32 = _
  simp [Ideal.ofBits, Ideal.ieee, -EReal.coe_mul]; norm_num
theorem bits_m16 : (Scalar.ofBits (F := Ideal) .f32 0xC1800000#32 : EReal) = ((-16 : ℝ) : EReal) := by
  show Ideal.ofBits .f32 0xC1800000#32 = _
  simp [Ideal.ofBits, Ideal.ieee, -EReal.coe_mul]; norm_num

theorem cmp_apply {s : Shape} {w : Nat} (p : CmpIPredicate) (x y : IVec s w) (i : s.Idx) : cmpi p x y i = IntOp.cmpi p (x i) (y i) := rfl

theorem cmp_eq : ∀ l n : Fin 128, IntOp.cmpi .eq (BitVec.ofNat 32 l.val) (BitVec.ofNat 32 n.val) = if l.val = n.val then 1#1 else 0#1 := by decide +kernel

theorem sel_eq {α : Type} (l : Fin 128) (n : ℕ) (hn : n < 128) (a b : α) :
    Scalar.select (IntOp.cmpi .eq (BitVec.ofNat 32 l.val) (BitVec.ofNat 32 n)) a b = if l.val = n then a else b := by
  rw [cmp_eq l ⟨n, hn⟩]
  by_cases h : l.val = n
  · rw [if_pos h, if_pos h]; rfl
  · rw [if_neg h, if_neg h]; rfl

/-- The same with the lanes counted from the middle. -/
theorem sel_up {α : Type} (l : Fin 128) (h : ¬ l.val < 64) (m n : ℕ) (hm : m = 64 + n) (hn : m < 128) (a b : α) :
    Scalar.select (IntOp.cmpi .eq (BitVec.ofNat 32 l.val) (BitVec.ofNat 32 m)) a b = if l.val - 64 = n then a else b := by
  rw [sel_eq l m hn]
  by_cases hl : l.val = m
  · rw [if_pos hl, if_pos (by omega)]
  · rw [if_neg hl, if_neg (by omega)]

theorem pick (n : ℕ) {A B C D E : EReal} {a b c d e : ℝ} (hA : A = (a : EReal)) (hB : B = (b : EReal)) (hC : C = (c : EReal)) (hD : D = (d : EReal)) (hE : E = (e : EReal)) :
    (if n = 3 then A else if n = 2 then B else if n = 1 then C else if n = 0 then D else E)
      = ((if n = 3 then a else if n = 2 then b else if n = 1 then c else if n = 0 then d else e : ℝ) : EReal) := by
  split_ifs <;> assumption

theorem low_word : ∀ l : Fin 128, IntOp.andi (IntOp.cmpi .sge (BitVec.ofNat 32 l.val) 0#32) (IntOp.cmpi .slt (BitVec.ofNat 32 l.val) 64#32) = if l.val < 64 then 1#1 else 0#1 := by decide +kernel
theorem high_word : ∀ l : Fin 128, IntOp.andi (IntOp.cmpi .sge (BitVec.ofNat 32 l.val) 64#32) (IntOp.cmpi .slt (BitVec.ofNat 32 l.val) 128#32) = if l.val < 64 then 0#1 else 1#1 := by decide +kernel

theorem lane_apply (k : Fin 512) (l : Fin 128) : lane (ix2 k l) = BitVec.ofNat 32 l.val := iota_single_apply _ _ _ _ _ _
theorem row_apply (k : Fin 512) (l : Fin 128) : row (ix2 k l) = BitVec.ofNat 32 k.val := iota_single_apply _ _ _ _ _ _

theorem sel_low {α : Type} (k : Fin 512) (l : Fin 128) (a b : α) :
    Scalar.select (Gen.k0_pay277 lane (ix2 k l)) a b = if l.val < 64 then a else b := by
  have e : Gen.k0_pay277 lane (ix2 k l) = if l.val < 64 then 1#1 else 0#1 := by
    rw [← low_word l, ← lane_apply k l]; rfl
  rw [e]
  by_cases h : l.val < 64
  · rw [if_pos h, if_pos h]; rfl
  · rw [if_neg h, if_neg h]; rfl

theorem sel_high {α : Type} (k : Fin 512) (l : Fin 128) (a b : α) :
    Scalar.select (Gen.k0_pay278 lane (ix2 k l)) a b = if l.val < 64 then b else a := by
  have e : Gen.k0_pay278 lane (ix2 k l) = if l.val < 64 then 0#1 else 1#1 := by
    rw [← high_word l, ← lane_apply k l]; rfl
  rw [e]
  by_cases h : l.val < 64
  · rw [if_pos h, if_pos h]; rfl
  · rw [if_neg h, if_neg h]; rfl

/-- The quotient of a row's number by sixteen, as the vector operations take it. -/
def hiW (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 16#32 0#32)) (Scalar.extui (Scalar.cmpi .slt 16#32 0#32))))
      (IntOp.cmpi .ne (IntOp.remsi .vector w 16#32) 0#32))
    (IntOp.subi (IntOp.divsi .vector w 16#32) 1#32) (IntOp.divsi .vector w 16#32)

theorem hiW_eq : ∀ k : Fin 512, (hiW (BitVec.ofNat 32 k.val)).toInt = ((k.val / 16 : ℕ) : ℤ) := by decide +kernel

theorem hi_apply (k : Fin 512) (l : Fin 128) :
    (Gen.k0_pay274 : FVec Ideal S512x128 .f32) (ix2 k l) = (((k.val / 16 : ℕ) : ℝ) : EReal) := by
  have e : (Gen.k0_pay274 : FVec Ideal S512x128 .f32) (ix2 k l) = (((hiW (row (ix2 k l))).toInt : ℝ) : EReal) := rfl
  rw [e, row_apply, hiW_eq, Int.cast_natCast]

/-- The remainder likewise. -/
def loW (w : BitVec 32) : BitVec 32 :=
  Scalar.select (IntOp.andi (IntOp.xori (IntOp.cmpi .slt (IntOp.remsi .vector w 16#32) 0#32) (Scalar.cmpi .slt 16#32 0#32)) (IntOp.cmpi .ne (IntOp.remsi .vector w 16#32) 0#32))
    (IntOp.addi (IntOp.remsi .vector w 16#32) 16#32) (IntOp.remsi .vector w 16#32)

theorem loW_eq : ∀ k : Fin 512, (loW (BitVec.ofNat 32 k.val)).toInt = ((k.val % 16 : ℕ) : ℤ) := by decide +kernel

theorem lo_apply (k : Fin 512) (l : Fin 128) :
    (Gen.k0_pay275 row 16#32 : FVec Ideal S512x128 .f32) (ix2 k l) = (((k.val % 16 : ℕ) : ℝ) : EReal) := by
  have e : (Gen.k0_pay275 row 16#32 : FVec Ideal S512x128 .f32) (ix2 k l) = (((loW (row (ix2 k l))).toInt : ℝ) : EReal) := rfl
  rw [e, row_apply, loW_eq, Int.cast_natCast]

theorem one_apply (k : Fin 512) (l : Fin 128) : (Gen.k0_pay276 : FVec Ideal S512x128 .f32) (ix2 k l) = ((1 : ℝ) : EReal) := bits_one

/-- The feature `n` of a key at row `k`, times the slope. -/
def keyF (σ : ℝ) (k n : ℕ) : ℝ :=
  (if n = 3 then (-1 : ℝ) else if n = 2 then -16 else if n = 1 then ((k % 16 : ℕ) : ℝ) else if n = 0 then 16 * ((k / 16 : ℕ) : ℝ) else 0) * σ

/-- The feature `n` of a query at row `r`. -/
def qryF (r n : ℕ) : ℝ :=
  if n = 3 then ((r % 16 : ℕ) : ℝ) else if n = 2 then ((r / 16 : ℕ) : ℝ) else if n = 1 then 1 else if n = 0 then 1 else 0

theorem feature_sum (σ : ℝ) (k r : ℕ) : ∑ n : Fin 64, keyF σ k n.val * qryF r n.val = σ * ((k : ℝ) - (r : ℝ)) := by
  have hk : ((k : ℕ) : ℝ) = 16 * ((k / 16 : ℕ) : ℝ) + ((k % 16 : ℕ) : ℝ) := by exact_mod_cast (Nat.div_add_mod k 16).symm
  have hr : ((r : ℕ) : ℝ) = 16 * ((r / 16 : ℕ) : ℝ) + ((r % 16 : ℕ) : ℝ) := by exact_mod_cast (Nat.div_add_mod r 16).symm
  have e : ∑ n : Fin 64, keyF σ k n.val * qryF r n.val = ∑ n : Fin (4 + 60), keyF σ k n.val * qryF r n.val := rfl
  rw [e, Fin.sum_univ_add, Fin.sum_univ_four]
  have z : ∑ n : Fin 60, keyF σ k (Fin.natAdd 4 n).val * qryF r (Fin.natAdd 4 n).val = 0 := by
    refine Finset.sum_eq_zero fun n _ => ?_
    have hn : (Fin.natAdd 4 n).val = 4 + n.val := rfl
    rw [hn]
    unfold qryF
    rw [if_neg (by omega), if_neg (by omega), if_neg (by omega), if_neg (by omega), mul_zero]
  rw [z, hk, hr]
  show keyF σ k 0 * qryF r 0 + keyF σ k 1 * qryF r 1 + keyF σ k 2 * qryF r 2 + keyF σ k 3 * qryF r 3 + 0 = _
  simp only [keyF, qryF]
  norm_num
  ring

theorem cast5 (x : FVec Ideal S512x128 .bf16) (h : S512x128.ShapeCasts S1x1x1x512x128) (k : Fin 512) (l : Fin 128) :
    shapeCast S1x1x1x512x128 x h (ix5 0 0 0 k l) = x (ix2 k l) :=
  shapeCast_apply x h _ _ (by rw [Shape.rowMajor_val_two, Shape.rowMajor_val_five]; show k.val * 128 + l.val = ((((0 * 1 + 0) * 1 + 0) * 512 + k.val) * 128 + l.val); omega)

theorem uncast5 (x : FVec Ideal S1x1x1x512x128 .bf16) (h : S1x1x1x512x128.ShapeCasts S512x128) (k : Fin 512) (l : Fin 128) :
    shapeCast S512x128 x h (ix2 k l) = x (ix5 0 0 0 k l) :=
  shapeCast_apply x h _ _ (by rw [Shape.rowMajor_val_two, Shape.rowMajor_val_five]; show ((((0 * 1 + 0) * 1 + 0) * 512 + k.val) * 128 + l.val) = k.val * 128 + l.val; omega)

/-- A key feature of the first branch. -/
theorem kfeat0_apply {sl : FVec Ideal S1x128 .f32} {σ : ℝ} (hsl : ∀ l : Fin 128, sl (ix2 0 l) = (σ : EReal)) (x : Vec Ideal S512x128 .f32) (k : Fin 512) (l : Fin 128) :
    kfeat 0 sl x (ix5 0 0 0 k l) = if l.val < 64 then x (ix2 k l) else ((keyF σ k.val (l.val - 64) : ℝ) : EReal) := by
  show Gen.k0_pay5 (F := Ideal) sl (Gen.k0_pay277 lane) (Gen.k0_pay2 lane Gen.k0_pay274 (Gen.k0_pay275 row 16#32) Gen.k0_pay276) x (ix5 0 0 0 k l) = _
  unfold Gen.k0_pay5
  refine (cast5 _ _ k l).trans ?_
  rw [truncf_apply, select_apply, sel_low, mulf_apply, broadcastTo_1b_ab_apply, hsl]
  by_cases h : l.val < 64
  · rw [if_pos h, if_pos h]
  rw [if_neg h, if_neg h]
  unfold Gen.k0_pay2
  simp only [select_apply, cmp_apply, lane_apply, broadcast_apply, mulf_apply, subf_apply, hi_apply, lo_apply, one_apply, bits_zero, bits_16, bits_m16]
  rw [sel_up l h 67 3 rfl (by norm_num), sel_up l h 66 2 rfl (by norm_num), sel_up l h 65 1 rfl (by norm_num), sel_up l h 64 0 rfl (by norm_num)]
  unfold keyF
  rw [EReal.coe_mul]
  congr 1
  refine pick _ ?_ ?_ rfl ?_ rfl
  · rw [← EReal.coe_sub, zero_sub]
  · rw [← EReal.coe_mul, mul_one]
  · rw [← EReal.coe_mul]

/-- A key feature of the second branch. -/
theorem kfeat1_apply {sl : FVec Ideal S1x128 .f32} {σ : ℝ} (hsl : ∀ l : Fin 128, sl (ix2 0 l) = (σ : EReal)) (x : Vec Ideal S512x128 .f32) (k : Fin 512) (l : Fin 128) :
    kfeat 1 sl x (ix5 0 0 0 k l) = if l.val < 64 then ((keyF σ k.val l.val : ℝ) : EReal) else x (ix2 k l) := by
  show Gen.k0_pay45 (F := Ideal) sl (Gen.k0_pay278 lane) (Gen.k0_pay26 lane (Gen.k0_pay275 row 16#32) (Gen.k0_pay22 Gen.k0_pay276) (Gen.k0_pay23 Gen.k0_pay276) (Gen.k0_pay24 lane Gen.k0_pay274) Gen.k0_pay25) x (ix5 0 0 0 k l) = _
  unfold Gen.k0_pay45
  refine (cast5 _ _ k l).trans ?_
  rw [truncf_apply, select_apply, sel_high, mulf_apply, broadcastTo_1b_ab_apply, hsl]
  by_cases h : l.val < 64
  swap
  · rw [if_neg h, if_neg h]
  rw [if_pos h, if_pos h]
  unfold Gen.k0_pay26 Gen.k0_pay22 Gen.k0_pay23 Gen.k0_pay24 Gen.k0_pay25
  simp only [select_apply, cmp_apply, lane_apply, broadcast_apply, mulf_apply, subf_apply, hi_apply, lo_apply, one_apply, bits_zero, bits_16, bits_m16]
  rw [sel_eq l 3 (by norm_num), sel_eq l 2 (by norm_num), sel_eq l 1 (by norm_num), sel_eq l 0 (by norm_num)]
  unfold keyF
  rw [EReal.coe_mul]
  congr 1
  refine pick _ ?_ ?_ rfl ?_ rfl
  · rw [← EReal.coe_sub, zero_sub]
  · rw [← EReal.coe_mul, mul_one]
  · rw [← EReal.coe_mul]

/-- The query features of one head for each branch. -/
def qfeat (c : Fin 2) (x : Vec Ideal S512x128 .bf16) : FVec Ideal S512x128 .bf16 :=
  ![Gen.k0_pay286 lane (Gen.k0_pay275 row 16#32) (Gen.k0_pay277 lane) (Gen.k0_pay282 lane Gen.k0_pay274) Gen.k0_pay283 x,
    Gen.k0_pay287 lane Gen.k0_pay274 (Gen.k0_pay275 row 16#32) Gen.k0_pay276 (Gen.k0_pay278 lane) x] c

theorem qfeat0_apply (x : Vec Ideal S512x128 .bf16) (r : Fin 512) (l : Fin 128) :
    qfeat 0 x (ix2 r l) = if l.val < 64 then x (ix2 r l) else ((qryF r.val (l.val - 64) : ℝ) : EReal) := by
  show Gen.k0_pay286 (F := Ideal) lane (Gen.k0_pay275 row 16#32) (Gen.k0_pay277 lane) (Gen.k0_pay282 lane Gen.k0_pay274) Gen.k0_pay283 x (ix2 r l) = _
  unfold Gen.k0_pay286
  rw [truncf_apply, select_apply, sel_low, extf_apply]
  by_cases h : l.val < 64
  · rw [if_pos h, if_pos h]
  rw [if_neg h, if_neg h]
  unfold Gen.k0_pay284 Gen.k0_pay282 Gen.k0_pay283
  simp only [select_apply, cmp_apply, lane_apply, broadcast_apply, hi_apply, lo_apply, one_apply, bits_zero]
  rw [sel_up l h 67 3 rfl (by norm_num), sel_up l h 66 2 rfl (by norm_num), sel_up l h 65 1 rfl (by norm_num), sel_up l h 64 0 rfl (by norm_num)]
  exact pick _ rfl rfl rfl rfl rfl

theorem qfeat1_apply (x : Vec Ideal S512x128 .bf16) (r : Fin 512) (l : Fin 128) :
    qfeat 1 x (ix2 r l) = if l.val < 64 then ((qryF r.val l.val : ℝ) : EReal) else x (ix2 r l) := by
  show Gen.k0_pay287 (F := Ideal) lane Gen.k0_pay274 (Gen.k0_pay275 row 16#32) Gen.k0_pay276 (Gen.k0_pay278 lane) x (ix2 r l) = _
  unfold Gen.k0_pay287
  rw [truncf_apply, select_apply, sel_high, extf_apply]
  by_cases h : l.val < 64
  swap
  · rw [if_neg h, if_neg h]
  rw [if_pos h, if_pos h]
  unfold Gen.k0_pay285
  simp only [select_apply, cmp_apply, lane_apply, broadcast_apply, hi_apply, lo_apply, one_apply, bits_zero]
  rw [sel_eq l 3 (by norm_num), sel_eq l 2 (by norm_num), sel_eq l 1 (by norm_num), sel_eq l 0 (by norm_num)]
  exact pick _ rfl rfl rfl rfl rfl

theorem dot_score : dot_S512x128_S512x128_S512x512_1_1_0_0_n_n = DotDims.transposedRhs 512 128 512 := rfl

theorem cast4 (x : FVec Ideal S512x512 .f32) (h : S512x512.ShapeCasts S1x1x512x512) (a b : Fin 512) :
    shapeCast S1x1x512x512 x h (ix4 0 0 a b) = x (ix2 a b) :=
  shapeCast_apply x h _ _ (by rw [Shape.rowMajor_val_two, Shape.rowMajor_val_four]; show a.val * 512 + b.val = (((0 * 1 + 0) * 512 + a.val) * 512 + b.val); omega)

theorem uncast4 (x : FVec Ideal S1x1x512x512 .f32) (h : S1x1x512x512.ShapeCasts S512x512) (a b : Fin 512) :
    shapeCast S512x512 x h (ix2 a b) = x (ix4 0 0 a b) :=
  shapeCast_apply x h _ _ (by rw [Shape.rowMajor_val_two, Shape.rowMajor_val_four]; show (((0 * 1 + 0) * 512 + a.val) * 512 + b.val) = a.val * 512 + b.val; omega)

theorem matmul_score (k q : FVec Ideal S512x128 .bf16) (a b : Fin 512) :
    matmul (φ₁ := .bf16) (φ₂ := .bf16) dot_S512x128_S512x128_S512x512_1_1_0_0_n_n none k q (constant (F := Ideal) S512x512 .f32 0x00000000#32) (ix2 a b)
      = ∑ l : Fin 128, k (ix2 a l) * q (ix2 b l) := by
  rw [dot_score]
  refine (Ideal.matmul_transposedRhs_apply (φ₁ := .bf16) (φ₂ := .bf16) none k q _ a b).trans ?_
  rw [constant_apply, show Ideal.ofBits .f32 0x00000000#32 = ((0 : ℝ) : EReal) from bits_zero, EReal.coe_zero, zero_add]

/-- A block of scores as a matrix, entry by entry. -/
theorem score_apply (q : FVec Ideal S512x128 .bf16) (k : Vec Ideal S1x1x1x512x128 .bf16) (a b : Fin 512) :
    score q k (ix4 0 0 a b) = ∑ l : Fin 128, k (ix5 0 0 0 a l) * q (ix2 b l) := by
  unfold score Gen.k0_pay63
  rw [cast4, matmul_score]
  exact Finset.sum_congr rfl fun l _ => by rw [uncast5]

theorem flat_score (q : FVec Ideal S512x128 .bf16) (k : Vec Ideal S1x1x1x512x128 .bf16) (a b : Fin 512) :
    flat (score q k) (ix2 a b) = ∑ l : Fin 128, k (ix5 0 0 0 a l) * q (ix2 b l) :=
  (uncast4 (score q k) _ a b).trans (score_apply q k a b)

/-- The lane of component `d` of branch `c`. -/
def laneOf (c : Fin 2) (d : Fin 64) : Fin 128 := ⟨64 * c.val + d.val, by omega⟩

/-- A block of scores: the product of the branch's components and the slope times the distance inside the blocks. -/
theorem score_entry {sl : FVec Ideal S1x128 .f32} {σ : ℝ} (hsl : ∀ l : Fin 128, sl (ix2 0 l) = (σ : EReal)) (c : Fin 2)
    (q : Vec Ideal S512x128 .bf16) (x : Vec Ideal S512x128 .f32) (qr xr : Fin 512 → Fin 128 → ℝ)
    (hq : ∀ r l, q (ix2 r l) = ((qr r l : ℝ) : EReal)) (hx : ∀ k l, x (ix2 k l) = ((xr k l : ℝ) : EReal)) (a b : Fin 512) :
    flat (score (qfeat c q) (kfeat c sl x)) (ix2 a b)
      = (((∑ d : Fin 64, qr b (laneOf c d) * xr a (laneOf c d)) + σ * ((a.val : ℝ) - (b.val : ℝ)) : ℝ) : EReal) := by
  rw [flat_score, EReal.coe_add, ← feature_sum, coe_sum, coe_sum]
  have e : ∀ f : Fin 128 → EReal, ∑ l, f l = ∑ l : Fin (64 + 64), f l := fun _ => rfl
  rw [e, Fin.sum_univ_add]
  match c with
  | 0 =>
    congr 1
    · refine Finset.sum_congr rfl fun d _ => ?_
      rw [kfeat0_apply hsl, qfeat0_apply, if_pos (show (Fin.castAdd 64 d).val < 64 from d.isLt), if_pos (show (Fin.castAdd 64 d).val < 64 from d.isLt), hq, hx, ← EReal.coe_mul, mul_comm]
      rw [show (Fin.castAdd 64 d : Fin 128) = laneOf 0 d from Fin.ext (by show d.val = 64 * 0 + d.val; omega)]
    · refine Finset.sum_congr rfl fun d _ => ?_
      have hv : (Fin.natAdd 64 d : Fin 128).val = 64 + d.val := rfl
      rw [kfeat0_apply hsl, qfeat0_apply, if_neg (by rw [hv]; omega), if_neg (by rw [hv]; omega), hv, Nat.add_sub_cancel_left, ← EReal.coe_mul]
  | 1 =>
    rw [add_comm]
    congr 1
    · refine Finset.sum_congr rfl fun d _ => ?_
      have hv : (Fin.natAdd 64 d : Fin 128).val = 64 + d.val := rfl
      rw [kfeat1_apply hsl, qfeat1_apply, if_neg (by rw [hv]; omega), if_neg (by rw [hv]; omega), hq, hx, ← EReal.coe_mul, mul_comm]
      rw [show (Fin.natAdd 64 d : Fin 128) = laneOf 1 d from Fin.ext (by show 64 + d.val = 64 * 1 + d.val; omega)]
    · refine Finset.sum_congr rfl fun d _ => ?_
      rw [kfeat1_apply hsl, qfeat1_apply, if_pos (show (Fin.castAdd 64 d).val < 64 from d.isLt), if_pos (show (Fin.castAdd 64 d).val < 64 from d.isLt), ← EReal.coe_mul]
      rfl

end Cert.KernelIdeal.Attn

end
-- ==== Proof.AttnColumn.lean ====
/- One column of the attention call's running maxima and accumulators over the extended reals: after each key block the
   accumulator holds the weighted sums of the values over the keys met, and the quotient at the end is attention. -/
module

public import proofs.«01_k».proof.Proof.AttnFeat

@[expose] public section

noncomputable section

namespace Cert.KernelIdeal.Attn

open Cert.AttnMath Idealize.ShloMosaic Idealize.ShloMosaic.ValueIdx
open scoped BigOperators

theorem bits_bot : (FloatOps.ofBits (F := Ideal) .f32 0xFF800000#32 : EReal) = ⊥ := by
  show Ideal.ofBits .f32 0xFF800000#32 = _
  simp [Ideal.ofBits, Ideal.ieee]

theorem mask_bot : (Named.named (F := Ideal) (φ := .f32) κ "mask" 0xF149F2CA#32 : EReal) = ⊥ :=
  IdealRules.named_const.ideal_named_scalar _ _ _ _ rfl

/-- The largest of the eight runs of 64 rows. -/
def eights (s : FVec Ideal S512x512 .f32) : FVec Ideal S64x512 .f32 :=
  maximumf (maximumf (maximumf (maximumf (maximumf (maximumf (maximumf
      (extractStridedSlice S64x512 ![0, 0] s Gen.slices_S512x512_o0_0_S64x512)
      (extractStridedSlice S64x512 ![64, 0] s Gen.slices_S512x512_o64_0_S64x512))
      (extractStridedSlice S64x512 ![128, 0] s Gen.slices_S512x512_o128_0_S64x512))
      (extractStridedSlice S64x512 ![192, 0] s Gen.slices_S512x512_o192_0_S64x512))
      (extractStridedSlice S64x512 ![256, 0] s Gen.slices_S512x512_o256_0_S64x512))
      (extractStridedSlice S64x512 ![320, 0] s Gen.slices_S512x512_o320_0_S64x512))
      (extractStridedSlice S64x512 ![384, 0] s Gen.slices_S512x512_o384_0_S64x512))
      (extractStridedSlice S64x512 ![448, 0] s Gen.slices_S512x512_o448_0_S64x512)

theorem eights_apply (s : FVec Ideal S512x512 .f32) (i : Fin 64) (r : Fin 512) :
    eights s (ix2 i r) = max (max (max (max (max (max (max (s (ix2 ⟨0 + i.val, by omega⟩ r)) (s (ix2 ⟨64 + i.val, by omega⟩ r))) (s (ix2 ⟨128 + i.val, by omega⟩ r)))
      (s (ix2 ⟨192 + i.val, by omega⟩ r))) (s (ix2 ⟨256 + i.val, by omega⟩ r))) (s (ix2 ⟨320 + i.val, by omega⟩ r))) (s (ix2 ⟨384 + i.val, by omega⟩ r))) (s (ix2 ⟨448 + i.val, by omega⟩ r)) := by
  unfold eights
  rw [maximumf_apply, maximumf_apply, maximumf_apply, maximumf_apply, maximumf_apply, maximumf_apply, maximumf_apply,
    slice2_axis0_apply 0 s _ i r ⟨0 + i.val, by omega⟩ rfl, slice2_axis0_apply 64 s _ i r ⟨64 + i.val, by omega⟩ rfl,
    slice2_axis0_apply 128 s _ i r ⟨128 + i.val, by omega⟩ rfl, slice2_axis0_apply 192 s _ i r ⟨192 + i.val, by omega⟩ rfl,
    slice2_axis0_apply 256 s _ i r ⟨256 + i.val, by omega⟩ rfl, slice2_axis0_apply 320 s _ i r ⟨320 + i.val, by omega⟩ rfl,
    slice2_axis0_apply 384 s _ i r ⟨384 + i.val, by omega⟩ rfl, slice2_axis0_apply 448 s _ i r ⟨448 + i.val, by omega⟩ rfl]

theorem colMax_fold (s : FVec Ideal S512x512 .f32) (r : Fin 512) :
    colMax s (ix1 r) = (Finset.univ : Finset (Fin 64)).fold max ⊥ (fun i => eights s (ix2 i r)) := by
  have e : colMax s (ix1 r) = Finset.fold (β := EReal) (α := Fin 64) max (FloatOps.ofBits (F := Ideal) .f32 0xFF800000#32) (fun i : Fin 64 => eights s (Gen.reduces_S64x512_S512.lift (ix1 r) i)) Finset.univ :=
    Ideal.multiReduction_maximumf_single (eights s) 0xFF800000#32 Gen.reduces_S64x512_S512 (.inl rfl) rfl (ix1 r)
  have el : (fun i : Fin 64 => eights s (Gen.reduces_S64x512_S512.lift (ix1 r) i)) = fun i : Fin 64 => eights s (ix2 i r) := by
    funext i
    exact congrArg (eights s) (funext fun a => by
      match a with
      | ⟨0, _⟩ => rfl
      | ⟨1, _⟩ => rfl)
  rw [e, bits_bot, el]

/-- Every score is at most the column's maximum. -/
theorem colMax_le (s : FVec Ideal S512x512 .f32) (k r : Fin 512) : s (ix2 k r) ≤ colMax s (ix1 r) := by
  rw [colMax_fold, Finset.le_fold_max]
  refine .inr ⟨⟨k.val % 64, Nat.mod_lt _ (by norm_num)⟩, Finset.mem_univ _, ?_⟩
  rw [eights_apply]
  simp only [le_max_iff]
  have hk := k.isLt
  have key : ∀ (n : ℕ) (h : n + k.val % 64 < 512), k.val / 64 * 64 = n → s (ix2 k r) ≤ s (ix2 ⟨n + k.val % 64, h⟩ r) := fun n h e =>
    le_of_eq (congrArg (fun x : Fin 512 => s (ix2 x r)) (Fin.ext (show k.val = n + k.val % 64 by omega)))
  have hd : k.val / 64 = 0 ∨ k.val / 64 = 1 ∨ k.val / 64 = 2 ∨ k.val / 64 = 3 ∨ k.val / 64 = 4 ∨ k.val / 64 = 5 ∨ k.val / 64 = 6 ∨ k.val / 64 = 7 := by omega
  rcases hd with h | h | h | h | h | h | h | h
  · exact .inl (.inl (.inl (.inl (.inl (.inl (.inl (key 0 _ (by rw [h]))))))))
  · exact .inl (.inl (.inl (.inl (.inl (.inl (.inr (key 64 _ (by rw [h]))))))))
  · exact .inl (.inl (.inl (.inl (.inl (.inr (key 128 _ (by rw [h])))))))
  · exact .inl (.inl (.inl (.inl (.inr (key 192 _ (by rw [h]))))))
  · exact .inl (.inl (.inl (.inr (key 256 _ (by rw [h])))))
  · exact .inl (.inl (.inr (key 320 _ (by rw [h]))))
  · exact .inl (.inr (key 384 _ (by rw [h])))
  · exact .inr (key 448 _ (by rw [h]))

theorem colMax_ne_top (s : FVec Ideal S512x512 .f32) (r : Fin 512) (h : ∀ k, s (ix2 k r) ≠ ⊤) : colMax s (ix1 r) ≠ ⊤ := by
  rw [colMax_fold, ← lt_top_iff_ne_top, Finset.fold_max_lt]
  refine ⟨bot_lt_top, fun i _ => ?_⟩
  have h' := fun k => lt_top_iff_ne_top.2 (h k)
  rw [eights_apply]
  simp only [max_lt_iff]
  exact ⟨⟨⟨⟨⟨⟨⟨h' _, h' _⟩, h' _⟩, h' _⟩, h' _⟩, h' _⟩, h' _⟩, h' _⟩

/- The steps, entry by entry. -/
theorem cast1 (x : FVec Ideal S512 .f32) (h : S512.ShapeCasts S1x512) (r : Fin 512) : shapeCast S1x512 x h (ix2 0 r) = x (ix1 r) :=
  shapeCast_apply x h _ _ (by rw [Shape.rowMajor_val_one, Shape.rowMajor_val_two]; show r.val = 0 * 512 + r.val; omega)

theorem castM (x : FVec Ideal S1x512 .f32) (h : S1x512.ShapeCasts S1x1x1x512) (r : Fin 512) : shapeCast S1x1x1x512 x h (ix4 0 0 0 r) = x (ix2 0 r) :=
  shapeCast_apply x h _ _ (by rw [Shape.rowMajor_val_two, Shape.rowMajor_val_four]; show 0 * 512 + r.val = (((0 * 1 + 0) * 1 + 0) * 512 + r.val); omega)

theorem uncastM (x : FVec Ideal S1x1x1x512 .f32) (h : S1x1x1x512.ShapeCasts S1x512) (r : Fin 512) : shapeCast S1x512 x h (ix2 0 r) = x (ix4 0 0 0 r) :=
  shapeCast_apply x h _ _ (by rw [Shape.rowMajor_val_two, Shape.rowMajor_val_four]; show (((0 * 1 + 0) * 1 + 0) * 512 + r.val) = 0 * 512 + r.val; omega)

theorem castA {φ : FTy} (x : FVec Ideal S144x512 φ) (h : S144x512.ShapeCasts S1x1x144x512) (e : Fin 144) (r : Fin 512) :
    shapeCast S1x1x144x512 x h (ix4 0 0 e r) = x (ix2 e r) :=
  shapeCast_apply x h _ _ (by rw [Shape.rowMajor_val_two, Shape.rowMajor_val_four]; show e.val * 512 + r.val = (((0 * 1 + 0) * 144 + e.val) * 512 + r.val); omega)

theorem uncastA {φ : FTy} (x : FVec Ideal S1x1x144x512 φ) (h : S1x1x144x512.ShapeCasts S144x512) (e : Fin 144) (r : Fin 512) :
    shapeCast S144x512 x h (ix2 e r) = x (ix4 0 0 e r) :=
  shapeCast_apply x h _ _ (by rw [Shape.rowMajor_val_two, Shape.rowMajor_val_four]; show (((0 * 1 + 0) * 144 + e.val) * 512 + r.val) = e.val * 512 + r.val; omega)

theorem spread {M N : ℕ} (x : FVec Ideal ⟨2, ![1, 1]⟩ .f32) (h : (⟨2, ![1, 1]⟩ : Shape).Broadcasts ⟨2, ![M, N]⟩) (a : Fin M) (b : Fin N) :
    broadcastTo ⟨2, ![M, N]⟩ x h (ix2 a b) = x (ix2 0 0) :=
  broadcastTo_apply x h (ix2 a b) (ix2 0 0) (fun c => by
    match c with
    | ⟨0, _⟩ => rfl
    | ⟨1, _⟩ => rfl)

theorem exp_app {s : Shape} {φ : FTy} (x : FVec Ideal s φ) (i : s.Idx) : exp x i = Ideal.exp (x i) := rfl

theorem pay72_apply (b : FVec Ideal S1x1 .f32) (m : FVec Ideal S1x512 .f32) (x : FVec Ideal S512 .f32) (r : Fin 512) :
    Gen.k0_pay72 b m x (ix2 0 r) = max (m (ix2 0 r)) (x (ix1 r) + b (ix2 0 0)) := by
  unfold Gen.k0_pay72
  rw [maximumf_apply, addf_apply, cast1, spread]

theorem newMax_apply (b : FVec Ideal S1x1 .f32) (s : FVec Ideal S512x512 .f32) (m : Vec Ideal S1x1x1x512 .f32) (r : Fin 512) :
    newMax b s m (ix4 0 0 0 r) = max (m (ix4 0 0 0 r)) (colMax s (ix1 r) + b (ix2 0 0)) := by
  unfold newMax Gen.k0_pay74 Gen.k0_pay70
  rw [castM, pay72_apply, uncastM]

theorem dot_acc : dot_S144x512_S512x512_S144x512_1_0_0_1_n_n = DotDims.plain 144 512 512 := rfl

theorem matmul_acc (v : FVec Ideal S144x512 .bf16) (p : FVec Ideal S512x512 .bf16) (e : Fin 144) (r : Fin 512) :
    matmul (φ₁ := .bf16) (φ₂ := .bf16) dot_S144x512_S512x512_S144x512_1_0_0_1_n_n none v p (constant (F := Ideal) S144x512 .f32 0x00000000#32) (ix2 e r)
      = ∑ k : Fin 512, v (ix2 e k) * p (ix2 k r) := by
  rw [dot_acc]
  refine (Ideal.matmul_plain_apply (φ₁ := .bf16) (φ₂ := .bf16) none v p _ e r).trans ?_
  rw [constant_apply, show Ideal.ofBits .f32 0x00000000#32 = ((0 : ℝ) : EReal) from bits_zero, EReal.coe_zero, zero_add]

theorem newAcc_apply (b : FVec Ideal S1x1 .f32) (v : Vec Ideal S1x1x144x512 .bf16) (s : FVec Ideal S512x512 .f32) (m : Vec Ideal S1x1x1x512 .f32)
    (a : Vec Ideal S1x1x144x512 .f32) (e : Fin 144) (r : Fin 512) :
    newAcc b v s m a (ix4 0 0 e r)
      = Ideal.exp (m (ix4 0 0 0 r) - max (m (ix4 0 0 0 r)) (colMax s (ix1 r) + b (ix2 0 0))) * a (ix4 0 0 e r)
        + ∑ k : Fin 512, v (ix4 0 0 e k) * Ideal.exp (s (ix2 k r) - (max (m (ix4 0 0 0 r)) (colMax s (ix1 r) + b (ix2 0 0)) - b (ix2 0 0))) := by
  unfold newAcc Gen.k0_pay73
  rw [castA, addf_apply, mulf_apply, broadcastTo_1b_ab_apply, exp_app, subf_apply, pay72_apply, uncastA, matmul_acc]
  unfold Gen.k0_pay70 Gen.k0_pay68
  rw [uncastM]
  congr 1
  refine Finset.sum_congr rfl fun k _ => ?_
  rw [uncastA, truncf_apply, exp_app, subf_apply, broadcastTo_1b_ab_apply, subf_apply, pay72_apply, spread, uncastM]

theorem sle_eq (k r : Fin 512) : IntOp.cmpi .sle (BitVec.ofNat 32 k.val) (BitVec.ofNat 32 r.val) = if k.val ≤ r.val then 1#1 else 0#1 := by
  have hk : (BitVec.ofNat 32 k.val).toInt = (k.val : ℤ) := by
    rw [BitVec.toInt_eq_toNat_cond, BitVec.toNat_ofNat]; have := k.isLt; norm_num; omega
  have hr : (BitVec.ofNat 32 r.val).toInt = (r.val : ℤ) := by
    rw [BitVec.toInt_eq_toNat_cond, BitVec.toNat_ofNat]; have := r.isLt; norm_num; omega
  show BitVec.ofBool (BitVec.sle _ _) = _
  unfold BitVec.sle
  rw [hk, hr]
  by_cases h : k.val ≤ r.val
  · rw [if_pos h, decide_eq_true (by exact_mod_cast h)]; rfl
  · rw [if_neg h, decide_eq_false (by exact_mod_cast h)]; rfl

theorem masked_apply (s : Vec Ideal S1x1x512x512 .f32) (k r : Fin 512) :
    masked s (ix2 k r) = if k.val ≤ r.val then flat s (ix2 k r) else ⊥ := by
  have e : masked s (ix2 k r) = Scalar.select (IntOp.cmpi .sle (BitVec.ofNat 32 k.val) (BitVec.ofNat 32 r.val)) (flat s (ix2 k r)) (Named.named (F := Ideal) (φ := .f32) κ "mask" 0xF149F2CA#32) := by
    unfold masked Gen.k0_pay246
    rw [select_apply, cmp_apply, iota_single_apply, iota_single_apply]
    rfl
  rw [e, sle_eq, mask_bot]
  by_cases h : k.val ≤ r.val
  · rw [if_pos h, if_pos h]; rfl
  · rw [if_neg h, if_neg h]; rfl

theorem dist_eq : ∀ qi j : Fin 8, (Scalar.muli 512#32 (Scalar.subi (BitVec.ofNat 32 qi.val) (BitVec.ofNat 32 j.val))).toInt = 512 * ((qi.val : ℤ) - (j.val : ℤ)) := by decide +kernel

theorem bias_apply {sl : FVec Ideal S1x128 .f32} {σ : ℝ} (hsl : ∀ l : Fin 128, sl (ix2 0 l) = (σ : EReal)) (qi j : Fin 8) :
    bias qi.val j.val sl (ix2 0 0) = ((-σ * (512 * ((qi.val : ℝ) - (j.val : ℝ))) : ℝ) : EReal) := by
  have e : bias qi.val j.val sl (ix2 0 0) = ((Scalar.ofBits (F := Ideal) .f32 0x00000000#32 : EReal) - extractStridedSlice S1x1 ![0, 0] sl Gen.slices_S1x128_o0_0_S1x1 (ix2 0 0))
      * (((Scalar.muli 512#32 (Scalar.subi (BitVec.ofNat 32 qi.val) (BitVec.ofNat 32 j.val))).toInt : ℝ) : EReal) := rfl
  rw [e, dist_eq, bits_zero, extractStridedSlice_apply _ sl _ _ (ix2 0 0) (fun a => by
    match a with
    | ⟨0, _⟩ => rfl
    | ⟨1, _⟩ => rfl), hsl, ← EReal.coe_sub, ← EReal.coe_mul]
  congr 1
  push_cast
  ring

theorem vfeat_val (x : Vec Ideal S512x128 .f32) (e : Fin 144) (k : Fin 512) (h : e.val < 128) :
    vfeat x (ix4 0 0 e k) = x (ix2 k ⟨e.val, h⟩) := by
  unfold vfeat Gen.k0_pay281
  rw [castA, truncf_apply, concatenate_pair_apply_left (s₁ := S128x512) (s₂ := S16x512) (t := S144x512) 0 _ _ _ (ix2 e k) rfl (ix2 ⟨e.val, h⟩ k) (fun b => by
    match b with
    | ⟨0, _⟩ => rfl
    | ⟨1, _⟩ => rfl), transpose_ix2_apply]

theorem vfeat_one (x : Vec Ideal S512x128 .f32) (e : Fin 144) (k : Fin 512) (h : ¬ e.val < 128) :
    vfeat x (ix4 0 0 e k) = ((1 : ℝ) : EReal) := by
  unfold vfeat Gen.k0_pay281
  rw [castA, truncf_apply, concatenate_pair_apply_right (s₁ := S128x512) (s₂ := S16x512) (t := S144x512) 0 _ _ _ (ix2 e k) rfl rfl (ix2 ⟨e.val - 128, by omega⟩ k) (fun b hb => by
    match b with
    | ⟨0, _⟩ => exact absurd rfl hb
    | ⟨1, _⟩ => rfl) (by show e.val - 128 + 128 = e.val; omega)]
  exact bits_one

/-- One block more, for the running pair of a column. -/
theorem holds_step {z : ℕ → EReal} (hz : ∀ p, z p ≠ ⊤) (v : Fin 144 → ℕ → ℝ) (n : ℕ) (b : FVec Ideal S1x1 .f32) (vv : Vec Ideal S1x1x144x512 .bf16)
    (s : FVec Ideal S512x512 .f32) (m : Vec Ideal S1x1x1x512 .f32) (a : Vec Ideal S1x1x144x512 .f32) (β : ℝ) (r : Fin 512)
    (h : Cert.AttnMath.Holds z v n (m (ix4 0 0 0 r)) (fun e => a (ix4 0 0 e r)))
    (hb : b (ix2 0 0) = (β : EReal)) (hv : ∀ e k, vv (ix4 0 0 e k) = ((v e (512 * n + k.val) : ℝ) : EReal))
    (hs : ∀ k : Fin 512, s (ix2 k r) + (β : EReal) = z (512 * n + k.val)) (ht : ∀ k, s (ix2 k r) ≠ ⊤) (hex : ∃ k, s (ix2 k r) ≠ ⊥) :
    Cert.AttnMath.Holds z v (n + 1) (newMax b s m (ix4 0 0 0 r)) (fun e => newAcc b vv s m a (ix4 0 0 e r)) := by
  have key := step hz v n h (s := fun k => s (ix2 k r)) (cm := colMax s (ix1 r)) hs (colMax_ne_top s r ht) (fun k => colMax_le s k r) hex
  rw [newMax_apply, hb]
  have e : (fun e => newAcc b vv s m a (ix4 0 0 e r)) = (fun e => Ideal.exp (m (ix4 0 0 0 r) - max (m (ix4 0 0 0 r)) (colMax s (ix1 r) + (β : EReal))) * a (ix4 0 0 e r)
      + ∑ k : Fin 512, (v e (512 * n + k.val) : EReal) * Ideal.exp (s (ix2 k r) - (max (m (ix4 0 0 0 r)) (colMax s (ix1 r) + (β : EReal)) - (β : EReal)))) := by
    funext e
    rw [newAcc_apply, hb]
    congr 1
    exact Finset.sum_congr rfl fun k _ => by rw [hv]
  rw [e]
  exact key

/-- The whole blocks. -/
theorem flash_holds {z : ℕ → EReal} (hz : ∀ p, z p ≠ ⊤) (v : Fin 144 → ℕ → ℝ) (b : ℕ → FVec Ideal S1x1 .f32) (vv : ℕ → Vec Ideal S1x1x144x512 .bf16)
    (s : ℕ → FVec Ideal S512x512 .f32) (β : ℕ → ℝ) (r : Fin 512) (N : ℕ)
    (hb : ∀ n, n < N → b n (ix2 0 0) = (β n : EReal)) (hv : ∀ n, n < N → ∀ e k, vv n (ix4 0 0 e k) = ((v e (512 * n + k.val) : ℝ) : EReal))
    (hs : ∀ n, n < N → ∀ k : Fin 512, s n (ix2 k r) + (β n : EReal) = z (512 * n + k.val))
    (hr : ∀ n, n < N → ∀ k : Fin 512, ∃ x : ℝ, s n (ix2 k r) = (x : EReal)) :
    ∀ n, n ≤ N → Cert.AttnMath.Holds z v n ((flash b vv s n).1 (ix4 0 0 0 r)) (fun e => (flash b vv s n).2 (ix4 0 0 e r))
  | 0, _ => .inl ⟨rfl, mask_bot, fun _ => bits_zero.trans EReal.coe_zero⟩
  | n + 1, hn => by
    have ih := flash_holds hz v b vv s β r N hb hv hs hr n (by omega)
    have hn' : n < N := by omega
    refine holds_step hz v n (b n) (vv n) (s n) _ _ (β n) r ih (hb n hn') (hv n hn') (hs n hn') (fun k => ?_) ⟨0, ?_⟩
    · obtain ⟨x, hx⟩ := hr n hn' k; rw [hx]; exact EReal.coe_ne_top x
    · obtain ⟨x, hx⟩ := hr n hn' 0; rw [hx]; exact EReal.coe_ne_bot x

/-- The score of key `p` for a query at position `t`: the product of the branch's components, less the slope times the
    distance; a key after the query has none. -/
def zOf (q : Fin 128 → ℝ) (k : ℕ → Fin 128 → ℝ) (σ : ℝ) (t : ℕ) (c : Fin 2) (p : ℕ) : EReal :=
  if p ≤ t then (((∑ d : Fin 64, q (laneOf c d) * k p (laneOf c d)) + -σ * ((t : ℝ) - (p : ℝ)) : ℝ) : EReal) else ⊥

theorem zOf_ne_top (q : Fin 128 → ℝ) (k : ℕ → Fin 128 → ℝ) (σ : ℝ) (t : ℕ) (c : Fin 2) (p : ℕ) : zOf q k σ t c p ≠ ⊤ := by
  unfold zOf
  split
  · exact EReal.coe_ne_top _
  · exact bot_ne_top

theorem zOf_zero (q : Fin 128 → ℝ) (k : ℕ → Fin 128 → ℝ) (σ : ℝ) (t : ℕ) (c : Fin 2) : zOf q k σ t c 0 ≠ ⊥ := by
  unfold zOf
  rw [if_pos (Nat.zero_le _)]
  exact EReal.coe_ne_bot _

/-- The values over rows of ones. -/
def vOf (v : ℕ → Fin 128 → ℝ) (e : Fin 144) (p : ℕ) : ℝ := if h : e.val < 128 then v p ⟨e.val, h⟩ else 1

theorem final_div {sl : Fin 2 → FVec Ideal S1x128 .f32} {h c : Fin 2} {σ : ℝ} (hsl : ∀ l : Fin 128, sl h (ix2 0 l) = (σ : EReal))
    (qi : Fin 8) (Q : Vec Ideal S512x128 .bf16) (K V : Fin 8 → Vec Ideal S512x128 .f32)
    (q : Fin 2 → Fin 2 → FVec Ideal S512x128 .bf16) (kb : Fin 2 → Fin 2 → Fin 8 → Vec Ideal S1x1x1x512x128 .bf16) (vb : Fin 2 → Fin 8 → Vec Ideal S1x1x144x512 .bf16)
    (hqe : q h c = qfeat c Q) (hke : ∀ j, kb h c j = kfeat c (sl h) (K j)) (hve : ∀ j, vb h j = vfeat (V j))
    (qr : Fin 512 → Fin 128 → ℝ) (kr vr : ℕ → Fin 128 → ℝ)
    (hq : ∀ r l, Q (ix2 r l) = ((qr r l : ℝ) : EReal)) (hk : ∀ (j : Fin 8) (k : Fin 512) l, K j (ix2 k l) = ((kr (512 * j.val + k.val) l : ℝ) : EReal))
    (hv : ∀ (j : Fin 8) (k : Fin 512) l, V j (ix2 k l) = ((vr (512 * j.val + k.val) l : ℝ) : EReal)) (e : Fin 128) (r : Fin 512) :
    Ideal.div (final qi.val sl q kb vb h c (ix4 0 0 ⟨e.val, by omega⟩ r)) (final qi.val sl q kb vb h c (ix4 0 0 128 r))
      = ((att (zOf (qr r) kr σ (512 * qi.val + r.val) c) (fun p => vr p e) : ℝ) : EReal) := by
  have h8 : ∀ n : Fin 8, at8 n.val = n := fun n => Fin.ext (Nat.mod_eq_of_lt n.isLt)
  have hz := zOf_ne_top (qr r) kr σ (512 * qi.val + r.val) c
  have hse : ∀ (n : Fin 8) (k : Fin 512), flat (score (q h c) (kb h c (at8 n.val))) (ix2 k r)
      = (((∑ d : Fin 64, qr r (laneOf c d) * kr (512 * n.val + k.val) (laneOf c d)) + σ * ((k.val : ℝ) - (r.val : ℝ)) : ℝ) : EReal) := by
    intro n k
    rw [h8, hqe, hke]
    exact score_entry hsl c Q (K n) qr (fun k l => kr (512 * n.val + k.val) l) hq (hk n) k r
  have hval : ∀ (n : Fin 8) (e : Fin 144) (k : Fin 512), vb h (at8 n.val) (ix4 0 0 e k) = ((vOf vr e (512 * n.val + k.val) : ℝ) : EReal) := by
    intro n e k
    rw [h8, hve]
    unfold vOf
    by_cases he : e.val < 128
    · rw [dif_pos he, vfeat_val _ _ _ he, hv]
    · rw [dif_neg he, vfeat_one _ _ _ he]
  have hsum : ∀ (n : Fin 8) (k : Fin 512), 512 * n.val + k.val ≤ 512 * qi.val + r.val →
      (((∑ d : Fin 64, qr r (laneOf c d) * kr (512 * n.val + k.val) (laneOf c d)) + σ * ((k.val : ℝ) - (r.val : ℝ)) : ℝ) : EReal)
        + ((-σ * (512 * ((qi.val : ℝ) - (n.val : ℝ))) : ℝ) : EReal) = zOf (qr r) kr σ (512 * qi.val + r.val) c (512 * n.val + k.val) := by
    intro n k hle
    unfold zOf
    rw [if_pos hle, ← EReal.coe_add]
    congr 1
    push_cast
    ring
  have hlast := qi.isLt
  have hf := flash_holds hz (vOf vr) (fun j => bias qi.val j (sl h)) (fun j => vb h (at8 j)) (fun j => flat (score (q h c) (kb h c (at8 j))))
    (fun j => -σ * (512 * ((qi.val : ℝ) - (j : ℝ)))) r qi.val
    (fun n hn => bias_apply hsl qi ⟨n, by omega⟩)
    (fun n hn e k => hval ⟨n, by omega⟩ e k)
    (fun n hn k => by
      rw [hse ⟨n, by omega⟩ k]
      exact hsum ⟨n, by omega⟩ k (by show 512 * n + k.val ≤ _; omega))
    (fun n hn k => ⟨_, hse ⟨n, by omega⟩ k⟩) qi.val le_rfl
  have hl := holds_step hz (vOf vr) qi.val (bias qi.val qi.val (sl h)) (vb h (at8 qi.val)) (masked (score (q h c) (kb h c (at8 qi.val)))) _ _
    (-σ * (512 * ((qi.val : ℝ) - (qi.val : ℝ)))) r hf (bias_apply hsl qi qi) (fun e k => hval qi e k)
    (fun k => by
      rw [masked_apply]
      by_cases hkr : k.val ≤ r.val
      · rw [if_pos hkr, hse qi k]
        exact hsum qi k (by omega)
      · rw [if_neg hkr, EReal.bot_add]
        unfold zOf
        rw [if_neg (by omega)])
    (fun k => by
      rw [masked_apply]
      by_cases hkr : k.val ≤ r.val
      · rw [if_pos hkr, hse qi k]; exact EReal.coe_ne_top _
      · rw [if_neg hkr]; exact bot_ne_top)
    ⟨0, by rw [masked_apply, if_pos (show (0 : Fin 512).val ≤ r.val from Nat.zero_le _), hse qi 0]; exact EReal.coe_ne_bot _⟩
  have hd := quotient hz (zOf_zero _ _ _ _ _) (vOf vr) qi.val (by omega) (fun p hp => by
    unfold zOf
    have := r.isLt
    rw [if_neg (by omega)]) hl ⟨e.val, by omega⟩ 128 (fun p => by
      unfold vOf
      rw [dif_neg (by decide)])
  have ev : vOf vr ⟨e.val, by omega⟩ = fun p => vr p e := by
    funext p
    unfold vOf
    rw [dif_pos (show e.val < 128 from e.isLt)]
  rw [ev] at hd
  exact hd

end Cert.KernelIdeal.Attn

end
-- ==== Proof.AttnHead.lean ====
/- One head's output at a grid point over the extended reals: the two branches' attention, subtracted, normalised and scaled. -/
module

public import proofs.«01_k».proof.Proof.AttnColumn
public import Idealize.ShloMosaic.Lib.Pipeline.Value
public import Idealize.ShloMosaic.PureOps.Ideal.Laws

@[expose] public section

noncomputable section

namespace Cert.KernelIdeal.Attn

open Cert.AttnMath Idealize.ShloMosaic Idealize.ShloMosaic.ValueIdx
open scoped BigOperators

/-- The slope of head `n`. -/
def slope (n : ℕ) : ℝ := Real.rpow 2 (-2 * ((n : ℝ) + 1))

/-- The weight of the second branch. -/
def lamOf (x : Fin 4 → Fin 64 → EReal) : EReal :=
  Ideal.exp (∑ j, x 0 j * x 1 j) - Ideal.exp (∑ j, x 2 j * x 3 j) + Ideal.ofBits .f32 0x3E4CCCCD#32

/-- A row of 128 entries, normalised and scaled. -/
def outRow (x g : Fin 128 → EReal) (e : Fin 128) : EReal :=
  x e * Ideal.rsqrt (Ideal.div (∑ j, x j * x j) (Ideal.ofBits .f32 0x43000000#32) + Ideal.ofBits .f32 0x3727C5AC#32) * g e * Ideal.ofBits .f32 0x3F4CCCCD#32

/-- The lane of a head's lane among the 256 of its pair. -/
def ln (h : Fin 2) (l : Fin 128) : Fin 256 := ⟨128 * h.val + l.val, by omega⟩

theorem bits_m2 : (Scalar.ofBits (F := Ideal) .f32 0xC0000000#32 : EReal) = ((-2 : ℝ) : EReal) := by
  show Ideal.ofBits .f32 0xC0000000#32 = _
  simp [Ideal.ofBits, Ideal.ieee, -EReal.coe_mul]; norm_num

theorem head_word0 : ∀ a : Fin 2, (Scalar.addi (Scalar.addi (Scalar.muli (BitVec.ofNat 32 a.val) 2#32) 0#32) 1#32).toInt = 2 * (a.val : ℤ) + 1 := by decide +kernel
theorem head_word1 : ∀ a : Fin 2, (Scalar.addi (Scalar.addi (Scalar.muli (BitVec.ofNat 32 a.val) 2#32) 1#32) 1#32).toInt = 2 * (a.val : ℤ) + 2 := by decide +kernel

theorem slopes_apply (i : grid0.Coords) (a : Fin 2) (ha : (i 1).val = a.val) (h : Fin 2) (l : Fin 128) :
    (slopes i h : FVec Ideal S1x128 .f32) (ix2 0 l) = ((slope (2 * a.val + h.val) : ℝ) : EReal) := by
  match h with
  | ⟨0, _⟩ =>
    have e : (Gen.k0_pay272 i : FVec Ideal S1x128 .f32) (ix2 0 l) = Ideal.exp2 ((Scalar.ofBits (F := Ideal) .f32 0xC0000000#32 : EReal)
        * (((Scalar.addi (Scalar.addi (Scalar.muli (BitVec.ofNat 32 (i 1).val) 2#32) 0#32) 1#32).toInt : ℝ) : EReal)) := rfl
    show (Gen.k0_pay272 i : FVec Ideal S1x128 .f32) (ix2 0 l) = _
    rw [e, ha, head_word0, bits_m2, ← EReal.coe_mul, Ideal.exp2_coe]
    unfold slope
    congr 2
    push_cast
    ring
  | ⟨1, _⟩ =>
    have e : (Gen.k0_pay273 i : FVec Ideal S1x128 .f32) (ix2 0 l) = Ideal.exp2 ((Scalar.ofBits (F := Ideal) .f32 0xC0000000#32 : EReal)
        * (((Scalar.addi (Scalar.addi (Scalar.muli (BitVec.ofNat 32 (i 1).val) 2#32) 1#32) 1#32).toInt : ℝ) : EReal)) := rfl
    show (Gen.k0_pay273 i : FVec Ideal S1x128 .f32) (ix2 0 l) = _
    rw [e, ha, head_word1, bits_m2, ← EReal.coe_mul, Ideal.exp2_coe]
    unfold slope
    congr 2
    push_cast
    ring

theorem row_slice (x : FVec Ideal S4x64 .f32) (o : ℕ) (h : S4x64.Slices ![o, 0] S1x64) (ho : o < 4) (j : Fin 64) :
    extractStridedSlice S1x64 ![o, 0] x h (ix2 0 j) = x (ix2 ⟨o, ho⟩ j) :=
  slice2_axis0_apply o x h 0 j ⟨o, ho⟩ rfl

theorem sum64 (x : FVec Ideal S1x64 .f32) : shapeCast S1x1 (multiReduction .add [1] S1 x 0x00000000#32 Gen.reduces_S1x64_S1 (.inl rfl) rfl) Gen.shapeCasts_S1_S1x1 (ix2 0 0)
    = ∑ j : Fin 64, x (ix2 0 j) := by
  refine (shapeCast_apply _ _ (ix2 0 0) (ix1 0) rfl).trans ?_
  refine (Ideal.multiReduction_add_single x 0x00000000#32 Gen.reduces_S1x64_S1 (.inl rfl) rfl (ix1 0)).trans ?_
  refine Finset.sum_congr rfl fun j _ => congrArg x (funext fun a => ?_)
  match a with
  | ⟨0, _⟩ => rfl
  | ⟨1, _⟩ => rfl

theorem lam_apply (x : Vec Ideal S4x64 .f32) : Gen.k0_pay308 (F := Ideal) x (ix2 0 0) = lamOf (fun a j => x (ix2 a j)) := by
  unfold Gen.k0_pay308 lamOf
  rw [addf_apply, subf_apply, exp_app, exp_app, sum64, sum64]
  simp only [mulf_apply]
  simp only [row_slice x 0 _ (by norm_num), row_slice x 1 _ (by norm_num), row_slice x 2 _ (by norm_num), row_slice x 3 _ (by norm_num)]
  rfl

/-- A branch's quotient in the columns' layout. -/
theorem quot_apply (o : FVec Ideal S144x512 .f32) (e : Fin 128) (r : Fin 512) :
    divf (extractStridedSlice S128x512 ![0, 0] o Gen.slices_S144x512_o0_0_S128x512)
      (broadcastTo S128x512 (extractStridedSlice S1x512 ![128, 0] o Gen.slices_S144x512_o128_0_S1x512) Gen.broadcasts_S1x512_S128x512) (ix2 e r)
      = Ideal.div (o (ix2 ⟨e.val, by omega⟩ r)) (o (ix2 128 r)) := by
  rw [divf_apply, broadcastTo_1b_ab_apply, slice2_axis0_apply 0 o _ e r ⟨e.val, by omega⟩ (by show e.val = 0 + e.val; omega),
    slice2_axis0_apply 128 o _ 0 r 128 rfl]

theorem pay310_apply (lam : FVec Ideal S1x1 .f32) (a : FVec Ideal S144x512 .f32) (b : Vec Ideal S1x1x144x512 .f32) (g : Vec Ideal S1x128 .f32) (r : Fin 512) (e : Fin 128) :
    Gen.k0_pay310 (F := Ideal) lam a b g (ix2 r e)
      = outRow (fun e => Ideal.div (a (ix2 ⟨e.val, by omega⟩ r)) (a (ix2 128 r)) - lam (ix2 0 0) * Ideal.div (b (ix4 0 0 ⟨e.val, by omega⟩ r)) (b (ix4 0 0 128 r))) (fun j => g (ix2 0 j)) e := by
  unfold Gen.k0_pay310
  dsimp only
  generalize hx : transpose S512x128 [1, 0] _ Gen.transposes_S128x512_p1_0_S512x128 = x
  have ex : ∀ e : Fin 128, x (ix2 r e) = Ideal.div (a (ix2 ⟨e.val, by omega⟩ r)) (a (ix2 128 r)) - lam (ix2 0 0) * Ideal.div (b (ix4 0 0 ⟨e.val, by omega⟩ r)) (b (ix4 0 0 128 r)) := fun e => by
    rw [← hx, transpose_ix2_apply, subf_apply, mulf_apply, spread, quot_apply, quot_apply, uncastA, uncastA]
  rw [← funext ex]
  have eb : ∀ y : FVec Ideal S512x1 .f32, broadcastTo S512x128 y Gen.broadcasts_S512x1_S512x128 (ix2 r e) = y (ix2 r 0) := fun y =>
    broadcastTo_apply y _ (ix2 r e) (ix2 r 0) (fun a => by
      match a with
      | ⟨0, _⟩ => rfl
      | ⟨1, _⟩ => rfl)
  have es : ∀ y : FVec Ideal S512 .f32, shapeCast S512x1 y Gen.shapeCasts_S512_S512x1 (ix2 r 0) = y (ix1 r) := fun y =>
    shapeCast_apply y _ (ix2 r 0) (ix1 r) (by
      rw [Shape.rowMajor_val_one, Shape.rowMajor_val_two]
      show r.val = r.val * 1 + 0
      omega)
  rw [truncf_apply, mulf_apply, mulf_apply, mulf_apply, eb, broadcastTo_1b_ab_apply]
  unfold outRow
  have er : rsqrt (addf (divf (shapeCast S512x1 (multiReduction .add [1] S512 (mulf x x) 0x00000000#32 Gen.reduces_S512x128_S512 (.inl rfl) rfl) Gen.shapeCasts_S512_S512x1)
        (broadcast S512x1 (Scalar.ofBits (F := Ideal) .f32 0x43000000#32))) (broadcast S512x1 (Scalar.ofBits (F := Ideal) .f32 0x3727C5AC#32))) (ix2 r 0)
      = Ideal.rsqrt (Ideal.div (∑ j : Fin 128, x (ix2 r j) * x (ix2 r j)) (Ideal.ofBits .f32 0x43000000#32) + Ideal.ofBits .f32 0x3727C5AC#32) := by
    show Ideal.rsqrt _ = _
    congr 1
    rw [addf_apply, divf_apply, es]
    have el : ∀ j : Fin 128, Gen.reduces_S512x128_S512.lift (ix1 r) j = ix2 r j := fun j => by
      funext a
      match a with
      | ⟨0, _⟩ => rfl
      | ⟨1, _⟩ => rfl
    exact congrArg (fun s => Ideal.div s (Ideal.ofBits .f32 0x43000000#32) + Ideal.ofBits .f32 0x3727C5AC#32)
      ((Ideal.multiReduction_add_single (mulf x x) 0x00000000#32 Gen.reduces_S512x128_S512 (.inl rfl) rfl (ix1 r)).trans <| Finset.sum_congr rfl fun j _ => by rw [el j]; rfl)
  rw [er]
  rfl

theorem zero2 : (![0, 0] : Fin 2 → ℕ) = fun _ => 0 := by
  funext a
  match a with
  | ⟨0, _⟩ => rfl
  | ⟨1, _⟩ => rfl

theorem blk_apply (x : Vec Ideal S4096x256 .f32) (h : Fin 2) (j : Fin 8) (k : Fin 512) (l : Fin 128) :
    blk x h j (ix2 k l) = x (ix2 ⟨512 * j.val + k.val, by omega⟩ (ln h l)) := by
  unfold blk
  rw [View.ld_unit]
  refine extractStridedSlice_apply _ x _ _ _ fun a => ?_
  match a with
  | ⟨0, _⟩ => rfl
  | ⟨1, _⟩ => rfl

/-- A head's half of the query block. -/
def qblk (x0 : Vec Ideal S512x256 .bf16) : Fin 2 → Vec Ideal S512x128 .bf16 :=
  ![View.ld x0 (Rect.unit (s := S512x256) ![0, 0] S512x128.size Gen.inb_S512x256_S512x128_0_0), View.ld x0 (Rect.unit (s := S512x256) ![0, 128] S512x128.size Gen.inb_S512x256_S512x128_0_128)]

theorem qblk_apply (x0 : Vec Ideal S512x256 .bf16) (h : Fin 2) (r : Fin 512) (l : Fin 128) : qblk x0 h (ix2 r l) = x0 (ix2 r (ln h l)) := by
  match h with
  | ⟨0, _⟩ =>
    show View.ld x0 (Rect.unit (s := S512x256) ![0, 0] S512x128.size Gen.inb_S512x256_S512x128_0_0) (ix2 r l) = _
    rw [View.ld_unit]
    refine extractStridedSlice_apply _ x0 _ _ _ fun a => ?_
    match a with
    | ⟨0, _⟩ => exact (Nat.zero_add _).symm
    | ⟨1, _⟩ => rfl
  | ⟨1, _⟩ =>
    show View.ld x0 (Rect.unit (s := S512x256) ![0, 128] S512x128.size Gen.inb_S512x256_S512x128_0_128) (ix2 r l) = _
    rw [View.ld_unit]
    refine extractStridedSlice_apply _ x0 _ _ _ fun a => ?_
    match a with
    | ⟨0, _⟩ => exact (Nat.zero_add _).symm
    | ⟨1, _⟩ => rfl

theorem qOf_eq (x0 : Vec Ideal S512x256 .bf16) (h c : Fin 2) : qOf x0 h c = qfeat c (qblk x0 h) := by
  match h, c with
  | ⟨0, _⟩, ⟨0, _⟩ => rfl
  | ⟨0, _⟩, ⟨1, _⟩ => rfl
  | ⟨1, _⟩, ⟨0, _⟩ => rfl
  | ⟨1, _⟩, ⟨1, _⟩ => rfl

/-- A branch's quotient at a point is attention. -/
theorem acc_div (i : grid0.Coords) (a : Fin 2) (ha : (i 1).val = a.val) (qi : Fin 8) (hqi : (i 2).val = qi.val)
    (x0 : Vec Ideal S512x256 .bf16) (x1 x2 : Vec Ideal S4096x256 .f32) (qr : Fin 512 → Fin 256 → ℝ) (kr vr : ℕ → Fin 256 → ℝ)
    (hq : ∀ r l, x0 (ix2 r l) = ((qr r l : ℝ) : EReal)) (hk : ∀ (p : Fin 4096) l, x1 (ix2 p l) = ((kr p.val l : ℝ) : EReal))
    (hv : ∀ (p : Fin 4096) l, x2 (ix2 p l) = ((vr p.val l : ℝ) : EReal)) (h c : Fin 2) (r : Fin 512) (e : Fin 128) :
    Ideal.div (accOf i x0 x1 x2 h c (ix4 0 0 ⟨e.val, by omega⟩ r)) (accOf i x0 x1 x2 h c (ix4 0 0 128 r))
      = ((att (zOf (fun l => qr r (ln h l)) (fun p l => kr p (ln h l)) (slope (2 * a.val + h.val)) (512 * qi.val + r.val) c) (fun p => vr p (ln h e)) : ℝ) : EReal) := by
  unfold accOf
  rw [hqi]
  exact final_div (sl := slopes i) (slopes_apply i a ha h) qi (qblk x0 h) (blk x1 h) (blk x2 h) (qOf x0)
    (kbOf (Gen.k0_pay272 i) (Gen.k0_pay273 i) x1) (vbOf x2) (qOf_eq x0 h c) (fun j => rfl) (fun j => rfl)
    (fun r l => qr r (ln h l)) (fun p l => kr p (ln h l)) (fun p l => vr p (ln h l))
    (fun r l => (qblk_apply x0 h r l).trans (hq r _)) (fun j k l => (blk_apply x1 h j k l).trans (hk _ _)) (fun j k l => (blk_apply x2 h j k l).trans (hv _ _)) e r

/-- One head's output at a point. -/
theorem headOut_apply (i : grid0.Coords) (a : Fin 2) (ha : (i 1).val = a.val) (qi : Fin 8) (hqi : (i 2).val = qi.val)
    (x0 : Vec Ideal S512x256 .bf16) (x1 x2 : Vec Ideal S4096x256 .f32) (x3 : Vec Ideal S4x64 .f32) (x4 : Vec Ideal S1x128 .f32) (qr : Fin 512 → Fin 256 → ℝ) (kr vr : ℕ → Fin 256 → ℝ)
    (hq : ∀ r l, x0 (ix2 r l) = ((qr r l : ℝ) : EReal)) (hk : ∀ (p : Fin 4096) l, x1 (ix2 p l) = ((kr p.val l : ℝ) : EReal))
    (hv : ∀ (p : Fin 4096) l, x2 (ix2 p l) = ((vr p.val l : ℝ) : EReal)) (h : Fin 2) (r : Fin 512) (e : Fin 128) :
    headOut i x0 x1 x2 x3 x4 h (ix2 r e)
      = outRow (fun e => ((att (zOf (fun l => qr r (ln h l)) (fun p l => kr p (ln h l)) (slope (2 * a.val + h.val)) (512 * qi.val + r.val) 0) (fun p => vr p (ln h e)) : ℝ) : EReal)
          - lamOf (fun a j => x3 (ix2 a j)) * ((att (zOf (fun l => qr r (ln h l)) (fun p l => kr p (ln h l)) (slope (2 * a.val + h.val)) (512 * qi.val + r.val) 1) (fun p => vr p (ln h e)) : ℝ) : EReal))
        (fun j => x4 (ix2 0 j)) e := by
  unfold headOut outHead
  rw [View.ld_unit_zero zero2 _ x3, View.ld_unit_zero zero2 _ x4, pay310_apply, lam_apply]
  congr 1
  funext e
  rw [← acc_div i a ha qi hqi x0 x1 x2 qr kr vr hq hk hv h 0 r e, ← acc_div i a ha qi hqi x0 x1 x2 qr kr vr hq hk hv h 1 r e]
  unfold Gen.k0_pay309
  rw [uncastA, uncastA]

end Cert.KernelIdeal.Attn

end
-- ==== Proof.AttnBody.lean ====
module

public import proofs.«01_k».proof.Proof.AttnPieces
public import proofs.«01_k».proof.Proof.Gen.KernelIdeal.Launch
public import Idealize.ShloMosaic.Lib.Pipeline.Kit
public import Idealize.ShloMosaic.Lib.VecWindow
public import Idealize.ShloMosaic.Lib.Pipeline.FrameBody

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem readAt_const {sig : RefSig} {κ : Kind} {sp : Space} {s : Shape} {e : EltTy} {Val : EltTy → Type} [∀ e, Nonempty (Val e)] (v : View sig κ sp s e) (f : v.ty.Contents Val) {o z off : Fin s.rank → ℕ} (i : ∀ a, o a + z a ≤ s.size a)
    (inb : ∀ a, off a + s.size a ≤ s.size a) (w : (Rect.unit off s.size inb).shape.Idx → Val e) (L : List (View.Piece Val s e)) (x : Val e) (hw : ∀ j, w j = x) :
    v.readAt Val (Rect.unit o z i).toLoadRect (v.writes Val f (⟨Rect.unit off s.size inb, w⟩ :: L)) = fun _ => x := by
  funext j
  exact (congrFun (View.read_writes_full v f inb w L) _).trans (hw _)

/-- The two halves of the output block. -/
structure HoldsO (arg8 : Memref sig .tc .vmem S512x256 .bf16) (o : Fin 2 → FVec F S512x128 .bf16) (f8 : BufTy.Contents (Elt F) arg8.view.ty) : Prop where
  h0 : (arg8.view.readAt (Elt F) (Rect.unit (s := S512x256) ![0, 0] S512x128.size Gen.inb_S512x256_S512x128_0_0).toLoadRect f8) = o 0
  h1 : (arg8.view.readAt (Elt F) (Rect.unit (s := S512x256) ![0, 128] S512x128.size Gen.inb_S512x256_S512x128_0_128).toLoadRect f8) = o 1

theorem body (𝒱 : Variants) (c : Dev nD) (bd : Option 𝒱.V) (E : Set ℕ) (i : grid0.Coords) (arg3 : Memref sig .tc .vmem S512x256 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S2x2x8x512x128 .bf16) (harg9 : arg9.IsWhole) (arg10 : Memref sig .tc .vmem S2x8x144x512 .bf16) (harg10 : arg10.IsWhole) (arg11 : Memref sig .tc .vmem S2x2x1x512 .f32) (harg11 : arg11.IsWhole) (arg12 : Memref sig .tc .vmem S2x2x144x512 .f32) (harg12 : arg12.IsWhole) (arg13 : Memref sig .tc .vmem S2x2x512x512 .f32) (harg13 : arg13.IsWhole) (arg14 : Memref sig .tc .vmem S2x2x512x512 .f32) (harg14 : arg14.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (h : first (BitVec.ofNat 32 (i 2).val) ∨ ¬ first (BitVec.ofNat 32 (i 2).val) ∧ HoldsK arg9 (kbOf (Gen.k0_pay272 i) (Gen.k0_pay273 i) (arg4.view.read (Elt F) X4)) f9 ∧ HoldsV arg10 (vbOf (arg5.view.read (Elt F) X5)) f10) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (cc0_attn_prompt (F := F) i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f8, (arg8.view.loc (c : Thread nD τ) ↦[arg8.view.set]{fullShare} f8) ∗ ⌜HoldsO arg8 (headOut i (arg3.view.read (Elt F) X3) (arg4.view.read (Elt F) X4) (arg5.view.read (Elt F) X5) (arg6.view.read (Elt F) X6) (arg7.view.read (Elt F) X7)) f8⌝)
            ∗ (∃ f9, (arg9.view.loc (c : Thread nD τ) ↦[arg9.view.set]{fullShare} f9) ∗ ⌜HoldsK arg9 (kbOf (Gen.k0_pay272 i) (Gen.k0_pay273 i) (arg4.view.read (Elt F) X4)) f9⌝) ∗ (∃ f10, (arg10.view.loc (c : Thread nD τ) ↦[arg10.view.set]{fullShare} f10) ∗ ⌜HoldsV arg10 (vbOf (arg5.view.read (Elt F) X5)) f10⌝)
            ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)))) := by
  simp only [Gen.cc0_attn_prompt_eq_skeleton]
  unfold Gen.cc0_attn_prompt_skel
  simp only [Gen.k0_part54_eq_skeleton, Gen.k0_part55_eq_skeleton, Gen.k0_part56_eq_skeleton, Gen.k0_part57_eq_skeleton, Gen.k0_part58_eq_skeleton, Gen.k0_part59_eq_skeleton, Gen.k0_part60_eq_skeleton]
  iintro ⟨H3, H4, H5, H6, H7, H8, H9, H10, H11, H12, H13, H14⟩
  have hfill := fill 𝒱 c bd E i arg3 harg3 arg4 harg4 arg5 harg5 arg6 harg6 arg7 harg7 arg8 harg8 arg9 harg9 arg10 harg10 arg11 harg11 arg12 harg12 arg13 harg13 arg14 harg14 (BitVec.ofNat 32 (i 2).val) (Gen.k0_pay272 i) (Gen.k0_pay273 i) X4 X5 f9 f10 h
  unfold Gen.k0_part54_skel
  dsimp only
  simp only [pure_bind]
  rw [wp_bind]
  iapply (wp_wand_r _ _ _)
  isplitl [H4 H5 H9 H10]
  · iapply hfill
    isplitl [H4]; · iexact H4
    isplitl [H5]; · iexact H5
    isplitl [H9]; · iexact H9
    iexact H10
  iintro %r ⟨H4, H5, ⟨%f9, %f10, H9, H10, %hr, %hk, %hv⟩⟩
  subst hr
  unfold ret55
  dsimp only
  sl_exec
  have hst : Holds arg11 arg12 arg13 (stAt (i 2).val ![Gen.k0_pay272 i, Gen.k0_pay273 i] (qOf (arg3.view.read (Elt F) X3)) (kbOf (Gen.k0_pay272 i) (Gen.k0_pay273 i) (arg4.view.read (Elt F) X4)) (vbOf (arg5.view.read (Elt F) X5)) 0)
      (arg11.view.writes (Elt F) arg11.view.junk body.sl.H11_1) (arg12.view.writes (Elt F) arg12.view.junk body.sl.H12_1) (arg13.view.writes (Elt F) arg13.view.junk (body.sl.H13_4 c arg3 arg9 X3 f9)) := by
    have hk00 := hk 0 0 0
    have hk01 := hk 0 1 0
    have hk10 := hk 1 0 0
    have hk11 := hk 1 1 0
    have e : ∀ h c : Fin 2, (stAt (i 2).val ![Gen.k0_pay272 i, Gen.k0_pay273 i] (qOf (arg3.view.read (Elt F) X3)) (kbOf (Gen.k0_pay272 i) (Gen.k0_pay273 i) (arg4.view.read (Elt F) X4)) (vbOf (arg5.view.read (Elt F) X5)) 0).s h c
        = score (qOf (arg3.view.read (Elt F) X3) h c) (kbOf (Gen.k0_pay272 i) (Gen.k0_pay273 i) (arg4.view.read (Elt F) X4) h c 0) := fun _ _ => rfl
    constructor
    case m00 | m01 | m10 | m11 =>
      sl_unfold_run_names
      exact readAt_const _ _ _ _ _ _ _ (fun _ => rfl)
    case a00 | a01 | a10 | a11 =>
      sl_unfold_run_names
      exact readAt_const _ _ _ _ _ _ _ (fun _ => rfl)
    case s00 =>
      rw [e, ← hk00]
      sl_unfold_run_names
      simp (disch := decide) only [readAt_hit, readAt_skip, readAt_nil, readCov_hit, readCov_skip]
      rfl
    case s01 =>
      rw [e, ← hk01]
      sl_unfold_run_names
      simp (disch := decide) only [readAt_hit, readAt_skip, readAt_nil, readCov_hit, readCov_skip]
      rfl
    case s10 =>
      rw [e, ← hk10]
      sl_unfold_run_names
      simp (disch := decide) only [readAt_hit, readAt_skip, readAt_nil, readCov_hit, readCov_skip]
      rfl
    case s11 =>
      rw [e, ← hk11]
      sl_unfold_run_names
      simp (disch := decide) only [readAt_hit, readAt_skip, readAt_nil, readCov_hit, readCov_skip]
      rfl
  have hp := pairs 𝒱 c bd E i arg3 harg3 arg4 harg4 arg5 harg5 arg6 harg6 arg7 harg7 arg8 harg8 arg9 harg9 arg10 harg10 arg11 harg11 arg12 harg12 arg13 harg13 arg14 harg14 (Gen.k0_pay272 i) (Gen.k0_pay273 i) (qOf (arg3.view.read (Elt F) X3)) (kbOf (Gen.k0_pay272 i) (Gen.k0_pay273 i) (arg4.view.read (Elt F) X4)) (vbOf (arg5.view.read (Elt F) X5)) f9 f10 hk hv _ _ _ f14 hst
  rw [wp_bind]
  iapply (wp_wand_r _ _ _)
  isplitl [H9 H10 H11 H12 H13 H14]
  · iapply hp
    isplitl [H9]; · iexact H9
    isplitl [H10]; · iexact H10
    isplitl [H11]; · iexact H11
    isplitl [H12]; · iexact H12
    isplitl [H13]; · iexact H13
    iexact H14
  iintro %u ⟨H9, H10, ⟨%g11, %g12, %g13, H11, H12, H13, ⟨%g14, H14⟩, %hs⟩⟩
  dsimp only
  sl_for0 (trips2 i)
  sl_step
  dsimp only
  have hl := fun w0 w1 w2 w3 w4 => last 𝒱 c bd E i arg3 harg3 arg4 harg4 arg5 harg5 arg6 harg6 arg7 harg7 arg8 harg8 arg9 harg9 arg10 harg10 arg11 harg11 arg12 harg12 arg13 harg13 arg14 harg14 (Gen.k0_pay272 i) (Gen.k0_pay273 i) (qOf (arg3.view.read (Elt F) X3)) w0 w1 w2 w3 w4 (kbOf (Gen.k0_pay272 i) (Gen.k0_pay273 i) (arg4.view.read (Elt F) X4)) (vbOf (arg5.view.read (Elt F) X5)) X6 f9 f10 hk hv g11 g12 g13 g14 hs
  rw [wp_bind]
  iapply (wp_wand_r _ _ _)
  isplitl [H6 H9 H10 H11 H12 H13 H14]
  · iapply hl
    isplitl [H6]; · iexact H6
    isplitl [H9]; · iexact H9
    isplitl [H10]; · iexact H10
    isplitl [H11]; · iexact H11
    isplitl [H12]; · iexact H12
    isplitl [H13]; · iexact H13
    iexact H14
  iintro %r ⟨H6, H9, H10, H11, H13, H14, ⟨%k12, H12, %ha, %hr⟩⟩
  subst hr
  unfold ret59
  dsimp only
  sl_exec
  sl_step
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    constructor
    all_goals
      sl_unfold_run_names
      simp (disch := decide) only [readAt_hit, readAt_skip, readAt_nil, readCov_hit, readCov_skip, ha.a00, ha.a01, ha.a10, ha.a11]
      rfl
  isplitl [H9]
  · iexists _
    isplitl [H9]; · iexact H9
    ipureintro; exact hk
  isplitl [H10]
  · iexists _
    isplitl [H10]; · iexact H10
    ipureintro; exact hv
  isplitl [H11]; · iexact H11
  isplitl [H12]; · iexists _; iexact H12
  isplitl [H13]; · iexact H13
  iexact H14

end Cert.KernelIdeal.Attn

end
-- ==== Proof.AttnFrame.lean ====
/- The attention call's run: what a point leaves, what it carries to the next one, the launch and the frame. -/
module

public import proofs.«01_k».proof.Proof.AttnBody
public import proofs.«01_k».proof.Proof.Gen.KernelIdeal.Frame.Runs
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The half of the output block a column lies in, and its place in that half. -/
def halfOf (y : S512x256.Idx) : Fin 2 := ⟨(y 1).val / 128, by have : (y 1).val < 256 := (y 1).isLt; omega⟩
def inHalf (y : S512x256.Idx) : S512x128.Idx
  | ⟨0, _⟩ => ⟨(y 0).val, (y 0).isLt⟩
  | ⟨1, _⟩ => ⟨(y 1).val % 128, Nat.mod_lt _ (by decide)⟩

/-- The output block made of two halves. -/
def join (o : Fin 2 → FVec F S512x128 .bf16) : Vec F S512x256 .bf16 := fun y => o (halfOf y) (inHalf y)

theorem HoldsO.read_eq {arg8 : Memref sig .tc .vmem S512x256 .bf16} {o : Fin 2 → FVec F S512x128 .bf16} {f8 : BufTy.Contents (Elt F) arg8.view.ty}
    (h : HoldsO arg8 o f8) : arg8.view.read (Elt F) f8 = join o := by
  funext y
  have hy : (y 1).val < 256 := (y 1).isLt
  by_cases hc : (y 1).val < 128
  · have e : halfOf y = 0 := Fin.ext (by show (y 1).val / 128 = 0; omega)
    unfold join
    rw [e, ← h.h0]
    exact congrArg (arg8.view.read (Elt F) f8) (funext fun a => Fin.ext (by
      match a with
      | ⟨0, _⟩ => show (y 0).val = 0 + 1 * (y 0).val; omega
      | ⟨1, _⟩ => show (y 1).val = 0 + 1 * ((y 1).val % 128); omega))
  · have e : halfOf y = 1 := Fin.ext (by show (y 1).val / 128 = 1; omega)
    unfold join
    rw [e, ← h.h1]
    exact congrArg (arg8.view.read (Elt F) f8) (funext fun a => Fin.ext (by
      match a with
      | ⟨0, _⟩ => show (y 0).val = 0 + 1 * (y 0).val; omega
      | ⟨1, _⟩ => show (y 1).val = 128 + 1 * ((y 1).val % 128); omega))

variable (m : (ℓ : Loc nD τ sig) → Buf (Elt F) ℓ) (ρ : Dev nD → PrngReg)

/-- The key and value features a point works with. -/
def kbAt (c : Dev nD) (t : Fin cfg0.N) : Fin 2 → Fin 2 → Fin 8 → Vec F S1x1x1x512x128 .bf16 :=
  kbOf (k0_pay272 (grid0.coords t)) (k0_pay273 (grid0.coords t)) (iblk m c 1 t)
def vbAt (c : Dev nD) (t : Fin cfg0.N) : Fin 2 → Fin 8 → Vec F S1x1x144x512 .bf16 := vbOf (iblk m c 2 t)

/-- What a point leaves in the output block. -/
def outAt (c : Dev nD) (t : Fin cfg0.N) : Vec F S512x256 .bf16 :=
  join (headOut (grid0.coords t) (iblk m c 0 t) (iblk m c 1 t) (iblk m c 2 t) (iblk m c 3 t) (iblk m c 4 t))

/-- The four arrays a point carries nothing in, and the generator. -/
def rest (c : Dev nD) : sProp 𝕄 :=
  iprop((∃ d, owns (c : Thread nD τ) scM0_2 fullShare d) ∗ (∃ d, owns (c : Thread nD τ) scM0_3 fullShare d)
    ∗ (∃ d, owns (c : Thread nD τ) scM0_4 fullShare d) ∗ (∃ d, owns (c : Thread nD τ) scM0_5 fullShare d) ∗ (∃ r, prngReg c r))

/-- Between points the two feature arrays hold the features of the point before. -/
def Phi (c : Dev nD) : (n : ℕ) → n ≤ cfg0.N → sProp 𝕄
  | 0, _ => Pipeline.ΦA spec0 c
  | n + 1, hn => iprop(((∃ f9, ((scM0_0 : Memref sig .tc .vmem S2x2x8x512x128 .bf16).view.loc (c : Thread nD τ) ↦[scM0_0.view.set]{fullShare} f9) ∗ ⌜HoldsK scM0_0 (kbAt m c ⟨n, hn⟩) f9⌝)
      ∗ (∃ f10, ((scM0_1 : Memref sig .tc .vmem S2x8x144x512 .bf16).view.loc (c : Thread nD τ) ↦[scM0_1.view.set]{fullShare} f10) ∗ ⌜HoldsV scM0_1 (vbAt m c ⟨n, hn⟩) f10⌝))
      ∗ rest c)

/-- The pipeline's data: inputs stay, the output is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- Inside one batch entry and head pair the key and value blocks and the slopes stay. -/
theorem index_step : ∀ t t' : Fin cfg0.N, t'.val % 8 ≠ 0 → t.val + 1 = t'.val →
    win0_1.index t = win0_1.index t' ∧ win0_2.index t = win0_2.index t' ∧ (grid0.coords t) 1 = (grid0.coords t') 1 := by
  intro t t' h1 h2
  have hlt : ∀ u : Fin cfg0.N, u.val - 1 < cfg0.N := fun u => lt_of_le_of_lt (Nat.sub_le _ _) u.isLt
  have key := (by decide +kernel : ∀ u : Fin grid0.N, u.val % 8 ≠ 0 → win0_1.index (⟨u.val - 1, lt_of_le_of_lt (Nat.sub_le _ _) u.isLt⟩ : Fin grid0.N) = win0_1.index u
    ∧ win0_2.index (⟨u.val - 1, lt_of_le_of_lt (Nat.sub_le _ _) u.isLt⟩ : Fin grid0.N) = win0_2.index u ∧ (grid0.coords (⟨u.val - 1, lt_of_le_of_lt (Nat.sub_le _ _) u.isLt⟩ : Fin grid0.N)) 1 = (grid0.coords u) 1)
  have ht : t = (⟨t'.val - 1, hlt t'⟩ : Fin cfg0.N) := Fin.ext (by show t.val = t'.val - 1; omega)
  rw [ht]
  exact key t' h1

theorem pay272_congr (i j : grid0.Coords) (h : i 1 = j 1) : (k0_pay272 i : FVec F S1x128 .f32) = k0_pay272 j := by
  unfold k0_pay272; rw [h]
theorem pay273_congr (i j : grid0.Coords) (h : i 1 = j 1) : (k0_pay273 i : FVec F S1x128 .f32) = k0_pay273 j := by
  unfold k0_pay273; rw [h]

theorem iblk1_fetched (c : Dev nD) (t : Fin cfg0.N) (d) : (dats m 0 c).fetched 1 t d = iblk m c 1 t := by
  unfold Dat.fetched Dat.blockOf iblk; rw [A_eq]; try rfl
theorem iblk2_fetched (c : Dev nD) (t : Fin cfg0.N) (d) : (dats m 0 c).fetched 2 t d = iblk m c 2 t := by
  unfold Dat.fetched Dat.blockOf iblk; rw [A_eq]; try rfl

theorem kbAt_step (c : Dev nD) (t t' : Fin cfg0.N) (h1 : t'.val % 8 ≠ 0) (h2 : t.val + 1 = t'.val) : kbAt m c t = kbAt m c t' := by
  obtain ⟨ha, _, hb⟩ := index_step t t' h1 h2
  have e : (iblk m c 1 t : Vec F S4096x256 .f32) = (iblk m c 1 t' : Vec F S4096x256 .f32) :=
    (iblk1_fetched m c t (iblk m c 1 t)).symm.trans (((dats m 0 c).fetched_congr 1 ha rfl _).trans (iblk1_fetched m c t' _))
  unfold kbAt
  rw [pay272_congr _ _ hb, pay273_congr _ _ hb, e]

theorem vbAt_step (c : Dev nD) (t t' : Fin cfg0.N) (h1 : t'.val % 8 ≠ 0) (h2 : t.val + 1 = t'.val) : vbAt m c t = vbAt m c t' := by
  obtain ⟨_, ha, _⟩ := index_step t t' h1 h2
  have e : (iblk m c 2 t : Vec F S4096x256 .f32) = (iblk m c 2 t' : Vec F S4096x256 .f32) :=
    (iblk2_fetched m c t (iblk m c 2 t)).symm.trans (((dats m 0 c).fetched_congr 2 ha rfl _).trans (iblk2_fetched m c t' _))
  unfold vbAt
  rw [e]

/-- Before a point the feature arrays either are filled anew or hold the point's features. -/
def Start (c : Dev nD) (t : Fin cfg0.N) (f9 : BufTy.Contents (Elt F) (scM0_0 : Memref sig .tc .vmem S2x2x8x512x128 .bf16).view.ty) (f10 : BufTy.Contents (Elt F) (scM0_1 : Memref sig .tc .vmem S2x8x144x512 .bf16).view.ty) : Prop :=
  first (BitVec.ofNat 32 ((grid0.coords t) 2).val) ∨ ¬ first (BitVec.ofNat 32 ((grid0.coords t) 2).val) ∧ HoldsK scM0_0 (kbAt m c t) f9 ∧ HoldsV scM0_1 (vbAt m c t) f10

def start (c : Dev nD) (t : Fin cfg0.N) : sProp 𝕄 :=
  iprop((∃ f9 f10, ((scM0_0 : Memref sig .tc .vmem S2x2x8x512x128 .bf16).view.loc (c : Thread nD τ) ↦[scM0_0.view.set]{fullShare} f9)
      ∗ ((scM0_1 : Memref sig .tc .vmem S2x8x144x512 .bf16).view.loc (c : Thread nD τ) ↦[scM0_1.view.set]{fullShare} f10) ∗ ⌜Start m c t f9 f10⌝) ∗ rest c)

theorem Phi_start (c : Dev nD) (t : Fin cfg0.N) : Phi m c t.val (Nat.le_of_lt t.isLt) ⊢ start m c t := by
  obtain ⟨n, hn⟩ := t
  cases n with
  | zero =>
    show Pipeline.ΦA spec0 c ⊢ _
    rw [PhiA0_eq]
    unfold start rest owns
    iintro ⟨⟨⟨%d0, %f0, %h0, HS0⟩, ⟨%d1, %f1, %h1, HS1⟩, HS2, HS3, HS4, HS5⟩, Hg⟩
    isplitl [HS0 HS1]
    · iexists _, _
      isplitl [HS0]; · iexact HS0
      isplitl [HS1]; · iexact HS1
      ipureintro
      exact Or.inl ((hcond0_0 ⟨0, hn⟩).mpr rfl)
    isplitl [HS2]; · iexact HS2
    isplitl [HS3]; · iexact HS3
    isplitl [HS4]; · iexact HS4
    isplitl [HS5]; · iexact HS5
    iexact Hg
  | succ n =>
    unfold Phi start
    iintro ⟨⟨⟨%f9, H9, %hk⟩, ⟨%f10, H10, %hv⟩⟩, Hr⟩
    isplitl [H9 H10]
    · iexists _, _
      isplitl [H9]; · iexact H9
      isplitl [H10]; · iexact H10
      ipureintro
      by_cases h : (n + 1) % 8 = 0
      · exact Or.inl ((hcond0_0 ⟨n + 1, hn⟩).mpr h)
      · refine Or.inr ⟨fun hf => h ((hcond0_0 ⟨n + 1, hn⟩).mp hf), ?_, ?_⟩
        · rw [← kbAt_step m c ⟨n, by omega⟩ ⟨n + 1, hn⟩ h rfl]; exact hk
        · rw [← vbAt_step m c ⟨n, by omega⟩ ⟨n + 1, hn⟩ h rfl]; exact hv
    iexact Hr

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4, after5]
  rw [show (dats m 0 c).Φ t.succ = Phi m c (t.val + 1) t.isLt from rfl, Phi_castSucc]
  refine (sep_mono (Phi_start m c t) Idealize.SL.BI.BIBase.Entails.refl).trans ?_
  unfold start rest owns
  iintro ⟨⟨⟨%f9, %f10, H9, H10, %hs⟩, ⟨%e2, %f11, %h11, H11⟩, ⟨%e3, %f12, %h12, H12⟩, ⟨%e4, %f13, %h13, H13⟩, ⟨%e5, %f14, %h14, H14⟩, Hg⟩, Ho,
    ⟨%d0, %x0, %hx0, H0⟩, ⟨%d1, %x1, %hx1, H1⟩, ⟨%d2, %x2, %hx2, H2⟩, ⟨%d3, %x3, %hx3, H3⟩, ⟨%d4, %x4, %hx4, H4⟩, ⟨%d5, %x5, %hx5, H5⟩⟩
  have hb := body Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    x0 x1 x2 x3 x4 x5 f9 f10 f11 f12 f13 f14 (by rw [hx1, hx2]; exact hs)
  rw [hx0, hx1, hx2, hx3, hx4] at hb
  iapply (wp_wand_r _ _ _)
  isplitl [H0 H1 H2 H3 H4 H5 H9 H10 H11 H12 H13 H14]
  · iapply hb
    isplitl [H0]; · iexact H0
    isplitl [H1]; · iexact H1
    isplitl [H2]; · iexact H2
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    iexact H14
  iintro %u ⟨H0, H1, H2, H3, H4, ⟨%g8, H5, %ho⟩, H9, H10, ⟨%g11, H11⟩, ⟨%g12, H12⟩, ⟨%g13, H13⟩, ⟨%g14, H14⟩⟩
  isplitl [H9 H10 H11 H12 H13 H14 Hg]
  · unfold Phi rest owns
    isplitl [H9 H10]
    · isplitl [H9]; · iexact H9
      iexact H10
    isplitl [H11]
    · iexists (scM0_2.view.read (Elt F) g11), g11; isplitl []; · ipureintro; rfl
      iexact H11
    isplitl [H12]
    · iexists (scM0_3.view.read (Elt F) g12), g12; isplitl []; · ipureintro; rfl
      iexact H12
    isplitl [H13]
    · iexists (scM0_4.view.read (Elt F) g13), g13; isplitl []; · ipureintro; rfl
      iexact H13
    isplitl [H14]
    · iexists (scM0_5.view.read (Elt F) g14), g14; isplitl []; · ipureintro; rfl
      iexact H14
    iexact Hg
  isplitl [Ho]; · iexact Ho
  isplitl [H0]
  · iexists x0; isplitl []; · ipureintro; exact hx0
    iexact H0
  isplitl [H1]
  · iexists x1; isplitl []; · ipureintro; exact hx1
    iexact H1
  isplitl [H2]
  · iexists x2; isplitl []; · ipureintro; exact hx2
    iexact H2
  isplitl [H3]
  · iexists x3; isplitl []; · ipureintro; exact hx3
    iexact H3
  isplitl [H4]
  · iexists x4; isplitl []; · ipureintro; exact hx4
    iexact H4
  iexists g8; isplitl []; · ipureintro; exact ho.read_eq
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem Phi_end (c : Dev nD) (n : ℕ) (hn : n + 1 ≤ cfg0.N) : Phi m c (n + 1) hn ⊢ Pipeline.ΦA spec0 c := by
  rw [PhiA0_eq]
  unfold Phi rest owns
  iintro ⟨⟨⟨%f9, H9, %hk⟩, ⟨%f10, H10, %hv⟩⟩, HS2, HS3, HS4, HS5, Hg⟩
  isplitl [H9 H10 HS2 HS3 HS4 HS5]
  · isplitl [H9]
    · iexists (scM0_0.view.read (Elt F) f9), f9; isplitl []; · ipureintro; rfl
      iexact H9
    isplitl [H10]
    · iexists (scM0_1.view.read (Elt F) f10), f10; isplitl []; · ipureintro; rfl
      iexact H10
    isplitl [HS2]; · iexact HS2
    isplitl [HS3]; · iexact HS3
    isplitl [HS4]; · iexact HS4
    iexact HS5
  iexact Hg

theorem hout (c : Dev nD) : (dats m 0 c).Φ (Fin.last cfg0.N) ⊢ Pipeline.ΦA spec0 c := Phi_end m c 63 (by decide)

set_option backward.isDefEq.respectTransparency.types false in
/-- The launch runs to its end with the pipeline's arrays at the data's and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The result array ends at what the pipeline's data leaves in it, and the arguments keep their contents. -/
theorem run_result : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c => ⟨(h c).1 5, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c)))⟩) (run_main m ρ)

/-- The arguments keep their contents and the counters end at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and ((θ_run defs _ _).mono (fun _ h c => (h c).2) (run_result m ρ)) ((θ_run defs _ _).mono (fun _ h => h.2) (run_main_quiescent m ρ))

end Cert.KernelIdeal.Attn

end
-- ==== Proof.AttnArray.lean ====
/- The attention call's result array over the extended reals: every entry is the normalised difference of the two branches'
   attention, as a function of the launched arguments, where the queries, keys and values are real. -/
module

public import proofs.«01_k».proof.Proof.AttnHead
public import proofs.«01_k».proof.Proof.AttnFrame

@[expose] public section

noncomputable section

namespace Cert.KernelIdeal.Attn

open Cert.KernelIdeal Cert.KernelIdeal.Gen Cert.AttnMath Idealize.ShloMosaic Idealize.ShloMosaic.ValueIdx Idealize.ShloMosaic.TcCoe
open Idealize.SL.Sem
open Idealize.ShloMosaic.Pipeline (Dat)
open scoped BigOperators

/-- Every entry is real. -/
def AllReal {s : Shape} (x : s.Idx → EReal) : Prop := ∀ i, ∃ r : ℝ, x i = (r : EReal)

theorem AllReal.coe {s : Shape} {x : s.Idx → EReal} (h : AllReal x) (i : s.Idx) : x i = (((x i).toReal : ℝ) : EReal) := by
  obtain ⟨r, hr⟩ := h i
  rw [hr, EReal.toReal_coe]

/-- The lane of a head's lane among the 512. -/
def hl (n : Fin 4) (l : Fin 128) : Fin 512 := ⟨128 * n.val + l.val, by omega⟩

/-- A head's row of one batch, at a position. -/
def rowAt (x : S16384x512.Idx → EReal) (b n : Fin 4) (p : ℕ) (l : Fin 128) : ℝ :=
  (x (ix2 ⟨4096 * b.val + p % 4096, by omega⟩ (hl n l))).toReal

/-- One branch's attention for one head and query. -/
def branch (x0 x1 x2 : S16384x512.Idx → EReal) (b n : Fin 4) (t : ℕ) (c : Fin 2) (e : Fin 128) : ℝ :=
  att (zOf (rowAt x0 b n t) (rowAt x1 b n) (slope n.val) t c) (fun p => rowAt x2 b n p e)

/-- The difference of the branches. -/
def mix (x0 x1 x2 : S16384x512.Idx → EReal) (x3 : S4x64.Idx → EReal) (b n : Fin 4) (t : ℕ) (e : Fin 128) : EReal :=
  ((branch x0 x1 x2 b n t 0 e : ℝ) : EReal) - lamOf (fun a j => x3 (ix2 a j)) * ((branch x0 x1 x2 b n t 1 e : ℝ) : EReal)

/-- The result array as a function of the arguments. -/
def G (x0 x1 x2 : S16384x512.Idx → EReal) (x3 : S4x64.Idx → EReal) (x4 : S1x128.Idx → EReal) (R : Fin 16384) (C : Fin 512) : EReal :=
  outRow (mix x0 x1 x2 x3 ⟨R.val / 4096, by omega⟩ ⟨C.val / 128, by omega⟩ (R.val % 4096)) (fun j => x4 (ix2 0 j)) ⟨C.val % 128, Nat.mod_lt _ (by norm_num)⟩

theorem coords_facts : ∀ t : Fin cfg0.N, (grid0.coords t 1).val = t.val / 8 % 2 ∧ (grid0.coords t 2).val = t.val % 8 :=
  (by decide +kernel : ∀ t : Fin grid0.N, (grid0.coords t 1).val = t.val / 8 % 2 ∧ (grid0.coords t 2).val = t.val % 8)

theorem idx_facts : ∀ t : Fin cfg0.N,
    (win0_0.index t 0 = 8 * (t.val / 16) + t.val % 8 ∧ win0_0.index t 1 = t.val / 8 % 2)
    ∧ (win0_1.index t 0 = t.val / 16 ∧ win0_1.index t 1 = t.val / 8 % 2)
    ∧ (win0_2.index t 0 = t.val / 16 ∧ win0_2.index t 1 = t.val / 8 % 2)
    ∧ (win0_3.index t 0 = 0 ∧ win0_3.index t 1 = 0)
    ∧ (win0_4.index t 0 = 0 ∧ win0_4.index t 1 = 0)
    ∧ (win0_5.index t 0 = 8 * (t.val / 16) + t.val % 8 ∧ win0_5.index t 1 = t.val / 8 % 2) :=
  (by decide +kernel : ∀ t : Fin grid0.N, _)

theorem N_eq (t : Fin cfg0.N) : t.val < 64 := t.isLt

/-- The array row of a query block's row, of a key block's row, and the array column of a block's column. -/
abbrev qrow (t : Fin cfg0.N) (r : Fin 512) : Fin 16384 := ⟨(8 * (t.val / 16) + t.val % 8) * 512 + r.val, by have := N_eq t; omega⟩
abbrev krow (t : Fin cfg0.N) (p : Fin 4096) : Fin 16384 := ⟨t.val / 16 * 4096 + p.val, by have := N_eq t; omega⟩
abbrev acol (t : Fin cfg0.N) (l : Fin 256) : Fin 512 := ⟨t.val / 8 % 2 * 256 + l.val, by omega⟩

variable (m : (ℓ : Loc nD τ sig) → Buf (Elt Ideal) ℓ)

theorem iblk0_apply (c : Dev nD) (t : Fin cfg0.N) (r : Fin 512) (l : Fin 256) :
    (iblk m c 0 t : Vec Ideal S512x256 .bf16) (ix2 r l) = m ((c : Thread nD τ).loc main_arg0) (ix2 (qrow t r) (acol t l)) := by
  unfold iblk
  rw [View.read_apply]
  have hf := idx_facts t
  show V m c main_arg0 _ = _
  rw [V_main_arg0]
  refine congrArg _ ?_
  funext a; apply Fin.ext
  match a with
  | ⟨0, _⟩ => show win0_0.index t 0 * 512 + 1 * r.val = _; rw [hf.1.1, Nat.one_mul]
  | ⟨1, _⟩ => show win0_0.index t 1 * 256 + 1 * l.val = _; rw [hf.1.2, Nat.one_mul]

theorem iblk1_apply (c : Dev nD) (t : Fin cfg0.N) (p : Fin 4096) (l : Fin 256) :
    (iblk m c 1 t : Vec Ideal S4096x256 .f32) (ix2 p l) = m ((c : Thread nD τ).loc main_arg1) (ix2 (krow t p) (acol t l)) := by
  unfold iblk
  rw [View.read_apply]
  have hf := idx_facts t
  show V m c main_arg1 _ = _
  rw [V_main_arg1]
  refine congrArg _ ?_
  funext a; apply Fin.ext
  match a with
  | ⟨0, _⟩ => show win0_1.index t 0 * 4096 + 1 * p.val = _; rw [hf.2.1.1, Nat.one_mul]
  | ⟨1, _⟩ => show win0_1.index t 1 * 256 + 1 * l.val = _; rw [hf.2.1.2, Nat.one_mul]

theorem iblk2_apply (c : Dev nD) (t : Fin cfg0.N) (p : Fin 4096) (l : Fin 256) :
    (iblk m c 2 t : Vec Ideal S4096x256 .f32) (ix2 p l) = m ((c : Thread nD τ).loc main_arg2) (ix2 (krow t p) (acol t l)) := by
  unfold iblk
  rw [View.read_apply]
  have hf := idx_facts t
  show V m c main_arg2 _ = _
  rw [V_main_arg2]
  refine congrArg _ ?_
  funext a; apply Fin.ext
  match a with
  | ⟨0, _⟩ => show win0_2.index t 0 * 4096 + 1 * p.val = _; rw [hf.2.2.1.1, Nat.one_mul]
  | ⟨1, _⟩ => show win0_2.index t 1 * 256 + 1 * l.val = _; rw [hf.2.2.1.2, Nat.one_mul]

theorem iblk3_apply (c : Dev nD) (t : Fin cfg0.N) (a : Fin 4) (j : Fin 64) :
    (iblk m c 3 t : Vec Ideal S4x64 .f32) (ix2 a j) = m ((c : Thread nD τ).loc main_arg3) (ix2 a j) := by
  unfold iblk
  rw [View.read_apply]
  have hf := idx_facts t
  show V m c main_arg3 _ = _
  rw [V_main_arg3]
  refine congrArg _ ?_
  funext x; apply Fin.ext
  match x with
  | ⟨0, _⟩ => show win0_3.index t 0 * 4 + 1 * a.val = a.val; rw [hf.2.2.2.1.1]; omega
  | ⟨1, _⟩ => show win0_3.index t 1 * 64 + 1 * j.val = j.val; rw [hf.2.2.2.1.2]; omega

theorem iblk4_apply (c : Dev nD) (t : Fin cfg0.N) (j : Fin 128) :
    (iblk m c 4 t : Vec Ideal S1x128 .f32) (ix2 0 j) = m ((c : Thread nD τ).loc main_arg4) (ix2 0 j) := by
  unfold iblk
  rw [View.read_apply]
  have hf := idx_facts t
  show V m c main_arg4 _ = _
  rw [V_main_arg4]
  refine congrArg _ ?_
  funext x; apply Fin.ext
  match x with
  | ⟨0, _⟩ => show win0_4.index t 0 * 1 + 1 * 0 = 0; rw [hf.2.2.2.2.1.1]
  | ⟨1, _⟩ => show win0_4.index t 1 * 128 + 1 * j.val = j.val; rw [hf.2.2.2.2.1.2]; omega

/-- The arguments' result array. -/
abbrev Gm (c : Dev nD) : S16384x512.Idx → EReal := fun i =>
  G (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

theorem rowAt_eq (x : S16384x512.Idx → EReal) (b n : Fin 4) (p : ℕ) (l : Fin 128) (R : Fin 16384) (C : Fin 512)
    (hR : R.val = 4096 * b.val + p % 4096) (hC : C.val = 128 * n.val + l.val) : rowAt x b n p l = (x (ix2 R C)).toReal := by
  unfold rowAt
  rw [show (⟨4096 * b.val + p % 4096, by omega⟩ : Fin 16384) = R from Fin.ext hR.symm, show hl n l = C from Fin.ext hC.symm]

/-- What a point leaves in the output block is the block of the result array. -/
theorem outAt_apply (c : Dev nD) (h0 : AllReal (m ((c : Thread nD τ).loc main_arg0))) (h1 : AllReal (m ((c : Thread nD τ).loc main_arg1))) (h2 : AllReal (m ((c : Thread nD τ).loc main_arg2)))
    (t : Fin cfg0.N) (r : Fin 512) (l : Fin 256) : outAt m c t (ix2 r l) = Gm m c (ix2 (qrow t r) (acol t l)) := by
  have hN := N_eq t
  have hc := coords_facts t
  have hh : halfOf (ix2 r l : S512x256.Idx) = ⟨l.val / 128, by omega⟩ := rfl
  have hi : inHalf (ix2 r l : S512x256.Idx) = ix2 r ⟨l.val % 128, Nat.mod_lt _ (by norm_num)⟩ := by
    funext a
    match a with
    | ⟨0, _⟩ => rfl
    | ⟨1, _⟩ => rfl
  unfold outAt join
  rw [hh, hi]
  rw [headOut_apply (grid0.coords t) ⟨t.val / 8 % 2, by omega⟩ hc.1 ⟨t.val % 8, by omega⟩ hc.2 (iblk m c 0 t) (iblk m c 1 t) (iblk m c 2 t) (iblk m c 3 t) (iblk m c 4 t)
    (fun r l => (m ((c : Thread nD τ).loc main_arg0) (ix2 (qrow t r) (acol t l))).toReal)
    (fun p l => (m ((c : Thread nD τ).loc main_arg1) (ix2 (krow t ⟨p % 4096, Nat.mod_lt _ (by norm_num)⟩) (acol t l))).toReal)
    (fun p l => (m ((c : Thread nD τ).loc main_arg2) (ix2 (krow t ⟨p % 4096, Nat.mod_lt _ (by norm_num)⟩) (acol t l))).toReal)
    (fun r l => (iblk0_apply m c t r l).trans (h0.coe _))
    (fun p l => by
      have e : (⟨p.val % 4096, Nat.mod_lt _ (by norm_num)⟩ : Fin 4096) = p := Fin.ext (Nat.mod_eq_of_lt p.isLt)
      rw [e]; exact (iblk1_apply m c t p l).trans (h1.coe _))
    (fun p l => by
      have e : (⟨p.val % 4096, Nat.mod_lt _ (by norm_num)⟩ : Fin 4096) = p := Fin.ext (Nat.mod_eq_of_lt p.isLt)
      rw [e]; exact (iblk2_apply m c t p l).trans (h2.coe _))]
  show outRow _ _ _ = outRow _ _ _
  have eb : (⟨(qrow t r).val / 4096, by omega⟩ : Fin 4) = ⟨t.val / 16, by omega⟩ := Fin.ext (by show ((8 * (t.val / 16) + t.val % 8) * 512 + r.val) / 4096 = t.val / 16; omega)
  have en : (⟨(acol t l).val / 128, by omega⟩ : Fin 4) = ⟨2 * (t.val / 8 % 2) + l.val / 128, by omega⟩ := Fin.ext (by show (t.val / 8 % 2 * 256 + l.val) / 128 = 2 * (t.val / 8 % 2) + l.val / 128; omega)
  have et : (qrow t r).val % 4096 = 512 * (t.val % 8) + r.val := by show ((8 * (t.val / 16) + t.val % 8) * 512 + r.val) % 4096 = _; omega
  have ee : (⟨(acol t l).val % 128, Nat.mod_lt _ (by norm_num)⟩ : Fin 128) = ⟨l.val % 128, Nat.mod_lt _ (by norm_num)⟩ := Fin.ext (by show (t.val / 8 % 2 * 256 + l.val) % 128 = l.val % 128; omega)
  have eg : (fun j => (iblk m c 4 t : Vec Ideal S1x128 .f32) (ix2 0 j)) = fun j => m ((c : Thread nD τ).loc main_arg4) (ix2 0 j) := funext fun j => iblk4_apply m c t j
  have el : (fun a j => (iblk m c 3 t : Vec Ideal S4x64 .f32) (ix2 a j)) = fun a j => m ((c : Thread nD τ).loc main_arg3) (ix2 a j) := funext fun a => funext fun j => iblk3_apply m c t a j
  rw [eg, el]
  show _ = outRow (mix _ _ _ _ ⟨(qrow t r).val / 4096, _⟩ ⟨(acol t l).val / 128, _⟩ ((qrow t r).val % 4096)) _ ⟨(acol t l).val % 128, _⟩
  rw [eb, en, et, ee]
  have key : ∀ (b : Fin 2) (e : Fin 128), att (zOf (fun l' => (m ((c : Thread nD τ).loc main_arg0) (ix2 (qrow t r) (acol t (ln ⟨l.val / 128, by omega⟩ l')))).toReal)
        (fun p l' => (m ((c : Thread nD τ).loc main_arg1) (ix2 (krow t ⟨p % 4096, Nat.mod_lt _ (by norm_num)⟩) (acol t (ln ⟨l.val / 128, by omega⟩ l')))).toReal)
        (slope (2 * (t.val / 8 % 2) + l.val / 128)) (512 * (t.val % 8) + r.val) b)
        (fun p => (m ((c : Thread nD τ).loc main_arg2) (ix2 (krow t ⟨p % 4096, Nat.mod_lt _ (by norm_num)⟩) (acol t (ln ⟨l.val / 128, by omega⟩ e)))).toReal)
      = branch (m ((c : Thread nD τ).loc main_arg0)) (m ((c : Thread nD τ).loc main_arg1)) (m ((c : Thread nD τ).loc main_arg2)) ⟨t.val / 16, by omega⟩ ⟨2 * (t.val / 8 % 2) + l.val / 128, by omega⟩ (512 * (t.val % 8) + r.val) b e := by
    intro b e
    unfold branch
    have hq : (fun l' => (m ((c : Thread nD τ).loc main_arg0) (ix2 (qrow t r) (acol t (ln ⟨l.val / 128, by omega⟩ l')))).toReal)
        = rowAt (m ((c : Thread nD τ).loc main_arg0)) ⟨t.val / 16, by omega⟩ ⟨2 * (t.val / 8 % 2) + l.val / 128, by omega⟩ (512 * (t.val % 8) + r.val) := funext fun l' =>
      (rowAt_eq _ _ _ _ _ _ _ (by show (8 * (t.val / 16) + t.val % 8) * 512 + r.val = 4096 * (t.val / 16) + (512 * (t.val % 8) + r.val) % 4096; omega)
        (by show t.val / 8 % 2 * 256 + (128 * (l.val / 128) + l'.val) = 128 * (2 * (t.val / 8 % 2) + l.val / 128) + l'.val; omega)).symm
    have hk : ∀ x : S16384x512.Idx → EReal, (fun (p : ℕ) l' => (x (ix2 (krow t ⟨p % 4096, Nat.mod_lt _ (by norm_num)⟩) (acol t (ln ⟨l.val / 128, by omega⟩ l')))).toReal)
        = rowAt x ⟨t.val / 16, by omega⟩ ⟨2 * (t.val / 8 % 2) + l.val / 128, by omega⟩ := fun x => funext fun p => funext fun l' =>
      (rowAt_eq _ _ _ _ _ _ _ (by show t.val / 16 * 4096 + p % 4096 = 4096 * (t.val / 16) + p % 4096; omega)
        (by show t.val / 8 % 2 * 256 + (128 * (l.val / 128) + l'.val) = 128 * (2 * (t.val / 8 % 2) + l.val / 128) + l'.val; omega)).symm
    rw [hq, hk]
    exact congrArg _ (funext fun p => congrFun (congrFun (hk _) p) e)
  congr 1
  funext e
  unfold mix
  rw [← key 0 e, ← key 1 e]

theorem flushed_eq (c : Dev nD) (h0 : AllReal (m ((c : Thread nD τ).loc main_arg0))) (h1 : AllReal (m ((c : Thread nD τ).loc main_arg1))) (h2 : AllReal (m ((c : Thread nD τ).loc main_arg2))) (t : Fin cfg0.N) :
    (dats m 0 c).flushed 5 t = ((cfg0.win 5).blk t).view.read (Elt Ideal) (Gm m c) := by
  have e : (dats m 0 c).flushed 5 t = (cfg0.win 5).cut (grid0.coords t) (outAt m c t) := by
    show (cfg0.win 5).cut (grid0.coords t) ((dats m 0 c).after 5 t) = _
    rw [after5]
  rw [e]
  show (outAt m c t : S512x256.Idx → EReal) = _
  funext j
  obtain ⟨r, k, rfl⟩ : ∃ (r : Fin 512) (k : Fin 256), j = ix2 r k := ⟨j 0, j 1, eq_ix2 j⟩
  rw [outAt_apply m c h0 h1 h2, View.read_apply]
  have hf := idx_facts t
  have hi : ((cfg0.win 5).blk t).view.emb (ix2 r k) = ix2 (qrow t r) (acol t k) := by
    funext a; apply Fin.ext
    match a with
    | ⟨0, _⟩ => show win0_5.index t 0 * 512 + 1 * r.val = _; rw [hf.2.2.2.2.2.1, Nat.one_mul]
    | ⟨1, _⟩ => show win0_5.index t 1 * 256 + 1 * k.val = _; rw [hf.2.2.2.2.2.2, Nat.one_mul]
  show _ = Gm m c (((cfg0.win 5).blk t).view.emb (ix2 r k))
  rw [hi]

theorem cover (i : S16384x512.Idx) : ∃ t : Fin cfg0.N, (cfg0.win 5).flush t = true ∧ i ∈ ((cfg0.win 5).blk t).view.set := by
  have h0 : (i 0).val < 16384 := (i 0).isLt
  have h1 : (i 1).val < 512 := (i 1).isLt
  let t : Fin cfg0.N := ⟨16 * ((i 0).val / 4096) + 8 * ((i 1).val / 256) + (i 0).val / 512 % 8, by show _ < 64; omega⟩
  refine ⟨t, flush0_5 t, ?_⟩
  show i ∈ ((View.whole main_v0).slice (win0_5.rect t)).set
  rw [View.set_slice_whole, Rect.mem_set_unit]
  have hf := idx_facts t
  have ht : t.val = 16 * ((i 0).val / 4096) + 8 * ((i 1).val / 256) + (i 0).val / 512 % 8 := rfl
  intro a
  match a with
  | ⟨0, _⟩ =>
    show win0_5.index t 0 * 512 ≤ (i 0).val ∧ (i 0).val < win0_5.index t 0 * 512 + 512
    rw [hf.2.2.2.2.2.1, ht]
    omega
  | ⟨1, _⟩ =>
    show win0_5.index t 1 * 256 ≤ (i 1).val ∧ (i 1).val < win0_5.index t 1 * 256 + 256
    rw [hf.2.2.2.2.2.2, ht]
    omega

theorem array_eq (c : Dev nD) (h0 : AllReal (m ((c : Thread nD τ).loc main_arg0))) (h1 : AllReal (m ((c : Thread nD τ).loc main_arg1))) (h2 : AllReal (m ((c : Thread nD τ).loc main_arg2))) :
    (dats m 0 c).arrAt 5 cfg0.N = Gm m c :=
  (dats m 0 c).arrAt_eq_of_cover 5 (Gm m c) (fun t _ => flushed_eq m c h0 h1 h2 t) cover

end Cert.KernelIdeal.Attn

end
-- ==== Proof.AttnScore.lean ====
/- The attention reference's masked scores and their row maximum, read at an entry. -/
module

public import proofs.«01_k».proof.Proof.Gen.ReferenceIdeal.Read
public import proofs.«01_k».proof.Proof.AttnArray

@[expose] public section

noncomputable section

namespace Cert.ReferenceIdeal.Attn

open Cert.ReferenceIdeal Cert.ReferenceIdeal.Gen Cert.ReferenceIdeal.Read Cert.AttnMath Idealize.ShloMosaic Idealize.ShloMosaic.ValueIdx
open Cert.KernelIdeal.Attn (AllReal AllReal.coe hl rowAt rowAt_eq branch mix G zOf zOf_ne_top zOf_zero lamOf outRow laneOf bits_bot)
open scoped BigOperators

theorem eq2 {a b : ℕ} {i j : (⟨2, ![a, b]⟩ : Shape).Idx} (h0 : (i 0).val = (j 0).val) (h1 : (i 1).val = (j 1).val) : i = j := by
  funext d; apply Fin.ext
  match d with
  | ⟨0, _⟩ => exact h0
  | ⟨1, _⟩ => exact h1

theorem eq3 {a b c : ℕ} {i j : (⟨3, ![a, b, c]⟩ : Shape).Idx} (h0 : (i 0).val = (j 0).val) (h1 : (i 1).val = (j 1).val)
    (h2 : (i 2).val = (j 2).val) : i = j := by
  funext d; apply Fin.ext
  match d with
  | ⟨0, _⟩ => exact h0
  | ⟨1, _⟩ => exact h1
  | ⟨2, _⟩ => exact h2

theorem eq4 {a b c e : ℕ} {i j : (⟨4, ![a, b, c, e]⟩ : Shape).Idx} (h0 : (i 0).val = (j 0).val) (h1 : (i 1).val = (j 1).val)
    (h2 : (i 2).val = (j 2).val) (h3 : (i 3).val = (j 3).val) : i = j := by
  funext d; apply Fin.ext
  match d with
  | ⟨0, _⟩ => exact h0
  | ⟨1, _⟩ => exact h1
  | ⟨2, _⟩ => exact h2
  | ⟨3, _⟩ => exact h3

theorem eq5 {a b c e f : ℕ} {i j : (⟨5, ![a, b, c, e, f]⟩ : Shape).Idx} (h0 : (i 0).val = (j 0).val) (h1 : (i 1).val = (j 1).val)
    (h2 : (i 2).val = (j 2).val) (h3 : (i 3).val = (j 3).val) (h4 : (i 4).val = (j 4).val) : i = j := by
  funext d; apply Fin.ext
  match d with
  | ⟨0, _⟩ => exact h0
  | ⟨1, _⟩ => exact h1
  | ⟨2, _⟩ => exact h2
  | ⟨3, _⟩ => exact h3
  | ⟨4, _⟩ => exact h4

theorem foldl_max_ge {ι : Type} (f : ι → EReal) (l : List ι) (a : EReal) : a ≤ l.foldl (fun r n => max r (f n)) a := by
  induction l generalizing a with
  | nil => exact le_rfl
  | cons x l ih => exact le_trans (le_max_left _ _) (ih _)

theorem foldl_max_mem {ι : Type} (f : ι → EReal) (l : List ι) (a : EReal) (x : ι) (hx : x ∈ l) : f x ≤ l.foldl (fun r n => max r (f n)) a := by
  induction l generalizing a with
  | nil => simp at hx
  | cons y l ih =>
    rcases List.mem_cons.1 hx with rfl | h
    · exact le_trans (le_max_right _ _) (foldl_max_ge f l _)
    · exact ih _ h

theorem foldl_max_lt {ι : Type} (f : ι → EReal) (l : List ι) (a : EReal) (ha : a < ⊤) (hf : ∀ x, f x < ⊤) : l.foldl (fun r n => max r (f n)) a < ⊤ := by
  induction l generalizing a with
  | nil => exact ha
  | cons y l ih => exact ih _ (max_lt ha (hf y))

/-- The maximum of entries below infinity, one of them real, is real. -/
theorem reduce_max_real {s t u : Shape} {axes : List (Fin s.rank)} (x : FVec Ideal s .f32) (init : FVec Ideal u .f32) (h : s.ReducesTo axes t) (hu : 0 < u.numel) (j : t.Idx)
    (hi : (init (Shape.Idx.first hu) : EReal) < ⊤) (hx : ∀ i, (x i : EReal) ≠ ⊤) (i : s.Idx) (hd : h.drop i = j) (hb : (x i : EReal) ≠ ⊥) :
    ∃ M : ℝ, (Host.reduce (α := Ideal .f32) (FloatOps.maximumf (F := Ideal) (φ := .f32)) x init h hu j : EReal) = (M : EReal) := by
  have e : (Host.reduce (α := Ideal .f32) (FloatOps.maximumf (F := Ideal) (φ := .f32)) x init h hu j : EReal)
      = ((List.finRange s.numel).filter fun n => h.drop (s.rowMajor.symm n) = j).foldl (fun (r : EReal) n => max r (x (s.rowMajor.symm n) : EReal)) (init (Shape.Idx.first hu)) := rfl
  rw [e]
  have hlt := foldl_max_lt (fun n => (x (s.rowMajor.symm n) : EReal)) ((List.finRange s.numel).filter fun n => h.drop (s.rowMajor.symm n) = j) (init (Shape.Idx.first hu)) hi (fun n => lt_top_iff_ne_top.2 (hx _))
  have hge := foldl_max_mem (fun n => (x (s.rowMajor.symm n) : EReal)) ((List.finRange s.numel).filter fun n => h.drop (s.rowMajor.symm n) = j) (init (Shape.Idx.first hu)) (s.rowMajor i)
    (by rw [List.mem_filter]; exact ⟨List.mem_finRange _, by rw [Equiv.symm_apply_apply]; exact decide_eq_true hd⟩)
  simp only [Equiv.symm_apply_apply] at hge
  refine ⟨_, (EReal.coe_toReal hlt.ne ?_).symm⟩
  intro h0
  rw [h0] at hge
  exact hb (le_bot_iff.1 hge)

theorem bits_one : (FloatOps.ofBits (F := Ideal) .f32 0x3F800000#32 : EReal) = ((1 : ℝ) : EReal) := by
  show Ideal.ofBits .f32 0x3F800000#32 = _
  simp [Ideal.ofBits, Ideal.ieee, -EReal.coe_mul]; norm_num
theorem bits_two : (FloatOps.ofBits (F := Ideal) .f32 0x40000000#32 : EReal) = ((2 : ℝ) : EReal) := by
  show Ideal.ofBits .f32 0x40000000#32 = _
  simp [Ideal.ofBits, Ideal.ieee, -EReal.coe_mul]; norm_num
theorem bits_four : (FloatOps.ofBits (F := Ideal) .f32 0x40800000#32 : EReal) = ((4 : ℝ) : EReal) := by
  show Ideal.ofBits .f32 0x40800000#32 = _
  simp [Ideal.ofBits, Ideal.ieee, -EReal.coe_mul]; norm_num
theorem bits_neg_eight : (FloatOps.ofBits (F := Ideal) .f32 0xC1000000#32 : EReal) = ((-8 : ℝ) : EReal) := by
  show Ideal.ofBits .f32 0xC1000000#32 = _
  simp [Ideal.ofBits, Ideal.ieee, -EReal.coe_mul]; norm_num

theorem nat_word (n : ℕ) (h : n < 4096) : (BitVec.ofNat 32 n).toInt = (n : ℤ) := by
  rw [BitVec.toInt_eq_toNat_cond, BitVec.toNat_ofNat]; norm_num; omega

/-- A head's slope. -/
theorem v35_eq (n : Fin 4) : val_main_v35 (F := Ideal) (ix1 n) = ((Cert.KernelIdeal.Attn.slope n.val : ℝ) : EReal) := by
  rw [val_main_v35_apply, val_main_v34_apply, val_main_cst_5_apply, val_main_v33_apply, val_main_v32_apply, val_main_cst_4_apply, val_main_v31_apply,
    val_main_v30_apply, val_main_cst_3_apply, val_main_v29_apply, val_main_v28_apply, val_main_cst_2_apply, bits_one, bits_two, bits_four, bits_neg_eight]
  have e : val_main_v27 (F := Ideal) (ix1 n) = (((n.val : ℤ) : ℝ) : EReal) := by
    show ((((BitVec.ofNat 32 n.val).toInt : ℤ) : ℝ) : EReal) = _
    rw [nat_word n.val (by omega)]
  rw [e]
  show Ideal.pow ((2 : ℝ) : EReal) (Ideal.div (((-8 : ℝ) : EReal) * (((1 : ℝ) : EReal) + (((n.val : ℤ) : ℝ) : EReal))) ((4 : ℝ) : EReal)) = _
  rw [← EReal.coe_add, ← EReal.coe_mul, div_real _ (by norm_num : (4 : ℝ) ≠ 0)]
  show ((Real.rpow 2 (-8 * (1 + ((n.val : ℤ) : ℝ)) / 4) : ℝ) : EReal) = _
  unfold Cert.KernelIdeal.Attn.slope
  congr 2
  push_cast
  ring

/-- The distance from a key to a query, as a word. -/
theorem v26_int (t p : Fin 4096) : (val_main_v26 (F := Ideal) (ix2 t p)).toInt = (t.val : ℤ) - (p.val : ℤ) := by
  rw [val_main_v26_apply, val_main_v24_apply, val_main_v25_apply, val_main_v22_apply, val_main_v23_apply, val_main_v20_apply, val_main_v20_apply]
  show (BitVec.ofNat 32 t.val - BitVec.ofNat 32 p.val).toInt = _
  rw [BitVec.toInt_sub, nat_word _ t.isLt, nat_word _ p.isLt]
  have := t.isLt; have := p.isLt
  rw [Int.bmod_eq_of_le] <;> omega

theorem v44_eq (t p : Fin 4096) : val_main_v44 (F := Ideal) (ix2 t p) = if p.val ≤ t.val then 1#1 else 0#1 := by
  rw [val_main_v44_apply, val_main_v43_apply, val_main_c_apply]
  show BitVec.ofBool (BitVec.sle 0#32 (val_main_v26 (F := Ideal) (ix2 t p))) = _
  unfold BitVec.sle
  rw [v26_int]
  by_cases h : p.val ≤ t.val
  · rw [if_pos h, decide_eq_true (by simpa using h)]; rfl
  · rw [if_neg h, decide_eq_false (by simpa using h)]; rfl

theorem v42_eq (n : Fin 4) (t p : Fin 4096) : val_main_v42 (F := Ideal) (ix3 n t p) = ((-Cert.KernelIdeal.Attn.slope n.val * ((t.val : ℝ) - (p.val : ℝ)) : ℝ) : EReal) := by
  rw [val_main_v42_apply, val_main_v40_apply, val_main_v37_apply, val_main_v36_apply, val_main_v41_apply, val_main_v39_apply, val_main_v38_apply]
  rw [show idx_main_v36 (idx_main_v40 (ix3 n t p)) = ix1 n from funext fun a => by
    match a with
    | ⟨0, _⟩ => rfl]
  rw [show idx_main_v39 (idx_main_v41 (ix3 n t p)) = ix2 t p from eq2 rfl rfl, v35_eq]
  show -((Cert.KernelIdeal.Attn.slope n.val : ℝ) : EReal) * ((((val_main_v26 (F := Ideal) (ix2 t p)).toInt : ℤ) : ℝ) : EReal) = _
  rw [v26_int, ← EReal.coe_neg, ← EReal.coe_mul]
  congr 1
  push_cast
  ring

variable (x0 x1 x2 : S16384x512.Idx → EReal)

theorem row_read (x : S16384x512.Idx → EReal) (h : AllReal x) (b n : Fin 4) (p : ℕ) (l : Fin 128) (i : S16384x512.Idx)
    (hR : (i 0).val = 4096 * b.val + p % 4096) (hC : (i 1).val = 128 * n.val + l.val) : x i = ((rowAt x b n p l : ℝ) : EReal) := by
  rw [h.coe, rowAt_eq x b n p l (i 0) (i 1) hR hC]
  exact congrArg (fun j => (((x j).toReal : ℝ) : EReal)) (eq_ix2 i)

theorem v1_eq (h0 : AllReal x0) (b n : Fin 4) (t : Fin 4096) (c : Fin 2) (d : Fin 64) :
    val_main_v1 (F := Ideal) x0 (ix5 b t n c d) = ((rowAt x0 b n t.val (laneOf c d) : ℝ) : EReal) := by
  rw [val_main_v1_apply, val_main_v0_apply]
  have ht := t.isLt
  exact row_read x0 h0 b n t.val (laneOf c d) _ (by show ((((b.val * 4096 + t.val) * 4 + n.val) * 2 + c.val) * 64 + d.val) / 512 = 4096 * b.val + t.val % 4096; omega)
    (by show ((((b.val * 4096 + t.val) * 4 + n.val) * 2 + c.val) * 64 + d.val) % 512 = 128 * n.val + (64 * c.val + d.val); omega)

theorem v2_eq (h1 : AllReal x1) (b n : Fin 4) (t : Fin 4096) (c : Fin 2) (d : Fin 64) :
    val_main_v2 (F := Ideal) x1 (ix5 b t n c d) = ((rowAt x1 b n t.val (laneOf c d) : ℝ) : EReal) := by
  rw [val_main_v2_apply]
  have ht := t.isLt
  exact row_read x1 h1 b n t.val (laneOf c d) _ (by show ((((b.val * 4096 + t.val) * 4 + n.val) * 2 + c.val) * 64 + d.val) / 512 = 4096 * b.val + t.val % 4096; omega)
    (by show ((((b.val * 4096 + t.val) * 4 + n.val) * 2 + c.val) * 64 + d.val) % 512 = 128 * n.val + (64 * c.val + d.val); omega)

theorem v3_eq (h2 : AllReal x2) (b n : Fin 4) (t : Fin 4096) (e : Fin 128) :
    val_main_v3 (F := Ideal) x2 (ix4 b t n e) = ((rowAt x2 b n t.val e : ℝ) : EReal) := by
  rw [val_main_v3_apply]
  have ht := t.isLt
  exact row_read x2 h2 b n t.val e _ (by show (((b.val * 4096 + t.val) * 4 + n.val) * 128 + e.val) / 512 = 4096 * b.val + t.val % 4096; omega)
    (by show (((b.val * 4096 + t.val) * 4 + n.val) * 128 + e.val) % 512 = 128 * n.val + e.val; omega)

/-- A masked score. -/
abbrev sc (b n : Fin 4) (t : Fin 4096) (c : Fin 2) : ℕ → EReal := zOf (rowAt x0 b n t.val) (rowAt x1 b n) (Cert.KernelIdeal.Attn.slope n.val) t.val c

theorem v48_eq (h0 : AllReal x0) (h1 : AllReal x1) (b n : Fin 4) (c : Fin 2) (t p : Fin 4096) :
    val_main_v48 (F := Ideal) x0 x1 (ix5 b n c t p) = sc x0 x1 b n t c p.val := by
  rw [val_main_v48_apply, val_main_call0_v1_apply, val_main_call0_v2_apply, val_main_call0_v0_apply, val_main_cst_6_apply, bits_bot, val_main_v47_apply,
    val_main_v46_apply, val_main_v45_apply]
  rw [show idx_main_call0_v1 (ix5 b n c t p) = ix2 t p from eq2 rfl rfl, v44_eq,
    show idx_main_v45 (idx_main_v46 (ix5 b n c t p)) = ix3 n t p from eq3 rfl rfl rfl, v42_eq]
  have e : val_main_v21 (F := Ideal) x0 x1 (ix5 b n c t p) = ((∑ d : Fin 64, rowAt x0 b n t.val (laneOf c d) * rowAt x1 b n p.val (laneOf c d) : ℝ) : EReal) := by
    rw [val_main_v21_apply, coe_sum]
    refine Finset.sum_congr rfl fun d _ => ?_
    rw [show lidx_main_v21 (ix5 b n c t p) d = ix5 b t n c d from eq5 rfl rfl rfl rfl rfl, show ridx_main_v21 (ix5 b n c t p) d = ix5 b p n c d from eq5 rfl rfl rfl rfl rfl,
      v1_eq x0 h0, v2_eq x1 h1, EReal.coe_mul]
  rw [e]
  unfold sc zOf
  by_cases h : p.val ≤ t.val
  · rw [if_pos h, if_pos h]
    show (((∑ d : Fin 64, rowAt x0 b n t.val (laneOf c d) * rowAt x1 b n p.val (laneOf c d) : ℝ) : EReal)) + _ = _
    rw [← EReal.coe_add]
  · rw [if_neg h, if_neg h]
    rfl

/-- A row's maximum is real. -/
theorem v51_real (h0 : AllReal x0) (h1 : AllReal x1) (b n : Fin 4) (c : Fin 2) (t : Fin 4096) :
    ∃ M : ℝ, val_main_v51 (F := Ideal) x0 x1 (ix4 b n c t) = (M : EReal) := by
  have hx : ∀ i, (val_main_v48 (F := Ideal) x0 x1 i : EReal) ≠ ⊤ := fun i => by
    obtain ⟨b', n', c', t', p', rfl⟩ : ∃ (b' n' : Fin 4) (c' : Fin 2) (t' p' : Fin 4096), i = ix5 b' n' c' t' p' := ⟨i 0, i 1, i 2, i 3, i 4, eq5 rfl rfl rfl rfl rfl⟩
    rw [v48_eq x0 x1 h0 h1]
    exact zOf_ne_top _ _ _ _ _ _
  have hb : (val_main_v48 (F := Ideal) x0 x1 (ix5 b n c t 0) : EReal) ≠ ⊥ := by
    rw [v48_eq x0 x1 h0 h1]
    exact zOf_zero _ _ _ _ _
  obtain ⟨M, hM⟩ := reduce_max_real (val_main_v48 (F := Ideal) x0 x1) (val_main_cst_7 (F := Ideal)) reducesTo_S4x4x2x4096x4096_S4x4x2x4096_d4 h_S_ (ix4 b n c t)
    (by rw [val_main_cst_7_apply, bits_bot]; exact bot_lt_top) hx (ix5 b n c t 0) (eq4 rfl rfl rfl rfl) hb
  refine ⟨M, ?_⟩
  rw [val_main_v51_apply, val_main_v50_apply, val_main_cst_8_apply, bits_bot]
  show max (⊥ : EReal) (val_main_v49 (F := Ideal) x0 x1 (ix4 b n c t)) = _
  rw [bot_sup_eq]
  exact hM

end Cert.ReferenceIdeal.Attn

end
-- ==== Proof.AttnRef.lean ====
/- The attention reference's result: every entry is the normalised difference of the two branches' attention. -/
module

public import proofs.«01_k».proof.Proof.AttnScore
public import Idealize.ShloMosaic.Lib.ValueIdxRank1

@[expose] public section

noncomputable section

namespace Cert.ReferenceIdeal.Attn

open Cert.ReferenceIdeal Cert.ReferenceIdeal.Gen Cert.ReferenceIdeal.Read Cert.AttnMath Idealize.ShloMosaic Idealize.ShloMosaic.ValueIdx
open Cert.KernelIdeal.Attn (AllReal AllReal.coe hl rowAt rowAt_eq branch mix G zOf zOf_ne_top zOf_zero lamOf outRow laneOf bits_bot)
open scoped BigOperators

theorem bits_nil : (FloatOps.ofBits (F := Ideal) .f32 0x00000000#32 : EReal) = 0 := by
  show Ideal.ofBits .f32 0x00000000#32 = _
  simp [Ideal.ofBits, Ideal.ieee]

variable (x0 x1 x2 : S16384x512.Idx → EReal) (x3 : S4x64.Idx → EReal) (x4 : S1x128.Idx → EReal)

theorem v53_eq (b n : Fin 4) (c : Fin 2) (t p : Fin 4096) :
    val_main_v53 (F := Ideal) x0 x1 (ix5 b n c t p) = val_main_v51 (F := Ideal) x0 x1 (ix4 b n c t) := by
  rw [val_main_v53_apply, val_main_v52_apply]
  exact congrArg _ (eq4 rfl rfl rfl rfl)

/-- A row's weights, at some real maximum. -/
theorem v59_eq (h0 : AllReal x0) (h1 : AllReal x1) (b n : Fin 4) (c : Fin 2) (t : Fin 4096) :
    ∃ M : ℝ, ∀ p : Fin 4096, val_main_v59 (F := Ideal) x0 x1 (ix5 b n c t p)
      = Ideal.div (Ideal.exp (sc x0 x1 b n t c p.val - (M : EReal))) (∑ k : Fin 4096, Ideal.exp (sc x0 x1 b n t c k.val - (M : EReal))) := by
  obtain ⟨M, hM⟩ := v51_real x0 x1 h0 h1 b n c t
  have hp : ∀ p : Fin 4096, val_main_v55 (F := Ideal) x0 x1 (ix5 b n c t p) = Ideal.exp (sc x0 x1 b n t c p.val - (M : EReal)) := fun p => by
    rw [val_main_v55_apply, val_main_v54_apply, v53_eq, hM, v48_eq x0 x1 h0 h1]
    rfl
  refine ⟨M, fun p => ?_⟩
  rw [val_main_v59_apply, val_main_v58_apply, val_main_v57_apply, hp p]
  refine congrArg (Ideal.div _) ?_
  rw [show idx_main_v57 (idx_main_v58 (ix5 b n c t p)) = ix4 b n c t from eq4 rfl rfl rfl rfl, val_main_v56_apply, val_main_cst_9_apply, bits_nil, zero_add]
  refine Finset.sum_congr rfl fun k _ => ?_
  rw [show idx_main_v56 (ix4 b n c t) k = ix5 b n c t k from eq5 rfl rfl rfl rfl rfl, hp k]

theorem v61_eq (b n : Fin 4) (t p : Fin 4096) : val_main_v61 (F := Ideal) x0 x1 (ix4 b n t p) = val_main_v59 (F := Ideal) x0 x1 (ix5 b n 0 t p) := by
  rw [val_main_v61_apply, val_main_v60_apply]
  exact congrArg _ (eq5 (by show (((b.val * 4 + n.val) * 4096 + t.val) * 4096 + p.val) / 67108864 = b.val; omega)
    (by show (((b.val * 4 + n.val) * 4096 + t.val) * 4096 + p.val) / 16777216 % 4 = n.val; omega) rfl
    (by show (((b.val * 4 + n.val) * 4096 + t.val) * 4096 + p.val) / 4096 % 4096 = t.val; omega)
    (by show (((b.val * 4 + n.val) * 4096 + t.val) * 4096 + p.val) % 4096 = p.val; omega))

theorem v63_eq (b n : Fin 4) (t p : Fin 4096) : val_main_v63 (F := Ideal) x0 x1 (ix4 b n t p) = val_main_v59 (F := Ideal) x0 x1 (ix5 b n 1 t p) := by
  rw [val_main_v63_apply, val_main_v62_apply]
  exact congrArg _ (eq5 (by show (((b.val * 4 + n.val) * 4096 + t.val) * 4096 + p.val) / 67108864 = b.val; omega)
    (by show (((b.val * 4 + n.val) * 4096 + t.val) * 4096 + p.val) / 16777216 % 4 = n.val; omega) rfl
    (by show (((b.val * 4 + n.val) * 4096 + t.val) * 4096 + p.val) / 4096 % 4096 = t.val; omega)
    (by show (((b.val * 4 + n.val) * 4096 + t.val) * 4096 + p.val) % 4096 = p.val; omega))

theorem sum64 (f : S64.Idx → EReal) : ∑ j : S64.Idx, f j = ∑ k : Fin 64, f (ix1 k) :=
  (Equiv.sum_comp (idxEquiv1 (n := 64)).symm f).symm

/-- The weight of the second branch. -/
theorem v19_eq (i : S_.Idx) : val_main_v19 (F := Ideal) x3 i = lamOf (fun a j => x3 (ix2 a j)) := by
  rw [val_main_v19_apply, val_main_v18_apply, val_main_v10_apply, val_main_v17_apply, val_main_cst_1_apply, val_main_v9_apply, val_main_v16_apply,
    val_main_cst_apply, val_main_cst_0_apply, bits_nil, zero_add, zero_add, sum64, sum64]
  have ea : ∀ k : Fin 64, val_main_v8 (F := Ideal) x3 (ix1 k) = x3 (ix2 0 k) * x3 (ix2 1 k) := fun k => by
    rw [val_main_v8_apply, val_main_v5_apply, val_main_v4_apply, val_main_v7_apply, val_main_v6_apply]
    show x3 _ * x3 _ = _
    rw [show idx_main_v4 (idx_main_v5 (ix1 k)) = ix2 0 k from eq2 rfl (by show k.val % 64 = k.val; omega),
      show idx_main_v6 (idx_main_v7 (ix1 k)) = ix2 1 k from eq2 rfl (by show k.val % 64 = k.val; omega)]
  have eb : ∀ k : Fin 64, val_main_v15 (F := Ideal) x3 (ix1 k) = x3 (ix2 2 k) * x3 (ix2 3 k) := fun k => by
    rw [val_main_v15_apply, val_main_v12_apply, val_main_v11_apply, val_main_v14_apply, val_main_v13_apply]
    show x3 _ * x3 _ = _
    rw [show idx_main_v11 (idx_main_v12 (ix1 k)) = ix2 2 k from eq2 rfl (by show k.val % 64 = k.val; omega),
      show idx_main_v13 (idx_main_v14 (ix1 k)) = ix2 3 k from eq2 rfl (by show k.val % 64 = k.val; omega)]
  rw [Finset.sum_congr rfl fun k _ => ea k, Finset.sum_congr rfl fun k _ => eb k]
  rfl

theorem lam_bits : Ideal.ofBits .f32 0x3E4CCCCD#32 = ((13421773 / 67108864 : ℝ) : EReal) := by
  simp [Ideal.ofBits, Ideal.ieee, -EReal.coe_mul]; norm_num

theorem lam_real (h3 : AllReal x3) : ∃ L : ℝ, lamOf (fun a j => x3 (ix2 a j)) = (L : EReal) := by
  have hs : ∀ a a' : Fin 4, ∃ s : ℝ, (∑ j : Fin 64, x3 (ix2 a j) * x3 (ix2 a' j)) = (s : EReal) := fun a a' => by
    refine ⟨∑ j : Fin 64, (x3 (ix2 a j)).toReal * (x3 (ix2 a' j)).toReal, ?_⟩
    rw [coe_sum]
    refine Finset.sum_congr rfl fun j _ => ?_
    rw [EReal.coe_mul, ← h3.coe, ← h3.coe]
  obtain ⟨s, hs0⟩ := hs 0 1
  obtain ⟨u, hu0⟩ := hs 2 3
  refine ⟨Real.exp s - Real.exp u + 13421773 / 67108864, ?_⟩
  unfold lamOf
  rw [hs0, hu0, lam_bits, Ideal.exp_coe, Ideal.exp_coe, ← EReal.coe_sub, ← EReal.coe_add]

/-- The difference of the branches' attention. -/
theorem v68_eq (h0 : AllReal x0) (h1 : AllReal x1) (h2 : AllReal x2) (h3 : AllReal x3) (b n : Fin 4) (t : Fin 4096) (e : Fin 128) :
    val_main_v68 (F := Ideal) x0 x1 x2 x3 (ix4 b t n e) = mix x0 x1 x2 x3 b n t.val e := by
  obtain ⟨L, hL⟩ := lam_real x3 h3
  obtain ⟨M, hM⟩ := v59_eq x0 x1 h0 h1 b n 0 t
  obtain ⟨N, hN⟩ := v59_eq x0 x1 h0 h1 b n 1 t
  rw [val_main_v68_apply, show idx_main_v68 (ix4 b t n e) = ix4 b n e t from eq4 rfl rfl rfl rfl, val_main_v67_apply]
  unfold mix branch
  rw [hL, ← at_once (z := sc x0 x1 b n t 0) (w := sc x0 x1 b n t 1) (fun p => zOf_ne_top _ _ _ _ _ _) (zOf_zero _ _ _ _ _) (fun p => zOf_ne_top _ _ _ _ _ _) (zOf_zero _ _ _ _ _)
    (fun p => rowAt x2 b n p e) L M N]
  refine Finset.sum_congr rfl fun p _ => ?_
  rw [show lidx_main_v67 (ix4 b n e t) p = ix4 b p n e from eq4 rfl rfl rfl rfl, show ridx_main_v67 (ix4 b n e t) p = ix4 b n t p from eq4 rfl rfl rfl rfl,
    v3_eq x2 h2, val_main_v66_apply, val_main_v65_apply, val_main_v64_apply, v19_eq, hL, v61_eq, v63_eq, hM, hN]
  rfl

theorem outRow_of {x g : Fin 128 → EReal} {e : Fin 128} {s y w : EReal} (hx : w = x e) (hs : s = ∑ j, x j * x j) (hy : y = g e) :
    w * Ideal.rsqrt (Ideal.div s (Ideal.ofBits .f32 0x43000000#32) + Ideal.ofBits .f32 0x3727C5AC#32) * y * Ideal.ofBits .f32 0x3F4CCCCD#32 = outRow x g e := by
  rw [hx, hs, hy]; rfl

theorem v71_eq (h0 : AllReal x0) (h1 : AllReal x1) (h2 : AllReal x2) (h3 : AllReal x3) (b n : Fin 4) (t : Fin 4096) :
    val_main_v71 (F := Ideal) x0 x1 x2 x3 (ix3 b t n) = ∑ j, mix x0 x1 x2 x3 b n t.val j * mix x0 x1 x2 x3 b n t.val j := by
  rw [val_main_v71_apply, val_main_cst_10_apply, bits_nil, zero_add]
  refine Finset.sum_congr rfl fun j _ => ?_
  rw [show idx_main_v71 (ix3 b t n) j = ix4 b t n j from eq4 rfl rfl rfl rfl, val_main_v70_apply, v68_eq x0 x1 x2 x3 h0 h1 h2 h3]
  rfl

theorem v84_eq (h0 : AllReal x0) (h1 : AllReal x1) (h2 : AllReal x2) (h3 : AllReal x3) (b n : Fin 4) (t : Fin 4096) (e : Fin 128) :
    val_main_v84 (F := Ideal) x0 x1 x2 x3 x4 (ix4 b t n e) = outRow (mix x0 x1 x2 x3 b n t.val) (fun j => x4 (ix2 0 j)) e := by
  rw [val_main_v84_apply, val_main_v83_apply, val_main_v82_apply, val_main_v81_apply, val_main_v80_apply, val_main_v69_apply, val_main_v79_apply,
    val_main_v78_apply, val_main_v77_apply, val_main_v76_apply, val_main_v75_apply, val_main_v74_apply, val_main_v73_apply, val_main_v72_apply]
  rw [show idx_main_v72 (idx_main_v78 (ix4 b t n e)) = ix3 b t n from eq3 rfl rfl rfl]
  exact outRow_of (v68_eq x0 x1 x2 x3 h0 h1 h2 h3 b n t e) (v71_eq x0 x1 x2 x3 h0 h1 h2 h3 b n t) (congrArg x4 (eq2 rfl (by show e.val % 128 = e.val; omega)))

/-- The reference's result array. -/
theorem v86_eq (h0 : AllReal x0) (h1 : AllReal x1) (h2 : AllReal x2) (h3 : AllReal x3) :
    val_main_v86 (F := Ideal) x0 x1 x2 x3 x4 = fun i => G x0 x1 x2 x3 x4 (i 0) (i 1) := by
  funext i
  obtain ⟨R, C, rfl⟩ : ∃ (R : Fin 16384) (C : Fin 512), i = ix2 R C := ⟨i 0, i 1, eq_ix2 i⟩
  rw [val_main_v86_apply, val_main_v85_apply]
  rw [show idx_main_v85 (ix2 R C) = ix4 (⟨R.val / 4096, by omega⟩ : Fin 4) (⟨R.val % 4096, Nat.mod_lt _ (by norm_num)⟩ : Fin 4096) (⟨C.val / 128, by omega⟩ : Fin 4) (⟨C.val % 128, Nat.mod_lt _ (by norm_num)⟩ : Fin 128) from
    eq4 (by show (R.val * 512 + C.val) / 2097152 = R.val / 4096; omega) (by show (R.val * 512 + C.val) / 512 % 4096 = R.val % 4096; omega)
      (by show (R.val * 512 + C.val) / 128 % 4 = C.val / 128; omega) (by show (R.val * 512 + C.val) % 128 = C.val % 128; omega),
    v84_eq x0 x1 x2 x3 x4 h0 h1 h2 h3]
  rfl

end Cert.ReferenceIdeal.Attn

end
-- ==== Proof.AttnClaims.lean ====
/- The prompt attention call: its five claims. -/
module

public import proofs.«01_k».proof.Defs
public import proofs.«01_k».proof.Proof.AttnArray
public import proofs.«01_k».proof.Proof.AttnRef
public import proofs.«01_k».proof.Proof.KAttnFrame
public import proofs.«01_k».proof.Proof.Gen.Pre_finite
public import proofs.«01_k».proof.Proof.Gen.ReferenceIdeal
public import proofs.«01_k».proof.Proof.Gen.ReferenceIdeal.Run
public import Idealize.ShloMosaic.Lib.Quiescent

@[expose] public section

noncomputable section

namespace Cert.AttnClaims

open Idealize.ShloMosaic Idealize.SL.Sem Idealize.ShloMosaic.ValueIdx
open Cert.KernelIdeal.Attn (AllReal)

theorem bits_top : Ideal.ofBits .f32 0x7F800000#32 = ⊤ := by
  simp [Ideal.ofBits, Ideal.ieee]

/-- An entry whose absolute value is below infinity is real. -/
theorem real_of_lt {x : EReal} (h : BitVec.ofBool (decide (max x (-x) < Ideal.ofBits .f32 0x7F800000#32)) = 1#1) : ∃ r : ℝ, x = (r : EReal) := by
  rw [bits_top] at h
  have hlt : max x (-x) < ⊤ := by
    by_contra hn
    rw [decide_eq_false hn] at h
    exact absurd h (by decide)
  obtain ⟨h1, h2⟩ := max_lt_iff.1 hlt
  refine ⟨x.toReal, (EReal.coe_toReal h1.ne ?_).symm⟩
  rintro rfl
  exact h2.ne rfl

/-- The precondition makes the queries, keys, values and λ rows real. -/
theorem reals (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3)) := by
  obtain ⟨h0, h1, h2, h3⟩ := h c
  exact ⟨fun i => real_of_lt (congrFun h0 i), fun i => real_of_lt (congrFun h1 i), fun i => real_of_lt (congrFun h2 i), fun i => real_of_lt (congrFun h3 i)⟩

theorem frameP : Cert.quiescent_Kernel (hKernel := Cert.Kernel.Gen.facts) := fun m ρ _ => Cert.Kernel.Attn.frame_main m ρ

theorem framePI : Cert.quiescent_KernelIdeal (hKernelIdeal := Cert.KernelIdeal.Gen.facts) := fun m ρ _ => Cert.KernelIdeal.Attn.frame_main m ρ

theorem framePI' : Cert.quiescent_KernelIdeal_pre_finite (hKernelIdeal := Cert.KernelIdeal.Gen.facts) (hPre_finite := Cert.Pre_finite.Gen.facts) :=
  fun m ρ _ => Cert.KernelIdeal.Attn.frame_main m ρ

theorem frameRI : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frameRI' : Cert.quiescent_ReferenceIdeal_pre_finite (hReferenceIdeal := Cert.ReferenceIdeal.Gen.facts) (hPre_finite := Cert.Pre_finite.Gen.facts) :=
  fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem pres : Cert.preserves_Kernel_KernelIdeal := IdealRules.named_const.statement Cert.KernelIdeal.κ "mask" .f32 0xF149F2CA#32 ⊥ rfl

theorem alg : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Attn.Gm m c, ?_, ?_⟩
  · refine (θ_run Cert.KernelIdeal.defs _ _).mono (fun r h c => ⟨(h c).1.trans ?_, (h c).2⟩) (Cert.KernelIdeal.Attn.run_result m ρ)
    obtain ⟨r0, r1, r2, _⟩ := reals m hpre c
    exact Cert.KernelIdeal.Attn.array_eq m c r0 r1 r2
  · refine (θ_run Cert.ReferenceIdeal.defs _ _).mono (fun r h c => ⟨(h c).1.trans ?_, (h c).2⟩) (Cert.ReferenceIdeal.Value.run (F := Ideal) m' ρ')
    obtain ⟨h0, h1, h2, h3, h4⟩ := hagree c
    obtain ⟨r0, r1, r2, r3⟩ := reals m hpre c
    rw [Cert.ReferenceIdeal.Read.val_main_v86_eq, h0, h1, h2, h3, h4]
    exact Cert.ReferenceIdeal.Attn.v86_eq _ _ _ _ _ r0 r1 r2 r3

end Cert.AttnClaims

end
-- ==== Proof.MergeRow.lean ====
/- One row of the gated merge and the feed-forward layer, as a function of that row's inputs and of the weights, over the
   extended reals; and the vector operations of a 512-row block read at a row. -/
module

public import Idealize.ShloMosaic.Lib.Pipeline.Value
public import Idealize.ShloMosaic.Lib.ValueIdx
public import Idealize.ShloMosaic.Lib.ValueLayout
public import Idealize.ShloMosaic.Lib.MatmulPlain
public import Idealize.ShloMosaic.Lib.IdealHost
public import Idealize.ShloMosaic.PureOps.Ideal.Laws

@[expose] public section

noncomputable section

namespace Cert.MergeRow

open Idealize.ShloMosaic Idealize.ShloMosaic.ValueIdx
open scoped BigOperators

/-- The root-mean-square normalisation of a row of 1024 entries, scaled by `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The two branches' outputs, projected and gated. -/
def gated (y b g o : Fin 512 → EReal) (gates : Fin 2048 → EReal) (wa wb : Fin 512 → Fin 1024 → EReal) (k : Fin 1024) : EReal :=
  gates ⟨k.val, by omega⟩ * (∑ j, ((y j + b j) * g j) * wa j k) + gates ⟨1024 + k.val, by omega⟩ * (∑ j, o j * wb j k)

/-- The residual row after the output projection. -/
def mid (x : Fin 1024 → EReal) (z : Fin 1024 → EReal) (wo : Fin 1024 → Fin 1024 → EReal) (k : Fin 1024) : EReal :=
  x k + ∑ j, z j * wo j k

/-- A hidden unit of the feed-forward layer: the squared positive part of its input. -/
def hidden (h : Fin 1024 → EReal) (wu : Fin 1024 → Fin 4096 → EReal) (f : Fin 4096) : EReal :=
  max (∑ k, h k * wu k f) 0 * max (∑ k, h k * wu k f) 0

/-- The residual row after the feed-forward layer. -/
def ffn (x g : Fin 1024 → EReal) (wu : Fin 1024 → Fin 4096 → EReal) (wd : Fin 4096 → Fin 1024 → EReal) (k : Fin 1024) : EReal :=
  x k + ∑ f, hidden (rms x g) wu f * wd f k

/-- The whole row: merge, output projection, feed-forward layer, final normalisation. -/
def row (x : Fin 1024 → EReal) (y b g o : Fin 512 → EReal) (gates : Fin 2048 → EReal) (wa wb : Fin 512 → Fin 1024 → EReal)
    (wo : Fin 1024 → Fin 1024 → EReal) (gf : Fin 1024 → EReal) (wu : Fin 1024 → Fin 4096 → EReal)
    (wd : Fin 4096 → Fin 1024 → EReal) (gl : Fin 1024 → EReal) (k : Fin 1024) : EReal :=
  rms (ffn (mid x (gated y b g o gates wa wb) wo) gf wu wd) gl k

/-- A sum over 4096 terms in four runs of 1024. -/
theorem sum_chunks (h : Fin 4096 → EReal) :
    ∑ f, h f = (((∑ j : Fin 1024, h ⟨j.val, by omega⟩) + ∑ j : Fin 1024, h ⟨1024 + j.val, by omega⟩)
      + ∑ j : Fin 1024, h ⟨2048 + j.val, by omega⟩) + ∑ j : Fin 1024, h ⟨3072 + j.val, by omega⟩ := by
  have e1 : ∑ f, h f = ∑ f : Fin (3072 + 1024), h f := rfl
  have e2 : ∀ h' : Fin 3072 → EReal, ∑ f, h' f = ∑ f : Fin (2048 + 1024), h' f := fun _ => rfl
  have e3 : ∀ h' : Fin 2048 → EReal, ∑ f, h' f = ∑ f : Fin (1024 + 1024), h' f := fun _ => rfl
  rw [e1, Fin.sum_univ_add, e2, Fin.sum_univ_add, e3, Fin.sum_univ_add]
  rfl

theorem zero_bits : Ideal.ofBits .f32 0x00000000#32 = 0 := by simp [Ideal.ofBits, Ideal.ieee]

/-- A product of two matrices over a zero start, read at an entry. -/
theorem mm_apply {M K N : ℕ} {φ₁ φ₂ : FTy} {D : DotDims ⟨2, ![M, K]⟩ ⟨2, ![K, N]⟩ ⟨2, ![M, N]⟩} (hD : D = DotDims.plain M K N)
    (a : FVec Ideal ⟨2, ![M, K]⟩ φ₁) (b : FVec Ideal ⟨2, ![K, N]⟩ φ₂) (r : Fin M) (c : Fin N) :
    matmul D none a b (constant (F := Ideal) ⟨2, ![M, N]⟩ .f32 0x00000000#32) (ix2 r c)
      = ∑ k : Fin K, a (ix2 r k) * b (ix2 k c) := by
  subst hD
  refine (Ideal.matmul_plain_apply none a b _ r c).trans ?_
  rw [constant_apply, zero_bits, zero_add]

/-- The row's normalisation as a block's vector operations write it, read at an entry. -/
theorem rmsVec_apply {M : ℕ} (x : FVec Ideal ⟨2, ![M, 1024]⟩ .f32) (g : FVec Ideal ⟨2, ![1, 1024]⟩ .f32)
    (h1 : (⟨2, ![M, 1024]⟩ : Shape).Reduces [1] ⟨1, ![M]⟩) (h2 : FKind.Formats .f32) (h3 : 0x00000000#32 = FKind.add.neutral .f32 h2)
    (h4 : (⟨1, ![M]⟩ : Shape).ShapeCasts ⟨2, ![M, 1]⟩) (h5 : (⟨2, ![M, 1]⟩ : Shape).Broadcasts ⟨2, ![M, 1024]⟩)
    (h6 : (⟨2, ![1, 1024]⟩ : Shape).Broadcasts ⟨2, ![M, 1024]⟩) (r : Fin M) (k : Fin 1024) :
    mulf (mulf x (broadcastTo ⟨2, ![M, 1024]⟩ (rsqrt (addf (divf (shapeCast ⟨2, ![M, 1]⟩
        (multiReduction .add [1] ⟨1, ![M]⟩ (mulf x x) 0x00000000#32 h1 h2 h3) h4)
        (broadcast ⟨2, ![M, 1]⟩ (Scalar.ofBits (F := Ideal) .f32 0x44800000#32)))
        (broadcast ⟨2, ![M, 1]⟩ (Scalar.ofBits (F := Ideal) .f32 0x358637BD#32)))) h5))
      (broadcastTo ⟨2, ![M, 1024]⟩ g h6) (ix2 r k)
      = rms (fun j => x (ix2 r j)) (fun j => g (ix2 0 j)) k := by
  have eb : ∀ y : FVec Ideal ⟨2, ![M, 1]⟩ .f32, broadcastTo ⟨2, ![M, 1024]⟩ y h5 (ix2 r k) = y (ix2 r 0) := fun y =>
    broadcastTo_apply y h5 (ix2 r k) (ix2 r 0) (fun a => by
      match a with
      | ⟨0, _⟩ =>
        show r.val = if M = 1 then 0 else r.val
        split <;> omega
      | ⟨1, _⟩ => rfl)
  have eg := broadcastTo_1b_ab_apply g h6 r k
  have es : ∀ y : FVec Ideal ⟨1, ![M]⟩ .f32, shapeCast ⟨2, ![M, 1]⟩ y h4 (ix2 r 0) = y (ix1 r) := fun y =>
    shapeCast_apply y h4 (ix2 r 0) (ix1 r) (by
      rw [Shape.rowMajor_val_one, Shape.rowMajor_val_two]
      show r.val = r.val * 1 + 0
      omega)
  rw [mulf_apply, mulf_apply, eb, eg]
  unfold rms
  congr 2
  show Ideal.rsqrt _ = _
  congr 1
  rw [addf_apply, divf_apply, es, Ideal.multiReduction_add_single]
  have el : ∀ j : Fin 1024, h1.lift (ix1 r) j = ix2 r j := fun j => by
    funext a
    match a with
    | ⟨0, _⟩ => rfl
    | ⟨1, _⟩ => rfl
  exact congrArg (fun s => Ideal.div s (Ideal.ofBits .f32 0x44800000#32) + Ideal.ofBits .f32 0x358637BD#32)
    (Finset.sum_congr rfl fun j _ => by rw [el j]; rfl)

end Cert.MergeRow

end
-- ==== Proof.MergeBlock.lean ====
/- The merge kernel's block: every entry the body stores is the row function of the block's row and the weights. -/
module

public import proofs.«01_k».proof.Proof.Gen.Kernel2Ideal.Value
public import proofs.«01_k».proof.Proof.MergeRow

@[expose] public section

noncomputable section

namespace Cert.Kernel2Ideal.Merge

open Cert.Kernel2Ideal Cert.Kernel2Ideal.Gen Cert.MergeRow Idealize.ShloMosaic Idealize.ShloMosaic.ValueIdx
open scoped BigOperators

theorem hz : (![0, 0] : Fin 2 → Nat) = fun _ => 0 := by funext a; match a with | ⟨0, _⟩ => rfl | ⟨1, _⟩ => rfl

theorem dot_a : dot_S512x512_S512x1024_S512x1024_1_0_0_1_n_n = DotDims.plain 512 512 1024 := rfl
theorem dot_b : dot_S512x1024_S1024x1024_S512x1024_1_0_0_1_n_n = DotDims.plain 512 1024 1024 := rfl

theorem pay2_apply (v0 v2 : Vec Ideal S512x1024 .bf16) (v4 v6 v9 : Vec Ideal S512x512 .f32) (v12 : Vec Ideal S512x1024 .bf16)
    (v18 : Vec Ideal S512x512 .bf16) (v20 : Vec Ideal S512x1024 .bf16) (v26 : Vec Ideal S512x1024 .f32)
    (v28 : Vec Ideal S1024x1024 .bf16) (r : Fin 512) (k : Fin 1024) :
    k0_pay2 (F := Ideal) v0 v2 v4 v6 v9 v12 v18 v20 v26 v28 (ix2 r k)
      = mid (fun j => v26 (ix2 r j)) (fun j => v0 (ix2 r j) * (∑ l : Fin 512, ((v4 (ix2 r l) + v6 (ix2 r l)) * v9 (ix2 r l)) * v12 (ix2 l j))
          + v2 (ix2 r j) * (∑ l : Fin 512, v18 (ix2 r l) * v20 (ix2 l j))) (fun j l => v28 (ix2 j l)) k := by
  unfold k0_pay2 mid
  simp only [shapeCast_self]
  rw [addf_apply, mm_apply dot_b]
  congr 1
  refine Finset.sum_congr rfl fun j _ => ?_
  rw [truncf_apply, addf_apply, mulf_apply, mulf_apply, extf_apply, extf_apply, mm_apply dot_a, mm_apply dot_a]
  rfl

theorem pay3_apply (v32 : FVec Ideal S512x1024 .f32) (v33 : Vec Ideal S1x1024 .f32) (r : Fin 512) (k : Fin 1024) :
    k0_pay3 (F := Ideal) v32 v33 (ix2 r k) = rms (fun j => v32 (ix2 r j)) (fun j => v33 (ix2 0 j)) k :=
  rmsVec_apply v32 v33 _ _ _ _ _ _ r k

/-- One chunk of hidden units, added on. -/
theorem chunk_apply (h : FVec Ideal S512x1024 .bf16) (wu wd : Vec Ideal S1024x1024 .bf16) (r : Fin 512) (k : Fin 1024) :
    matmul (φ₁ := .bf16) (φ₂ := .bf16) dot_S512x1024_S1024x1024_S512x1024_1_0_0_1_n_n none
      (truncf .bf16 (mulf
        (maximumf (matmul (φ₁ := .bf16) (φ₂ := .bf16) dot_S512x1024_S1024x1024_S512x1024_1_0_0_1_n_n none h wu (constant (F := Ideal) S512x1024 .f32 0x00000000#32))
          (broadcast S512x1024 (Scalar.ofBits (F := Ideal) .f32 0x00000000#32)))
        (maximumf (matmul (φ₁ := .bf16) (φ₂ := .bf16) dot_S512x1024_S1024x1024_S512x1024_1_0_0_1_n_n none h wu (constant (F := Ideal) S512x1024 .f32 0x00000000#32))
          (broadcast S512x1024 (Scalar.ofBits (F := Ideal) .f32 0x00000000#32)))) bitsLt_bf16_f32) wd
      (constant (F := Ideal) S512x1024 .f32 0x00000000#32) (ix2 r k)
      = ∑ j : Fin 1024, (max (∑ l : Fin 1024, h (ix2 r l) * wu (ix2 l j)) 0 * max (∑ l : Fin 1024, h (ix2 r l) * wu (ix2 l j)) 0)
          * wd (ix2 j k) := by
  rw [mm_apply dot_b]
  refine Finset.sum_congr rfl fun j _ => ?_
  rw [truncf_apply, mulf_apply, maximumf_apply, mm_apply dot_b, broadcast_apply]
  rw [show (Scalar.ofBits (F := Ideal) .f32 0x00000000#32 : EReal) = 0 from zero_bits]

theorem pay4_apply (v32 : FVec Ideal S512x1024 .f32) (v33 : Vec Ideal S1x1024 .f32) (v47 v53 v58 v64 : Vec Ideal S1024x1024 .bf16)
    (r : Fin 512) (k : Fin 1024) :
    k0_pay4 (F := Ideal) v32 v33 v47 v53 v58 v64 (ix2 r k)
      = v32 (ix2 r k)
        + (∑ j : Fin 1024, (max (∑ l : Fin 1024, k0_pay3 (F := Ideal) v32 v33 (ix2 r l) * v47 (ix2 l j)) 0
            * max (∑ l : Fin 1024, k0_pay3 (F := Ideal) v32 v33 (ix2 r l) * v47 (ix2 l j)) 0) * v53 (ix2 j k))
        + (∑ j : Fin 1024, (max (∑ l : Fin 1024, k0_pay3 (F := Ideal) v32 v33 (ix2 r l) * v58 (ix2 l j)) 0
            * max (∑ l : Fin 1024, k0_pay3 (F := Ideal) v32 v33 (ix2 r l) * v58 (ix2 l j)) 0) * v64 (ix2 j k)) := by
  unfold k0_pay4
  simp only [shapeCast_self]
  rw [addf_apply, addf_apply, chunk_apply, chunk_apply]

theorem pay1_apply (v46 : FVec Ideal S512x1024 .bf16) (v68 : FVec Ideal S512x1024 .f32) (w : Vec Ideal S1024x1024 .bf16)
    (v75 v80 v86 : Vec Ideal S1024x1024 .bf16) (v91 : Vec Ideal S1x1024 .f32) (r : Fin 512) (k : Fin 1024) :
    k0_pay1 (F := Ideal) v46 v68
      (matmul (φ₁ := .bf16) (φ₂ := .bf16) dot_S512x1024_S1024x1024_S512x1024_1_0_0_1_n_n none v46 w (constant (F := Ideal) S512x1024 .f32 0x00000000#32))
      (broadcast S512x1024 (Scalar.ofBits (F := Ideal) .f32 0x00000000#32)) v75 v80 v86 v91 (ix2 r k)
      = rms (fun k => v68 (ix2 r k)
        + (∑ j : Fin 1024, (max (∑ l : Fin 1024, v46 (ix2 r l) * w (ix2 l j)) 0
            * max (∑ l : Fin 1024, v46 (ix2 r l) * w (ix2 l j)) 0) * v75 (ix2 j k))
        + (∑ j : Fin 1024, (max (∑ l : Fin 1024, v46 (ix2 r l) * v80 (ix2 l j)) 0
            * max (∑ l : Fin 1024, v46 (ix2 r l) * v80 (ix2 l j)) 0) * v86 (ix2 j k))) (fun j => v91 (ix2 0 j)) k := by
  unfold k0_pay1
  simp only [shapeCast_self]
  refine (rmsVec_apply _ v91 _ _ _ _ _ _ r k).trans ?_
  congr 1
  funext k
  rw [addf_apply, addf_apply, chunk_apply, chunk_apply]

/-- A square block of the up-projection, read at an entry. -/
theorem ldU (x : Vec Ideal S1024x4096 .bf16) (o : ℕ) (h : ∀ a, (![0, o] : Fin 2 → Nat) a + S1024x1024.size a ≤ S1024x4096.size a)
    (l j : Fin 1024) (hj : o + j.val < 4096) :
    View.ld x (Rect.unit (s := S1024x4096) ![0, o] S1024x1024.size h) (ix2 l j) = x (ix2 l ⟨o + j.val, hj⟩) := by
  rw [View.ld_unit]
  refine extractStridedSlice_apply _ x _ _ _ fun a => ?_
  match a with
  | ⟨0, _⟩ => exact (Nat.zero_add _).symm
  | ⟨1, _⟩ => rfl

/-- A square block of the down-projection, read at an entry. -/
theorem ldD (x : Vec Ideal S4096x1024 .bf16) (o : ℕ) (h : ∀ a, (![o, 0] : Fin 2 → Nat) a + S1024x1024.size a ≤ S4096x1024.size a)
    (l j : Fin 1024) (hl : o + l.val < 4096) :
    View.ld x (Rect.unit (s := S4096x1024) ![o, 0] S1024x1024.size h) (ix2 l j) = x (ix2 ⟨o + l.val, hl⟩ j) := by
  rw [View.ld_unit]
  refine extractStridedSlice_apply _ x _ _ _ fun a => ?_
  match a with
  | ⟨0, _⟩ => rfl
  | ⟨1, _⟩ => exact (Nat.zero_add _).symm

/-- Half of the gates, read at an entry. -/
theorem ldG (x : Vec Ideal S512x2048 .bf16) (o : ℕ) (h : ∀ a, (![0, o] : Fin 2 → Nat) a + S512x1024.size a ≤ S512x2048.size a)
    (l : Fin 512) (j : Fin 1024) (hj : o + j.val < 2048) :
    View.ld x (Rect.unit (s := S512x2048) ![0, o] S512x1024.size h) (ix2 l j) = x (ix2 l ⟨o + j.val, hj⟩) := by
  rw [View.ld_unit]
  refine extractStridedSlice_apply _ x _ _ _ fun a => ?_
  match a with
  | ⟨0, _⟩ => exact (Nat.zero_add _).symm
  | ⟨1, _⟩ => rfl

/-- The block the body stores, entry by entry. -/
theorem out_apply (x0 : Vec Ideal S512x1024 .f32) (x1 x2 x3 : Vec Ideal S512x512 .f32) (x4 : Vec Ideal S512x512 .bf16)
    (x5 : Vec Ideal S512x2048 .bf16) (x6 x7 : Vec Ideal S512x1024 .bf16) (x8 : Vec Ideal S1024x1024 .bf16) (x9 : Vec Ideal S1x1024 .f32)
    (x10 : Vec Ideal S1024x4096 .bf16) (x11 : Vec Ideal S4096x1024 .bf16) (x12 : Vec Ideal S1x1024 .f32) (r : Fin 512) (k : Fin 1024) :
    out0_13 x0 x1 x2 x3 x4 x5 x6 x7 x8 x9 x10 x11 x12 (ix2 r k)
      = row (fun j => x0 (ix2 r j)) (fun j => x1 (ix2 r j)) (fun j => x2 (ix2 r j)) (fun j => x3 (ix2 r j)) (fun j => x4 (ix2 r j))
          (fun j => x5 (ix2 r j)) (fun j l => x6 (ix2 j l)) (fun j l => x7 (ix2 j l)) (fun j l => x8 (ix2 j l)) (fun j => x9 (ix2 0 j))
          (fun j l => x10 (ix2 j l)) (fun j l => x11 (ix2 j l)) (fun j => x12 (ix2 0 j)) k := by
  unfold out0_13
  rw [View.canon_unit_zero hz]
  have e5 : k0_pay5 (k0_pay7 x0 x1 x2 x3 x4 x5 x6 x7 x8 x9 x10 x11 x12) (View.ld x9 r0_5) (View.ld x10 r0_10)
      = matmul (φ₁ := .bf16) (φ₂ := .bf16) dot_S512x1024_S1024x1024_S512x1024_1_0_0_1_n_n none (k0_pay3 (k0_pay7 x0 x1 x2 x3 x4 x5 x6 x7 x8 x9 x10 x11 x12) (View.ld x9 r0_5))
          (View.ld x10 r0_10) (constant (F := Ideal) S512x1024 .f32 0x00000000#32) := by
    unfold k0_pay5; simp only [shapeCast_self]
  have e6 : k0_pay6 (F := Ideal) = broadcast S512x1024 (Scalar.ofBits (F := Ideal) .f32 0x00000000#32) := rfl
  rw [e5, e6, pay1_apply, View.ld_unit_zero hz _ x12]
  unfold row
  congr 1
  have e7 : ∀ j, k0_pay7 x0 x1 x2 x3 x4 x5 x6 x7 x8 x9 x10 x11 x12 (ix2 r j)
      = mid (fun j => x0 (ix2 r j)) (gated (fun j => x1 (ix2 r j)) (fun j => x2 (ix2 r j)) (fun j => x3 (ix2 r j)) (fun j => x4 (ix2 r j))
          (fun j => x5 (ix2 r j)) (fun j l => x6 (ix2 j l)) (fun j l => x7 (ix2 j l))) (fun j l => x8 (ix2 j l)) j := fun j => by
    unfold k0_pay7
    rw [pay2_apply]
    rw [View.ld_unit_zero hz _ x1, View.ld_unit_zero hz _ x2, View.ld_unit_zero hz _ x3, View.ld_unit_zero hz _ x6, View.ld_unit_zero hz _ x4, View.ld_unit_zero hz _ x7, View.ld_unit_zero hz _ x0, View.ld_unit_zero hz _ x8]
    congr 1
    funext i
    unfold gated
    rw [ldG x5 0 _ r i (by omega), ldG x5 1024 _ r i (by omega)]
    simp only [Nat.zero_add]
  have e3 : ∀ j, k0_pay3 (k0_pay7 x0 x1 x2 x3 x4 x5 x6 x7 x8 x9 x10 x11 x12) (View.ld x9 r0_5) (ix2 r j)
      = rms (fun l => k0_pay7 x0 x1 x2 x3 x4 x5 x6 x7 x8 x9 x10 x11 x12 (ix2 r l)) (fun j => x9 (ix2 0 j)) j := fun j => by
    rw [pay3_apply, View.ld_unit_zero hz _ x9]
  funext i
  rw [pay4_apply]
  simp only [e3]
  rw [funext e7]
  unfold ffn
  rw [e7 i, sum_chunks]
  simp only [← add_assoc]
  congr 1
  · congr 1
    · congr 1
      · congr 1
        refine Finset.sum_congr rfl fun j _ => ?_
        simp only [ldU x10 0 _ _ j (by omega), ldD x11 0 _ j i (by omega), Nat.zero_add]
        rfl
      · refine Finset.sum_congr rfl fun j _ => ?_
        simp only [ldU x10 1024 _ _ j (by omega), ldD x11 1024 _ j i (by omega)]
        rfl
    · refine Finset.sum_congr rfl fun j _ => ?_
      simp only [ldU x10 2048 _ _ j (by omega), ldD x11 2048 _ j i (by omega)]
      rfl
  · refine Finset.sum_congr rfl fun j _ => ?_
    simp only [ldU x10 3072 _ _ j (by omega), ldD x11 3072 _ j i (by omega)]
    rfl

end Cert.Kernel2Ideal.Merge

end
-- ==== Proof.MergeArray.lean ====
/- The merge kernel's result array: every entry is the row function of the launched arguments. -/
module

public import proofs.«01_k».proof.Proof.MergeBlock

@[expose] public section

noncomputable section

namespace Cert.Kernel2Ideal.Merge

open Cert.Kernel2Ideal Cert.Kernel2Ideal.Gen Cert.MergeRow Idealize.ShloMosaic Idealize.ShloMosaic.ValueIdx Idealize.ShloMosaic.TcCoe
open Idealize.ShloMosaic.StableHlo Idealize.SL.Sem
open Idealize.ShloMosaic.Pipeline (Dat)
open scoped BigOperators

/-- The batch and the position of a flattened row. -/
abbrev rb (n : Fin 16384) : Fin 4 := ⟨n.val / 4096, by omega⟩
abbrev rt (n : Fin 16384) : Fin 4096 := ⟨n.val % 4096, by omega⟩

/-- The result array as a function of the arguments. -/
def G (x : S4x4096x1024.Idx → EReal) (y b g o : S4x4096x512.Idx → EReal) (gates : S4x4096x2048.Idx → EReal)
    (wa wb : S1x512x1024.Idx → EReal) (wo : S1x1024x1024.Idx → EReal) (gf : S1x1024.Idx → EReal) (wu : S1x1024x4096.Idx → EReal)
    (wd : S1x4096x1024.Idx → EReal) (gl : S1024.Idx → EReal) (i : S16384x1024.Idx) : EReal :=
  row (fun j => x (ix3 (rb (i 0)) (rt (i 0)) j)) (fun j => y (ix3 (rb (i 0)) (rt (i 0)) j)) (fun j => b (ix3 (rb (i 0)) (rt (i 0)) j))
    (fun j => g (ix3 (rb (i 0)) (rt (i 0)) j)) (fun j => o (ix3 (rb (i 0)) (rt (i 0)) j)) (fun j => gates (ix3 (rb (i 0)) (rt (i 0)) j))
    (fun j l => wa (ix3 0 j l)) (fun j l => wb (ix3 0 j l)) (fun j l => wo (ix3 0 j l)) (fun j => gf (ix2 0 j))
    (fun j l => wu (ix3 0 j l)) (fun j l => wd (ix3 0 j l)) (fun j => gl (ix1 j)) (i 1)

variable (m : (ℓ : Loc nD τ sig) → Buf (Elt Ideal) ℓ) (ρ : Dev nD → PrngReg)

theorem V_v1 (c : Dev nD) : V m c main_v1 = truncf (F := Ideal) .bf16 (shapeCast S512x1024 (m ((c : Thread nD τ).loc main_arg6)) shapeCasts_S1x512x1024_S512x1024 : FVec Ideal S512x1024 .f32) bitsLt_bf16_f32 := by
  dsimp only [V, hostOps0]; after_results; rfl
theorem V_v3 (c : Dev nD) : V m c main_v3 = truncf (F := Ideal) .bf16 (shapeCast S512x1024 (m ((c : Thread nD τ).loc main_arg7)) shapeCasts_S1x512x1024_S512x1024 : FVec Ideal S512x1024 .f32) bitsLt_bf16_f32 := by
  dsimp only [V, hostOps0]; after_results; rfl
theorem V_v5 (c : Dev nD) : V m c main_v5 = truncf (F := Ideal) .bf16 (shapeCast S1024x1024 (m ((c : Thread nD τ).loc main_arg8)) shapeCasts_S1x1024x1024_S1024x1024 : FVec Ideal S1024x1024 .f32) bitsLt_bf16_f32 := by
  dsimp only [V, hostOps0]; after_results; rfl
theorem V_v7 (c : Dev nD) : V m c main_v7 = truncf (F := Ideal) .bf16 (shapeCast S1024x4096 (m ((c : Thread nD τ).loc main_arg10)) shapeCasts_S1x1024x4096_S1024x4096 : FVec Ideal S1024x4096 .f32) bitsLt_bf16_f32 := by
  dsimp only [V, hostOps0]; after_results; rfl
theorem V_v9 (c : Dev nD) : V m c main_v9 = truncf (F := Ideal) .bf16 (shapeCast S4096x1024 (m ((c : Thread nD τ).loc main_arg11)) shapeCasts_S1x4096x1024_S4096x1024 : FVec Ideal S4096x1024 .f32) bitsLt_bf16_f32 := by
  dsimp only [V, hostOps0]; after_results; rfl
theorem V_v10 (c : Dev nD) : V m c main_v10 = shapeCast S1x1024 (m ((c : Thread nD τ).loc main_arg12)) shapeCasts_S1024_S1x1024 := by
  dsimp only [V, hostOps0]; after_results; rfl
theorem V_v11 (c : Dev nD) : V m c main_v11 = shapeCast S16384x1024 (m ((c : Thread nD τ).loc main_arg0)) shapeCasts_S4x4096x1024_S16384x1024 := by
  dsimp only [V, hostOps0]; after_results; rfl
theorem V_v12 (c : Dev nD) : V m c main_v12 = shapeCast S16384x512 (m ((c : Thread nD τ).loc main_arg1)) shapeCasts_S4x4096x512_S16384x512 := by
  dsimp only [V, hostOps0]; after_results; rfl
theorem V_v13 (c : Dev nD) : V m c main_v13 = shapeCast S16384x512 (m ((c : Thread nD τ).loc main_arg2)) shapeCasts_S4x4096x512_S16384x512 := by
  dsimp only [V, hostOps0]; after_results; rfl
theorem V_v14 (c : Dev nD) : V m c main_v14 = shapeCast S16384x512 (m ((c : Thread nD τ).loc main_arg3)) shapeCasts_S4x4096x512_S16384x512 := by
  dsimp only [V, hostOps0]; after_results; rfl
theorem V_v15 (c : Dev nD) : V m c main_v15 = shapeCast S16384x512 (m ((c : Thread nD τ).loc main_arg4)) shapeCasts_S4x4096x512_S16384x512 := by
  dsimp only [V, hostOps0]; after_results; rfl
theorem V_v16 (c : Dev nD) : V m c main_v16 = shapeCast S16384x2048 (m ((c : Thread nD τ).loc main_arg5)) shapeCasts_S4x4096x2048_S16384x2048 := by
  dsimp only [V, hostOps0]; after_results; rfl

/-- A flattened array read at a row and a column. -/
theorem flat_apply {α : Type} {w : ℕ} (x : (⟨3, ![4, 4096, w]⟩ : Shape).Idx → α)
    (h : (⟨3, ![4, 4096, w]⟩ : Shape).ShapeCasts ⟨2, ![16384, w]⟩) (n : Fin 16384) (k : Fin w) :
    shapeCast ⟨2, ![16384, w]⟩ x h (ix2 n k) = x (ix3 (rb n) (rt n) k) :=
  shapeCast_apply x h _ _ (by
    rw [Shape.rowMajor_val_three, Shape.rowMajor_val_two]
    show (n.val / 4096 * 4096 + n.val % 4096) * w + k.val = n.val * w + k.val
    rw [Nat.div_add_mod' n.val 4096])

/-- The first axis's block index of the blocked windows is the point's number; every other block index is zero. -/
theorem idx_facts : ∀ t : Fin cfg0.N,
    (win0_0.index t 0 = t.val ∧ win0_1.index t 0 = t.val ∧ win0_2.index t 0 = t.val ∧ win0_3.index t 0 = t.val
      ∧ win0_4.index t 0 = t.val ∧ win0_5.index t 0 = t.val ∧ win0_13.index t 0 = t.val)
    ∧ (win0_0.index t 1 = 0 ∧ win0_1.index t 1 = 0 ∧ win0_2.index t 1 = 0 ∧ win0_3.index t 1 = 0
      ∧ win0_4.index t 1 = 0 ∧ win0_5.index t 1 = 0 ∧ win0_13.index t 1 = 0)
    ∧ (win0_6.index t 0 = 0 ∧ win0_7.index t 0 = 0 ∧ win0_8.index t 0 = 0 ∧ win0_9.index t 0 = 0
      ∧ win0_10.index t 0 = 0 ∧ win0_11.index t 0 = 0 ∧ win0_12.index t 0 = 0)
    ∧ (win0_6.index t 1 = 0 ∧ win0_7.index t 1 = 0 ∧ win0_8.index t 1 = 0 ∧ win0_9.index t 1 = 0
      ∧ win0_10.index t 1 = 0 ∧ win0_11.index t 1 = 0 ∧ win0_12.index t 1 = 0) :=
  (by decide +kernel : ∀ t : Fin grid0.N, _)

/-- The array row of a block's row. -/
abbrev arow (t : Fin cfg0.N) (r : Fin 512) : Fin 16384 := ⟨t.val * 512 + r.val, by
  have h : t.val < 32 := t.isLt
  have := r.isLt; omega⟩

theorem blk0 (c : Dev nD) (t : Fin cfg0.N) (r : Fin 512) (k : Fin 1024) :
    (iblk m c 0 t : Vec Ideal S512x1024 .f32) (ix2 r k) = m ((c : Thread nD τ).loc main_arg0) (ix3 (rb (arow t r)) (rt (arow t r)) k) := by
  unfold iblk
  rw [View.read_apply]
  have hf := idx_facts t
  show V m c main_v11 _ = _
  rw [V_v11]
  refine Eq.trans (congrArg _ ?_) (flat_apply (m ((c : Thread nD τ).loc main_arg0)) _ (arow t r) k)
  funext a; apply Fin.ext
  match a with
  | ⟨0, _⟩ => show win0_0.index t 0 * 512 + 1 * r.val = t.val * 512 + r.val; rw [hf.1.1]; omega
  | ⟨1, _⟩ => show win0_0.index t 1 * 1024 + 1 * k.val = k.val; rw [hf.2.1.1]; omega

theorem blk1 (c : Dev nD) (t : Fin cfg0.N) (r : Fin 512) (k : Fin 512) :
    (iblk m c 1 t : Vec Ideal S512x512 .f32) (ix2 r k) = m ((c : Thread nD τ).loc main_arg1) (ix3 (rb (arow t r)) (rt (arow t r)) k) := by
  unfold iblk
  rw [View.read_apply]
  have hf := idx_facts t
  show V m c main_v12 _ = _
  rw [V_v12]
  refine Eq.trans (congrArg _ ?_) (flat_apply (m ((c : Thread nD τ).loc main_arg1)) _ (arow t r) k)
  funext a; apply Fin.ext
  match a with
  | ⟨0, _⟩ => show win0_1.index t 0 * 512 + 1 * r.val = t.val * 512 + r.val; rw [hf.1.2.1]; omega
  | ⟨1, _⟩ => show win0_1.index t 1 * 512 + 1 * k.val = k.val; rw [hf.2.1.2.1]; omega

theorem blk2 (c : Dev nD) (t : Fin cfg0.N) (r : Fin 512) (k : Fin 512) :
    (iblk m c 2 t : Vec Ideal S512x512 .f32) (ix2 r k) = m ((c : Thread nD τ).loc main_arg2) (ix3 (rb (arow t r)) (rt (arow t r)) k) := by
  unfold iblk
  rw [View.read_apply]
  have hf := idx_facts t
  show V m c main_v13 _ = _
  rw [V_v13]
  refine Eq.trans (congrArg _ ?_) (flat_apply (m ((c : Thread nD τ).loc main_arg2)) _ (arow t r) k)
  funext a; apply Fin.ext
  match a with
  | ⟨0, _⟩ => show win0_2.index t 0 * 512 + 1 * r.val = t.val * 512 + r.val; rw [hf.1.2.2.1]; omega
  | ⟨1, _⟩ => show win0_2.index t 1 * 512 + 1 * k.val = k.val; rw [hf.2.1.2.2.1]; omega

theorem blk3 (c : Dev nD) (t : Fin cfg0.N) (r : Fin 512) (k : Fin 512) :
    (iblk m c 3 t : Vec Ideal S512x512 .f32) (ix2 r k) = m ((c : Thread nD τ).loc main_arg3) (ix3 (rb (arow t r)) (rt (arow t r)) k) := by
  unfold iblk
  rw [View.read_apply]
  have hf := idx_facts t
  show V m c main_v14 _ = _
  rw [V_v14]
  refine Eq.trans (congrArg _ ?_) (flat_apply (m ((c : Thread nD τ).loc main_arg3)) _ (arow t r) k)
  funext a; apply Fin.ext
  match a with
  | ⟨0, _⟩ => show win0_3.index t 0 * 512 + 1 * r.val = t.val * 512 + r.val; rw [hf.1.2.2.2.1]; omega
  | ⟨1, _⟩ => show win0_3.index t 1 * 512 + 1 * k.val = k.val; rw [hf.2.1.2.2.2.1]; omega

theorem blk4 (c : Dev nD) (t : Fin cfg0.N) (r : Fin 512) (k : Fin 512) :
    (iblk m c 4 t : Vec Ideal S512x512 .bf16) (ix2 r k) = m ((c : Thread nD τ).loc main_arg4) (ix3 (rb (arow t r)) (rt (arow t r)) k) := by
  unfold iblk
  rw [View.read_apply]
  have hf := idx_facts t
  show V m c main_v15 _ = _
  rw [V_v15]
  refine Eq.trans (congrArg _ ?_) (flat_apply (m ((c : Thread nD τ).loc main_arg4)) _ (arow t r) k)
  funext a; apply Fin.ext
  match a with
  | ⟨0, _⟩ => show win0_4.index t 0 * 512 + 1 * r.val = t.val * 512 + r.val; rw [hf.1.2.2.2.2.1]; omega
  | ⟨1, _⟩ => show win0_4.index t 1 * 512 + 1 * k.val = k.val; rw [hf.2.1.2.2.2.2.1]; omega

theorem blk5 (c : Dev nD) (t : Fin cfg0.N) (r : Fin 512) (k : Fin 2048) :
    (iblk m c 5 t : Vec Ideal S512x2048 .bf16) (ix2 r k) = m ((c : Thread nD τ).loc main_arg5) (ix3 (rb (arow t r)) (rt (arow t r)) k) := by
  unfold iblk
  rw [View.read_apply]
  have hf := idx_facts t
  show V m c main_v16 _ = _
  rw [V_v16]
  refine Eq.trans (congrArg _ ?_) (flat_apply (m ((c : Thread nD τ).loc main_arg5)) _ (arow t r) k)
  funext a; apply Fin.ext
  match a with
  | ⟨0, _⟩ => show win0_5.index t 0 * 512 + 1 * r.val = t.val * 512 + r.val; rw [hf.1.2.2.2.2.2.1]; omega
  | ⟨1, _⟩ => show win0_5.index t 1 * 2048 + 1 * k.val = k.val; rw [hf.2.1.2.2.2.2.2.1]; omega

theorem blk6 (c : Dev nD) (t : Fin cfg0.N) (r : Fin 512) (k : Fin 1024) :
    (iblk m c 6 t : Vec Ideal S512x1024 .bf16) (ix2 r k) = m ((c : Thread nD τ).loc main_arg6) (ix3 0 r k) := by
  unfold iblk
  rw [View.read_apply]
  have hf := idx_facts t
  show V m c main_v1 _ = _
  rw [V_v1, truncf_apply]
  refine Eq.trans (congrArg _ ?_) (shapeCast_1ab_ab_apply (m ((c : Thread nD τ).loc main_arg6)) shapeCasts_S1x512x1024_S512x1024 r k)
  funext a; apply Fin.ext
  match a with
  | ⟨0, _⟩ => show win0_6.index t 0 * 512 + 1 * r.val = r.val; rw [hf.2.2.1.1]; omega
  | ⟨1, _⟩ => show win0_6.index t 1 * 1024 + 1 * k.val = k.val; rw [hf.2.2.2.1]; omega

theorem blk7 (c : Dev nD) (t : Fin cfg0.N) (r : Fin 512) (k : Fin 1024) :
    (iblk m c 7 t : Vec Ideal S512x1024 .bf16) (ix2 r k) = m ((c : Thread nD τ).loc main_arg7) (ix3 0 r k) := by
  unfold iblk
  rw [View.read_apply]
  have hf := idx_facts t
  show V m c main_v3 _ = _
  rw [V_v3, truncf_apply]
  refine Eq.trans (congrArg _ ?_) (shapeCast_1ab_ab_apply (m ((c : Thread nD τ).loc main_arg7)) shapeCasts_S1x512x1024_S512x1024 r k)
  funext a; apply Fin.ext
  match a with
  | ⟨0, _⟩ => show win0_7.index t 0 * 512 + 1 * r.val = r.val; rw [hf.2.2.1.2.1]; omega
  | ⟨1, _⟩ => show win0_7.index t 1 * 1024 + 1 * k.val = k.val; rw [hf.2.2.2.2.1]; omega

theorem blk8 (c : Dev nD) (t : Fin cfg0.N) (r : Fin 1024) (k : Fin 1024) :
    (iblk m c 8 t : Vec Ideal S1024x1024 .bf16) (ix2 r k) = m ((c : Thread nD τ).loc main_arg8) (ix3 0 r k) := by
  unfold iblk
  rw [View.read_apply]
  have hf := idx_facts t
  show V m c main_v5 _ = _
  rw [V_v5, truncf_apply]
  refine Eq.trans (congrArg _ ?_) (shapeCast_1ab_ab_apply (m ((c : Thread nD τ).loc main_arg8)) shapeCasts_S1x1024x1024_S1024x1024 r k)
  funext a; apply Fin.ext
  match a with
  | ⟨0, _⟩ => show win0_8.index t 0 * 1024 + 1 * r.val = r.val; rw [hf.2.2.1.2.2.1]; omega
  | ⟨1, _⟩ => show win0_8.index t 1 * 1024 + 1 * k.val = k.val; rw [hf.2.2.2.2.2.1]; omega

theorem blk10 (c : Dev nD) (t : Fin cfg0.N) (r : Fin 1024) (k : Fin 4096) :
    (iblk m c 10 t : Vec Ideal S1024x4096 .bf16) (ix2 r k) = m ((c : Thread nD τ).loc main_arg10) (ix3 0 r k) := by
  unfold iblk
  rw [View.read_apply]
  have hf := idx_facts t
  show V m c main_v7 _ = _
  rw [V_v7, truncf_apply]
  refine Eq.trans (congrArg _ ?_) (shapeCast_1ab_ab_apply (m ((c : Thread nD τ).loc main_arg10)) shapeCasts_S1x1024x4096_S1024x4096 r k)
  funext a; apply Fin.ext
  match a with
  | ⟨0, _⟩ => show win0_10.index t 0 * 1024 + 1 * r.val = r.val; rw [hf.2.2.1.2.2.2.2.1]; omega
  | ⟨1, _⟩ => show win0_10.index t 1 * 4096 + 1 * k.val = k.val; rw [hf.2.2.2.2.2.2.2.1]; omega

theorem blk11 (c : Dev nD) (t : Fin cfg0.N) (r : Fin 4096) (k : Fin 1024) :
    (iblk m c 11 t : Vec Ideal S4096x1024 .bf16) (ix2 r k) = m ((c : Thread nD τ).loc main_arg11) (ix3 0 r k) := by
  unfold iblk
  rw [View.read_apply]
  have hf := idx_facts t
  show V m c main_v9 _ = _
  rw [V_v9, truncf_apply]
  refine Eq.trans (congrArg _ ?_) (shapeCast_1ab_ab_apply (m ((c : Thread nD τ).loc main_arg11)) shapeCasts_S1x4096x1024_S4096x1024 r k)
  funext a; apply Fin.ext
  match a with
  | ⟨0, _⟩ => show win0_11.index t 0 * 4096 + 1 * r.val = r.val; rw [hf.2.2.1.2.2.2.2.2.1]; omega
  | ⟨1, _⟩ => show win0_11.index t 1 * 1024 + 1 * k.val = k.val; rw [hf.2.2.2.2.2.2.2.2.1]; omega

theorem blk9 (c : Dev nD) (t : Fin cfg0.N) (k : Fin 1024) :
    (iblk m c 9 t : Vec Ideal S1x1024 .f32) (ix2 0 k) = m ((c : Thread nD τ).loc main_arg9) (ix2 0 k) := by
  unfold iblk
  rw [View.read_apply]
  have hf := idx_facts t
  show V m c main_arg9 _ = _
  rw [V_main_arg9]
  refine congrArg _ ?_
  funext a; apply Fin.ext
  match a with
  | ⟨0, _⟩ => show win0_9.index t 0 * 1 + 1 * 0 = 0; rw [hf.2.2.1.2.2.2.1]
  | ⟨1, _⟩ => show win0_9.index t 1 * 1024 + 1 * k.val = k.val; rw [hf.2.2.2.2.2.2.1]; omega

theorem blk12 (c : Dev nD) (t : Fin cfg0.N) (k : Fin 1024) :
    (iblk m c 12 t : Vec Ideal S1x1024 .f32) (ix2 0 k) = m ((c : Thread nD τ).loc main_arg12) (ix1 k) := by
  unfold iblk
  rw [View.read_apply]
  have hf := idx_facts t
  show V m c main_v10 _ = _
  rw [V_v10]
  refine Eq.trans (congrArg _ ?_) (shapeCast_a_1a_apply (m ((c : Thread nD τ).loc main_arg12)) shapeCasts_S1024_S1x1024 0 k)
  funext a; apply Fin.ext
  match a with
  | ⟨0, _⟩ => show win0_12.index t 0 * 1 + 1 * 0 = 0; rw [hf.2.2.1.2.2.2.2.2.2]
  | ⟨1, _⟩ => show win0_12.index t 1 * 1024 + 1 * k.val = k.val; rw [hf.2.2.2.2.2.2.2.2.2]; omega

/-- The result array from the launched memory. -/
abbrev Gm (c : Dev nD) : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

theorem flushed_eq (c : Dev nD) (t : Fin cfg0.N) :
    (dats m 0 c).flushed 13 t = ((cfg0.win 13).blk t).view.read (Elt Ideal) (Gm m c) := by
  rw [Value.flushed13]
  show (out0_13 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) : S512x1024.Idx → EReal) = _
  funext j
  obtain ⟨r, k, rfl⟩ : ∃ (r : Fin 512) (k : Fin 1024), j = ix2 r k := ⟨j 0, j 1, eq_ix2 j⟩
  rw [out_apply, View.read_apply]
  have hf := idx_facts t
  have hi : ((cfg0.win 13).blk t).view.emb (ix2 r k) = ix2 (arow t r) k := by
    funext a; apply Fin.ext
    match a with
    | ⟨0, _⟩ => show win0_13.index t 0 * 512 + 1 * r.val = t.val * 512 + r.val; rw [hf.1.2.2.2.2.2.2]; omega
    | ⟨1, _⟩ => show win0_13.index t 1 * 1024 + 1 * k.val = k.val; rw [hf.2.1.2.2.2.2.2.2]; omega
  show _ = Gm m c (((cfg0.win 13).blk t).view.emb (ix2 r k))
  rw [hi]
  simp only [blk0, blk1, blk2, blk3, blk4, blk5, blk6, blk7, blk8, blk9, blk10, blk11, blk12]
  rfl

theorem cover (i : S16384x1024.Idx) :
    ∃ t : Fin cfg0.N, (cfg0.win 13).flush t = true ∧ i ∈ ((cfg0.win 13).blk t).view.set := by
  have h0 : (i 0).val < 16384 := (i 0).isLt
  have h1 : (i 1).val < 1024 := (i 1).isLt
  let t : Fin cfg0.N := ⟨(i 0).val / 512, by show _ < 32; omega⟩
  refine ⟨t, flush0_13 t, ?_⟩
  show i ∈ ((View.whole main_v17).slice (win0_13.rect t)).set
  rw [View.set_slice_whole, Rect.mem_set_unit]
  have hf := idx_facts t
  intro a
  match a with
  | ⟨0, _⟩ =>
    show win0_13.index t 0 * 512 ≤ (i 0).val ∧ (i 0).val < win0_13.index t 0 * 512 + 512
    rw [hf.1.2.2.2.2.2.2]
    show (i 0).val / 512 * 512 ≤ (i 0).val ∧ (i 0).val < (i 0).val / 512 * 512 + 512
    omega
  | ⟨1, _⟩ =>
    show win0_13.index t 1 * 1024 ≤ (i 1).val ∧ (i 1).val < win0_13.index t 1 * 1024 + 1024
    rw [hf.2.1.2.2.2.2.2.2]; omega

theorem final (c : Dev nD) : (dats m 0 c).arrAt 13 cfg0.N = Gm m c :=
  (dats m 0 c).arrAt_eq_of_cover 13 (Gm m c) (fun t _ => flushed_eq m c t) cover

end Cert.Kernel2Ideal.Merge

end
-- ==== Proof.MergeRef.lean ====
/- The reference's result, read at an entry: the row function of the arguments. -/
module

public import proofs.«01_k».proof.Proof.Gen.Reference2Ideal.Read
public import proofs.«01_k».proof.Proof.MergeRow

@[expose] public section

noncomputable section

namespace Cert.Reference2Ideal.Merge

open Cert.Reference2Ideal Cert.Reference2Ideal.Gen Cert.Reference2Ideal.Read Cert.MergeRow Idealize.ShloMosaic Idealize.ShloMosaic.ValueIdx
open scoped BigOperators

theorem ext2 {a b : ℕ} {i j : (⟨2, ![a, b]⟩ : Shape).Idx} (h0 : (i 0).val = (j 0).val) (h1 : (i 1).val = (j 1).val) : i = j := by
  funext d; apply Fin.ext
  match d with
  | ⟨0, _⟩ => exact h0
  | ⟨1, _⟩ => exact h1

theorem ext3 {a b c : ℕ} {i j : (⟨3, ![a, b, c]⟩ : Shape).Idx} (h0 : (i 0).val = (j 0).val) (h1 : (i 1).val = (j 1).val)
    (h2 : (i 2).val = (j 2).val) : i = j := by
  funext d; apply Fin.ext
  match d with
  | ⟨0, _⟩ => exact h0
  | ⟨1, _⟩ => exact h1
  | ⟨2, _⟩ => exact h2

variable (x0 : S4x4096x1024.Idx → EReal) (x1 x2 x3 x4 : S4x4096x512.Idx → EReal) (x5 : S4x4096x2048.Idx → EReal)
  (x6 x7 : S1x512x1024.Idx → EReal) (x8 : S1x1024x1024.Idx → EReal) (x9 : S1x1024.Idx → EReal) (x10 : S1x1024x4096.Idx → EReal)
  (x11 : S1x4096x1024.Idx → EReal) (x12 : S1024.Idx → EReal)

theorem w6 (j : Fin 512) (k : Fin 1024) : val_main_v5 (F := Ideal) x6 (ix2 j k) = x6 (ix3 0 j k) := by
  rw [val_main_v5_apply]
  exact congrArg x6 (ext3 rfl (by show (j.val * 1024 + k.val) / 1024 % 512 = j.val; omega) (by show (j.val * 1024 + k.val) % 1024 = k.val; omega))
theorem w7 (j : Fin 512) (k : Fin 1024) : val_main_v9 (F := Ideal) x7 (ix2 j k) = x7 (ix3 0 j k) := by
  rw [val_main_v9_apply]
  exact congrArg x7 (ext3 rfl (by show (j.val * 1024 + k.val) / 1024 % 512 = j.val; omega) (by show (j.val * 1024 + k.val) % 1024 = k.val; omega))
theorem w8 (j : Fin 1024) (k : Fin 1024) : val_main_v13 (F := Ideal) x8 (ix2 j k) = x8 (ix3 0 j k) := by
  rw [val_main_v13_apply]
  exact congrArg x8 (ext3 rfl (by show (j.val * 1024 + k.val) / 1024 % 1024 = j.val; omega) (by show (j.val * 1024 + k.val) % 1024 = k.val; omega))
theorem w10 (j : Fin 1024) (k : Fin 4096) : val_main_v30 (F := Ideal) x10 (ix2 j k) = x10 (ix3 0 j k) := by
  rw [val_main_v30_apply]
  exact congrArg x10 (ext3 rfl (by show (j.val * 4096 + k.val) / 4096 % 1024 = j.val; omega) (by show (j.val * 4096 + k.val) % 4096 = k.val; omega))
theorem w11 (j : Fin 4096) (k : Fin 1024) : val_main_v34 (F := Ideal) x11 (ix2 j k) = x11 (ix3 0 j k) := by
  rw [val_main_v34_apply]
  exact congrArg x11 (ext3 rfl (by show (j.val * 1024 + k.val) / 1024 % 4096 = j.val; omega) (by show (j.val * 1024 + k.val) % 1024 = k.val; omega))

variable (b : Fin 4) (t : Fin 4096)

/-- The merged row. -/
theorem v12_eq (k : Fin 1024) : val_main_v12 (F := Ideal) x1 x2 x3 x4 x5 x6 x7 (ix3 b t k)
    = gated (fun j => x1 (ix3 b t j)) (fun j => x2 (ix3 b t j)) (fun j => x3 (ix3 b t j)) (fun j => x4 (ix3 b t j))
        (fun j => x5 (ix3 b t j)) (fun j l => x6 (ix3 0 j l)) (fun j l => x7 (ix3 0 j l)) k := by
  rw [val_main_v12_apply, val_main_v7_apply, val_main_v11_apply, val_main_v3_apply, val_main_v4_apply, val_main_v6_apply, val_main_v10_apply]
  unfold gated
  show (x5 _ * _) + (x5 _ * _) = _
  congr 1
  · congr 1
    · exact congrArg x5 (ext3 rfl rfl rfl)
    · refine Finset.sum_congr rfl fun j _ => ?_
      rw [show lidx_main_v6 (ix3 b t k) j = ix3 b t j from ext3 rfl rfl rfl, show ridx_main_v6 (ix3 b t k) j = ix2 j k from ext2 rfl rfl, w6]
      rfl
  · congr 1
    · exact congrArg x5 (ext3 rfl rfl rfl)
    · refine Finset.sum_congr rfl fun j _ => ?_
      rw [show lidx_main_v10 (ix3 b t k) j = ix3 b t j from ext3 rfl rfl rfl, show ridx_main_v10 (ix3 b t k) j = ix2 j k from ext2 rfl rfl, w7]
      rfl

/-- The residual row. -/
abbrev m1 (k : Fin 1024) : EReal :=
  mid (fun j => x0 (ix3 b t j)) (gated (fun j => x1 (ix3 b t j)) (fun j => x2 (ix3 b t j)) (fun j => x3 (ix3 b t j)) (fun j => x4 (ix3 b t j))
        (fun j => x5 (ix3 b t j)) (fun j l => x6 (ix3 0 j l)) (fun j l => x7 (ix3 0 j l))) (fun j l => x8 (ix3 0 j l)) k

theorem v15_eq (k : Fin 1024) : val_main_v15 (F := Ideal) x0 x1 x2 x3 x4 x5 x6 x7 x8 (ix3 b t k) = m1 x0 x1 x2 x3 x4 x5 x6 x7 x8 b t k := by
  rw [val_main_v15_apply, val_main_v14_apply]
  unfold m1 mid
  show x0 _ + _ = _
  congr 1
  refine Finset.sum_congr rfl fun j _ => ?_
  rw [show lidx_main_v14 (ix3 b t k) j = ix3 b t j from ext3 rfl rfl rfl, show ridx_main_v14 (ix3 b t k) j = ix2 j k from ext2 rfl rfl, w8, v12_eq]

/-- A normalised row from its sum of squares and its gain. -/
theorem rms_of {x g : Fin 1024 → EReal} {k : Fin 1024} {s y : EReal} (hs : s = ∑ j, x j * x j) (hy : y = g k) :
    x k * Ideal.rsqrt (Ideal.div s (Ideal.ofBits .f32 0x44800000#32) + Ideal.ofBits .f32 0x358637BD#32) * y = rms x g k := by
  rw [hs, hy]; rfl

theorem v18_eq : val_main_v18 (F := Ideal) x0 x1 x2 x3 x4 x5 x6 x7 x8 (ix2 b t)
    = ∑ j, m1 x0 x1 x2 x3 x4 x5 x6 x7 x8 b t j * m1 x0 x1 x2 x3 x4 x5 x6 x7 x8 b t j := by
  rw [val_main_v18_apply]
  show Ideal.ofBits .f32 0x00000000#32 + _ = _
  rw [zero_bits, zero_add]
  refine Finset.sum_congr rfl fun j _ => ?_
  rw [show idx_main_v18 (ix2 b t) j = ix3 b t j from ext3 rfl rfl rfl, val_main_v17_apply, v15_eq]
  rfl

theorem v29_eq (k : Fin 1024) : val_main_v29 (F := Ideal) x0 x1 x2 x3 x4 x5 x6 x7 x8 x9 (ix3 b t k)
    = rms (m1 x0 x1 x2 x3 x4 x5 x6 x7 x8 b t) (fun j => x9 (ix2 0 j)) k := by
  rw [val_main_v29_apply, val_main_v26_apply, val_main_v25_apply, val_main_v24_apply, val_main_v23_apply, val_main_v22_apply, val_main_v21_apply,
    val_main_v20_apply, val_main_v19_apply, val_main_v28_apply, val_main_v27_apply, val_main_v16_apply, v15_eq]
  rw [show idx_main_v19 (idx_main_v25 (ix3 b t k)) = ix2 b t from ext2 rfl rfl]
  exact rms_of (v18_eq x0 x1 x2 x3 x4 x5 x6 x7 x8 b t) (congrArg x9 (ext2 rfl (by show k.val % 1024 = k.val; omega)))

theorem v36_eq (k : Fin 1024) : val_main_v36 (F := Ideal) x0 x1 x2 x3 x4 x5 x6 x7 x8 x9 x10 x11 (ix3 b t k)
    = ffn (m1 x0 x1 x2 x3 x4 x5 x6 x7 x8 b t) (fun j => x9 (ix2 0 j)) (fun j l => x10 (ix3 0 j l)) (fun j l => x11 (ix3 0 j l)) k := by
  rw [val_main_v36_apply, v15_eq, val_main_v35_apply]
  unfold ffn
  show _ + _ = _
  congr 1
  refine Finset.sum_congr rfl fun f _ => ?_
  rw [show lidx_main_v35 (ix3 b t k) f = ix3 b t f from ext3 rfl rfl rfl, show ridx_main_v35 (ix3 b t k) f = ix2 f k from ext2 rfl rfl, w11]
  congr 1
  rw [val_main_v33_apply, val_main_v32_apply]
  have e : val_main_v31 (F := Ideal) x0 x1 x2 x3 x4 x5 x6 x7 x8 x9 x10 (ix3 b t f)
      = ∑ j : Fin 1024, rms (m1 x0 x1 x2 x3 x4 x5 x6 x7 x8 b t) (fun j => x9 (ix2 0 j)) j * x10 (ix3 0 j f) := by
    rw [val_main_v31_apply]
    refine Finset.sum_congr rfl fun j _ => ?_
    rw [show lidx_main_v31 (ix3 b t f) j = ix3 b t j from ext3 rfl rfl rfl, show ridx_main_v31 (ix3 b t f) j = ix2 j f from ext2 rfl rfl, w10, v29_eq]
  rw [e, val_main_call0_v0_apply, val_main_call0_cst_apply]
  unfold MergeRow.hidden
  show max _ (Ideal.ofBits .f32 0x00000000#32) * max _ (Ideal.ofBits .f32 0x00000000#32) = _
  rw [zero_bits]

theorem v38_eq : val_main_v38 (F := Ideal) x0 x1 x2 x3 x4 x5 x6 x7 x8 x9 x10 x11 (ix2 b t)
    = ∑ l, ffn (m1 x0 x1 x2 x3 x4 x5 x6 x7 x8 b t) (fun j => x9 (ix2 0 j)) (fun j l => x10 (ix3 0 j l)) (fun j l => x11 (ix3 0 j l)) l
        * ffn (m1 x0 x1 x2 x3 x4 x5 x6 x7 x8 b t) (fun j => x9 (ix2 0 j)) (fun j l => x10 (ix3 0 j l)) (fun j l => x11 (ix3 0 j l)) l := by
  rw [val_main_v38_apply]
  show Ideal.ofBits .f32 0x00000000#32 + _ = _
  rw [zero_bits, zero_add]
  refine Finset.sum_congr rfl fun j _ => ?_
  rw [show idx_main_v38 (ix2 b t) j = ix3 b t j from ext3 rfl rfl rfl, val_main_v37_apply, v36_eq]
  rfl

theorem v49_eq (k : Fin 1024) : val_main_v49 (F := Ideal) x0 x1 x2 x3 x4 x5 x6 x7 x8 x9 x10 x11 x12 (ix3 b t k)
    = row (fun j => x0 (ix3 b t j)) (fun j => x1 (ix3 b t j)) (fun j => x2 (ix3 b t j)) (fun j => x3 (ix3 b t j)) (fun j => x4 (ix3 b t j))
        (fun j => x5 (ix3 b t j)) (fun j l => x6 (ix3 0 j l)) (fun j l => x7 (ix3 0 j l)) (fun j l => x8 (ix3 0 j l)) (fun j => x9 (ix2 0 j))
        (fun j l => x10 (ix3 0 j l)) (fun j l => x11 (ix3 0 j l)) (fun j => x12 (ix1 j)) k := by
  rw [val_main_v49_apply, val_main_v46_apply, val_main_v45_apply, val_main_v44_apply, val_main_v43_apply, val_main_v42_apply, val_main_v41_apply,
    val_main_v40_apply, val_main_v39_apply, val_main_v48_apply, val_main_v47_apply, v36_eq]
  rw [show idx_main_v39 (idx_main_v45 (ix3 b t k)) = ix2 b t from ext2 rfl rfl]
  exact rms_of (v38_eq x0 x1 x2 x3 x4 x5 x6 x7 x8 x9 x10 x11 b t)
    (g := fun j => x12 (ix1 j)) (congrArg x12 (by funext d; match d with | ⟨0, _⟩ => rfl))

/-- The flattened result. -/
theorem v50_eq (n : Fin 16384) (k : Fin 1024) : val_main_v50 (F := Ideal) x0 x1 x2 x3 x4 x5 x6 x7 x8 x9 x10 x11 x12 (ix2 n k)
    = val_main_v49 (F := Ideal) x0 x1 x2 x3 x4 x5 x6 x7 x8 x9 x10 x11 x12 (ix3 ⟨n.val / 4096, by omega⟩ ⟨n.val % 4096, by omega⟩ k) := by
  rw [val_main_v50_apply]
  refine congrArg _ (ext3 ?_ ?_ ?_)
  · show (n.val * 1024 + k.val) / 4194304 = n.val / 4096; omega
  · show (n.val * 1024 + k.val) / 1024 % 4096 = n.val % 4096; omega
  · show (n.val * 1024 + k.val) % 1024 = k.val; omega

end Cert.Reference2Ideal.Merge

end
-- ==== Proof.MergeClaims.lean ====
/- The merge and feed-forward call: its five claims. -/
module

public import proofs.«01_k».proof.Defs
public import proofs.«01_k».proof.Proof.MergeArray
public import proofs.«01_k».proof.Proof.MergeRef
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import Idealize.ShloMosaic.Lib.Quiescent

@[expose] public section

noncomputable section

namespace Cert.MergeClaims

open Idealize.ShloMosaic Idealize.SL.Sem Idealize.ShloMosaic.ValueIdx

/-- The two texts' values at an entry are the same row. -/
theorem ref_eq (x0 : Cert.Kernel2Ideal.S4x4096x1024.Idx → EReal) (x1 x2 x3 x4 : Cert.Kernel2Ideal.S4x4096x512.Idx → EReal) (x5 : Cert.Kernel2Ideal.S4x4096x2048.Idx → EReal)
    (x6 x7 : Cert.Kernel2Ideal.S1x512x1024.Idx → EReal) (x8 : Cert.Kernel2Ideal.S1x1024x1024.Idx → EReal) (x9 : Cert.Kernel2Ideal.S1x1024.Idx → EReal)
    (x10 : Cert.Kernel2Ideal.S1x1024x4096.Idx → EReal) (x11 : Cert.Kernel2Ideal.S1x4096x1024.Idx → EReal) (x12 : Cert.Kernel2Ideal.S1024.Idx → EReal) :
    Cert.Reference2Ideal.Read.val_main_v50 (F := Ideal) x0 x1 x2 x3 x4 x5 x6 x7 x8 x9 x10 x11 x12
      = Cert.Kernel2Ideal.Merge.G x0 x1 x2 x3 x4 x5 x6 x7 x8 x9 x10 x11 x12 := by
  funext i
  obtain ⟨n, k, rfl⟩ : ∃ (n : Fin 16384) (k : Fin 1024), i = ix2 n k := ⟨i 0, i 1, by funext d; match d with | ⟨0, _⟩ => rfl | ⟨1, _⟩ => rfl⟩
  rw [Cert.Reference2Ideal.Merge.v50_eq, Cert.Reference2Ideal.Merge.v49_eq]
  rfl

theorem frameP : Cert.quiescent_Kernel2 (hKernel2 := Cert.Kernel2.Gen.facts) := fun m ρ _ => Cert.Kernel2.Gen.frame m ρ

theorem framePI : Cert.quiescent_Kernel2Ideal (hKernel2Ideal := Cert.Kernel2Ideal.Gen.facts) := fun m ρ _ => Cert.Kernel2Ideal.Gen.frame m ρ

theorem frameRI : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem alg : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Merge.Gm m c, ?_, ?_⟩
  · exact (θ_run Cert.Kernel2Ideal.defs _ _).mono (fun r h c => ⟨(h c).1.trans (Cert.Kernel2Ideal.Merge.final m c), (h c).2⟩)
      (Cert.Kernel2Ideal.Value.run_blocks m ρ)
  · refine (θ_run Cert.Reference2Ideal.defs _ _).mono (fun r h c => ⟨(h c).1.trans ?_, (h c).2⟩)
      (Cert.Reference2Ideal.Value.run (F := Ideal) m' ρ')
    obtain ⟨h0, h1, h2, h3, h4, h5, h6, h7, h8, h9, h10, h11, h12⟩ := hagree c
    rw [Cert.Reference2Ideal.Read.val_main_v50_eq, h0, h1, h2, h3, h4, h5, h6, h7, h8, h9, h10, h11, h12]
    exact ref_eq _ _ _ _ _ _ _ _ _ _ _ _ _

end Cert.MergeClaims

end
-- ==== Proof.InState.lean ====
/- The projection call's blocks: what one point leaves, as functions of its input blocks and of the
   rows the point before it carried over. -/
module

public import proofs.«01_k».proof.Proof.Gen.Kernel3Ideal.Skeleton
public import Idealize.ShloMosaic.Lib.Exec
public import Idealize.ShloMosaic.Lib.Tactic
public import Idealize.ShloMosaic.Lib.Writes
public import Idealize.ShloMosaic.Lib.VecWindow
public import Idealize.ShloMosaic.Lib.Pipeline.FrameBody

@[expose] public section

noncomputable section

namespace Cert.Kernel3Ideal.Proj

open Idealize.ShloMosaic Idealize.ShloMosaic.TcCoe

section blocks

/-- An index of a rank-two array from its two coordinates. -/
def at2 {a b : ℕ} (r c : ℕ) (hr : r < a) (hc : c < b) : (⟨2, ![a, b]⟩ : Shape).Idx
  | ⟨0, _⟩ => ⟨r, hr⟩
  | ⟨1, _⟩ => ⟨c, hc⟩

theorem at2_eq {a b : ℕ} (r c : ℕ) (hr : r < a) (hc : c < b) (y : (⟨2, ![a, b]⟩ : Shape).Idx) (h0 : (y 0).val = r) (h1 : (y 1).val = c) :
    y = at2 r c hr hc := funext fun x => Fin.ext (by
  match x with
  | ⟨0, _⟩ => exact h0
  | ⟨1, _⟩ => exact h1)

variable {α : Type}

/-- Two streams of 256 rows, one above the other. -/
def two {n : ℕ} (a : Fin 2 → (⟨2, ![256, n]⟩ : Shape).Idx → α) : (⟨2, ![512, n]⟩ : Shape).Idx → α := fun y =>
  have h : (y 0).val < 512 := (y 0).isLt
  a ⟨(y 0).val / 256, by omega⟩ (at2 ((y 0).val % 256) (y 1).val (Nat.mod_lt _ (by decide)) (y 1).isLt)

theorem two_at {n : ℕ} (a : Fin 2 → (⟨2, ![256, n]⟩ : Shape).Idx → α) (s : Fin 2) (x : (⟨2, ![256, n]⟩ : Shape).Idx)
    (y : (⟨2, ![512, n]⟩ : Shape).Idx) (h0 : (y 0).val = 256 * s.val + (x 0).val) (h1 : (y 1).val = (x 1).val) : two a y = a s x := by
  have hx : (x 0).val < 256 := (x 0).isLt
  unfold two
  have e : (⟨(y 0).val / 256, by have : (y 0).val < 512 := (y 0).isLt; omega⟩ : Fin 2) = s := Fin.ext (by show (y 0).val / 256 = s.val; omega)
  show a ⟨(y 0).val / 256, _⟩ _ = _
  rw [e]
  exact congrArg (a s) (at2_eq _ _ _ _ x (by omega) h1.symm).symm

/-- Two streams of 256 rows of four heads, a head a row of 128: row `r`, head `h` at `4 r + h`. -/
def heads (k : Fin 2 → (⟨2, ![256, 512]⟩ : Shape).Idx → α) : (⟨2, ![2048, 128]⟩ : Shape).Idx → α := fun y =>
  have h : (y 0).val < 2048 := (y 0).isLt
  k ⟨(y 0).val / 1024, by omega⟩ (at2 ((y 0).val / 4 % 256) ((y 0).val % 4 * 128 + (y 1).val) (Nat.mod_lt _ (by decide))
    (by have : (y 1).val < 128 := (y 1).isLt; omega))

theorem heads_at (k : Fin 2 → (⟨2, ![256, 512]⟩ : Shape).Idx → α) (s : Fin 2) (x : (⟨2, ![256, 512]⟩ : Shape).Idx)
    (y : (⟨2, ![2048, 128]⟩ : Shape).Idx) (h : ℕ) (hh : h < 4) (h0 : (y 0).val = 1024 * s.val + h + 4 * (x 0).val) (h1 : (x 1).val = h * 128 + (y 1).val) :
    heads k y = k s x := by
  have hx : (x 0).val < 256 := (x 0).isLt
  unfold heads
  have e : (⟨(y 0).val / 1024, by have : (y 0).val < 2048 := (y 0).isLt; omega⟩ : Fin 2) = s := Fin.ext (by show (y 0).val / 1024 = s.val; omega)
  show k ⟨(y 0).val / 1024, _⟩ _ = _
  rw [e]
  exact congrArg (k s) (at2_eq _ _ _ _ x (by omega) (by rw [h1]; omega)).symm

end blocks

variable {F : FTy → Type} [FloatOps F]

/-- The rows of one stream. -/
def part (X : Vec F S512x1024 .f32) (s : Fin 2) : Vec F S256x1024 .f32 :=
  match s with
  | 0 => View.ld X (Rect.unit (s := S512x1024) ![0, 0] S256x1024.size Gen.inb_S512x1024_S256x1024_0_0)
  | 1 => View.ld X (Rect.unit (s := S512x1024) ![256, 0] S256x1024.size Gen.inb_S512x1024_S256x1024_256_0)

def colQ (W : Vec F S1024x5376 .bf16) : Vec F S1024x512 .bf16 := View.ld W (Rect.unit (s := S1024x5376) ![0, 1792] S1024x512.size Gen.inb_S1024x5376_S1024x512_0_1792)
def colK (W : Vec F S1024x5376 .bf16) : Vec F S1024x512 .bf16 := View.ld W (Rect.unit (s := S1024x5376) ![0, 2304] S1024x512.size Gen.inb_S1024x5376_S1024x512_0_2304)
def colV (W : Vec F S1024x5376 .bf16) : Vec F S1024x512 .bf16 := View.ld W (Rect.unit (s := S1024x5376) ![0, 2816] S1024x512.size Gen.inb_S1024x5376_S1024x512_0_2816)
def colG (W : Vec F S1024x5376 .bf16) : Vec F S1024x2048 .bf16 := View.ld W (Rect.unit (s := S1024x5376) ![0, 3328] S1024x2048.size Gen.inb_S1024x5376_S1024x2048_0_3328)
def colP (W : Vec F S1024x5376 .bf16) : Vec F S1024x1792 .bf16 := View.ld W (Rect.unit (s := S1024x5376) ![0, 0] S1024x1792.size Gen.inb_S1024x5376_S1024x1792_0_0)

/-- The normalisation's weights and the shift's, read whole. -/
def allG (g : Vec F S1x1024 .f32) : Vec F S1x1024 .f32 := View.ld g (Rect.unit (s := S1x1024) ![0, 0] S1x1024.size Gen.inb_S1x1024_S1x1024_0_0)
def allM (M : Vec F S1x1792 .f32) : Vec F S1x1792 .f32 := View.ld M (Rect.unit (s := S1x1792) ![0, 0] S1x1792.size Gen.inb_S1x1792_S1x1792_0_0)

/-- A stream's normalised rows, in f32 and rounded. -/
def xn (X : Vec F S512x1024 .f32) (g : Vec F S1x1024 .f32) (s : Fin 2) : FVec F S256x1024 .f32 := Gen.k0_pay18 (part X s) (allG g)
def xb (X : Vec F S512x1024 .f32) (g : Vec F S1x1024 .f32) (s : Fin 2) : FVec F S256x1024 .bf16 := Gen.k0_pay19 (part X s) (allG g)

def qs (X : Vec F S512x1024 .f32) (g : Vec F S1x1024 .f32) (W : Vec F S1024x5376 .bf16) (s : Fin 2) : FVec F S256x512 .bf16 := Gen.k0_pay20 (part X s) (allG g) (colQ W)
def ks (X : Vec F S512x1024 .f32) (g : Vec F S1x1024 .f32) (W : Vec F S1024x5376 .bf16) (s : Fin 2) : FVec F S256x512 .f32 := Gen.k0_pay21 (xb X g s) (colK W)
def vs (X : Vec F S512x1024 .f32) (g : Vec F S1x1024 .f32) (W : Vec F S1024x5376 .bf16) (s : Fin 2) : FVec F S256x512 .f32 := Gen.k0_pay22 (xb X g s) (colV W)
def gs (X : Vec F S512x1024 .f32) (g : Vec F S1x1024 .f32) (W : Vec F S1024x5376 .bf16) (s : Fin 2) : FVec F S256x2048 .bf16 := Gen.k0_pay31 (xb X g s) (colG W)

/-- The last of the carried rows. -/
def row7 (C : Vec F S8x1792 .f32) : Vec F S1x1792 .f32 := View.ld C (Rect.unit (s := S8x1792) ![7, 0] S1x1792.size Gen.inb_S8x1792_S1x1792_7_0)

/-- The row before a stream's first one. -/
def last (C : Vec F S8x1792 .f32) (X : Vec F S512x1024 .f32) (g : Vec F S1x1024 .f32) (W : Vec F S1024x5376 .bf16) : Fin 2 → FVec F S1x1792 .f32
  | 0 => row7 C
  | 1 => Gen.k0_pay17 (xb X g 0) (colP W)

def ps (C : Vec F S8x1792 .f32) (X : Vec F S512x1024 .f32) (g : Vec F S1x1024 .f32) (W : Vec F S1024x5376 .bf16) (M : Vec F S1x1792 .f32) (s : Fin 2) :
    FVec F S256x1792 .f32 := Gen.k0_pay33 (last C X g W s) (xb X g s) (colP W) (allM M)

/-- What a point carries over, and its last normalised row. -/
def carry (X : Vec F S512x1024 .f32) (g : Vec F S1x1024 .f32) (W : Vec F S1024x5376 .bf16) : FVec F S8x1792 .f32 := Gen.k0_pay34 (xb X g 1) (colP W)
def lastRow (X : Vec F S512x1024 .f32) (g : Vec F S1x1024 .f32) : FVec F S1x1x1024 .f32 := Gen.k0_pay35 (xn X g 1)

section folds

variable (X : Vec F S512x1024 .f32) (g : Vec F S1x1024 .f32) (W : Vec F S1024x5376 .bf16) (C : Vec F S8x1792 .f32) (M : Vec F S1x1792 .f32)

theorem pay2_eq (a : Vec F S256x1024 .f32) (b : Vec F S1x1024 .f32) : Gen.k0_pay2 a b = Gen.k0_pay19 a b := rfl
theorem pay3_eq (a : Vec F S256x1024 .f32) (b : Vec F S1x1024 .f32) (w : Vec F S1024x512 .bf16) : Gen.k0_pay3 a b w = Gen.k0_pay20 a b w := by
  unfold Gen.k0_pay3 Gen.k0_pay20
  simp only [pay2_eq]
theorem pay4_eq (a : Vec F S256x1024 .f32) (b : Vec F S1x1024 .f32) (w : Vec F S1024x512 .bf16) : Gen.k0_pay4 a b w = Gen.k0_pay21 (Gen.k0_pay19 a b) w := by
  unfold Gen.k0_pay4 Gen.k0_pay21
  simp only [pay2_eq]
theorem pay5_eq (a : Vec F S256x1024 .f32) (b : Vec F S1x1024 .f32) (w : Vec F S1024x512 .bf16) : Gen.k0_pay5 a b w = Gen.k0_pay22 (Gen.k0_pay19 a b) w := by
  unfold Gen.k0_pay5 Gen.k0_pay22
  simp only [pay2_eq]
theorem pay14_eq (a : FVec F S256x1024 .bf16) (w : Vec F S1024x2048 .bf16) : Gen.k0_pay14 a w = Gen.k0_pay31 a w := rfl
theorem pay15_eq (a : FVec F S256x1024 .bf16) (w : Vec F S1024x1792 .bf16) : Gen.k0_pay15 a w = Gen.k0_pay32 a w := rfl
theorem pay16_eq (l : Vec F S1x1792 .f32) (a : FVec F S256x1024 .bf16) (w : Vec F S1024x1792 .bf16) (m : Vec F S1x1792 .f32) : Gen.k0_pay16 l a w m = Gen.k0_pay33 l a w m := by
  unfold Gen.k0_pay16 Gen.k0_pay33
  simp only [pay15_eq]

theorem xb_eq (s : Fin 2) : Gen.k0_pay19 (part X s) (allG g) = xb X g s := rfl
theorem xn_eq (s : Fin 2) : Gen.k0_pay18 (part X s) (allG g) = xn X g s := rfl
theorem qs_eq (s : Fin 2) : Gen.k0_pay20 (part X s) (allG g) (colQ W) = qs X g W s := rfl
theorem ks_eq (s : Fin 2) : Gen.k0_pay21 (xb X g s) (colK W) = ks X g W s := rfl
theorem vs_eq (s : Fin 2) : Gen.k0_pay22 (xb X g s) (colV W) = vs X g W s := rfl
theorem gs_eq (s : Fin 2) : Gen.k0_pay31 (xb X g s) (colG W) = gs X g W s := rfl
theorem ps0_eq : Gen.k0_pay33 (row7 C) (xb X g 0) (colP W) (allM M) = ps C X g W M 0 := rfl
theorem ps1_eq : Gen.k0_pay33 (Gen.k0_pay17 (xb X g 0) (colP W)) (xb X g 1) (colP W) (allM M) = ps C X g W M 1 := rfl
theorem pay6_eq (a : FVec F S256x512 .f32) : Gen.k0_pay6 a = extractStridedSlice S256x128 ![0, 0] a Gen.slices_S256x512_o0_0_S256x128 := rfl
theorem pay7_eq (a : FVec F S256x512 .f32) : Gen.k0_pay7 a = extractStridedSlice S256x128 ![0, 0] a Gen.slices_S256x512_o0_0_S256x128 := rfl
theorem pay8_eq (a : FVec F S256x512 .f32) : Gen.k0_pay8 a = extractStridedSlice S256x128 ![0, 128] a Gen.slices_S256x512_o0_128_S256x128 := rfl
theorem pay9_eq (a : FVec F S256x512 .f32) : Gen.k0_pay9 a = extractStridedSlice S256x128 ![0, 128] a Gen.slices_S256x512_o0_128_S256x128 := rfl
theorem pay10_eq (a : FVec F S256x512 .f32) : Gen.k0_pay10 a = extractStridedSlice S256x128 ![0, 256] a Gen.slices_S256x512_o0_256_S256x128 := rfl
theorem pay11_eq (a : FVec F S256x512 .f32) : Gen.k0_pay11 a = extractStridedSlice S256x128 ![0, 256] a Gen.slices_S256x512_o0_256_S256x128 := rfl
theorem pay12_eq (a : FVec F S256x512 .f32) : Gen.k0_pay12 a = extractStridedSlice S256x128 ![0, 384] a Gen.slices_S256x512_o0_384_S256x128 := rfl
theorem pay13_eq (a : FVec F S256x512 .f32) : Gen.k0_pay13 a = extractStridedSlice S256x128 ![0, 384] a Gen.slices_S256x512_o0_384_S256x128 := rfl
theorem pay23_eq (a : FVec F S256x1024 .bf16) (w : Vec F S1024x512 .bf16) : Gen.k0_pay23 a w = extractStridedSlice S256x128 ![0, 0] (Gen.k0_pay21 a w) Gen.slices_S256x512_o0_0_S256x128 := rfl
theorem pay24_eq (a : FVec F S256x1024 .bf16) (w : Vec F S1024x512 .bf16) : Gen.k0_pay24 a w = extractStridedSlice S256x128 ![0, 0] (Gen.k0_pay22 a w) Gen.slices_S256x512_o0_0_S256x128 := rfl
theorem pay25_eq (a : FVec F S256x1024 .bf16) (w : Vec F S1024x512 .bf16) : Gen.k0_pay25 a w = extractStridedSlice S256x128 ![0, 128] (Gen.k0_pay21 a w) Gen.slices_S256x512_o0_128_S256x128 := rfl
theorem pay26_eq (a : FVec F S256x1024 .bf16) (w : Vec F S1024x512 .bf16) : Gen.k0_pay26 a w = extractStridedSlice S256x128 ![0, 128] (Gen.k0_pay22 a w) Gen.slices_S256x512_o0_128_S256x128 := rfl
theorem pay27_eq (a : FVec F S256x1024 .bf16) (w : Vec F S1024x512 .bf16) : Gen.k0_pay27 a w = extractStridedSlice S256x128 ![0, 256] (Gen.k0_pay21 a w) Gen.slices_S256x512_o0_256_S256x128 := rfl
theorem pay28_eq (a : FVec F S256x1024 .bf16) (w : Vec F S1024x512 .bf16) : Gen.k0_pay28 a w = extractStridedSlice S256x128 ![0, 256] (Gen.k0_pay22 a w) Gen.slices_S256x512_o0_256_S256x128 := rfl
theorem pay29_eq (a : FVec F S256x1024 .bf16) (w : Vec F S1024x512 .bf16) : Gen.k0_pay29 a w = extractStridedSlice S256x128 ![0, 384] (Gen.k0_pay21 a w) Gen.slices_S256x512_o0_384_S256x128 := rfl
theorem pay30_eq (a : FVec F S256x1024 .bf16) (w : Vec F S1024x512 .bf16) : Gen.k0_pay30 a w = extractStridedSlice S256x128 ![0, 384] (Gen.k0_pay22 a w) Gen.slices_S256x512_o0_384_S256x128 := rfl

end folds

section loads

variable {sig : RefSig} {κ : Kind} {sp : Space}

theorem ld_x0 (v : View sig κ sp S512x1024 .f32) (f : v.ty.Contents (Elt F)) : v.readAt (Elt F) (Rect.unit (s := S512x1024) ![0, 0] ![256, 1024] Gen.inb_S512x1024_S256x1024_0_0).toLoadRect f = part (v.read (Elt F) f) 0 := rfl
theorem ld_x1 (v : View sig κ sp S512x1024 .f32) (f : v.ty.Contents (Elt F)) : v.readAt (Elt F) (Rect.unit (s := S512x1024) ![256, 0] ![256, 1024] Gen.inb_S512x1024_S256x1024_256_0).toLoadRect f = part (v.read (Elt F) f) 1 := rfl
theorem ld_g (v : View sig κ sp S1x1024 .f32) (f : v.ty.Contents (Elt F)) : v.readAt (Elt F) (Rect.unit (s := S1x1024) ![0, 0] ![1, 1024] Gen.inb_S1x1024_S1x1024_0_0).toLoadRect f = allG (v.read (Elt F) f) := rfl
theorem ld_m (v : View sig κ sp S1x1792 .f32) (f : v.ty.Contents (Elt F)) : v.readAt (Elt F) (Rect.unit (s := S1x1792) ![0, 0] ![1, 1792] Gen.inb_S1x1792_S1x1792_0_0).toLoadRect f = allM (v.read (Elt F) f) := rfl
theorem ld_q (v : View sig κ sp S1024x5376 .bf16) (f : v.ty.Contents (Elt F)) : v.readAt (Elt F) (Rect.unit (s := S1024x5376) ![0, 1792] ![1024, 512] Gen.inb_S1024x5376_S1024x512_0_1792).toLoadRect f = colQ (v.read (Elt F) f) := rfl
theorem ld_k (v : View sig κ sp S1024x5376 .bf16) (f : v.ty.Contents (Elt F)) : v.readAt (Elt F) (Rect.unit (s := S1024x5376) ![0, 2304] ![1024, 512] Gen.inb_S1024x5376_S1024x512_0_2304).toLoadRect f = colK (v.read (Elt F) f) := rfl
theorem ld_v (v : View sig κ sp S1024x5376 .bf16) (f : v.ty.Contents (Elt F)) : v.readAt (Elt F) (Rect.unit (s := S1024x5376) ![0, 2816] ![1024, 512] Gen.inb_S1024x5376_S1024x512_0_2816).toLoadRect f = colV (v.read (Elt F) f) := rfl
theorem ld_gate (v : View sig κ sp S1024x5376 .bf16) (f : v.ty.Contents (Elt F)) : v.readAt (Elt F) (Rect.unit (s := S1024x5376) ![0, 3328] ![1024, 2048] Gen.inb_S1024x5376_S1024x2048_0_3328).toLoadRect f = colG (v.read (Elt F) f) := rfl
theorem ld_p (v : View sig κ sp S1024x5376 .bf16) (f : v.ty.Contents (Elt F)) : v.readAt (Elt F) (Rect.unit (s := S1024x5376) ![0, 0] ![1024, 1792] Gen.inb_S1024x5376_S1024x1792_0_0).toLoadRect f = colP (v.read (Elt F) f) := rfl
theorem ld_c (v : View sig κ sp S8x1792 .f32) (f : v.ty.Contents (Elt F)) : v.readAt (Elt F) (Rect.unit (s := S8x1792) ![7, 0] ![1, 1792] Gen.inb_S8x1792_S1x1792_7_0).toLoadRect f = row7 (v.read (Elt F) f) := rfl

end loads

section pieces

variable {sig : RefSig} {κ : Kind} {sp : Space} {e : EltTy} {Val : EltTy → Type}

/-- A block written in two halves of rows reads the two streams. -/
theorem read_two {n : ℕ} (v : View sig κ sp (⟨2, ![512, n]⟩ : Shape) e) (f : v.ty.Contents Val)
    (i1 : ∀ a, (![256, 0] : Fin 2 → ℕ) a + (![256, n] : Fin 2 → ℕ) a ≤ (⟨2, ![512, n]⟩ : Shape).size a)
    (i0 : ∀ a, (![0, 0] : Fin 2 → ℕ) a + (![256, n] : Fin 2 → ℕ) a ≤ (⟨2, ![512, n]⟩ : Shape).size a)
    (a : Fin 2 → (⟨2, ![256, n]⟩ : Shape).Idx → Val e) :
    v.read Val (v.writes Val f [⟨Rect.unit (s := ⟨2, ![512, n]⟩) ![256, 0] ![256, n] i1, a 1⟩, ⟨Rect.unit (s := ⟨2, ![512, n]⟩) ![0, 0] ![256, n] i0, a 0⟩]) = two a := by
  funext y
  refine View.read_writes_apply_of_pieces v f (two a) _ ?_ y ?_
  · intro p hp x
    rcases List.mem_cons.mp hp with rfl | hp
    · exact (two_at a 1 x _ (by show 256 + 1 * (x 0).val = _; simp) (by show 0 + 1 * (x 1).val = _; omega)).symm
    · rcases List.mem_cons.mp hp with rfl | hp
      · exact (two_at a 0 x _ (by show 0 + 1 * (x 0).val = _; simp) (by show 0 + 1 * (x 1).val = _; omega)).symm
      · exact absurd hp List.not_mem_nil
  · have hy : (y 0).val < 512 := (y 0).isLt
    have hy1 : (y 1).val < n := (y 1).isLt
    by_cases h : (y 0).val < 256
    · refine ⟨_, List.mem_cons_of_mem _ List.mem_cons_self, (Rect.mem_set_unit (inb := i0)).mpr fun b => ?_⟩
      match b with
      | ⟨0, _⟩ => exact ⟨Nat.zero_le _, by show (y 0).val < 0 + 256; omega⟩
      | ⟨1, _⟩ => exact ⟨Nat.zero_le _, by show (y 1).val < 0 + n; omega⟩
    · refine ⟨_, List.mem_cons_self, (Rect.mem_set_unit (inb := i1)).mpr fun b => ?_⟩
      match b with
      | ⟨0, _⟩ => exact ⟨by show 256 ≤ (y 0).val; omega, by show (y 0).val < 256 + 256; omega⟩
      | ⟨1, _⟩ => exact ⟨Nat.zero_le _, by show (y 1).val < 0 + n; omega⟩

theorem read_twoP (v : View sig κ sp S512x1792 .f32) (f : v.ty.Contents (Elt F)) (a : Fin 2 → FVec F S256x1792 .f32) :
    v.read (Elt F) (v.writes (Elt F) f [⟨Rect.unit (s := S512x1792) ![256, 0] ![256, 1792] Gen.inb_S512x1792_S256x1792_256_0, a 1⟩,
      ⟨Rect.unit (s := S512x1792) ![0, 0] ![256, 1792] Gen.inb_S512x1792_S256x1792_0_0, a 0⟩]) = two a :=
  read_two (n := 1792) (Val := Elt F) (e := .f32) v f _ _ a

theorem read_twoK (v : View sig κ sp S512x512 .f32) (f : v.ty.Contents (Elt F)) (a : Fin 2 → FVec F S256x512 .f32) :
    v.read (Elt F) (v.writes (Elt F) f [⟨Rect.unit (s := S512x512) ![256, 0] ![256, 512] Gen.inb_S512x512_S256x512_256_0, a 1⟩,
      ⟨Rect.unit (s := S512x512) ![0, 0] ![256, 512] Gen.inb_S512x512_S256x512_0_0, a 0⟩]) = two a :=
  read_two (n := 512) (Val := Elt F) (e := .f32) v f _ _ a

theorem read_twoQ (v : View sig κ sp S512x512 .bf16) (f : v.ty.Contents (Elt F)) (a : Fin 2 → FVec F S256x512 .bf16) :
    v.read (Elt F) (v.writes (Elt F) f [⟨Rect.unit (s := S512x512) ![256, 0] ![256, 512] Gen.inb_S512x512_S256x512_256_0, a 1⟩,
      ⟨Rect.unit (s := S512x512) ![0, 0] ![256, 512] Gen.inb_S512x512_S256x512_0_0, a 0⟩]) = two a :=
  read_two (n := 512) (Val := Elt F) (e := .bf16) v f _ _ a

theorem read_twoG (v : View sig κ sp S512x2048 .bf16) (f : v.ty.Contents (Elt F)) (a : Fin 2 → FVec F S256x2048 .bf16) :
    v.read (Elt F) (v.writes (Elt F) f [⟨Rect.unit (s := S512x2048) ![256, 0] ![256, 2048] Gen.inb_S512x2048_S256x2048_256_0, a 1⟩,
      ⟨Rect.unit (s := S512x2048) ![0, 0] ![256, 2048] Gen.inb_S512x2048_S256x2048_0_0, a 0⟩]) = two a :=
  read_two (n := 2048) (Val := Elt F) (e := .bf16) v f _ _ a

theorem readCov_row7 (v : View sig κ sp S8x1792 .f32) (w : Vec F S8x1792 .f32) :
    v.readCov (Val := Elt F) [⟨Rect.unit (s := S8x1792) ![0, 0] ![8, 1792] Gen.inb_S8x1792_S8x1792_0_0, w⟩] (Rect.unit (s := S8x1792) ![7, 0] ![1, 1792] Gen.inb_S8x1792_S1x1792_7_0).toLoadRect = row7 w :=
  congrArg row7 (View.read_writes_full v v.junk _ w [])

theorem mem4 (o : ℕ) (inb) (y : S2048x128.Idx) (hs := Gen.spos_4_1) :
    y ∈ (⟨(⟨![o, 0], ![256, 128], ![4, 1], inb⟩ : LoadRect S2048x128), hs⟩ : Rect S2048x128).set ↔ ∃ j < 256, (y 0).val = o + 4 * j := by
  refine (LoadRect.mem_set _).trans ⟨fun h => h 0, fun h b => ?_⟩
  match b with
  | ⟨0, _⟩ => exact h
  | ⟨1, _⟩ => exact ⟨(y 1).val, (y 1).isLt, by show (y 1).val = 0 + 1 * (y 1).val; omega⟩

set_option maxHeartbeats 1000000 in
/-- A block written head by head, a head's rows four apart, reads the two streams' heads. -/
theorem read_heads (v : View sig κ sp S2048x128 .f32) (f : v.ty.Contents (Elt F)) (k : Fin 2 → FVec F S256x512 .f32) :
    v.read (Elt F) (v.writes (Elt F) f [
      ⟨⟨(⟨![1027, 0], ![256, 128], ![4, 1], Gen.inb_S2048x128_S256x128_1027_0_s_4_1⟩ : LoadRect S2048x128), Gen.spos_4_1⟩, extractStridedSlice S256x128 ![0, 384] (k 1) Gen.slices_S256x512_o0_384_S256x128⟩,
      ⟨⟨(⟨![1026, 0], ![256, 128], ![4, 1], Gen.inb_S2048x128_S256x128_1026_0_s_4_1⟩ : LoadRect S2048x128), Gen.spos_4_1⟩, extractStridedSlice S256x128 ![0, 256] (k 1) Gen.slices_S256x512_o0_256_S256x128⟩,
      ⟨⟨(⟨![1025, 0], ![256, 128], ![4, 1], Gen.inb_S2048x128_S256x128_1025_0_s_4_1⟩ : LoadRect S2048x128), Gen.spos_4_1⟩, extractStridedSlice S256x128 ![0, 128] (k 1) Gen.slices_S256x512_o0_128_S256x128⟩,
      ⟨⟨(⟨![1024, 0], ![256, 128], ![4, 1], Gen.inb_S2048x128_S256x128_1024_0_s_4_1⟩ : LoadRect S2048x128), Gen.spos_4_1⟩, extractStridedSlice S256x128 ![0, 0] (k 1) Gen.slices_S256x512_o0_0_S256x128⟩,
      ⟨⟨(⟨![3, 0], ![256, 128], ![4, 1], Gen.inb_S2048x128_S256x128_3_0_s_4_1⟩ : LoadRect S2048x128), Gen.spos_4_1⟩, extractStridedSlice S256x128 ![0, 384] (k 0) Gen.slices_S256x512_o0_384_S256x128⟩,
      ⟨⟨(⟨![2, 0], ![256, 128], ![4, 1], Gen.inb_S2048x128_S256x128_2_0_s_4_1⟩ : LoadRect S2048x128), Gen.spos_4_1⟩, extractStridedSlice S256x128 ![0, 256] (k 0) Gen.slices_S256x512_o0_256_S256x128⟩,
      ⟨⟨(⟨![1, 0], ![256, 128], ![4, 1], Gen.inb_S2048x128_S256x128_1_0_s_4_1⟩ : LoadRect S2048x128), Gen.spos_4_1⟩, extractStridedSlice S256x128 ![0, 128] (k 0) Gen.slices_S256x512_o0_128_S256x128⟩,
      ⟨⟨(⟨![0, 0], ![256, 128], ![4, 1], Gen.inb_S2048x128_S256x128_0_0_s_4_1⟩ : LoadRect S2048x128), Gen.spos_4_1⟩, extractStridedSlice S256x128 ![0, 0] (k 0) Gen.slices_S256x512_o0_0_S256x128⟩]) = heads k := by
  funext y
  refine View.read_writes_apply_of_pieces v f (heads k) _ ?_ y ?_
  · intro p hp x
    simp only [List.mem_cons, List.not_mem_nil, or_false] at hp
    rcases hp with hp | hp | hp | hp | hp | hp | hp | hp
    · subst hp; exact (heads_at k 1 _ _ 3 (by decide) (by show 1027 + 4 * (x 0).val = 1024 * 1 + 3 + 4 * (0 + (x 0).val); omega) (by show 384 + (x 1).val = 3 * 128 + (0 + 1 * (x 1).val); omega)).symm
    · subst hp; exact (heads_at k 1 _ _ 2 (by decide) (by show 1026 + 4 * (x 0).val = 1024 * 1 + 2 + 4 * (0 + (x 0).val); omega) (by show 256 + (x 1).val = 2 * 128 + (0 + 1 * (x 1).val); omega)).symm
    · subst hp; exact (heads_at k 1 _ _ 1 (by decide) (by show 1025 + 4 * (x 0).val = 1024 * 1 + 1 + 4 * (0 + (x 0).val); omega) (by show 128 + (x 1).val = 1 * 128 + (0 + 1 * (x 1).val); omega)).symm
    · subst hp; exact (heads_at k 1 _ _ 0 (by decide) (by show 1024 + 4 * (x 0).val = 1024 * 1 + 0 + 4 * (0 + (x 0).val); omega) (by show 0 + (x 1).val = 0 * 128 + (0 + 1 * (x 1).val); omega)).symm
    · subst hp; exact (heads_at k 0 _ _ 3 (by decide) (by show 3 + 4 * (x 0).val = 1024 * 0 + 3 + 4 * (0 + (x 0).val); omega) (by show 384 + (x 1).val = 3 * 128 + (0 + 1 * (x 1).val); omega)).symm
    · subst hp; exact (heads_at k 0 _ _ 2 (by decide) (by show 2 + 4 * (x 0).val = 1024 * 0 + 2 + 4 * (0 + (x 0).val); omega) (by show 256 + (x 1).val = 2 * 128 + (0 + 1 * (x 1).val); omega)).symm
    · subst hp; exact (heads_at k 0 _ _ 1 (by decide) (by show 1 + 4 * (x 0).val = 1024 * 0 + 1 + 4 * (0 + (x 0).val); omega) (by show 128 + (x 1).val = 1 * 128 + (0 + 1 * (x 1).val); omega)).symm
    · subst hp; exact (heads_at k 0 _ _ 0 (by decide) (by show 0 + 4 * (x 0).val = 1024 * 0 + 0 + 4 * (0 + (x 0).val); omega) (by show 0 + (x 1).val = 0 * 128 + (0 + 1 * (x 1).val); omega)).symm
  · have hy : (y 0).val < 2048 := (y 0).isLt
    obtain ⟨j, hj, h⟩ : ∃ j < 256, (y 0).val = 1024 * ((y 0).val / 1024) + (y 0).val % 4 + 4 * j := ⟨(y 0).val % 1024 / 4, by omega, by omega⟩
    have h1 : (y 0).val / 1024 = 1 ∨ (y 0).val / 1024 = 0 := by omega
    have h2 : (y 0).val % 4 = 3 ∨ (y 0).val % 4 = 2 ∨ (y 0).val % 4 = 1 ∨ (y 0).val % 4 = 0 := by omega
    rcases h1 with h1 | h1 <;> rcases h2 with h2 | h2 | h2 | h2 <;> rw [h1, h2] at h
    · exact ⟨_, .head _, (mem4 1027 _ y).mpr ⟨j, hj, by omega⟩⟩
    · exact ⟨_, .tail _ (.head _), (mem4 1026 _ y).mpr ⟨j, hj, by omega⟩⟩
    · exact ⟨_, .tail _ (.tail _ (.head _)), (mem4 1025 _ y).mpr ⟨j, hj, by omega⟩⟩
    · exact ⟨_, .tail _ (.tail _ (.tail _ (.head _))), (mem4 1024 _ y).mpr ⟨j, hj, by omega⟩⟩
    · exact ⟨_, .tail _ (.tail _ (.tail _ (.tail _ (.head _)))), (mem4 3 _ y).mpr ⟨j, hj, by omega⟩⟩
    · exact ⟨_, .tail _ (.tail _ (.tail _ (.tail _ (.tail _ (.head _))))), (mem4 2 _ y).mpr ⟨j, hj, by omega⟩⟩
    · exact ⟨_, .tail _ (.tail _ (.tail _ (.tail _ (.tail _ (.tail _ (.head _)))))), (mem4 1 _ y).mpr ⟨j, hj, by omega⟩⟩
    · exact ⟨_, .tail _ (.tail _ (.tail _ (.tail _ (.tail _ (.tail _ (.tail _ (.head _))))))), (mem4 0 _ y).mpr ⟨j, hj, by omega⟩⟩

end pieces

end Cert.Kernel3Ideal.Proj

end
-- ==== Proof.InRow.lean ====
/- One row of the input projection as a function of that row's input and of the weights, over the extended reals, and the
   projection's results as functions of the arguments. -/
module

public import proofs.«01_k».proof.Proof.MergeRow

@[expose] public section

noncomputable section

namespace Cert.ProjRow

open Cert.MergeRow Idealize.ShloMosaic Idealize.ShloMosaic.ValueIdx
open scoped BigOperators

/-- A column of the projected row: the normalised row times the weights. -/
def proj (x g : Fin 1024 → EReal) (w : Fin 1024 → Fin 5376 → EReal) (k : Fin 5376) : EReal := ∑ j, rms x g j * w j k

/-- The batch and the position of a flattened row. -/
abbrev rb (n : Fin 16384) : Fin 4 := ⟨n.val / 4096, by omega⟩
abbrev rt (n : Fin 16384) : Fin 4096 := ⟨n.val % 4096, by omega⟩

variable (X : (⟨3, ![4, 4096, 1024]⟩ : Shape).Idx → EReal) (g : (⟨2, ![1, 1024]⟩ : Shape).Idx → EReal)
  (W : (⟨3, ![1, 1024, 5376]⟩ : Shape).Idx → EReal) (M : (⟨2, ![1, 1792]⟩ : Shape).Idx → EReal)

/-- The projection of a flattened row. -/
def P (n : Fin 16384) (k : Fin 5376) : EReal := proj (fun j => X (ix3 (rb n) (rt n) j)) (fun j => g (ix2 0 j)) (fun j l => W (ix3 0 j l)) k

/-- The row before it in its sequence; zeros before the first one. -/
def before (n : Fin 16384) (k : Fin 5376) : EReal := if n.val % 4096 = 0 then 0 else P X g W ⟨n.val - 1, by omega⟩ k

/-- The recurrent branch's columns, moved towards the row before by the shift's weights. -/
def rPr (i : (⟨2, ![16384, 1792]⟩ : Shape).Idx) : EReal :=
  have h : (i 1).val < 1792 := (i 1).isLt
  P X g W (i 0) ⟨(i 1).val, by omega⟩
    + (before X g W (i 0) ⟨(i 1).val, by omega⟩ - P X g W (i 0) ⟨(i 1).val, by omega⟩) * M (ix2 0 (i 1))

def rQ (i : (⟨2, ![16384, 512]⟩ : Shape).Idx) : EReal :=
  have h : (i 1).val < 512 := (i 1).isLt
  P X g W (i 0) ⟨1792 + (i 1).val, by omega⟩ * Ideal.ofBits .f32 0x3E000000#32

/-- 512 of the columns, from column `o` on. -/
def rC (o : ℕ) (ho : o + 512 ≤ 5376) (i : (⟨2, ![16384, 512]⟩ : Shape).Idx) : EReal :=
  have h : (i 1).val < 512 := (i 1).isLt
  P X g W (i 0) ⟨o + (i 1).val, by omega⟩

/-- The same columns, the four heads of a row one below the other. -/
def rT (o : ℕ) (ho : o + 512 ≤ 5376) (i : (⟨2, ![65536, 128]⟩ : Shape).Idx) : EReal :=
  have h0 : (i 0).val < 65536 := (i 0).isLt
  have h1 : (i 1).val < 128 := (i 1).isLt
  P X g W ⟨(i 0).val / 4, by omega⟩ ⟨o + ((i 0).val % 4 * 128 + (i 1).val), by omega⟩

def rG (i : (⟨2, ![16384, 2048]⟩ : Shape).Idx) : EReal :=
  have h : (i 1).val < 2048 := (i 1).isLt
  Ideal.logistic (P X g W (i 0) ⟨3328 + (i 1).val, by omega⟩)

/-- The last normalised row of every sequence. -/
def rL (i : (⟨3, ![4, 1, 1024]⟩ : Shape).Idx) : EReal :=
  rms (fun j => X (ix3 (i 0) (⟨4095, by decide⟩ : Fin 4096) j)) (fun j => g (ix2 0 j)) (i 2)

end Cert.ProjRow

end
-- ==== Proof.InBlock.lean ====
/- The projection call's blocks, entry by entry: each is the row function of the block's row and the weights. -/
module

public import proofs.«01_k».proof.Proof.InState
public import proofs.«01_k».proof.Proof.InRow
public import Idealize.ShloMosaic.Lib.KernelVsHost
public import Idealize.ShloMosaic.Lib.Pipeline.ValueKit.Tiles

@[expose] public section

noncomputable section

namespace Cert.Kernel3Ideal.Proj

open Cert.Kernel3Ideal Cert.MergeRow Cert.ProjRow Idealize.ShloMosaic Idealize.ShloMosaic.ValueIdx
open scoped BigOperators

theorem dot_q : dot_S256x1024_S1024x512_S256x512_1_0_0_1_n_n = DotDims.plain 256 1024 512 := rfl
theorem dot_g : dot_S256x1024_S1024x2048_S256x2048_1_0_0_1_n_n = DotDims.plain 256 1024 2048 := rfl
theorem dot_p : dot_S256x1024_S1024x1792_S256x1792_1_0_0_1_n_n = DotDims.plain 256 1024 1792 := rfl

/-- The block's row of a stream's row. -/
abbrev srow (s : Fin 2) (r : Fin 256) : Fin 512 := ⟨256 * s.val + r.val, by omega⟩

variable (X : Vec Ideal S512x1024 .f32) (g : Vec Ideal S1x1024 .f32) (W : Vec Ideal S1024x5376 .bf16) (C : Vec Ideal S8x1792 .f32)
  (M : Vec Ideal S1x1792 .f32)

/-- The projection of a block's row. -/
def bp (n : Fin 512) (k : Fin 5376) : EReal := proj (fun j => X (ix2 n j)) (fun j => g (ix2 0 j)) (fun j l => W (ix2 j l)) k

theorem part_apply (s : Fin 2) (r : Fin 256) (j : Fin 1024) : part X s (ix2 r j) = X (ix2 (srow s r) j) := by
  match s with
  | 0 =>
    refine View.ld_unit_apply_of X _ _ _ _ _ fun a => ?_
    match a with
    | ⟨0, _⟩ => show 256 * 0 + r.val = 0 + r.val; omega
    | ⟨1, _⟩ => show j.val = 0 + j.val; omega
  | 1 =>
    refine View.ld_unit_apply_of X _ _ _ _ _ fun a => ?_
    match a with
    | ⟨0, _⟩ => show 256 * 1 + r.val = 256 + r.val; omega
    | ⟨1, _⟩ => show j.val = 0 + j.val; omega

theorem colQ_apply (j : Fin 1024) (k : Fin 512) : colQ W (ix2 j k) = W (ix2 j ⟨1792 + k.val, by omega⟩) := by
  refine View.ld_unit_apply_of W _ _ _ _ _ fun a => ?_
  match a with
  | ⟨0, _⟩ => show j.val = 0 + j.val; omega
  | ⟨1, _⟩ => show 1792 + k.val = 1792 + k.val; rfl

theorem colK_apply (j : Fin 1024) (k : Fin 512) : colK W (ix2 j k) = W (ix2 j ⟨2304 + k.val, by omega⟩) := by
  refine View.ld_unit_apply_of W _ _ _ _ _ fun a => ?_
  match a with
  | ⟨0, _⟩ => show j.val = 0 + j.val; omega
  | ⟨1, _⟩ => show 2304 + k.val = 2304 + k.val; rfl

theorem colV_apply (j : Fin 1024) (k : Fin 512) : colV W (ix2 j k) = W (ix2 j ⟨2816 + k.val, by omega⟩) := by
  refine View.ld_unit_apply_of W _ _ _ _ _ fun a => ?_
  match a with
  | ⟨0, _⟩ => show j.val = 0 + j.val; omega
  | ⟨1, _⟩ => show 2816 + k.val = 2816 + k.val; rfl

theorem colG_apply (j : Fin 1024) (k : Fin 2048) : colG W (ix2 j k) = W (ix2 j ⟨3328 + k.val, by omega⟩) := by
  refine View.ld_unit_apply_of W _ _ _ _ _ fun a => ?_
  match a with
  | ⟨0, _⟩ => show j.val = 0 + j.val; omega
  | ⟨1, _⟩ => show 3328 + k.val = 3328 + k.val; rfl

theorem colP_apply (j : Fin 1024) (k : Fin 1792) : colP W (ix2 j k) = W (ix2 j ⟨0 + k.val, by omega⟩) := by
  refine View.ld_unit_apply_of W _ _ _ _ _ fun a => ?_
  match a with
  | ⟨0, _⟩ => show j.val = 0 + j.val; omega
  | ⟨1, _⟩ => show 0 + k.val = 0 + k.val; rfl

theorem allG_apply (j : Fin 1024) : allG g (ix2 0 j) = g (ix2 0 j) := by
  refine View.ld_unit_apply_of g _ _ _ _ _ fun a => ?_
  match a with
  | ⟨0, _⟩ => rfl
  | ⟨1, _⟩ => show j.val = 0 + j.val; omega

theorem allM_apply (j : Fin 1792) : allM M (ix2 0 j) = M (ix2 0 j) := by
  refine View.ld_unit_apply_of M _ _ _ _ _ fun a => ?_
  match a with
  | ⟨0, _⟩ => rfl
  | ⟨1, _⟩ => show j.val = 0 + j.val; omega

theorem row7_apply (k : Fin 1792) : row7 C (ix2 0 k) = C (ix2 7 k) := by
  refine View.ld_unit_apply_of C _ _ _ _ _ fun a => ?_
  match a with
  | ⟨0, _⟩ => rfl
  | ⟨1, _⟩ => show k.val = 0 + k.val; omega

theorem xn_apply (s : Fin 2) (r : Fin 256) (k : Fin 1024) :
    xn X g s (ix2 r k) = rms (fun j => X (ix2 (srow s r) j)) (fun j => g (ix2 0 j)) k := by
  unfold xn Gen.k0_pay18
  simp only [shapeCast_self]
  refine (rmsVec_apply (part X s) (allG g) _ _ _ _ _ _ r k).trans ?_
  simp only [part_apply, allG_apply]

theorem xb_apply (s : Fin 2) (r : Fin 256) (k : Fin 1024) :
    xb X g s (ix2 r k) = rms (fun j => X (ix2 (srow s r) j)) (fun j => g (ix2 0 j)) k := xn_apply X g s r k

theorem ks_apply (s : Fin 2) (r : Fin 256) (k : Fin 512) : ks X g W s (ix2 r k) = bp X g W (srow s r) ⟨2304 + k.val, by omega⟩ := by
  unfold ks Gen.k0_pay21
  simp only [shapeCast_self]
  rw [mm_apply dot_q]
  unfold bp proj
  exact Finset.sum_congr rfl fun j _ => by rw [xb_apply, colK_apply]

theorem vs_apply (s : Fin 2) (r : Fin 256) (k : Fin 512) : vs X g W s (ix2 r k) = bp X g W (srow s r) ⟨2816 + k.val, by omega⟩ := by
  unfold vs Gen.k0_pay22
  simp only [shapeCast_self]
  rw [mm_apply dot_q]
  unfold bp proj
  exact Finset.sum_congr rfl fun j _ => by rw [xb_apply, colV_apply]

theorem qs_apply (s : Fin 2) (r : Fin 256) (k : Fin 512) :
    qs X g W s (ix2 r k) = bp X g W (srow s r) ⟨1792 + k.val, by omega⟩ * Ideal.ofBits .f32 0x3E000000#32 := by
  unfold qs Gen.k0_pay20
  simp only [shapeCast_self]
  rw [truncf_apply, mulf_apply, mm_apply dot_q, broadcast_apply]
  refine congrArg (· * Ideal.ofBits .f32 0x3E000000#32) ?_
  unfold bp proj
  exact Finset.sum_congr rfl fun j _ => by
    rw [colQ_apply]
    exact congrArg (· * W (ix2 j ⟨1792 + k.val, by omega⟩)) (xb_apply X g s r j)

theorem gs_apply (s : Fin 2) (r : Fin 256) (k : Fin 2048) :
    gs X g W s (ix2 r k) = Ideal.logistic (bp X g W (srow s r) ⟨3328 + k.val, by omega⟩) := by
  unfold gs Gen.k0_pay31
  simp only [shapeCast_self]
  rw [truncf_apply]
  show Ideal.logistic _ = _
  refine congrArg Ideal.logistic ?_
  rw [mm_apply dot_g]
  unfold bp proj
  exact Finset.sum_congr rfl fun j _ => by rw [xb_apply, colG_apply]

/-- The recurrent branch's columns of a stream. -/
theorem p32_apply (s : Fin 2) (r : Fin 256) (k : Fin 1792) :
    Gen.k0_pay32 (xb X g s) (colP W) (ix2 r k) = bp X g W (srow s r) ⟨k.val, by omega⟩ := by
  unfold Gen.k0_pay32
  simp only [shapeCast_self]
  rw [mm_apply dot_p]
  unfold bp proj
  exact Finset.sum_congr rfl fun j _ => by
    rw [xb_apply, colP_apply, show (⟨0 + k.val, by omega⟩ : Fin 5376) = ⟨k.val, by omega⟩ from Fin.ext (Nat.zero_add _)]

/-- The row before a block's row; before the first one, the last of the carried rows. -/
def bprev (n : Fin 512) (k : Fin 1792) : EReal := if n.val = 0 then C (ix2 7 k) else bp X g W ⟨n.val - 1, by omega⟩ ⟨k.val, by omega⟩

theorem last_apply (s : Fin 2) (k : Fin 1792) : last C X g W s (ix2 0 k) = bprev X g W C (srow s 0) k := by
  match s with
  | 0 => exact (row7_apply C k).trans (if_pos rfl).symm
  | 1 =>
    refine Eq.trans ?_ (if_neg (by decide)).symm
    show Gen.k0_pay17 (xb X g 0) (colP W) (ix2 0 k) = _
    unfold Gen.k0_pay17
    refine (slice2_axis0_apply 255 _ _ 0 k (⟨255, by decide⟩ : Fin 256) rfl).trans ?_
    exact p32_apply X g W 0 ⟨255, by decide⟩ k

/-- A choice on a row's number being zero. -/
theorem sel_row (r : Fin 256) (a b : EReal) :
    Scalar.select (IntOp.cmpi .eq (BitVec.ofNat 32 r.val) 0#32) a b = if r.val = 0 then a else b := by
  by_cases h : r.val = 0
  · rw [if_pos h, h]; rfl
  · rw [if_neg h]
    have e : IntOp.cmpi .eq (BitVec.ofNat 32 r.val) 0#32 = 0#1 := by
      revert h; revert r; decide +kernel
    rw [e]; rfl

theorem ps_apply (s : Fin 2) (r : Fin 256) (k : Fin 1792) :
    ps C X g W M s (ix2 r k) = bp X g W (srow s r) ⟨k.val, by omega⟩
      + (bprev X g W C (srow s r) k - bp X g W (srow s r) ⟨k.val, by omega⟩) * M (ix2 0 k) := by
  unfold ps Gen.k0_pay33
  simp only [shapeCast_self]
  rw [addf_apply, mulf_apply, subf_apply, p32_apply, select_apply, broadcastTo_1b_ab_apply, broadcastTo_1b_ab_apply, allM_apply, last_apply]
  refine congrArg (fun z => bp X g W (srow s r) ⟨k.val, by omega⟩ + (z - bp X g W (srow s r) ⟨k.val, by omega⟩) * M (ix2 0 k)) ?_
  show Scalar.select (IntOp.cmpi .eq (iota .tc S256x1792 32 [0] _ (ix2 r k)) 0#32) _ _ = _
  rw [iota_single_apply]
  refine (sel_row r _ _).trans ?_
  by_cases h : r.val = 0
  · rw [if_pos h, show r = 0 from Fin.ext h]
  · rw [if_neg h]
    have hr := r.isLt
    refine (dynamicRotate_apply (s := S256x1792) 0 1#32 _ _ (ix2 r k) (ix2 (⟨r.val - 1, by omega⟩ : Fin 256) k) (fun b => ?_)).trans ?_
    · match b with
      | ⟨0, _⟩ =>
        show r.val - 1 = (r.val + 256 - 1 % 256) % 256
        omega
      | ⟨1, _⟩ => rfl
    · rw [p32_apply]
      unfold bprev
      rw [if_neg (by show ¬ 256 * s.val + r.val = 0; omega)]
      exact congrArg (fun z => bp X g W z ⟨k.val, by omega⟩) (Fin.ext (by show 256 * s.val + (r.val - 1) = 256 * s.val + r.val - 1; omega))

theorem carry_apply (k : Fin 1792) : carry X g W (ix2 7 k) = bp X g W ⟨511, by decide⟩ ⟨k.val, by omega⟩ := by
  unfold carry Gen.k0_pay34
  simp only [shapeCast_self]
  refine (slice2_axis0_apply 248 _ _ 7 k (⟨255, by decide⟩ : Fin 256) rfl).trans ?_
  exact p32_apply X g W 1 ⟨255, by decide⟩ k

theorem lastRow_apply (k : Fin 1024) :
    lastRow X g (ix3 0 0 k) = rms (fun j => X (ix2 (⟨511, by decide⟩ : Fin 512) j)) (fun j => g (ix2 0 j)) k := by
  unfold lastRow Gen.k0_pay35
  refine (shapeCast_apply _ _ (ix3 0 0 k) (ix2 0 k) (by
    rw [Shape.rowMajor_val_two, Shape.rowMajor_val_three]
    show 0 * 1024 + k.val = (0 * 1 + 0) * 1024 + k.val
    omega)).trans ?_
  refine (slice2_axis0_apply 255 _ _ 0 k (⟨255, by decide⟩ : Fin 256) rfl).trans ?_
  exact xn_apply X g 1 ⟨255, by decide⟩ k

section layout

variable {α : Type}

theorem two_apply {n : ℕ} (a : Fin 2 → (⟨2, ![256, n]⟩ : Shape).Idx → α) (y : Fin 512) (k : Fin n) (b : Fin 2 → Fin 256 → α)
    (h : ∀ s r, a s (ix2 r k) = b s r) : two a (ix2 y k) = b ⟨y.val / 256, by omega⟩ ⟨y.val % 256, by omega⟩ := by
  rw [← h]
  exact two_at a _ (ix2 _ k) _ (by show y.val = 256 * (y.val / 256) + y.val % 256; omega) rfl

theorem srow_eq (y : Fin 512) : srow ⟨y.val / 256, by omega⟩ ⟨y.val % 256, by omega⟩ = y := Fin.ext (by show 256 * (y.val / 256) + y.val % 256 = y.val; omega)

theorem heads_apply (a : Fin 2 → (⟨2, ![256, 512]⟩ : Shape).Idx → α) (y : Fin 2048) (k : Fin 128) :
    heads a (ix2 y k) = a ⟨y.val / 1024, by omega⟩ (ix2 (⟨y.val % 1024 / 4, by omega⟩ : Fin 256) (⟨y.val % 4 * 128 + k.val, by omega⟩ : Fin 512)) :=
  heads_at a _ _ _ (y.val % 4) (Nat.mod_lt _ (by decide))
    (by show y.val = 1024 * (y.val / 1024) + y.val % 4 + 4 * (y.val % 1024 / 4); omega) rfl

end layout

theorem two_ks (y : Fin 512) (k : Fin 512) : two (ks X g W) (ix2 y k) = bp X g W y ⟨2304 + k.val, by omega⟩ :=
  (two_apply _ y k _ fun s r => ks_apply X g W s r k).trans (by rw [srow_eq])
theorem two_vs (y : Fin 512) (k : Fin 512) : two (vs X g W) (ix2 y k) = bp X g W y ⟨2816 + k.val, by omega⟩ :=
  (two_apply _ y k _ fun s r => vs_apply X g W s r k).trans (by rw [srow_eq])
theorem two_qs (y : Fin 512) (k : Fin 512) : two (qs X g W) (ix2 y k) = bp X g W y ⟨1792 + k.val, by omega⟩ * Ideal.ofBits .f32 0x3E000000#32 :=
  (two_apply _ y k _ fun s r => qs_apply X g W s r k).trans (by rw [srow_eq])
theorem two_gs (y : Fin 512) (k : Fin 2048) : two (gs X g W) (ix2 y k) = Ideal.logistic (bp X g W y ⟨3328 + k.val, by omega⟩) :=
  (two_apply _ y k _ fun s r => gs_apply X g W s r k).trans (by rw [srow_eq])
theorem two_ps (y : Fin 512) (k : Fin 1792) : two (ps C X g W M) (ix2 y k) = bp X g W y ⟨k.val, by omega⟩
      + (bprev X g W C y k - bp X g W y ⟨k.val, by omega⟩) * M (ix2 0 k) :=
  (two_apply _ y k _ fun s r => ps_apply X g W C M s r k).trans (by rw [srow_eq])

theorem hrow_eq (y : Fin 2048) : srow ⟨y.val / 1024, by omega⟩ ⟨y.val % 1024 / 4, by omega⟩ = ⟨y.val / 4, by omega⟩ :=
  Fin.ext (by show 256 * (y.val / 1024) + y.val % 1024 / 4 = y.val / 4; omega)

theorem heads_ks (y : Fin 2048) (k : Fin 128) :
    heads (ks X g W) (ix2 y k) = bp X g W ⟨y.val / 4, by omega⟩ ⟨2304 + (y.val % 4 * 128 + k.val), by omega⟩ := by
  rw [heads_apply, ks_apply, hrow_eq]
theorem heads_vs (y : Fin 2048) (k : Fin 128) :
    heads (vs X g W) (ix2 y k) = bp X g W ⟨y.val / 4, by omega⟩ ⟨2816 + (y.val % 4 * 128 + k.val), by omega⟩ := by
  rw [heads_apply, vs_apply, hrow_eq]

end Cert.Kernel3Ideal.Proj

end
-- ==== Proof.InBody.lean ====
/- One point of the projection call: the eight output blocks and the carried rows it leaves. -/
module

public import proofs.«01_k».proof.Proof.InState
public import proofs.«01_k».proof.Proof.Gen.Kernel3Ideal.Launch
public import Idealize.ShloMosaic.Lib.Pipeline.Kit
public import Idealize.ShloMosaic.Lib.VecWindow
public import Idealize.ShloMosaic.Lib.Pipeline.FrameBody

@[expose] public section

set_option maxRecDepth 8192
set_option maxHeartbeats 400000

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_first (𝒱 : Variants) (c : Dev nD) (bd : Option 𝒱.V) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x5376 .bf16) (harg4 : arg4.IsWhole) (arg5 : Memref sig .tc .vmem S1x1792 .f32) (harg5 : arg5.IsWhole) (arg6 : Memref sig .tc .vmem S512x1792 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x2048 .bf16) (harg12 : arg12.IsWhole) (arg13 : Memref sig .tc .vmem S1x1x1024 .f32) (harg13 : arg13.IsWhole) (arg14 : Memref sig .tc .vmem S8x1792 .f32) (harg14 : arg14.IsWhole)
    (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (C : Vec F S8x1792 .f32)
    (hc : Scalar.cmpi .ne (Scalar.extui (Scalar.cmpi .eq (BitVec.ofNat 32 (i 1).val) 0#32)) 0#32 = 1#1) (hC : C = Gen.k0_pay1 (F := F)) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (cc0_inproj_prompt (F := F) i arg2 harg2 arg3 harg3 arg4 harg4 arg5 harg5 arg6 harg6 arg7 harg7 arg8 harg8 arg9 harg9 arg10 harg10 arg11 harg11 arg12 harg12 arg13 harg13 arg14 harg14)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f6, (arg6.view.loc (c : Thread nD τ) ↦[arg6.view.set]{fullShare} f6) ∗ ⌜arg6.view.read (Elt F) f6 = two (ps C (arg2.view.read (Elt F) X2) (arg3.view.read (Elt F) X3) (arg4.view.read (Elt F) X4) (arg5.view.read (Elt F) X5))⌝) ∗ (∃ f7, (arg7.view.loc (c : Thread nD τ) ↦[arg7.view.set]{fullShare} f7) ∗ ⌜arg7.view.read (Elt F) f7 = two (qs (arg2.view.read (Elt F) X2) (arg3.view.read (Elt F) X3) (arg4.view.read (Elt F) X4))⌝) ∗ (∃ f8, (arg8.view.loc (c : Thread nD τ) ↦[arg8.view.set]{fullShare} f8) ∗ ⌜arg8.view.read (Elt F) f8 = two (ks (arg2.view.read (Elt F) X2) (arg3.view.read (Elt F) X3) (arg4.view.read (Elt F) X4))⌝) ∗ (∃ f9, (arg9.view.loc (c : Thread nD τ) ↦[arg9.view.set]{fullShare} f9) ∗ ⌜arg9.view.read (Elt F) f9 = two (vs (arg2.view.read (Elt F) X2) (arg3.view.read (Elt F) X3) (arg4.view.read (Elt F) X4))⌝) ∗ (∃ f10, (arg10.view.loc (c : Thread nD τ) ↦[arg10.view.set]{fullShare} f10) ∗ ⌜arg10.view.read (Elt F) f10 = heads (ks (arg2.view.read (Elt F) X2) (arg3.view.read (Elt F) X3) (arg4.view.read (Elt F) X4))⌝) ∗ (∃ f11, (arg11.view.loc (c : Thread nD τ) ↦[arg11.view.set]{fullShare} f11) ∗ ⌜arg11.view.read (Elt F) f11 = heads (vs (arg2.view.read (Elt F) X2) (arg3.view.read (Elt F) X3) (arg4.view.read (Elt F) X4))⌝) ∗ (∃ f12, (arg12.view.loc (c : Thread nD τ) ↦[arg12.view.set]{fullShare} f12) ∗ ⌜arg12.view.read (Elt F) f12 = two (gs (arg2.view.read (Elt F) X2) (arg3.view.read (Elt F) X3) (arg4.view.read (Elt F) X4))⌝) ∗ (∃ f13, (arg13.view.loc (c : Thread nD τ) ↦[arg13.view.set]{fullShare} f13) ∗ ⌜arg13.view.read (Elt F) f13 = lastRow (arg2.view.read (Elt F) X2) (arg3.view.read (Elt F) X3)⌝) ∗ (∃ f14, (arg14.view.loc (c : Thread nD τ) ↦[arg14.view.set]{fullShare} f14) ∗ ⌜arg14.view.read (Elt F) f14 = carry (arg2.view.read (Elt F) X2) (arg3.view.read (Elt F) X3) (arg4.view.read (Elt F) X4)⌝))) := by
  simp only [Gen.cc0_inproj_prompt_eq_skeleton]
  unfold Gen.cc0_inproj_prompt_skel
  simp only [Gen.k0_part5_eq_skeleton]
  unfold Gen.k0_part5_skel
  simp only [Gen.k0_part1_eq_skeleton, Gen.k0_part2_eq_skeleton, Gen.k0_part3_eq_skeleton, Gen.k0_part4_eq_skeleton]
  unfold Gen.k0_part1_skel Gen.k0_part2_skel Gen.k0_part3_skel Gen.k0_part4_skel
  iintro ⟨H2, H3, H4, H5, H6, H7, H8, H9, H10, H11, H12, H13, H14⟩
  sl_exec (disch := first | sl_exact hc)
  sl_step
  sl_unfold_run_names
  dsimp only
  simp only [ld_x0, ld_x1, ld_g, ld_m, ld_q, ld_k, ld_v, ld_gate, ld_p, ld_c, pay2_eq, pay3_eq, pay4_eq, pay5_eq, pay14_eq, pay16_eq, xb_eq, xn_eq, qs_eq, ks_eq, vs_eq, gs_eq, pay6_eq, pay7_eq, pay8_eq, pay9_eq, pay10_eq, pay11_eq, pay12_eq, pay13_eq, pay23_eq, pay24_eq, pay25_eq, pay26_eq, pay27_eq, pay28_eq, pay29_eq, pay30_eq]
  isplitl [H2]; · iexact H2
  isplitl [H3]; · iexact H3
  isplitl [H4]; · iexact H4
  isplitl [H5]; · iexact H5
  isplitl [H6]
  · iexists _
    isplitl [H6]; · iexact H6
    ipureintro
    subst hC
    simp only [readCov_row7, ps0_eq, ps1_eq]
    exact read_twoP arg6.view _ (ps Gen.k0_pay1 (arg2.view.read (Elt F) X2) (arg3.view.read (Elt F) X3) (arg4.view.read (Elt F) X4) (arg5.view.read (Elt F) X5))
  isplitl [H7]
  · iexists _
    isplitl [H7]; · iexact H7
    ipureintro
    exact read_twoQ arg7.view _ (qs (arg2.view.read (Elt F) X2) (arg3.view.read (Elt F) X3) (arg4.view.read (Elt F) X4))
  isplitl [H8]
  · iexists _
    isplitl [H8]; · iexact H8
    ipureintro
    exact read_twoK arg8.view _ (ks (arg2.view.read (Elt F) X2) (arg3.view.read (Elt F) X3) (arg4.view.read (Elt F) X4))
  isplitl [H9]
  · iexists _
    isplitl [H9]; · iexact H9
    ipureintro
    exact read_twoK arg9.view _ (vs (arg2.view.read (Elt F) X2) (arg3.view.read (Elt F) X3) (arg4.view.read (Elt F) X4))
  isplitl [H10]
  · iexists _
    isplitl [H10]; · iexact H10
    ipureintro
    exact read_heads arg10.view _ (ks (arg2.view.read (Elt F) X2) (arg3.view.read (Elt F) X3) (arg4.view.read (Elt F) X4))
  isplitl [H11]
  · iexists _
    isplitl [H11]; · iexact H11
    ipureintro
    exact read_heads arg11.view _ (vs (arg2.view.read (Elt F) X2) (arg3.view.read (Elt F) X3) (arg4.view.read (Elt F) X4))
  isplitl [H12]
  · iexists _
    isplitl [H12]; · iexact H12
    ipureintro
    exact read_twoG arg12.view _ (gs (arg2.view.read (Elt F) X2) (arg3.view.read (Elt F) X3) (arg4.view.read (Elt F) X4))
  isplitl [H13]
  · iexists _
    isplitl [H13]; · iexact H13
    ipureintro
    exact View.read_writes_full _ _ _ _ _
  · iexists _
    isplitl [H14]; · iexact H14
    ipureintro
    exact View.read_writes_full _ _ _ _ _

theorem body_later (𝒱 : Variants) (c : Dev nD) (bd : Option 𝒱.V) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x5376 .bf16) (harg4 : arg4.IsWhole) (arg5 : Memref sig .tc .vmem S1x1792 .f32) (harg5 : arg5.IsWhole) (arg6 : Memref sig .tc .vmem S512x1792 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x2048 .bf16) (harg12 : arg12.IsWhole) (arg13 : Memref sig .tc .vmem S1x1x1024 .f32) (harg13 : arg13.IsWhole) (arg14 : Memref sig .tc .vmem S8x1792 .f32) (harg14 : arg14.IsWhole)
    (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (C : Vec F S8x1792 .f32)
    (hc : ¬ Scalar.cmpi .ne (Scalar.extui (Scalar.cmpi .eq (BitVec.ofNat 32 (i 1).val) 0#32)) 0#32 = 1#1) (hC : arg14.view.read (Elt F) f14 = C) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (cc0_inproj_prompt (F := F) i arg2 harg2 arg3 harg3 arg4 harg4 arg5 harg5 arg6 harg6 arg7 harg7 arg8 harg8 arg9 harg9 arg10 harg10 arg11 harg11 arg12 harg12 arg13 harg13 arg14 harg14)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f6, (arg6.view.loc (c : Thread nD τ) ↦[arg6.view.set]{fullShare} f6) ∗ ⌜arg6.view.read (Elt F) f6 = two (ps C (arg2.view.read (Elt F) X2) (arg3.view.read (Elt F) X3) (arg4.view.read (Elt F) X4) (arg5.view.read (Elt F) X5))⌝) ∗ (∃ f7, (arg7.view.loc (c : Thread nD τ) ↦[arg7.view.set]{fullShare} f7) ∗ ⌜arg7.view.read (Elt F) f7 = two (qs (arg2.view.read (Elt F) X2) (arg3.view.read (Elt F) X3) (arg4.view.read (Elt F) X4))⌝) ∗ (∃ f8, (arg8.view.loc (c : Thread nD τ) ↦[arg8.view.set]{fullShare} f8) ∗ ⌜arg8.view.read (Elt F) f8 = two (ks (arg2.view.read (Elt F) X2) (arg3.view.read (Elt F) X3) (arg4.view.read (Elt F) X4))⌝) ∗ (∃ f9, (arg9.view.loc (c : Thread nD τ) ↦[arg9.view.set]{fullShare} f9) ∗ ⌜arg9.view.read (Elt F) f9 = two (vs (arg2.view.read (Elt F) X2) (arg3.view.read (Elt F) X3) (arg4.view.read (Elt F) X4))⌝) ∗ (∃ f10, (arg10.view.loc (c : Thread nD τ) ↦[arg10.view.set]{fullShare} f10) ∗ ⌜arg10.view.read (Elt F) f10 = heads (ks (arg2.view.read (Elt F) X2) (arg3.view.read (Elt F) X3) (arg4.view.read (Elt F) X4))⌝) ∗ (∃ f11, (arg11.view.loc (c : Thread nD τ) ↦[arg11.view.set]{fullShare} f11) ∗ ⌜arg11.view.read (Elt F) f11 = heads (vs (arg2.view.read (Elt F) X2) (arg3.view.read (Elt F) X3) (arg4.view.read (Elt F) X4))⌝) ∗ (∃ f12, (arg12.view.loc (c : Thread nD τ) ↦[arg12.view.set]{fullShare} f12) ∗ ⌜arg12.view.read (Elt F) f12 = two (gs (arg2.view.read (Elt F) X2) (arg3.view.read (Elt F) X3) (arg4.view.read (Elt F) X4))⌝) ∗ (∃ f13, (arg13.view.loc (c : Thread nD τ) ↦[arg13.view.set]{fullShare} f13) ∗ ⌜arg13.view.read (Elt F) f13 = lastRow (arg2.view.read (Elt F) X2) (arg3.view.read (Elt F) X3)⌝) ∗ (∃ f14, (arg14.view.loc (c : Thread nD τ) ↦[arg14.view.set]{fullShare} f14) ∗ ⌜arg14.view.read (Elt F) f14 = carry (arg2.view.read (Elt F) X2) (arg3.view.read (Elt F) X3) (arg4.view.read (Elt F) X4)⌝))) := by
  simp only [Gen.cc0_inproj_prompt_eq_skeleton]
  unfold Gen.cc0_inproj_prompt_skel
  simp only [Gen.k0_part5_eq_skeleton]
  unfold Gen.k0_part5_skel
  simp only [Gen.k0_part1_eq_skeleton, Gen.k0_part2_eq_skeleton, Gen.k0_part3_eq_skeleton, Gen.k0_part4_eq_skeleton]
  unfold Gen.k0_part1_skel Gen.k0_part2_skel Gen.k0_part3_skel Gen.k0_part4_skel
  iintro ⟨H2, H3, H4, H5, H6, H7, H8, H9, H10, H11, H12, H13, H14⟩
  sl_exec (disch := first | sl_exact hc)
  sl_step
  sl_unfold_run_names
  dsimp only
  simp only [ld_x0, ld_x1, ld_g, ld_m, ld_q, ld_k, ld_v, ld_gate, ld_p, ld_c, pay2_eq, pay3_eq, pay4_eq, pay5_eq, pay14_eq, pay16_eq, xb_eq, xn_eq, qs_eq, ks_eq, vs_eq, gs_eq, pay6_eq, pay7_eq, pay8_eq, pay9_eq, pay10_eq, pay11_eq, pay12_eq, pay13_eq, pay23_eq, pay24_eq, pay25_eq, pay26_eq, pay27_eq, pay28_eq, pay29_eq, pay30_eq]
  isplitl [H2]; · iexact H2
  isplitl [H3]; · iexact H3
  isplitl [H4]; · iexact H4
  isplitl [H5]; · iexact H5
  isplitl [H6]
  · iexists _
    isplitl [H6]; · iexact H6
    ipureintro
    simp only [hC, ps0_eq, ps1_eq]
    exact read_twoP arg6.view _ (ps C (arg2.view.read (Elt F) X2) (arg3.view.read (Elt F) X3) (arg4.view.read (Elt F) X4) (arg5.view.read (Elt F) X5))
  isplitl [H7]
  · iexists _
    isplitl [H7]; · iexact H7
    ipureintro
    exact read_twoQ arg7.view _ (qs (arg2.view.read (Elt F) X2) (arg3.view.read (Elt F) X3) (arg4.view.read (Elt F) X4))
  isplitl [H8]
  · iexists _
    isplitl [H8]; · iexact H8
    ipureintro
    exact read_twoK arg8.view _ (ks (arg2.view.read (Elt F) X2) (arg3.view.read (Elt F) X3) (arg4.view.read (Elt F) X4))
  isplitl [H9]
  · iexists _
    isplitl [H9]; · iexact H9
    ipureintro
    exact read_twoK arg9.view _ (vs (arg2.view.read (Elt F) X2) (arg3.view.read (Elt F) X3) (arg4.view.read (Elt F) X4))
  isplitl [H10]
  · iexists _
    isplitl [H10]; · iexact H10
    ipureintro
    exact read_heads arg10.view _ (ks (arg2.view.read (Elt F) X2) (arg3.view.read (Elt F) X3) (arg4.view.read (Elt F) X4))
  isplitl [H11]
  · iexists _
    isplitl [H11]; · iexact H11
    ipureintro
    exact read_heads arg11.view _ (vs (arg2.view.read (Elt F) X2) (arg3.view.read (Elt F) X3) (arg4.view.read (Elt F) X4))
  isplitl [H12]
  · iexists _
    isplitl [H12]; · iexact H12
    ipureintro
    exact read_twoG arg12.view _ (gs (arg2.view.read (Elt F) X2) (arg3.view.read (Elt F) X3) (arg4.view.read (Elt F) X4))
  isplitl [H13]
  · iexists _
    isplitl [H13]; · iexact H13
    ipureintro
    exact View.read_writes_full _ _ _ _ _
  · iexists _
    isplitl [H14]; · iexact H14
    ipureintro
    exact View.read_writes_full _ _ _ _ _

end Cert.Kernel3Ideal.Proj

end
-- ==== Proof.InFrame.lean ====
/- The projection call's run: what a point leaves, the rows it carries to the next one, the launch and
   the frame. -/
module

public import proofs.«01_k».proof.Proof.InBody
public import proofs.«01_k».proof.Proof.Gen.Kernel3Ideal.Frame
public import Idealize.ShloMosaic.Lib.Claim

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether a point is the first of its sequence. -/
abbrev first (i : grid0.Coords) : Prop := Scalar.cmpi .ne (Scalar.extui (Scalar.cmpi .eq (BitVec.ofNat 32 (i 1).val) 0#32)) 0#32 = 1#1

theorem first_iff : ∀ t : Fin cfg0.N, first (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5376 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1792 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1024 .f32 := win0_11.stage (cfg0.slots t 11)
abbrev hs0_11 (t : Fin cfg0.N) : (ms0_11 t).IsWhole := hstage0_11 ((cfg0.slots t 11).cast nbuf0_11)

/-- The carried rows. -/
abbrev scM0 : Memref sig .tc .vmem S8x1792 .f32 := Memref.whole cc0_scratch0

theorem PhiA_eq (c : Dev nD) :
    (Pipeline.ΦA spec0 c : sProp 𝕄) = iprop((∃ d, owns (c : Thread nD τ) scM0 fullShare d) ∗ (∃ r, prngReg c r)) := by
  unfold Pipeline.ΦA; rw [scopedRest0_eq]; simp only [scM0, owns_whole]; try rfl

variable (m : (ℓ : Loc nD τ sig) → Buf (Elt F) ℓ) (ρ : Dev nD → PrngReg)

/-- What point `n` leaves in the carried rows. -/
def carryAt (c : Dev nD) (t : Fin cfg0.N) : Vec F S8x1792 .f32 := carry (iblk m c 0 t) (iblk m c 1 t) (iblk m c 2 t)

/-- What point `n` finds there: zeros at the first point of a sequence, else what the point before left. -/
def cin (c : Dev nD) : (n : ℕ) → n ≤ cfg0.N → Vec F S8x1792 .f32
  | 0, _ => Gen.k0_pay1
  | n + 1, hn => if (n + 1) % 8 = 0 then Gen.k0_pay1 else carryAt m c ⟨n, hn⟩

theorem cin_first (c : Dev nD) (n : ℕ) (hn : n ≤ cfg0.N) (h : n % 8 = 0) : cin m c n hn = Gen.k0_pay1 := by
  cases n with
  | zero => rfl
  | succ n => exact if_pos h

theorem cin_later (c : Dev nD) (n : ℕ) (hn : n + 1 ≤ cfg0.N) (h : (n + 1) % 8 ≠ 0) : cin m c (n + 1) hn = carryAt m c ⟨n, hn⟩ := if_neg h

def prAt (c : Dev nD) (t : Fin cfg0.N) : Vec F S512x1792 .f32 := two (ps (cin m c t.val (Nat.le_of_lt t.isLt)) (iblk m c 0 t) (iblk m c 1 t) (iblk m c 2 t) (iblk m c 3 t))
def qAt (c : Dev nD) (t : Fin cfg0.N) : Vec F S512x512 .bf16 := two (qs (iblk m c 0 t) (iblk m c 1 t) (iblk m c 2 t))
def kAt (c : Dev nD) (t : Fin cfg0.N) : Vec F S512x512 .f32 := two (ks (iblk m c 0 t) (iblk m c 1 t) (iblk m c 2 t))
def vAt (c : Dev nD) (t : Fin cfg0.N) : Vec F S512x512 .f32 := two (vs (iblk m c 0 t) (iblk m c 1 t) (iblk m c 2 t))
def ktAt (c : Dev nD) (t : Fin cfg0.N) : Vec F S2048x128 .f32 := heads (ks (iblk m c 0 t) (iblk m c 1 t) (iblk m c 2 t))
def vtAt (c : Dev nD) (t : Fin cfg0.N) : Vec F S2048x128 .f32 := heads (vs (iblk m c 0 t) (iblk m c 1 t) (iblk m c 2 t))
def gAt (c : Dev nD) (t : Fin cfg0.N) : Vec F S512x2048 .bf16 := two (gs (iblk m c 0 t) (iblk m c 1 t) (iblk m c 2 t))
def xlAt (c : Dev nD) (t : Fin cfg0.N) : Vec F S1x1x1024 .f32 := lastRow (iblk m c 0 t) (iblk m c 1 t)

/-- Between points the carried rows hold what the point before left. -/
def Phi (c : Dev nD) : (n : ℕ) → n ≤ cfg0.N → sProp 𝕄
  | 0, _ => Pipeline.ΦA spec0 c
  | n + 1, hn => iprop((∃ f, (scM0.view.loc (c : Thread nD τ) ↦[scM0.view.set]{fullShare} f) ∗ ⌜scM0.view.read (Elt F) f = carryAt m c ⟨n, hn⟩⌝) ∗ (∃ r, prngReg c r))

/-- The pipeline's data: inputs stay, an output is what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prAt m c t
    | ⟨5, _⟩ => qAt m c t
    | ⟨6, _⟩ => kAt m c t
    | ⟨7, _⟩ => vAt m c t
    | ⟨8, _⟩ => ktAt m c t
    | ⟨9, _⟩ => vtAt m c t
    | ⟨10, _⟩ => gAt m c t
    | ⟨11, _⟩ => xlAt m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = prAt m c t := by dsimp only [dats]
theorem after5 (c : Dev nD) (t : Fin cfg0.N) : (dats m 0 c).after 5 t = qAt m c t := by dsimp only [dats]
theorem after6 (c : Dev nD) (t : Fin cfg0.N) : (dats m 0 c).after 6 t = kAt m c t := by dsimp only [dats]
theorem after7 (c : Dev nD) (t : Fin cfg0.N) : (dats m 0 c).after 7 t = vAt m c t := by dsimp only [dats]
theorem after8 (c : Dev nD) (t : Fin cfg0.N) : (dats m 0 c).after 8 t = ktAt m c t := by dsimp only [dats]
theorem after9 (c : Dev nD) (t : Fin cfg0.N) : (dats m 0 c).after 9 t = vtAt m c t := by dsimp only [dats]
theorem after10 (c : Dev nD) (t : Fin cfg0.N) : (dats m 0 c).after 10 t = gAt m c t := by dsimp only [dats]
theorem after11 (c : Dev nD) (t : Fin cfg0.N) : (dats m 0 c).after 11 t = xlAt m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- Before a point the carried rows either are filled anew or hold what the point before left. -/
def Start (c : Dev nD) (t : Fin cfg0.N) (f : BufTy.Contents (Elt F) (scM0 : Memref sig .tc .vmem S8x1792 .f32).view.ty) : Prop :=
  first (grid0.coords t) ∧ cin m c t.val (Nat.le_of_lt t.isLt) = Gen.k0_pay1 (F := F)
    ∨ ¬ first (grid0.coords t) ∧ scM0.view.read (Elt F) f = cin m c t.val (Nat.le_of_lt t.isLt)

def start (c : Dev nD) (t : Fin cfg0.N) : sProp 𝕄 :=
  iprop((∃ f, (scM0.view.loc (c : Thread nD τ) ↦[scM0.view.set]{fullShare} f) ∗ ⌜Start m c t f⌝) ∗ (∃ r, prngReg c r))

theorem Phi_start (c : Dev nD) (t : Fin cfg0.N) : Phi m c t.val (Nat.le_of_lt t.isLt) ⊢ start m c t := by
  obtain ⟨n, hn⟩ := t
  cases n with
  | zero =>
    show Pipeline.ΦA spec0 c ⊢ _
    rw [PhiA_eq]
    unfold start owns
    iintro ⟨⟨%d0, %f0, %h0, HS0⟩, Hg⟩
    isplitl [HS0]
    · iexists _
      isplitl [HS0]; · iexact HS0
      ipureintro
      exact Or.inl ⟨(first_iff ⟨0, hn⟩).mpr rfl, rfl⟩
    iexact Hg
  | succ n =>
    unfold Phi start
    iintro ⟨⟨%f, H, %hk⟩, Hr⟩
    isplitl [H]
    · iexists _
      isplitl [H]; · iexact H
      ipureintro
      by_cases h : (n + 1) % 8 = 0
      · exact Or.inl ⟨(first_iff ⟨n + 1, hn⟩).mpr h, cin_first m c _ _ h⟩
      · exact Or.inr ⟨fun hf => h ((first_iff ⟨n + 1, hn⟩).mp hf), hk.trans (cin_later m c n _ h).symm⟩
    iexact Hr

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4, after5, after6, after7, after8, after9, after10, after11]
  rw [show (dats m 0 c).Φ t.succ = Phi m c (t.val + 1) t.isLt from rfl, Phi_castSucc]
  refine (sep_mono (Phi_start m c t) Idealize.SL.BI.BIBase.Entails.refl).trans ?_
  unfold start owns
  iintro ⟨⟨⟨%f, HS, %hs⟩, Hg⟩, Ho, ⟨%d0, %x0, %hx0, H0⟩, ⟨%d1, %x1, %hx1, H1⟩, ⟨%d2, %x2, %hx2, H2⟩, ⟨%d3, %x3, %hx3, H3⟩, ⟨%d4, %x4, %hx4, H4⟩, ⟨%d5, %x5, %hx5, H5⟩, ⟨%d6, %x6, %hx6, H6⟩, ⟨%d7, %x7, %hx7, H7⟩, ⟨%d8, %x8, %hx8, H8⟩, ⟨%d9, %x9, %hx9, H9⟩, ⟨%d10, %x10, %hx10, H10⟩, ⟨%d11, %x11, %hx11, H11⟩⟩
  rcases hs with ⟨hs1, hs2⟩ | ⟨hs1, hs2⟩
  · have hb := body_first Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _)
      x0 x1 x2 x3 x4 x5 x6 x7 x8 x9 x10 x11 f (cin m c t.val (Nat.le_of_lt t.isLt)) hs1 hs2
    rw [hx0, hx1, hx2, hx3] at hb
    iapply (wp_wand_r _ _ _)
    isplitl [H0 H1 H2 H3 H4 H5 H6 H7 H8 H9 H10 H11 HS]
    · iapply hb
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    iintro %u ⟨H0, H1, H2, H3, ⟨%g4, H4, %hg4⟩, ⟨%g5, H5, %hg5⟩, ⟨%g6, H6, %hg6⟩, ⟨%g7, H7, %hg7⟩, ⟨%g8, H8, %hg8⟩, ⟨%g9, H9, %hg9⟩, ⟨%g10, H10, %hg10⟩, ⟨%g11, H11, %hg11⟩, ⟨%gs, HS, %hgs⟩⟩
    isplitl [HS Hg]
    · unfold Phi
      isplitl [HS]
      · iexists _; isplitl [HS]; · iexact HS
        ipureintro; exact hgs
      iexact Hg
    isplitl [Ho]; · iexact Ho
    isplitl [H0]
    · iexists x0; isplitl []; · ipureintro; exact hx0
      iexact H0
    isplitl [H1]
    · iexists x1; isplitl []; · ipureintro; exact hx1
      iexact H1
    isplitl [H2]
    · iexists x2; isplitl []; · ipureintro; exact hx2
      iexact H2
    isplitl [H3]
    · iexists x3; isplitl []; · ipureintro; exact hx3
      iexact H3
    isplitl [H4]
    · iexists g4; isplitl []; · ipureintro; exact hg4
      iexact H4
    isplitl [H5]
    · iexists g5; isplitl []; · ipureintro; exact hg5
      iexact H5
    isplitl [H6]
    · iexists g6; isplitl []; · ipureintro; exact hg6
      iexact H6
    isplitl [H7]
    · iexists g7; isplitl []; · ipureintro; exact hg7
      iexact H7
    isplitl [H8]
    · iexists g8; isplitl []; · ipureintro; exact hg8
      iexact H8
    isplitl [H9]
    · iexists g9; isplitl []; · ipureintro; exact hg9
      iexact H9
    isplitl [H10]
    · iexists g10; isplitl []; · ipureintro; exact hg10
      iexact H10
    iexists g11; isplitl []; · ipureintro; exact hg11
    iexact H11
  · have hb := body_later Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _)
      x0 x1 x2 x3 x4 x5 x6 x7 x8 x9 x10 x11 f (cin m c t.val (Nat.le_of_lt t.isLt)) hs1 hs2
    rw [hx0, hx1, hx2, hx3] at hb
    iapply (wp_wand_r _ _ _)
    isplitl [H0 H1 H2 H3 H4 H5 H6 H7 H8 H9 H10 H11 HS]
    · iapply hb
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    iintro %u ⟨H0, H1, H2, H3, ⟨%g4, H4, %hg4⟩, ⟨%g5, H5, %hg5⟩, ⟨%g6, H6, %hg6⟩, ⟨%g7, H7, %hg7⟩, ⟨%g8, H8, %hg8⟩, ⟨%g9, H9, %hg9⟩, ⟨%g10, H10, %hg10⟩, ⟨%g11, H11, %hg11⟩, ⟨%gs, HS, %hgs⟩⟩
    isplitl [HS Hg]
    · unfold Phi
      isplitl [HS]
      · iexists _; isplitl [HS]; · iexact HS
        ipureintro; exact hgs
      iexact Hg
    isplitl [Ho]; · iexact Ho
    isplitl [H0]
    · iexists x0; isplitl []; · ipureintro; exact hx0
      iexact H0
    isplitl [H1]
    · iexists x1; isplitl []; · ipureintro; exact hx1
      iexact H1
    isplitl [H2]
    · iexists x2; isplitl []; · ipureintro; exact hx2
      iexact H2
    isplitl [H3]
    · iexists x3; isplitl []; · ipureintro; exact hx3
      iexact H3
    isplitl [H4]
    · iexists g4; isplitl []; · ipureintro; exact hg4
      iexact H4
    isplitl [H5]
    · iexists g5; isplitl []; · ipureintro; exact hg5
      iexact H5
    isplitl [H6]
    · iexists g6; isplitl []; · ipureintro; exact hg6
      iexact H6
    isplitl [H7]
    · iexists g7; isplitl []; · ipureintro; exact hg7
      iexact H7
    isplitl [H8]
    · iexists g8; isplitl []; · ipureintro; exact hg8
      iexact H8
    isplitl [H9]
    · iexists g9; isplitl []; · ipureintro; exact hg9
      iexact H9
    isplitl [H10]
    · iexists g10; isplitl []; · ipureintro; exact hg10
      iexact H10
    iexists g11; isplitl []; · ipureintro; exact hg11
    iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem Phi_end (c : Dev nD) (n : ℕ) (hn : n + 1 ≤ cfg0.N) : Phi m c (n + 1) hn ⊢ Pipeline.ΦA spec0 c := by
  rw [PhiA_eq]
  unfold Phi owns
  iintro ⟨⟨%f, H, %hk⟩, Hg⟩
  isplitl [H]
  · iexists (scM0.view.read (Elt F) f), f; isplitl []; · ipureintro; rfl
    iexact H
  iexact Hg

theorem hout (c : Dev nD) : (dats m 0 c).Φ (Fin.last cfg0.N) ⊢ Pipeline.ΦA spec0 c := Phi_end m c 31 (by decide)

set_option backward.isDefEq.respectTransparency.types false in
/-- The launch runs to its end with the pipeline's arrays at the data's and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments keep their contents and the counters end at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The result arrays end at what the pipeline's data leaves in them. -/
theorem run_arrays : θ_run defs (onTc (τ := τ) (main (F := F))) ⟨m, fun _ => 0, ρ⟩ (fun r => ∀ c : Dev nD,
      r.2.mem ((c.tc : Thread nD τ).loc main_v3_0) = (dats m 0 c).arrAt 4 cfg0.N ∧ r.2.mem ((c.tc : Thread nD τ).loc main_v3_1) = (dats m 0 c).arrAt 5 cfg0.N ∧ r.2.mem ((c.tc : Thread nD τ).loc main_v3_2) = (dats m 0 c).arrAt 6 cfg0.N ∧ r.2.mem ((c.tc : Thread nD τ).loc main_v3_3) = (dats m 0 c).arrAt 7 cfg0.N ∧ r.2.mem ((c.tc : Thread nD τ).loc main_v3_4) = (dats m 0 c).arrAt 8 cfg0.N ∧ r.2.mem ((c.tc : Thread nD τ).loc main_v3_5) = (dats m 0 c).arrAt 9 cfg0.N ∧ r.2.mem ((c.tc : Thread nD τ).loc main_v3_6) = (dats m 0 c).arrAt 10 cfg0.N ∧ r.2.mem ((c.tc : Thread nD τ).loc main_v3_7) = (dats m 0 c).arrAt 11 cfg0.N) :=
  (θ_run defs _ _).mono (fun _ h c => ⟨(h c).1 4, (h c).1 5, (h c).1 6, (h c).1 7, (h c).1 8, (h c).1 9, (h c).1 10, (h c).1 11⟩) (run_main m ρ)

/-- Both: the result arrays and the arguments. -/
theorem run_result : θ_run defs (onTc (τ := τ) (main (F := F))) ⟨m, fun _ => 0, ρ⟩ (fun r => (∀ c : Dev nD, r.2.mem ((c.tc : Thread nD τ).loc main_v3_0) = (dats m 0 c).arrAt 4 cfg0.N ∧ r.2.mem ((c.tc : Thread nD τ).loc main_v3_1) = (dats m 0 c).arrAt 5 cfg0.N ∧ r.2.mem ((c.tc : Thread nD τ).loc main_v3_2) = (dats m 0 c).arrAt 6 cfg0.N ∧ r.2.mem ((c.tc : Thread nD τ).loc main_v3_3) = (dats m 0 c).arrAt 7 cfg0.N ∧ r.2.mem ((c.tc : Thread nD τ).loc main_v3_4) = (dats m 0 c).arrAt 8 cfg0.N ∧ r.2.mem ((c.tc : Thread nD τ).loc main_v3_5) = (dats m 0 c).arrAt 9 cfg0.N ∧ r.2.mem ((c.tc : Thread nD τ).loc main_v3_6) = (dats m 0 c).arrAt 10 cfg0.N ∧ r.2.mem ((c.tc : Thread nD τ).loc main_v3_7) = (dats m 0 c).arrAt 11 cfg0.N) ∧ (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))) :=
  θ_run_and (run_arrays m ρ) ((θ_run defs _ _).mono (fun _ h => h.1) (frame_main m ρ))

end Cert.Kernel3Ideal.Proj

end
-- ==== Proof.InArray.lean ====
/- The projection kernel's result arrays: every entry is the row function of the launched arguments. -/
module

public import proofs.«01_k».proof.Proof.InBlock
public import proofs.«01_k».proof.Proof.InFrame

@[expose] public section

noncomputable section

namespace Cert.Kernel3Ideal.Proj

open Cert.Kernel3Ideal Cert.Kernel3Ideal.Gen Cert.MergeRow Cert.ProjRow Idealize.ShloMosaic Idealize.ShloMosaic.ValueIdx Idealize.ShloMosaic.TcCoe
open Idealize.ShloMosaic.StableHlo Idealize.SL.Sem
open Idealize.ShloMosaic.Pipeline (Dat)
open scoped BigOperators

variable (m : (ℓ : Loc nD τ sig) → Buf (Elt Ideal) ℓ)

theorem V_v0 (c : Dev nD) : V m c main_v0 = shapeCast S16384x1024 (m ((c : Thread nD τ).loc main_arg0)) shapeCasts_S4x4096x1024_S16384x1024 := by
  dsimp only [V, hostOps0]; after_results; rfl
theorem V_arg1 (c : Dev nD) : V m c main_arg1 = m ((c : Thread nD τ).loc main_arg1) := by
  dsimp only [V, hostOps0]; after_results
theorem V_v2 (c : Dev nD) : V m c main_v2 = truncf (F := Ideal) .bf16 (shapeCast S1024x5376 (m ((c : Thread nD τ).loc main_arg2)) shapeCasts_S1x1024x5376_S1024x5376 : FVec Ideal S1024x5376 .f32) bitsLt_bf16_f32 := by
  dsimp only [V, hostOps0]; after_results; rfl
theorem V_arg3 (c : Dev nD) : V m c main_arg3 = m ((c : Thread nD τ).loc main_arg3) := by
  dsimp only [V, hostOps0]; after_results

/-- A flattened array read at a row and a column. -/
theorem flat_apply {α : Type} {w : ℕ} (x : (⟨3, ![4, 4096, w]⟩ : Shape).Idx → α)
    (h : (⟨3, ![4, 4096, w]⟩ : Shape).ShapeCasts ⟨2, ![16384, w]⟩) (n : Fin 16384) (k : Fin w) :
    shapeCast ⟨2, ![16384, w]⟩ x h (ix2 n k) = x (ix3 (rb n) (rt n) k) :=
  shapeCast_apply x h _ _ (by
    rw [Shape.rowMajor_val_three, Shape.rowMajor_val_two]
    show (n.val / 4096 * 4096 + n.val % 4096) * w + k.val = n.val * w + k.val
    rw [Nat.div_add_mod' n.val 4096])

/-- The weights with their leading unit axis dropped. -/
theorem wflat_apply {α : Type} (x : (⟨3, ![1, 1024, 5376]⟩ : Shape).Idx → α)
    (h : (⟨3, ![1, 1024, 5376]⟩ : Shape).ShapeCasts ⟨2, ![1024, 5376]⟩) (j : Fin 1024) (k : Fin 5376) :
    shapeCast ⟨2, ![1024, 5376]⟩ x h (ix2 j k) = x (ix3 0 j k) :=
  shapeCast_apply x h _ _ (by
    rw [Shape.rowMajor_val_three, Shape.rowMajor_val_two]
    show (0 * 1024 + j.val) * 5376 + k.val = j.val * 5376 + k.val
    omega)

/-- The first axis's block index of the blocked windows is the point's number, of the last result a sequence's number;
every other block index is zero. -/
theorem idx_facts : ∀ t : Fin cfg0.N,
    (win0_0.index t 0 = t.val ∧ win0_4.index t 0 = t.val ∧ win0_5.index t 0 = t.val ∧ win0_6.index t 0 = t.val
      ∧ win0_7.index t 0 = t.val ∧ win0_8.index t 0 = t.val ∧ win0_9.index t 0 = t.val ∧ win0_10.index t 0 = t.val ∧ win0_11.index t 0 = t.val / 8)
    ∧ (win0_0.index t 1 = 0 ∧ win0_4.index t 1 = 0 ∧ win0_5.index t 1 = 0 ∧ win0_6.index t 1 = 0
      ∧ win0_7.index t 1 = 0 ∧ win0_8.index t 1 = 0 ∧ win0_9.index t 1 = 0 ∧ win0_10.index t 1 = 0 ∧ win0_11.index t 1 = 0 ∧ win0_11.index t 2 = 0)
    ∧ (win0_1.index t 0 = 0 ∧ win0_2.index t 0 = 0 ∧ win0_3.index t 0 = 0)
    ∧ (win0_1.index t 1 = 0 ∧ win0_2.index t 1 = 0 ∧ win0_3.index t 1 = 0) :=
  (by decide +kernel : ∀ t : Fin grid0.N, _)

theorem t_lt (t : Fin cfg0.N) : t.val < 32 := t.isLt

/-- The array row of a block's row. -/
abbrev arow (t : Fin cfg0.N) (r : Fin 512) : Fin 16384 := ⟨t.val * 512 + r.val, by
  have h := t_lt t
  have := r.isLt; omega⟩

theorem blk0 (c : Dev nD) (t : Fin cfg0.N) (r : Fin 512) (k : Fin 1024) :
    (iblk m c 0 t : Vec Ideal S512x1024 .f32) (ix2 r k) = m ((c : Thread nD τ).loc main_arg0) (ix3 (rb (arow t r)) (rt (arow t r)) k) := by
  unfold iblk
  rw [View.read_apply]
  have hf := idx_facts t
  show V m c main_v0 _ = _
  rw [V_v0]
  refine Eq.trans (congrArg _ ?_) (flat_apply (m ((c : Thread nD τ).loc main_arg0)) _ (arow t r) k)
  funext a; apply Fin.ext
  match a with
  | ⟨0, _⟩ => show win0_0.index t 0 * 512 + 1 * r.val = t.val * 512 + r.val; rw [hf.1.1]; omega
  | ⟨1, _⟩ => show win0_0.index t 1 * 1024 + 1 * k.val = k.val; rw [hf.2.1.1]; omega

theorem blk1 (c : Dev nD) (t : Fin cfg0.N) (k : Fin 1024) :
    (iblk m c 1 t : Vec Ideal S1x1024 .f32) (ix2 0 k) = m ((c : Thread nD τ).loc main_arg1) (ix2 0 k) := by
  unfold iblk
  rw [View.read_apply]
  have hf := idx_facts t
  show V m c main_arg1 _ = _
  rw [V_arg1]
  refine congrArg _ ?_
  funext a; apply Fin.ext
  match a with
  | ⟨0, _⟩ => show win0_1.index t 0 * 1 + 1 * 0 = 0; rw [hf.2.2.1.1]
  | ⟨1, _⟩ => show win0_1.index t 1 * 1024 + 1 * k.val = k.val; rw [hf.2.2.2.1]; omega

theorem blk2 (c : Dev nD) (t : Fin cfg0.N) (j : Fin 1024) (k : Fin 5376) :
    (iblk m c 2 t : Vec Ideal S1024x5376 .bf16) (ix2 j k) = m ((c : Thread nD τ).loc main_arg2) (ix3 0 j k) := by
  unfold iblk
  rw [View.read_apply]
  have hf := idx_facts t
  show V m c main_v2 _ = _
  rw [V_v2, truncf_apply]
  refine Eq.trans (congrArg _ ?_) (wflat_apply (m ((c : Thread nD τ).loc main_arg2)) _ j k)
  funext a; apply Fin.ext
  match a with
  | ⟨0, _⟩ => show win0_2.index t 0 * 1024 + 1 * j.val = j.val; rw [hf.2.2.1.2.1]; omega
  | ⟨1, _⟩ => show win0_2.index t 1 * 5376 + 1 * k.val = k.val; rw [hf.2.2.2.2.1]; omega

theorem blk3 (c : Dev nD) (t : Fin cfg0.N) (k : Fin 1792) :
    (iblk m c 3 t : Vec Ideal S1x1792 .f32) (ix2 0 k) = m ((c : Thread nD τ).loc main_arg3) (ix2 0 k) := by
  unfold iblk
  rw [View.read_apply]
  have hf := idx_facts t
  show V m c main_arg3 _ = _
  rw [V_arg3]
  refine congrArg _ ?_
  funext a; apply Fin.ext
  match a with
  | ⟨0, _⟩ => show win0_3.index t 0 * 1 + 1 * 0 = 0; rw [hf.2.2.1.2.2]
  | ⟨1, _⟩ => show win0_3.index t 1 * 1792 + 1 * k.val = k.val; rw [hf.2.2.2.2.2]; omega

abbrev mX (c : Dev nD) : (⟨3, ![4, 4096, 1024]⟩ : Shape).Idx → EReal := m ((c : Thread nD τ).loc main_arg0)
abbrev mG (c : Dev nD) : (⟨2, ![1, 1024]⟩ : Shape).Idx → EReal := m ((c : Thread nD τ).loc main_arg1)
abbrev mW (c : Dev nD) : (⟨3, ![1, 1024, 5376]⟩ : Shape).Idx → EReal := m ((c : Thread nD τ).loc main_arg2)
abbrev mM (c : Dev nD) : (⟨2, ![1, 1792]⟩ : Shape).Idx → EReal := m ((c : Thread nD τ).loc main_arg3)

/-- A block's projected row is the array's. -/
theorem bp_eq (c : Dev nD) (t : Fin cfg0.N) (y : Fin 512) (k : Fin 5376) :
    bp (iblk m c 0 t) (iblk m c 1 t) (iblk m c 2 t) y k = P (mX m c) (mG m c) (mW m c) (arow t y) k := by
  unfold bp P
  simp only [blk0, blk1, blk2]

theorem zero_carry (k : Fin 1792) : (Gen.k0_pay1 (F := Ideal)) (ix2 7 k) = 0 := by
  unfold Gen.k0_pay1
  simp only [shapeCast_self]
  rw [broadcast_apply]
  exact zero_bits

/-- The row before a block's row is the array's row before. -/
theorem bprev_eq (c : Dev nD) (t : Fin cfg0.N) (y : Fin 512) (k : Fin 1792) :
    bprev (iblk m c 0 t) (iblk m c 1 t) (iblk m c 2 t) (cin m c t.val (Nat.le_of_lt t.isLt)) y k
      = before (mX m c) (mG m c) (mW m c) (arow t y) ⟨k.val, by omega⟩ := by
  have ht := t_lt t
  unfold bprev before
  by_cases hy : y.val = 0
  · rw [if_pos hy]
    by_cases h8 : t.val % 8 = 0
    · rw [cin_first m c _ _ h8, zero_carry, if_pos (by show (t.val * 512 + y.val) % 4096 = 0; omega)]
    · rw [if_neg (by show ¬ (t.val * 512 + y.val) % 4096 = 0; omega)]
      obtain ⟨n, hn⟩ := t
      cases n with
      | zero => exact absurd rfl h8
      | succ n =>
        show cin m c (n + 1) _ (ix2 7 k) = _
        rw [cin_later m c n _ h8]
        unfold carryAt
        rw [carry_apply, bp_eq]
        refine congrArg (fun z => P _ _ _ z _) (Fin.ext ?_)
        show n * 512 + 511 = (n + 1) * 512 + y.val - 1
        omega
  · rw [if_neg hy, if_neg (by show ¬ (t.val * 512 + y.val) % 4096 = 0; omega), bp_eq]
    refine congrArg (fun z => P _ _ _ z _) (Fin.ext ?_)
    show t.val * 512 + (y.val - 1) = t.val * 512 + y.val - 1
    omega

theorem flushed4 (c : Dev nD) (t : Fin cfg0.N) :
    (dats m 0 c).flushed 4 t = ((cfg0.win 4).blk t).view.read (Elt Ideal) (rPr (mX m c) (mG m c) (mW m c) (mM m c)) := by
  have e : (dats m 0 c).flushed 4 t = (cfg0.win 4).cut (grid0.coords t) (prAt m c t) := by
    show (cfg0.win 4).cut (grid0.coords t) ((dats m 0 c).after 4 t) = _
    rw [after4]
  rw [e]
  show (prAt m c t : S512x1792.Idx → EReal) = _
  funext j
  obtain ⟨r, k, rfl⟩ : ∃ (r : Fin 512) (k : Fin 1792), j = ix2 r k := ⟨j 0, j 1, eq_ix2 j⟩
  rw [View.read_apply]
  have hf := idx_facts t
  have ht := t_lt t
  have hi : ((cfg0.win 4).blk t).view.emb (ix2 r k) = ix2 (⟨t.val * 512 + r.val, by omega⟩ : Fin 16384) k := by
    funext a; apply Fin.ext
    match a with
    | ⟨0, _⟩ => show win0_4.index t 0 * 512 + 1 * r.val = t.val * 512 + r.val; rw [hf.1.2.1]; omega
    | ⟨1, _⟩ => show win0_4.index t 1 * 1792 + 1 * k.val = k.val; rw [hf.2.1.2.1]; omega
  show _ = rPr (mX m c) (mG m c) (mW m c) (mM m c) (((cfg0.win 4).blk t).view.emb (ix2 r k))
  rw [hi]
  unfold prAt
  rw [two_ps, bp_eq, bprev_eq, blk3]
  rfl

theorem cover4 (i : (⟨2, ![16384, 1792]⟩ : Shape).Idx) :
    ∃ t : Fin cfg0.N, (cfg0.win 4).flush t = true ∧ i ∈ ((cfg0.win 4).blk t).view.set := by
  have h0 : (i 0).val < 16384 := (i 0).isLt
  have h1 : (i 1).val < 1792 := (i 1).isLt
  let t : Fin cfg0.N := ⟨(i 0).val / 512, by show _ < 32; omega⟩
  refine ⟨t, flush0_4 t, ?_⟩
  show i ∈ ((View.whole main_v3_0).slice (win0_4.rect t)).set
  rw [View.set_slice_whole, Rect.mem_set_unit]
  have hf := idx_facts t
  intro a
  match a with
  | ⟨0, _⟩ =>
    show win0_4.index t 0 * 512 ≤ (i 0).val ∧ (i 0).val < win0_4.index t 0 * 512 + 512
    rw [hf.1.2.1]
    show (i 0).val / 512 * 512 ≤ (i 0).val ∧ (i 0).val < (i 0).val / 512 * 512 + 512
    omega
  | ⟨1, _⟩ =>
    show win0_4.index t 1 * 1792 ≤ (i 1).val ∧ (i 1).val < win0_4.index t 1 * 1792 + 1792
    rw [hf.2.1.2.1]; omega

theorem final4 (c : Dev nD) : (dats m 0 c).arrAt 4 cfg0.N = rPr (mX m c) (mG m c) (mW m c) (mM m c) :=
  (dats m 0 c).arrAt_eq_of_cover 4 (rPr (mX m c) (mG m c) (mW m c) (mM m c)) (fun t _ => flushed4 m c t) cover4

theorem flushed5 (c : Dev nD) (t : Fin cfg0.N) :
    (dats m 0 c).flushed 5 t = ((cfg0.win 5).blk t).view.read (Elt Ideal) (rQ (mX m c) (mG m c) (mW m c)) := by
  have e : (dats m 0 c).flushed 5 t = (cfg0.win 5).cut (grid0.coords t) (qAt m c t) := by
    show (cfg0.win 5).cut (grid0.coords t) ((dats m 0 c).after 5 t) = _
    rw [after5]
  rw [e]
  show (qAt m c t : S512x512.Idx → EReal) = _
  funext j
  obtain ⟨r, k, rfl⟩ : ∃ (r : Fin 512) (k : Fin 512), j = ix2 r k := ⟨j 0, j 1, eq_ix2 j⟩
  rw [View.read_apply]
  have hf := idx_facts t
  have ht := t_lt t
  have hi : ((cfg0.win 5).blk t).view.emb (ix2 r k) = ix2 (⟨t.val * 512 + r.val, by omega⟩ : Fin 16384) k := by
    funext a; apply Fin.ext
    match a with
    | ⟨0, _⟩ => show win0_5.index t 0 * 512 + 1 * r.val = t.val * 512 + r.val; rw [hf.1.2.2.1]; omega
    | ⟨1, _⟩ => show win0_5.index t 1 * 512 + 1 * k.val = k.val; rw [hf.2.1.2.2.1]; omega
  show _ = rQ (mX m c) (mG m c) (mW m c) (((cfg0.win 5).blk t).view.emb (ix2 r k))
  rw [hi]
  unfold qAt
  rw [two_qs, bp_eq]
  rfl

theorem cover5 (i : (⟨2, ![16384, 512]⟩ : Shape).Idx) :
    ∃ t : Fin cfg0.N, (cfg0.win 5).flush t = true ∧ i ∈ ((cfg0.win 5).blk t).view.set := by
  have h0 : (i 0).val < 16384 := (i 0).isLt
  have h1 : (i 1).val < 512 := (i 1).isLt
  let t : Fin cfg0.N := ⟨(i 0).val / 512, by show _ < 32; omega⟩
  refine ⟨t, flush0_5 t, ?_⟩
  show i ∈ ((View.whole main_v3_1).slice (win0_5.rect t)).set
  rw [View.set_slice_whole, Rect.mem_set_unit]
  have hf := idx_facts t
  intro a
  match a with
  | ⟨0, _⟩ =>
    show win0_5.index t 0 * 512 ≤ (i 0).val ∧ (i 0).val < win0_5.index t 0 * 512 + 512
    rw [hf.1.2.2.1]
    show (i 0).val / 512 * 512 ≤ (i 0).val ∧ (i 0).val < (i 0).val / 512 * 512 + 512
    omega
  | ⟨1, _⟩ =>
    show win0_5.index t 1 * 512 ≤ (i 1).val ∧ (i 1).val < win0_5.index t 1 * 512 + 512
    rw [hf.2.1.2.2.1]; omega

theorem final5 (c : Dev nD) : (dats m 0 c).arrAt 5 cfg0.N = rQ (mX m c) (mG m c) (mW m c) :=
  (dats m 0 c).arrAt_eq_of_cover 5 (rQ (mX m c) (mG m c) (mW m c)) (fun t _ => flushed5 m c t) cover5

theorem flushed6 (c : Dev nD) (t : Fin cfg0.N) :
    (dats m 0 c).flushed 6 t = ((cfg0.win 6).blk t).view.read (Elt Ideal) (rC (mX m c) (mG m c) (mW m c) 2304 (by decide)) := by
  have e : (dats m 0 c).flushed 6 t = (cfg0.win 6).cut (grid0.coords t) (kAt m c t) := by
    show (cfg0.win 6).cut (grid0.coords t) ((dats m 0 c).after 6 t) = _
    rw [after6]
  rw [e]
  show (kAt m c t : S512x512.Idx → EReal) = _
  funext j
  obtain ⟨r, k, rfl⟩ : ∃ (r : Fin 512) (k : Fin 512), j = ix2 r k := ⟨j 0, j 1, eq_ix2 j⟩
  rw [View.read_apply]
  have hf := idx_facts t
  have ht := t_lt t
  have hi : ((cfg0.win 6).blk t).view.emb (ix2 r k) = ix2 (⟨t.val * 512 + r.val, by omega⟩ : Fin 16384) k := by
    funext a; apply Fin.ext
    match a with
    | ⟨0, _⟩ => show win0_6.index t 0 * 512 + 1 * r.val = t.val * 512 + r.val; rw [hf.1.2.2.2.1]; omega
    | ⟨1, _⟩ => show win0_6.index t 1 * 512 + 1 * k.val = k.val; rw [hf.2.1.2.2.2.1]; omega
  show _ = rC (mX m c) (mG m c) (mW m c) 2304 (by decide) (((cfg0.win 6).blk t).view.emb (ix2 r k))
  rw [hi]
  unfold kAt
  rw [two_ks, bp_eq]
  rfl

theorem cover6 (i : (⟨2, ![16384, 512]⟩ : Shape).Idx) :
    ∃ t : Fin cfg0.N, (cfg0.win 6).flush t = true ∧ i ∈ ((cfg0.win 6).blk t).view.set := by
  have h0 : (i 0).val < 16384 := (i 0).isLt
  have h1 : (i 1).val < 512 := (i 1).isLt
  let t : Fin cfg0.N := ⟨(i 0).val / 512, by show _ < 32; omega⟩
  refine ⟨t, flush0_6 t, ?_⟩
  show i ∈ ((View.whole main_v3_2).slice (win0_6.rect t)).set
  rw [View.set_slice_whole, Rect.mem_set_unit]
  have hf := idx_facts t
  intro a
  match a with
  | ⟨0, _⟩ =>
    show win0_6.index t 0 * 512 ≤ (i 0).val ∧ (i 0).val < win0_6.index t 0 * 512 + 512
    rw [hf.1.2.2.2.1]
    show (i 0).val / 512 * 512 ≤ (i 0).val ∧ (i 0).val < (i 0).val / 512 * 512 + 512
    omega
  | ⟨1, _⟩ =>
    show win0_6.index t 1 * 512 ≤ (i 1).val ∧ (i 1).val < win0_6.index t 1 * 512 + 512
    rw [hf.2.1.2.2.2.1]; omega

theorem final6 (c : Dev nD) : (dats m 0 c).arrAt 6 cfg0.N = rC (mX m c) (mG m c) (mW m c) 2304 (by decide) :=
  (dats m 0 c).arrAt_eq_of_cover 6 (rC (mX m c) (mG m c) (mW m c) 2304 (by decide)) (fun t _ => flushed6 m c t) cover6

theorem flushed7 (c : Dev nD) (t : Fin cfg0.N) :
    (dats m 0 c).flushed 7 t = ((cfg0.win 7).blk t).view.read (Elt Ideal) (rC (mX m c) (mG m c) (mW m c) 2816 (by decide)) := by
  have e : (dats m 0 c).flushed 7 t = (cfg0.win 7).cut (grid0.coords t) (vAt m c t) := by
    show (cfg0.win 7).cut (grid0.coords t) ((dats m 0 c).after 7 t) = _
    rw [after7]
  rw [e]
  show (vAt m c t : S512x512.Idx → EReal) = _
  funext j
  obtain ⟨r, k, rfl⟩ : ∃ (r : Fin 512) (k : Fin 512), j = ix2 r k := ⟨j 0, j 1, eq_ix2 j⟩
  rw [View.read_apply]
  have hf := idx_facts t
  have ht := t_lt t
  have hi : ((cfg0.win 7).blk t).view.emb (ix2 r k) = ix2 (⟨t.val * 512 + r.val, by omega⟩ : Fin 16384) k := by
    funext a; apply Fin.ext
    match a with
    | ⟨0, _⟩ => show win0_7.index t 0 * 512 + 1 * r.val = t.val * 512 + r.val; rw [hf.1.2.2.2.2.1]; omega
    | ⟨1, _⟩ => show win0_7.index t 1 * 512 + 1 * k.val = k.val; rw [hf.2.1.2.2.2.2.1]; omega
  show _ = rC (mX m c) (mG m c) (mW m c) 2816 (by decide) (((cfg0.win 7).blk t).view.emb (ix2 r k))
  rw [hi]
  unfold vAt
  rw [two_vs, bp_eq]
  rfl

theorem cover7 (i : (⟨2, ![16384, 512]⟩ : Shape).Idx) :
    ∃ t : Fin cfg0.N, (cfg0.win 7).flush t = true ∧ i ∈ ((cfg0.win 7).blk t).view.set := by
  have h0 : (i 0).val < 16384 := (i 0).isLt
  have h1 : (i 1).val < 512 := (i 1).isLt
  let t : Fin cfg0.N := ⟨(i 0).val / 512, by show _ < 32; omega⟩
  refine ⟨t, flush0_7 t, ?_⟩
  show i ∈ ((View.whole main_v3_3).slice (win0_7.rect t)).set
  rw [View.set_slice_whole, Rect.mem_set_unit]
  have hf := idx_facts t
  intro a
  match a with
  | ⟨0, _⟩ =>
    show win0_7.index t 0 * 512 ≤ (i 0).val ∧ (i 0).val < win0_7.index t 0 * 512 + 512
    rw [hf.1.2.2.2.2.1]
    show (i 0).val / 512 * 512 ≤ (i 0).val ∧ (i 0).val < (i 0).val / 512 * 512 + 512
    omega
  | ⟨1, _⟩ =>
    show win0_7.index t 1 * 512 ≤ (i 1).val ∧ (i 1).val < win0_7.index t 1 * 512 + 512
    rw [hf.2.1.2.2.2.2.1]; omega

theorem final7 (c : Dev nD) : (dats m 0 c).arrAt 7 cfg0.N = rC (mX m c) (mG m c) (mW m c) 2816 (by decide) :=
  (dats m 0 c).arrAt_eq_of_cover 7 (rC (mX m c) (mG m c) (mW m c) 2816 (by decide)) (fun t _ => flushed7 m c t) cover7

theorem flushed8 (c : Dev nD) (t : Fin cfg0.N) :
    (dats m 0 c).flushed 8 t = ((cfg0.win 8).blk t).view.read (Elt Ideal) (rT (mX m c) (mG m c) (mW m c) 2304 (by decide)) := by
  have e : (dats m 0 c).flushed 8 t = (cfg0.win 8).cut (grid0.coords t) (ktAt m c t) := by
    show (cfg0.win 8).cut (grid0.coords t) ((dats m 0 c).after 8 t) = _
    rw [after8]
  rw [e]
  show (ktAt m c t : S2048x128.Idx → EReal) = _
  funext j
  obtain ⟨r, k, rfl⟩ : ∃ (r : Fin 2048) (k : Fin 128), j = ix2 r k := ⟨j 0, j 1, eq_ix2 j⟩
  rw [View.read_apply]
  have hf := idx_facts t
  have ht := t_lt t
  have hi : ((cfg0.win 8).blk t).view.emb (ix2 r k) = ix2 (⟨t.val * 2048 + r.val, by omega⟩ : Fin 65536) k := by
    funext a; apply Fin.ext
    match a with
    | ⟨0, _⟩ => show win0_8.index t 0 * 2048 + 1 * r.val = t.val * 2048 + r.val; rw [hf.1.2.2.2.2.2.1]; omega
    | ⟨1, _⟩ => show win0_8.index t 1 * 128 + 1 * k.val = k.val; rw [hf.2.1.2.2.2.2.2.1]; omega
  show _ = rT (mX m c) (mG m c) (mW m c) 2304 (by decide) (((cfg0.win 8).blk t).view.emb (ix2 r k))
  rw [hi]
  unfold ktAt
  rw [heads_ks, bp_eq]
  have h1 : (t.val * 512 + r.val / 4) = (t.val * 2048 + r.val) / 4 := by omega
  have h2 : r.val % 4 = (t.val * 2048 + r.val) % 4 := by omega
  unfold rT
  refine congr (congrArg (P _ _ _) (Fin.ext h1)) (Fin.ext ?_)
  show _ + (r.val % 4 * 128 + k.val) = _ + ((t.val * 2048 + r.val) % 4 * 128 + k.val)
  rw [h2]

theorem cover8 (i : (⟨2, ![65536, 128]⟩ : Shape).Idx) :
    ∃ t : Fin cfg0.N, (cfg0.win 8).flush t = true ∧ i ∈ ((cfg0.win 8).blk t).view.set := by
  have h0 : (i 0).val < 65536 := (i 0).isLt
  have h1 : (i 1).val < 128 := (i 1).isLt
  let t : Fin cfg0.N := ⟨(i 0).val / 2048, by show _ < 32; omega⟩
  refine ⟨t, flush0_8 t, ?_⟩
  show i ∈ ((View.whole main_v3_4).slice (win0_8.rect t)).set
  rw [View.set_slice_whole, Rect.mem_set_unit]
  have hf := idx_facts t
  intro a
  match a with
  | ⟨0, _⟩ =>
    show win0_8.index t 0 * 2048 ≤ (i 0).val ∧ (i 0).val < win0_8.index t 0 * 2048 + 2048
    rw [hf.1.2.2.2.2.2.1]
    show (i 0).val / 2048 * 2048 ≤ (i 0).val ∧ (i 0).val < (i 0).val / 2048 * 2048 + 2048
    omega
  | ⟨1, _⟩ =>
    show win0_8.index t 1 * 128 ≤ (i 1).val ∧ (i 1).val < win0_8.index t 1 * 128 + 128
    rw [hf.2.1.2.2.2.2.2.1]; omega

theorem final8 (c : Dev nD) : (dats m 0 c).arrAt 8 cfg0.N = rT (mX m c) (mG m c) (mW m c) 2304 (by decide) :=
  (dats m 0 c).arrAt_eq_of_cover 8 (rT (mX m c) (mG m c) (mW m c) 2304 (by decide)) (fun t _ => flushed8 m c t) cover8

theorem flushed9 (c : Dev nD) (t : Fin cfg0.N) :
    (dats m 0 c).flushed 9 t = ((cfg0.win 9).blk t).view.read (Elt Ideal) (rT (mX m c) (mG m c) (mW m c) 2816 (by decide)) := by
  have e : (dats m 0 c).flushed 9 t = (cfg0.win 9).cut (grid0.coords t) (vtAt m c t) := by
    show (cfg0.win 9).cut (grid0.coords t) ((dats m 0 c).after 9 t) = _
    rw [after9]
  rw [e]
  show (vtAt m c t : S2048x128.Idx → EReal) = _
  funext j
  obtain ⟨r, k, rfl⟩ : ∃ (r : Fin 2048) (k : Fin 128), j = ix2 r k := ⟨j 0, j 1, eq_ix2 j⟩
  rw [View.read_apply]
  have hf := idx_facts t
  have ht := t_lt t
  have hi : ((cfg0.win 9).blk t).view.emb (ix2 r k) = ix2 (⟨t.val * 2048 + r.val, by omega⟩ : Fin 65536) k := by
    funext a; apply Fin.ext
    match a with
    | ⟨0, _⟩ => show win0_9.index t 0 * 2048 + 1 * r.val = t.val * 2048 + r.val; rw [hf.1.2.2.2.2.2.2.1]; omega
    | ⟨1, _⟩ => show win0_9.index t 1 * 128 + 1 * k.val = k.val; rw [hf.2.1.2.2.2.2.2.2.1]; omega
  show _ = rT (mX m c) (mG m c) (mW m c) 2816 (by decide) (((cfg0.win 9).blk t).view.emb (ix2 r k))
  rw [hi]
  unfold vtAt
  rw [heads_vs, bp_eq]
  have h1 : (t.val * 512 + r.val / 4) = (t.val * 2048 + r.val) / 4 := by omega
  have h2 : r.val % 4 = (t.val * 2048 + r.val) % 4 := by omega
  unfold rT
  refine congr (congrArg (P _ _ _) (Fin.ext h1)) (Fin.ext ?_)
  show _ + (r.val % 4 * 128 + k.val) = _ + ((t.val * 2048 + r.val) % 4 * 128 + k.val)
  rw [h2]

theorem cover9 (i : (⟨2, ![65536, 128]⟩ : Shape).Idx) :
    ∃ t : Fin cfg0.N, (cfg0.win 9).flush t = true ∧ i ∈ ((cfg0.win 9).blk t).view.set := by
  have h0 : (i 0).val < 65536 := (i 0).isLt
  have h1 : (i 1).val < 128 := (i 1).isLt
  let t : Fin cfg0.N := ⟨(i 0).val / 2048, by show _ < 32; omega⟩
  refine ⟨t, flush0_9 t, ?_⟩
  show i ∈ ((View.whole main_v3_5).slice (win0_9.rect t)).set
  rw [View.set_slice_whole, Rect.mem_set_unit]
  have hf := idx_facts t
  intro a
  match a with
  | ⟨0, _⟩ =>
    show win0_9.index t 0 * 2048 ≤ (i 0).val ∧ (i 0).val < win0_9.index t 0 * 2048 + 2048
    rw [hf.1.2.2.2.2.2.2.1]
    show (i 0).val / 2048 * 2048 ≤ (i 0).val ∧ (i 0).val < (i 0).val / 2048 * 2048 + 2048
    omega
  | ⟨1, _⟩ =>
    show win0_9.index t 1 * 128 ≤ (i 1).val ∧ (i 1).val < win0_9.index t 1 * 128 + 128
    rw [hf.2.1.2.2.2.2.2.2.1]; omega

theorem final9 (c : Dev nD) : (dats m 0 c).arrAt 9 cfg0.N = rT (mX m c) (mG m c) (mW m c) 2816 (by decide) :=
  (dats m 0 c).arrAt_eq_of_cover 9 (rT (mX m c) (mG m c) (mW m c) 2816 (by decide)) (fun t _ => flushed9 m c t) cover9

theorem flushed10 (c : Dev nD) (t : Fin cfg0.N) :
    (dats m 0 c).flushed 10 t = ((cfg0.win 10).blk t).view.read (Elt Ideal) (rG (mX m c) (mG m c) (mW m c)) := by
  have e : (dats m 0 c).flushed 10 t = (cfg0.win 10).cut (grid0.coords t) (gAt m c t) := by
    show (cfg0.win 10).cut (grid0.coords t) ((dats m 0 c).after 10 t) = _
    rw [after10]
  rw [e]
  show (gAt m c t : S512x2048.Idx → EReal) = _
  funext j
  obtain ⟨r, k, rfl⟩ : ∃ (r : Fin 512) (k : Fin 2048), j = ix2 r k := ⟨j 0, j 1, eq_ix2 j⟩
  rw [View.read_apply]
  have hf := idx_facts t
  have ht := t_lt t
  have hi : ((cfg0.win 10).blk t).view.emb (ix2 r k) = ix2 (⟨t.val * 512 + r.val, by omega⟩ : Fin 16384) k := by
    funext a; apply Fin.ext
    match a with
    | ⟨0, _⟩ => show win0_10.index t 0 * 512 + 1 * r.val = t.val * 512 + r.val; rw [hf.1.2.2.2.2.2.2.2.1]; omega
    | ⟨1, _⟩ => show win0_10.index t 1 * 2048 + 1 * k.val = k.val; rw [hf.2.1.2.2.2.2.2.2.2.1]; omega
  show _ = rG (mX m c) (mG m c) (mW m c) (((cfg0.win 10).blk t).view.emb (ix2 r k))
  rw [hi]
  unfold gAt
  rw [two_gs, bp_eq]
  rfl

theorem cover10 (i : (⟨2, ![16384, 2048]⟩ : Shape).Idx) :
    ∃ t : Fin cfg0.N, (cfg0.win 10).flush t = true ∧ i ∈ ((cfg0.win 10).blk t).view.set := by
  have h0 : (i 0).val < 16384 := (i 0).isLt
  have h1 : (i 1).val < 2048 := (i 1).isLt
  let t : Fin cfg0.N := ⟨(i 0).val / 512, by show _ < 32; omega⟩
  refine ⟨t, flush0_10 t, ?_⟩
  show i ∈ ((View.whole main_v3_6).slice (win0_10.rect t)).set
  rw [View.set_slice_whole, Rect.mem_set_unit]
  have hf := idx_facts t
  intro a
  match a with
  | ⟨0, _⟩ =>
    show win0_10.index t 0 * 512 ≤ (i 0).val ∧ (i 0).val < win0_10.index t 0 * 512 + 512
    rw [hf.1.2.2.2.2.2.2.2.1]
    show (i 0).val / 512 * 512 ≤ (i 0).val ∧ (i 0).val < (i 0).val / 512 * 512 + 512
    omega
  | ⟨1, _⟩ =>
    show win0_10.index t 1 * 2048 ≤ (i 1).val ∧ (i 1).val < win0_10.index t 1 * 2048 + 2048
    rw [hf.2.1.2.2.2.2.2.2.2.1]; omega

theorem final10 (c : Dev nD) : (dats m 0 c).arrAt 10 cfg0.N = rG (mX m c) (mG m c) (mW m c) :=
  (dats m 0 c).arrAt_eq_of_cover 10 (rG (mX m c) (mG m c) (mW m c)) (fun t _ => flushed10 m c t) cover10

theorem flushed11 (c : Dev nD) (t : Fin cfg0.N) (h7 : t.val % 8 = 7) :
    (dats m 0 c).flushed 11 t = ((cfg0.win 11).blk t).view.read (Elt Ideal) (rL (mX m c) (mG m c)) := by
  have e : (dats m 0 c).flushed 11 t = (cfg0.win 11).cut (grid0.coords t) (xlAt m c t) := by
    show (cfg0.win 11).cut (grid0.coords t) ((dats m 0 c).after 11 t) = _
    rw [after11]
  rw [e]
  show (xlAt m c t : S1x1x1024.Idx → EReal) = _
  funext j
  obtain ⟨k, rfl⟩ : ∃ k : Fin 1024, j = ix3 0 0 k := ⟨j 2, by
    funext a
    match a with
    | ⟨0, _⟩ => exact Fin.ext (Nat.lt_one_iff.mp (j 0).isLt)
    | ⟨1, _⟩ => exact Fin.ext (Nat.lt_one_iff.mp (j 1).isLt)
    | ⟨2, _⟩ => rfl⟩
  rw [View.read_apply]
  have hf := idx_facts t
  have ht := t_lt t
  have hi : ((cfg0.win 11).blk t).view.emb (ix3 0 0 k) = ix3 (⟨t.val / 8, by omega⟩ : Fin 4) (0 : Fin 1) k := by
    funext a; apply Fin.ext
    match a with
    | ⟨0, _⟩ => show win0_11.index t 0 * 1 + 1 * 0 = t.val / 8; rw [hf.1.2.2.2.2.2.2.2.2]; omega
    | ⟨1, _⟩ => show win0_11.index t 1 * 1 + 1 * 0 = 0; rw [hf.2.1.2.2.2.2.2.2.2.2.1]
    | ⟨2, _⟩ => show win0_11.index t 2 * 1024 + 1 * k.val = k.val; rw [hf.2.1.2.2.2.2.2.2.2.2.2]; omega
  show _ = rL (mX m c) (mG m c) (((cfg0.win 11).blk t).view.emb (ix3 0 0 k))
  rw [hi]
  unfold xlAt
  rw [lastRow_apply]
  simp only [blk0, blk1]
  have eb : rb (arow t ⟨511, by decide⟩) = (⟨t.val / 8, by omega⟩ : Fin 4) := Fin.ext (by show (t.val * 512 + 511) / 4096 = t.val / 8; omega)
  have et : rt (arow t ⟨511, by decide⟩) = (⟨4095, by decide⟩ : Fin 4096) := Fin.ext (by show (t.val * 512 + 511) % 4096 = 4095; omega)
  rw [eb, et]
  rfl

theorem cover11 (i : (⟨3, ![4, 1, 1024]⟩ : Shape).Idx) :
    ∃ t : Fin cfg0.N, (cfg0.win 11).flush t = true ∧ i ∈ ((cfg0.win 11).blk t).view.set := by
  have h0 : (i 0).val < 4 := (i 0).isLt
  have h1 : (i 1).val < 1 := (i 1).isLt
  have h2 : (i 2).val < 1024 := (i 2).isLt
  let t : Fin cfg0.N := ⟨(i 0).val * 8 + 7, by show _ < 32; omega⟩
  refine ⟨t, (flush0_11 t).mpr (by show ((i 0).val * 8 + 7) % 8 = 7; omega), ?_⟩
  show i ∈ ((View.whole main_v3_7).slice (win0_11.rect t)).set
  rw [View.set_slice_whole, Rect.mem_set_unit]
  have hf := idx_facts t
  intro a
  match a with
  | ⟨0, _⟩ =>
    show win0_11.index t 0 * 1 ≤ (i 0).val ∧ (i 0).val < win0_11.index t 0 * 1 + 1
    rw [hf.1.2.2.2.2.2.2.2.2]
    show ((i 0).val * 8 + 7) / 8 * 1 ≤ (i 0).val ∧ (i 0).val < ((i 0).val * 8 + 7) / 8 * 1 + 1
    omega
  | ⟨1, _⟩ =>
    show win0_11.index t 1 * 1 ≤ (i 1).val ∧ (i 1).val < win0_11.index t 1 * 1 + 1
    rw [hf.2.1.2.2.2.2.2.2.2.2.1]; omega
  | ⟨2, _⟩ =>
    show win0_11.index t 2 * 1024 ≤ (i 2).val ∧ (i 2).val < win0_11.index t 2 * 1024 + 1024
    rw [hf.2.1.2.2.2.2.2.2.2.2.2]; omega

theorem final11 (c : Dev nD) : (dats m 0 c).arrAt 11 cfg0.N = rL (mX m c) (mG m c) :=
  (dats m 0 c).arrAt_eq_of_cover 11 (rL (mX m c) (mG m c)) (fun t ht => flushed11 m c t ((flush0_11 t).mp ht)) cover11

end Cert.Kernel3Ideal.Proj

end
-- ==== Proof.InRef.lean ====
/- The reference's results, read at an entry: the row functions of the arguments. -/
module

public import proofs.«01_k».proof.Proof.Gen.Reference3Ideal.Read
public import proofs.«01_k».proof.Proof.InRow

@[expose] public section

noncomputable section

namespace Cert.Reference3Ideal.Proj

open Cert.Reference3Ideal Cert.Reference3Ideal.Gen Cert.Reference3Ideal.Read Cert.MergeRow Cert.ProjRow Idealize.ShloMosaic Idealize.ShloMosaic.ValueIdx
open scoped BigOperators

theorem ext2 {a b : ℕ} {i j : (⟨2, ![a, b]⟩ : Shape).Idx} (h0 : (i 0).val = (j 0).val) (h1 : (i 1).val = (j 1).val) : i = j := by
  funext d; apply Fin.ext
  match d with
  | ⟨0, _⟩ => exact h0
  | ⟨1, _⟩ => exact h1

theorem ext3 {a b c : ℕ} {i j : (⟨3, ![a, b, c]⟩ : Shape).Idx} (h0 : (i 0).val = (j 0).val) (h1 : (i 1).val = (j 1).val)
    (h2 : (i 2).val = (j 2).val) : i = j := by
  funext d; apply Fin.ext
  match d with
  | ⟨0, _⟩ => exact h0
  | ⟨1, _⟩ => exact h1
  | ⟨2, _⟩ => exact h2

/-- A normalised row from its sum of squares and its gain. -/
theorem rms_of {x g : Fin 1024 → EReal} {k : Fin 1024} {s y : EReal} (hs : s = ∑ j, x j * x j) (hy : y = g k) :
    x k * Ideal.rsqrt (Ideal.div s (Ideal.ofBits .f32 0x44800000#32) + Ideal.ofBits .f32 0x358637BD#32) * y = rms x g k := by
  rw [hs, hy]; rfl

variable (x0 : S4x4096x1024.Idx → EReal) (x1 : S1x1024.Idx → EReal) (x2 : S1x1024x5376.Idx → EReal) (x3 : S1x1792.Idx → EReal)

theorem w14 (j : Fin 1024) (k : Fin 5376) : val_main_v14 (F := Ideal) x2 (ix2 j k) = x2 (ix3 0 j k) := by
  rw [val_main_v14_apply]
  exact congrArg x2 (ext3 rfl (by show (j.val * 5376 + k.val) / 5376 % 1024 = j.val; omega) (by show (j.val * 5376 + k.val) % 5376 = k.val; omega))

theorem v2_eq (b : Fin 4) (t : Fin 4096) : val_main_v2 (F := Ideal) x0 (ix2 b t) = ∑ j, x0 (ix3 b t j) * x0 (ix3 b t j) := by
  rw [val_main_v2_apply]
  show Ideal.ofBits .f32 0x00000000#32 + _ = _
  rw [zero_bits, zero_add]
  refine Finset.sum_congr rfl fun j _ => ?_
  rw [show idx_main_v2 (ix2 b t) j = ix3 b t j from ext3 rfl rfl rfl, val_main_v1_apply]
  rfl

theorem v13_eq (b : Fin 4) (t : Fin 4096) (k : Fin 1024) : val_main_v13 (F := Ideal) x0 x1 (ix3 b t k)
    = rms (fun j => x0 (ix3 b t j)) (fun j => x1 (ix2 0 j)) k := by
  rw [val_main_v13_apply, val_main_v10_apply, val_main_v9_apply, val_main_v8_apply, val_main_v7_apply, val_main_v6_apply, val_main_v5_apply,
    val_main_v4_apply, val_main_v3_apply, val_main_v12_apply, val_main_v11_apply, val_main_v0_apply]
  rw [show idx_main_v3 (idx_main_v9 (ix3 b t k)) = ix2 b t from ext2 rfl rfl]
  exact rms_of (x := fun j => x0 (ix3 b t j)) (g := fun j => x1 (ix2 0 j)) (v2_eq x0 b t) (congrArg x1 (ext2 rfl (by show k.val % 1024 = k.val; omega)))

/-- The whole projected row. -/
theorem v15_eq (n : Fin 16384) (k : Fin 5376) (i : S4x4096x5376.Idx) (h0 : (i 0).val = n.val / 4096) (h1 : (i 1).val = n.val % 4096)
    (h2 : (i 2).val = k.val) : val_main_v15 (F := Ideal) x0 x1 x2 i = P x0 x1 x2 n k := by
  rw [show i = ix3 (rb n) (rt n) k from ext3 h0 h1 h2, val_main_v15_apply]
  unfold P proj
  refine Finset.sum_congr rfl fun j _ => ?_
  rw [show lidx_main_v15 (ix3 (rb n) (rt n) k) j = ix3 (rb n) (rt n) j from ext3 rfl rfl rfl, show ridx_main_v15 (ix3 (rb n) (rt n) k) j = ix2 j k from ext2 rfl rfl, w14, v13_eq]

/-- The zero row's projection is zero. -/
theorem v20_eq (i : S4x1792.Idx) : val_main_v20 (F := Ideal) x2 i = 0 := by
  rw [val_main_v20_apply]
  refine Finset.sum_eq_zero fun j _ => ?_
  rw [val_main_v17_apply]
  show Ideal.ofBits .f32 0x00000000#32 * _ = 0
  rw [zero_bits, zero_mul]

/-- The row before. -/
theorem v23_eq (n : Fin 16384) (k : Fin 1792) : val_main_v23 (F := Ideal) x0 x1 x2 (ix3 (rb n) (rt n) k) = before x0 x1 x2 n ⟨k.val, by omega⟩ := by
  unfold val_main_v23 before
  by_cases h : n.val % 4096 = 0
  · rw [if_pos h]
    refine (concatenate_pair_apply_left (t := S4x4096x1792) 1 (val_main_v21 (F := Ideal) x2) (val_main_v22 (F := Ideal) x0 x1 x2) _ (ix3 (rb n) (rt n) k) rfl (ix3 (rb n) (0 : Fin 1) k) (fun a => ?_)).trans ?_
    · match a with
      | ⟨0, _⟩ => rfl
      | ⟨1, _⟩ => exact h.symm
      | ⟨2, _⟩ => rfl
    · rw [val_main_v21_apply]
      exact v20_eq x2 _
  · rw [if_neg h]
    have hn := n.isLt
    refine (concatenate_pair_apply_right (t := S4x4096x1792) 1 (val_main_v21 (F := Ideal) x2) (val_main_v22 (F := Ideal) x0 x1 x2) _ (ix3 (rb n) (rt n) k) rfl rfl
      (ix3 (rb n) (⟨n.val % 4096 - 1, by omega⟩ : Fin 4095) k) (fun a ha => ?_) (by show n.val % 4096 - 1 + 1 = n.val % 4096; omega)).trans ?_
    · match a with
      | ⟨0, _⟩ => rfl
      | ⟨1, _⟩ => exact absurd rfl ha
      | ⟨2, _⟩ => rfl
    · rw [val_main_v22_apply, val_main_v16_apply]
      exact v15_eq x0 x1 x2 ⟨n.val - 1, by omega⟩ ⟨k.val, by omega⟩ _ (by show n.val / 4096 = (n.val - 1) / 4096; omega) (by show n.val % 4096 - 1 = (n.val - 1) % 4096; omega) rfl

theorem v42_eq (i : S16384x1792.Idx) : val_main_v42 (F := Ideal) x0 x1 x2 x3 i = rPr x0 x1 x2 x3 i := by
  obtain ⟨n, k, rfl⟩ : ∃ (n : Fin 16384) (k : Fin 1792), i = ix2 n k := ⟨i 0, i 1, eq_ix2 i⟩
  rw [val_main_v42_apply, show idx_main_v42 (ix2 n k) = ix3 (rb n) (rt n) k from ext3 (by show (n.val * 1792 + k.val) / 7340032 = n.val / 4096; omega)
    (by show (n.val * 1792 + k.val) / 1792 % 4096 = n.val % 4096; omega) (by show (n.val * 1792 + k.val) % 1792 = k.val; omega)]
  rw [val_main_v29_apply, val_main_v28_apply, val_main_v24_apply, v23_eq, val_main_v16_apply, val_main_v27_apply, val_main_v26_apply, val_main_v25_apply,
    v15_eq x0 x1 x2 n ⟨k.val, by omega⟩ _ rfl rfl rfl]
  rw [show idx_main_v25 (idx_main_v26 (idx_main_v27 (ix3 (rb n) (rt n) k))) = ix2 0 k from ext2 rfl (by show k.val % 1792 = k.val; omega)]
  rfl

theorem v44_eq (i : S16384x512.Idx) : val_main_v44 (F := Ideal) x0 x1 x2 i = rQ x0 x1 x2 i := by
  obtain ⟨n, k, rfl⟩ : ∃ (n : Fin 16384) (k : Fin 512), i = ix2 n k := ⟨i 0, i 1, eq_ix2 i⟩
  rw [val_main_v44_apply, val_main_v43_apply, val_main_v32_apply, val_main_v31_apply, val_main_v30_apply,
    v15_eq x0 x1 x2 n ⟨1792 + k.val, by omega⟩ _ (by show (n.val * 512 + k.val) / 2097152 = n.val / 4096; omega)
      (by show (n.val * 512 + k.val) / 512 % 4096 = n.val % 4096; omega) (by show 1792 + (n.val * 512 + k.val) % 512 = 1792 + k.val; omega)]
  rfl

theorem v45_eq (i : S16384x512.Idx) : val_main_v45 (F := Ideal) x0 x1 x2 i = rC x0 x1 x2 2304 (by decide) i := by
  obtain ⟨n, k, rfl⟩ : ∃ (n : Fin 16384) (k : Fin 512), i = ix2 n k := ⟨i 0, i 1, eq_ix2 i⟩
  rw [val_main_v45_apply, val_main_v33_apply]
  exact v15_eq x0 x1 x2 n ⟨2304 + k.val, by omega⟩ _ (by show (n.val * 512 + k.val) / 2097152 = n.val / 4096; omega)
      (by show (n.val * 512 + k.val) / 512 % 4096 = n.val % 4096; omega) (by show 2304 + (n.val * 512 + k.val) % 512 = 2304 + k.val; omega)

theorem v46_eq (i : S16384x512.Idx) : val_main_v46 (F := Ideal) x0 x1 x2 i = rC x0 x1 x2 2816 (by decide) i := by
  obtain ⟨n, k, rfl⟩ : ∃ (n : Fin 16384) (k : Fin 512), i = ix2 n k := ⟨i 0, i 1, eq_ix2 i⟩
  rw [val_main_v46_apply, val_main_v34_apply]
  exact v15_eq x0 x1 x2 n ⟨2816 + k.val, by omega⟩ _ (by show (n.val * 512 + k.val) / 2097152 = n.val / 4096; omega)
      (by show (n.val * 512 + k.val) / 512 % 4096 = n.val % 4096; omega) (by show 2816 + (n.val * 512 + k.val) % 512 = 2816 + k.val; omega)

theorem v47_eq (i : S65536x128.Idx) : val_main_v47 (F := Ideal) x0 x1 x2 i = rT x0 x1 x2 2304 (by decide) i := by
  obtain ⟨n, k, rfl⟩ : ∃ (n : Fin 65536) (k : Fin 128), i = ix2 n k := ⟨i 0, i 1, eq_ix2 i⟩
  rw [val_main_v47_apply, val_main_v33_apply]
  exact v15_eq x0 x1 x2 ⟨n.val / 4, by omega⟩ ⟨2304 + (n.val % 4 * 128 + k.val), by omega⟩ _ (by show (n.val * 128 + k.val) / 2097152 = n.val / 4 / 4096; omega)
      (by show (n.val * 128 + k.val) / 512 % 4096 = n.val / 4 % 4096; omega) (by show 2304 + (n.val * 128 + k.val) % 512 = 2304 + (n.val % 4 * 128 + k.val); omega)

theorem v48_eq (i : S65536x128.Idx) : val_main_v48 (F := Ideal) x0 x1 x2 i = rT x0 x1 x2 2816 (by decide) i := by
  obtain ⟨n, k, rfl⟩ : ∃ (n : Fin 65536) (k : Fin 128), i = ix2 n k := ⟨i 0, i 1, eq_ix2 i⟩
  rw [val_main_v48_apply, val_main_v34_apply]
  exact v15_eq x0 x1 x2 ⟨n.val / 4, by omega⟩ ⟨2816 + (n.val % 4 * 128 + k.val), by omega⟩ _ (by show (n.val * 128 + k.val) / 2097152 = n.val / 4 / 4096; omega)
      (by show (n.val * 128 + k.val) / 512 % 4096 = n.val / 4 % 4096; omega) (by show 2816 + (n.val * 128 + k.val) % 512 = 2816 + (n.val % 4 * 128 + k.val); omega)

theorem one_bits : Ideal.ofBits .f32 0x3F800000#32 = 1 := by
  simp [Ideal.ofBits, Ideal.ieee, -EReal.coe_mul]; norm_num

theorem v50_eq (i : S16384x2048.Idx) : val_main_v50 (F := Ideal) x0 x1 x2 i = rG x0 x1 x2 i := by
  obtain ⟨n, k, rfl⟩ : ∃ (n : Fin 16384) (k : Fin 2048), i = ix2 n k := ⟨i 0, i 1, eq_ix2 i⟩
  rw [val_main_v50_apply, val_main_v49_apply, val_main_v41_apply, val_main_v40_apply, val_main_v39_apply, val_main_v38_apply, val_main_v37_apply,
    val_main_v36_apply, val_main_v35_apply,
    v15_eq x0 x1 x2 n ⟨3328 + k.val, by omega⟩ _ (by show (n.val * 2048 + k.val) / 8388608 = n.val / 4096; omega)
      (by show (n.val * 2048 + k.val) / 2048 % 4096 = n.val % 4096; omega) (by show 3328 + (n.val * 2048 + k.val) % 2048 = 3328 + k.val; omega)]
  show Ideal.div (Ideal.ofBits .f32 0x3F800000#32) (Ideal.ofBits .f32 0x3F800000#32 + Ideal.exp (-(P x0 x1 x2 n ⟨3328 + k.val, by omega⟩))) = _
  rw [one_bits]
  rfl

theorem v51_eq (i : S4x1x1024.Idx) : val_main_v51 (F := Ideal) x0 x1 i = rL x0 x1 i := by
  have h : (i 1).val < 1 := (i 1).isLt
  rw [val_main_v51_apply, show idx_main_v51 i = ix3 (i 0) (⟨4095, by decide⟩ : Fin 4096) (i 2) from ext3 rfl (by show 4095 + (i 1).val = 4095; omega) rfl]
  exact v13_eq x0 x1 (i 0) ⟨4095, by decide⟩ (i 2)

end Cert.Reference3Ideal.Proj

end
-- ==== Proof.InClaims.lean ====
/- The projection call: its five claims. -/
module

public import proofs.«01_k».proof.Defs
public import proofs.«01_k».proof.Proof.InArray
public import proofs.«01_k».proof.Proof.InRef
public import proofs.«01_k».proof.Proof.KInFrame
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Lib.Quiescent

@[expose] public section

noncomputable section

namespace Cert.InClaims

open Idealize.ShloMosaic Idealize.SL.Sem Idealize.ShloMosaic.ValueIdx
open Cert.Kernel3Ideal.Proj (mX mG mW mM)
open Cert.ProjRow

theorem frameP : Cert.quiescent_Kernel3 (hKernel3 := Cert.Kernel3.Gen.facts) := fun m ρ _ => Cert.Kernel3.Proj.frame_main m ρ

theorem framePI : Cert.quiescent_Kernel3Ideal (hKernel3Ideal := Cert.Kernel3Ideal.Gen.facts) := fun m ρ _ => Cert.Kernel3Ideal.Proj.frame_main m ρ

theorem frameRI : Cert.quiescent_Reference3Ideal (hReference3Ideal := Cert.Reference3Ideal.Gen.facts) := fun m ρ _ =>
  (θ_run Cert.Reference3Ideal.defs _ _).mono (fun r h => ⟨fun c => (h c).2.2.2.2.2.2.2.2, Idealize.ShloMosaic.sem_eq_zero_of_no_sems (by decide) r.2⟩)
    (Cert.Reference3Ideal.Value.run (F := Ideal) m ρ)

theorem alg : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => rPr (mX m c) (mG m c) (mW m c) (mM m c), fun c => rQ (mX m c) (mG m c) (mW m c),
    fun c => rC (mX m c) (mG m c) (mW m c) 2304 (by decide), fun c => rC (mX m c) (mG m c) (mW m c) 2816 (by decide),
    fun c => rT (mX m c) (mG m c) (mW m c) 2304 (by decide), fun c => rT (mX m c) (mG m c) (mW m c) 2816 (by decide),
    fun c => rG (mX m c) (mG m c) (mW m c), fun c => rL (mX m c) (mG m c), ?_, ?_⟩
  · refine (θ_run Cert.Kernel3Ideal.defs _ _).mono (fun r h c => ?_) (Cert.Kernel3Ideal.Proj.run_result m ρ)
    obtain ⟨k0, k1, k2, k3, k4, k5, k6, k7⟩ := h.1 c
    exact ⟨k0.trans (Cert.Kernel3Ideal.Proj.final4 m c), k1.trans (Cert.Kernel3Ideal.Proj.final5 m c),
      k2.trans (Cert.Kernel3Ideal.Proj.final6 m c), k3.trans (Cert.Kernel3Ideal.Proj.final7 m c),
      k4.trans (Cert.Kernel3Ideal.Proj.final8 m c), k5.trans (Cert.Kernel3Ideal.Proj.final9 m c),
      k6.trans (Cert.Kernel3Ideal.Proj.final10 m c), k7.trans (Cert.Kernel3Ideal.Proj.final11 m c), h.2 c⟩
  · refine (θ_run Cert.Reference3Ideal.defs _ _).mono (fun r h c => ?_) (Cert.Reference3Ideal.Value.run (F := Ideal) m' ρ')
    obtain ⟨k0, k1, k2, k3, k4, k5, k6, k7, ka⟩ := h c
    obtain ⟨h0, h1, h2, h3⟩ := hagree c
    refine ⟨k0.trans ?_, k1.trans ?_, k2.trans ?_, k3.trans ?_, k4.trans ?_, k5.trans ?_, k6.trans ?_, k7.trans ?_, ka⟩
    · rw [Cert.Reference3Ideal.Read.val_main_v42_eq, h0, h1, h2, h3]
      exact funext fun i => Cert.Reference3Ideal.Proj.v42_eq _ _ _ _ i
    · rw [Cert.Reference3Ideal.Read.val_main_v44_eq, h0, h1, h2]
      exact funext fun i => Cert.Reference3Ideal.Proj.v44_eq _ _ _ i
    · rw [Cert.Reference3Ideal.Read.val_main_v45_eq, h0, h1, h2]
      exact funext fun i => Cert.Reference3Ideal.Proj.v45_eq _ _ _ i
    · rw [Cert.Reference3Ideal.Read.val_main_v46_eq, h0, h1, h2]
      exact funext fun i => Cert.Reference3Ideal.Proj.v46_eq _ _ _ i
    · rw [Cert.Reference3Ideal.Read.val_main_v47_eq, h0, h1, h2]
      exact funext fun i => Cert.Reference3Ideal.Proj.v47_eq _ _ _ i
    · rw [Cert.Reference3Ideal.Read.val_main_v48_eq, h0, h1, h2]
      exact funext fun i => Cert.Reference3Ideal.Proj.v48_eq _ _ _ i
    · rw [Cert.Reference3Ideal.Read.val_main_v50_eq, h0, h1, h2]
      exact funext fun i => Cert.Reference3Ideal.Proj.v50_eq _ _ _ i
    · rw [Cert.Reference3Ideal.Read.val_main_v51_eq, h0, h1]
      exact funext fun i => Cert.Reference3Ideal.Proj.v51_eq _ _ i

end Cert.InClaims

end
-- ==== Proof.SampleBlock.lean ====
/- The merge kernel's block over the sampled tokens, which is the prompts' block: every entry the body stores is the row function of the block's row and the weights. -/
module

public import proofs.«01_k».proof.Proof.Gen.Kernel4Ideal.Value
public import proofs.«01_k».proof.Proof.MergeBlock

@[expose] public section

noncomputable section

namespace Cert.Kernel4Ideal.Merge

open Cert.Kernel4Ideal Cert.Kernel4Ideal.Gen Cert.MergeRow Idealize.ShloMosaic Idealize.ShloMosaic.ValueIdx
open scoped BigOperators

/-- The block the body stores, entry by entry. -/
theorem out_apply (x0 : Vec Ideal S512x1024 .f32) (x1 x2 x3 : Vec Ideal S512x512 .f32) (x4 : Vec Ideal S512x512 .bf16)
    (x5 : Vec Ideal S512x2048 .bf16) (x6 x7 : Vec Ideal S512x1024 .bf16) (x8 : Vec Ideal S1024x1024 .bf16) (x9 : Vec Ideal S1x1024 .f32)
    (x10 : Vec Ideal S1024x4096 .bf16) (x11 : Vec Ideal S4096x1024 .bf16) (x12 : Vec Ideal S1x1024 .f32) (r : Fin 512) (k : Fin 1024) :
    out0_13 x0 x1 x2 x3 x4 x5 x6 x7 x8 x9 x10 x11 x12 (ix2 r k)
      = row (fun j => x0 (ix2 r j)) (fun j => x1 (ix2 r j)) (fun j => x2 (ix2 r j)) (fun j => x3 (ix2 r j)) (fun j => x4 (ix2 r j))
          (fun j => x5 (ix2 r j)) (fun j l => x6 (ix2 j l)) (fun j l => x7 (ix2 j l)) (fun j l => x8 (ix2 j l)) (fun j => x9 (ix2 0 j))
          (fun j l => x10 (ix2 j l)) (fun j l => x11 (ix2 j l)) (fun j => x12 (ix2 0 j)) k :=
  Cert.Kernel2Ideal.Merge.out_apply x0 x1 x2 x3 x4 x5 x6 x7 x8 x9 x10 x11 x12 r k

end Cert.Kernel4Ideal.Merge

end
-- ==== Proof.SampleArray.lean ====
/- The merge kernel's result array over the sampled tokens: every entry is the row function of the launched arguments. -/
module

public import proofs.«01_k».proof.Proof.SampleBlock

@[expose] public section

noncomputable section

namespace Cert.Kernel4Ideal.Merge

open Cert.Kernel4Ideal Cert.Kernel4Ideal.Gen Cert.MergeRow Idealize.ShloMosaic Idealize.ShloMosaic.ValueIdx Idealize.ShloMosaic.TcCoe
open Idealize.ShloMosaic.StableHlo Idealize.SL.Sem
open Idealize.ShloMosaic.Pipeline (Dat)
open scoped BigOperators

/-- The batch and the position of a flattened row. -/
abbrev rb (n : Fin 1024) : Fin 128 := ⟨n.val / 8, by omega⟩
abbrev rt (n : Fin 1024) : Fin 8 := ⟨n.val % 8, by omega⟩

/-- The result array as a function of the arguments. -/
def G (x : S128x8x1024.Idx → EReal) (y b g o : S128x8x512.Idx → EReal) (gates : S128x8x2048.Idx → EReal)
    (wa wb : S1x512x1024.Idx → EReal) (wo : S1x1024x1024.Idx → EReal) (gf : S1x1024.Idx → EReal) (wu : S1x1024x4096.Idx → EReal)
    (wd : S1x4096x1024.Idx → EReal) (gl : S1024.Idx → EReal) (i : S1024x1024.Idx) : EReal :=
  row (fun j => x (ix3 (rb (i 0)) (rt (i 0)) j)) (fun j => y (ix3 (rb (i 0)) (rt (i 0)) j)) (fun j => b (ix3 (rb (i 0)) (rt (i 0)) j))
    (fun j => g (ix3 (rb (i 0)) (rt (i 0)) j)) (fun j => o (ix3 (rb (i 0)) (rt (i 0)) j)) (fun j => gates (ix3 (rb (i 0)) (rt (i 0)) j))
    (fun j l => wa (ix3 0 j l)) (fun j l => wb (ix3 0 j l)) (fun j l => wo (ix3 0 j l)) (fun j => gf (ix2 0 j))
    (fun j l => wu (ix3 0 j l)) (fun j l => wd (ix3 0 j l)) (fun j => gl (ix1 j)) (i 1)

variable (m : (ℓ : Loc nD τ sig) → Buf (Elt Ideal) ℓ) (ρ : Dev nD → PrngReg)

theorem V_v1 (c : Dev nD) : V m c main_v1 = truncf (F := Ideal) .bf16 (shapeCast S512x1024 (m ((c : Thread nD τ).loc main_arg6)) shapeCasts_S1x512x1024_S512x1024 : FVec Ideal S512x1024 .f32) bitsLt_bf16_f32 := by
  dsimp only [V, hostOps0]; after_results; rfl
theorem V_v3 (c : Dev nD) : V m c main_v3 = truncf (F := Ideal) .bf16 (shapeCast S512x1024 (m ((c : Thread nD τ).loc main_arg7)) shapeCasts_S1x512x1024_S512x1024 : FVec Ideal S512x1024 .f32) bitsLt_bf16_f32 := by
  dsimp only [V, hostOps0]; after_results; rfl
theorem V_v5 (c : Dev nD) : V m c main_v5 = truncf (F := Ideal) .bf16 (shapeCast S1024x1024 (m ((c : Thread nD τ).loc main_arg8)) shapeCasts_S1x1024x1024_S1024x1024 : FVec Ideal S1024x1024 .f32) bitsLt_bf16_f32 := by
  dsimp only [V, hostOps0]; after_results; rfl
theorem V_v7 (c : Dev nD) : V m c main_v7 = truncf (F := Ideal) .bf16 (shapeCast S1024x4096 (m ((c : Thread nD τ).loc main_arg10)) shapeCasts_S1x1024x4096_S1024x4096 : FVec Ideal S1024x4096 .f32) bitsLt_bf16_f32 := by
  dsimp only [V, hostOps0]; after_results; rfl
theorem V_v9 (c : Dev nD) : V m c main_v9 = truncf (F := Ideal) .bf16 (shapeCast S4096x1024 (m ((c : Thread nD τ).loc main_arg11)) shapeCasts_S1x4096x1024_S4096x1024 : FVec Ideal S4096x1024 .f32) bitsLt_bf16_f32 := by
  dsimp only [V, hostOps0]; after_results; rfl
theorem V_v10 (c : Dev nD) : V m c main_v10 = shapeCast S1x1024 (m ((c : Thread nD τ).loc main_arg12)) shapeCasts_S1024_S1x1024 := by
  dsimp only [V, hostOps0]; after_results; rfl
theorem V_v11 (c : Dev nD) : V m c main_v11 = shapeCast S1024x1024 (m ((c : Thread nD τ).loc main_arg0)) shapeCasts_S128x8x1024_S1024x1024 := by
  dsimp only [V, hostOps0]; after_results; rfl
theorem V_v12 (c : Dev nD) : V m c main_v12 = shapeCast S1024x512 (m ((c : Thread nD τ).loc main_arg1)) shapeCasts_S128x8x512_S1024x512 := by
  dsimp only [V, hostOps0]; after_results; rfl
theorem V_v13 (c : Dev nD) : V m c main_v13 = shapeCast S1024x512 (m ((c : Thread nD τ).loc main_arg2)) shapeCasts_S128x8x512_S1024x512 := by
  dsimp only [V, hostOps0]; after_results; rfl
theorem V_v14 (c : Dev nD) : V m c main_v14 = shapeCast S1024x512 (m ((c : Thread nD τ).loc main_arg3)) shapeCasts_S128x8x512_S1024x512 := by
  dsimp only [V, hostOps0]; after_results; rfl
theorem V_v15 (c : Dev nD) : V m c main_v15 = shapeCast S1024x512 (m ((c : Thread nD τ).loc main_arg4)) shapeCasts_S128x8x512_S1024x512 := by
  dsimp only [V, hostOps0]; after_results; rfl
theorem V_v16 (c : Dev nD) : V m c main_v16 = shapeCast S1024x2048 (m ((c : Thread nD τ).loc main_arg5)) shapeCasts_S128x8x2048_S1024x2048 := by
  dsimp only [V, hostOps0]; after_results; rfl

/-- A flattened array read at a row and a column. -/
theorem flat_apply {α : Type} {w : ℕ} (x : (⟨3, ![128, 8, w]⟩ : Shape).Idx → α)
    (h : (⟨3, ![128, 8, w]⟩ : Shape).ShapeCasts ⟨2, ![1024, w]⟩) (n : Fin 1024) (k : Fin w) :
    shapeCast ⟨2, ![1024, w]⟩ x h (ix2 n k) = x (ix3 (rb n) (rt n) k) :=
  shapeCast_apply x h _ _ (by
    rw [Shape.rowMajor_val_three, Shape.rowMajor_val_two]
    show (n.val / 8 * 8 + n.val % 8) * w + k.val = n.val * w + k.val
    rw [Nat.div_add_mod' n.val 8])

/-- The first axis's block index of the blocked windows is the point's number; every other block index is zero. -/
theorem idx_facts : ∀ t : Fin cfg0.N,
    (win0_0.index t 0 = t.val ∧ win0_1.index t 0 = t.val ∧ win0_2.index t 0 = t.val ∧ win0_3.index t 0 = t.val
      ∧ win0_4.index t 0 = t.val ∧ win0_5.index t 0 = t.val ∧ win0_13.index t 0 = t.val)
    ∧ (win0_0.index t 1 = 0 ∧ win0_1.index t 1 = 0 ∧ win0_2.index t 1 = 0 ∧ win0_3.index t 1 = 0
      ∧ win0_4.index t 1 = 0 ∧ win0_5.index t 1 = 0 ∧ win0_13.index t 1 = 0)
    ∧ (win0_6.index t 0 = 0 ∧ win0_7.index t 0 = 0 ∧ win0_8.index t 0 = 0 ∧ win0_9.index t 0 = 0
      ∧ win0_10.index t 0 = 0 ∧ win0_11.index t 0 = 0 ∧ win0_12.index t 0 = 0)
    ∧ (win0_6.index t 1 = 0 ∧ win0_7.index t 1 = 0 ∧ win0_8.index t 1 = 0 ∧ win0_9.index t 1 = 0
      ∧ win0_10.index t 1 = 0 ∧ win0_11.index t 1 = 0 ∧ win0_12.index t 1 = 0) :=
  (by decide +kernel : ∀ t : Fin grid0.N, _)

/-- The array row of a block's row. -/
abbrev arow (t : Fin cfg0.N) (r : Fin 512) : Fin 1024 := ⟨t.val * 512 + r.val, by
  have h : t.val < 2 := t.isLt
  have := r.isLt; omega⟩

theorem blk0 (c : Dev nD) (t : Fin cfg0.N) (r : Fin 512) (k : Fin 1024) :
    (iblk m c 0 t : Vec Ideal S512x1024 .f32) (ix2 r k) = m ((c : Thread nD τ).loc main_arg0) (ix3 (rb (arow t r)) (rt (arow t r)) k) := by
  unfold iblk
  rw [View.read_apply]
  have hf := idx_facts t
  show V m c main_v11 _ = _
  rw [V_v11]
  refine Eq.trans (congrArg _ ?_) (flat_apply (m ((c : Thread nD τ).loc main_arg0)) _ (arow t r) k)
  funext a; apply Fin.ext
  match a with
  | ⟨0, _⟩ => show win0_0.index t 0 * 512 + 1 * r.val = t.val * 512 + r.val; rw [hf.1.1]; omega
  | ⟨1, _⟩ => show win0_0.index t 1 * 1024 + 1 * k.val = k.val; rw [hf.2.1.1]; omega

theorem blk1 (c : Dev nD) (t : Fin cfg0.N) (r : Fin 512) (k : Fin 512) :
    (iblk m c 1 t : Vec Ideal S512x512 .f32) (ix2 r k) = m ((c : Thread nD τ).loc main_arg1) (ix3 (rb (arow t r)) (rt (arow t r)) k) := by
  unfold iblk
  rw [View.read_apply]
  have hf := idx_facts t
  show V m c main_v12 _ = _
  rw [V_v12]
  refine Eq.trans (congrArg _ ?_) (flat_apply (m ((c : Thread nD τ).loc main_arg1)) _ (arow t r) k)
  funext a; apply Fin.ext
  match a with
  | ⟨0, _⟩ => show win0_1.index t 0 * 512 + 1 * r.val = t.val * 512 + r.val; rw [hf.1.2.1]; omega
  | ⟨1, _⟩ => show win0_1.index t 1 * 512 + 1 * k.val = k.val; rw [hf.2.1.2.1]; omega

theorem blk2 (c : Dev nD) (t : Fin cfg0.N) (r : Fin 512) (k : Fin 512) :
    (iblk m c 2 t : Vec Ideal S512x512 .f32) (ix2 r k) = m ((c : Thread nD τ).loc main_arg2) (ix3 (rb (arow t r)) (rt (arow t r)) k) := by
  unfold iblk
  rw [View.read_apply]
  have hf := idx_facts t
  show V m c main_v13 _ = _
  rw [V_v13]
  refine Eq.trans (congrArg _ ?_) (flat_apply (m ((c : Thread nD τ).loc main_arg2)) _ (arow t r) k)
  funext a; apply Fin.ext
  match a with
  | ⟨0, _⟩ => show win0_2.index t 0 * 512 + 1 * r.val = t.val * 512 + r.val; rw [hf.1.2.2.1]; omega
  | ⟨1, _⟩ => show win0_2.index t 1 * 512 + 1 * k.val = k.val; rw [hf.2.1.2.2.1]; omega

theorem blk3 (c : Dev nD) (t : Fin cfg0.N) (r : Fin 512) (k : Fin 512) :
    (iblk m c 3 t : Vec Ideal S512x512 .f32) (ix2 r k) = m ((c : Thread nD τ).loc main_arg3) (ix3 (rb (arow t r)) (rt (arow t r)) k) := by
  unfold iblk
  rw [View.read_apply]
  have hf := idx_facts t
  show V m c main_v14 _ = _
  rw [V_v14]
  refine Eq.trans (congrArg _ ?_) (flat_apply (m ((c : Thread nD τ).loc main_arg3)) _ (arow t r) k)
  funext a; apply Fin.ext
  match a with
  | ⟨0, _⟩ => show win0_3.index t 0 * 512 + 1 * r.val = t.val * 512 + r.val; rw [hf.1.2.2.2.1]; omega
  | ⟨1, _⟩ => show win0_3.index t 1 * 512 + 1 * k.val = k.val; rw [hf.2.1.2.2.2.1]; omega

theorem blk4 (c : Dev nD) (t : Fin cfg0.N) (r : Fin 512) (k : Fin 512) :
    (iblk m c 4 t : Vec Ideal S512x512 .bf16) (ix2 r k) = m ((c : Thread nD τ).loc main_arg4) (ix3 (rb (arow t r)) (rt (arow t r)) k) := by
  unfold iblk
  rw [View.read_apply]
  have hf := idx_facts t
  show V m c main_v15 _ = _
  rw [V_v15]
  refine Eq.trans (congrArg _ ?_) (flat_apply (m ((c : Thread nD τ).loc main_arg4)) _ (arow t r) k)
  funext a; apply Fin.ext
  match a with
  | ⟨0, _⟩ => show win0_4.index t 0 * 512 + 1 * r.val = t.val * 512 + r.val; rw [hf.1.2.2.2.2.1]; omega
  | ⟨1, _⟩ => show win0_4.index t 1 * 512 + 1 * k.val = k.val; rw [hf.2.1.2.2.2.2.1]; omega

theorem blk5 (c : Dev nD) (t : Fin cfg0.N) (r : Fin 512) (k : Fin 2048) :
    (iblk m c 5 t : Vec Ideal S512x2048 .bf16) (ix2 r k) = m ((c : Thread nD τ).loc main_arg5) (ix3 (rb (arow t r)) (rt (arow t r)) k) := by
  unfold iblk
  rw [View.read_apply]
  have hf := idx_facts t
  show V m c main_v16 _ = _
  rw [V_v16]
  refine Eq.trans (congrArg _ ?_) (flat_apply (m ((c : Thread nD τ).loc main_arg5)) _ (arow t r) k)
  funext a; apply Fin.ext
  match a with
  | ⟨0, _⟩ => show win0_5.index t 0 * 512 + 1 * r.val = t.val * 512 + r.val; rw [hf.1.2.2.2.2.2.1]; omega
  | ⟨1, _⟩ => show win0_5.index t 1 * 2048 + 1 * k.val = k.val; rw [hf.2.1.2.2.2.2.2.1]; omega

theorem blk6 (c : Dev nD) (t : Fin cfg0.N) (r : Fin 512) (k : Fin 1024) :
    (iblk m c 6 t : Vec Ideal S512x1024 .bf16) (ix2 r k) = m ((c : Thread nD τ).loc main_arg6) (ix3 0 r k) := by
  unfold iblk
  rw [View.read_apply]
  have hf := idx_facts t
  show V m c main_v1 _ = _
  rw [V_v1, truncf_apply]
  refine Eq.trans (congrArg _ ?_) (shapeCast_1ab_ab_apply (m ((c : Thread nD τ).loc main_arg6)) shapeCasts_S1x512x1024_S512x1024 r k)
  funext a; apply Fin.ext
  match a with
  | ⟨0, _⟩ => show win0_6.index t 0 * 512 + 1 * r.val = r.val; rw [hf.2.2.1.1]; omega
  | ⟨1, _⟩ => show win0_6.index t 1 * 1024 + 1 * k.val = k.val; rw [hf.2.2.2.1]; omega

theorem blk7 (c : Dev nD) (t : Fin cfg0.N) (r : Fin 512) (k : Fin 1024) :
    (iblk m c 7 t : Vec Ideal S512x1024 .bf16) (ix2 r k) = m ((c : Thread nD τ).loc main_arg7) (ix3 0 r k) := by
  unfold iblk
  rw [View.read_apply]
  have hf := idx_facts t
  show V m c main_v3 _ = _
  rw [V_v3, truncf_apply]
  refine Eq.trans (congrArg _ ?_) (shapeCast_1ab_ab_apply (m ((c : Thread nD τ).loc main_arg7)) shapeCasts_S1x512x1024_S512x1024 r k)
  funext a; apply Fin.ext
  match a with
  | ⟨0, _⟩ => show win0_7.index t 0 * 512 + 1 * r.val = r.val; rw [hf.2.2.1.2.1]; omega
  | ⟨1, _⟩ => show win0_7.index t 1 * 1024 + 1 * k.val = k.val; rw [hf.2.2.2.2.1]; omega

theorem blk8 (c : Dev nD) (t : Fin cfg0.N) (r : Fin 1024) (k : Fin 1024) :
    (iblk m c 8 t : Vec Ideal S1024x1024 .bf16) (ix2 r k) = m ((c : Thread nD τ).loc main_arg8) (ix3 0 r k) := by
  unfold iblk
  rw [View.read_apply]
  have hf := idx_facts t
  show V m c main_v5 _ = _
  rw [V_v5, truncf_apply]
  refine Eq.trans (congrArg _ ?_) (shapeCast_1ab_ab_apply (m ((c : Thread nD τ).loc main_arg8)) shapeCasts_S1x1024x1024_S1024x1024 r k)
  funext a; apply Fin.ext
  match a with
  | ⟨0, _⟩ => show win0_8.index t 0 * 1024 + 1 * r.val = r.val; rw [hf.2.2.1.2.2.1]; omega
  | ⟨1, _⟩ => show win0_8.index t 1 * 1024 + 1 * k.val = k.val; rw [hf.2.2.2.2.2.1]; omega

theorem blk10 (c : Dev nD) (t : Fin cfg0.N) (r : Fin 1024) (k : Fin 4096) :
    (iblk m c 10 t : Vec Ideal S1024x4096 .bf16) (ix2 r k) = m ((c : Thread nD τ).loc main_arg10) (ix3 0 r k) := by
  unfold iblk
  rw [View.read_apply]
  have hf := idx_facts t
  show V m c main_v7 _ = _
  rw [V_v7, truncf_apply]
  refine Eq.trans (congrArg _ ?_) (shapeCast_1ab_ab_apply (m ((c : Thread nD τ).loc main_arg10)) shapeCasts_S1x1024x4096_S1024x4096 r k)
  funext a; apply Fin.ext
  match a with
  | ⟨0, _⟩ => show win0_10.index t 0 * 1024 + 1 * r.val = r.val; rw [hf.2.2.1.2.2.2.2.1]; omega
  | ⟨1, _⟩ => show win0_10.index t 1 * 4096 + 1 * k.val = k.val; rw [hf.2.2.2.2.2.2.2.1]; omega

theorem blk11 (c : Dev nD) (t : Fin cfg0.N) (r : Fin 4096) (k : Fin 1024) :
    (iblk m c 11 t : Vec Ideal S4096x1024 .bf16) (ix2 r k) = m ((c : Thread nD τ).loc main_arg11) (ix3 0 r k) := by
  unfold iblk
  rw [View.read_apply]
  have hf := idx_facts t
  show V m c main_v9 _ = _
  rw [V_v9, truncf_apply]
  refine Eq.trans (congrArg _ ?_) (shapeCast_1ab_ab_apply (m ((c : Thread nD τ).loc main_arg11)) shapeCasts_S1x4096x1024_S4096x1024 r k)
  funext a; apply Fin.ext
  match a with
  | ⟨0, _⟩ => show win0_11.index t 0 * 4096 + 1 * r.val = r.val; rw [hf.2.2.1.2.2.2.2.2.1]; omega
  | ⟨1, _⟩ => show win0_11.index t 1 * 1024 + 1 * k.val = k.val; rw [hf.2.2.2.2.2.2.2.2.1]; omega

theorem blk9 (c : Dev nD) (t : Fin cfg0.N) (k : Fin 1024) :
    (iblk m c 9 t : Vec Ideal S1x1024 .f32) (ix2 0 k) = m ((c : Thread nD τ).loc main_arg9) (ix2 0 k) := by
  unfold iblk
  rw [View.read_apply]
  have hf := idx_facts t
  show V m c main_arg9 _ = _
  rw [V_main_arg9]
  refine congrArg _ ?_
  funext a; apply Fin.ext
  match a with
  | ⟨0, _⟩ => show win0_9.index t 0 * 1 + 1 * 0 = 0; rw [hf.2.2.1.2.2.2.1]
  | ⟨1, _⟩ => show win0_9.index t 1 * 1024 + 1 * k.val = k.val; rw [hf.2.2.2.2.2.2.1]; omega

theorem blk12 (c : Dev nD) (t : Fin cfg0.N) (k : Fin 1024) :
    (iblk m c 12 t : Vec Ideal S1x1024 .f32) (ix2 0 k) = m ((c : Thread nD τ).loc main_arg12) (ix1 k) := by
  unfold iblk
  rw [View.read_apply]
  have hf := idx_facts t
  show V m c main_v10 _ = _
  rw [V_v10]
  refine Eq.trans (congrArg _ ?_) (shapeCast_a_1a_apply (m ((c : Thread nD τ).loc main_arg12)) shapeCasts_S1024_S1x1024 0 k)
  funext a; apply Fin.ext
  match a with
  | ⟨0, _⟩ => show win0_12.index t 0 * 1 + 1 * 0 = 0; rw [hf.2.2.1.2.2.2.2.2.2]
  | ⟨1, _⟩ => show win0_12.index t 1 * 1024 + 1 * k.val = k.val; rw [hf.2.2.2.2.2.2.2.2.2]; omega

/-- The result array from the launched memory. -/
abbrev Gm (c : Dev nD) : S1024x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

theorem flushed_eq (c : Dev nD) (t : Fin cfg0.N) :
    (dats m 0 c).flushed 13 t = ((cfg0.win 13).blk t).view.read (Elt Ideal) (Gm m c) := by
  rw [Value.flushed13]
  show (out0_13 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) : S512x1024.Idx → EReal) = _
  funext j
  obtain ⟨r, k, rfl⟩ : ∃ (r : Fin 512) (k : Fin 1024), j = ix2 r k := ⟨j 0, j 1, eq_ix2 j⟩
  rw [out_apply, View.read_apply]
  have hf := idx_facts t
  have hi : ((cfg0.win 13).blk t).view.emb (ix2 r k) = ix2 (arow t r) k := by
    funext a; apply Fin.ext
    match a with
    | ⟨0, _⟩ => show win0_13.index t 0 * 512 + 1 * r.val = t.val * 512 + r.val; rw [hf.1.2.2.2.2.2.2]; omega
    | ⟨1, _⟩ => show win0_13.index t 1 * 1024 + 1 * k.val = k.val; rw [hf.2.1.2.2.2.2.2.2]; omega
  show _ = Gm m c (((cfg0.win 13).blk t).view.emb (ix2 r k))
  rw [hi]
  simp only [blk0, blk1, blk2, blk3, blk4, blk5, blk6, blk7, blk8, blk9, blk10, blk11, blk12]
  rfl

theorem cover (i : S1024x1024.Idx) :
    ∃ t : Fin cfg0.N, (cfg0.win 13).flush t = true ∧ i ∈ ((cfg0.win 13).blk t).view.set := by
  have h0 : (i 0).val < 1024 := (i 0).isLt
  have h1 : (i 1).val < 1024 := (i 1).isLt
  let t : Fin cfg0.N := ⟨(i 0).val / 512, by show _ < 2; omega⟩
  refine ⟨t, flush0_13 t, ?_⟩
  show i ∈ ((View.whole main_v17).slice (win0_13.rect t)).set
  rw [View.set_slice_whole, Rect.mem_set_unit]
  have hf := idx_facts t
  intro a
  match a with
  | ⟨0, _⟩ =>
    show win0_13.index t 0 * 512 ≤ (i 0).val ∧ (i 0).val < win0_13.index t 0 * 512 + 512
    rw [hf.1.2.2.2.2.2.2]
    show (i 0).val / 512 * 512 ≤ (i 0).val ∧ (i 0).val < (i 0).val / 512 * 512 + 512
    omega
  | ⟨1, _⟩ =>
    show win0_13.index t 1 * 1024 ≤ (i 1).val ∧ (i 1).val < win0_13.index t 1 * 1024 + 1024
    rw [hf.2.1.2.2.2.2.2.2]; omega

theorem final (c : Dev nD) : (dats m 0 c).arrAt 13 cfg0.N = Gm m c :=
  (dats m 0 c).arrAt_eq_of_cover 13 (Gm m c) (fun t _ => flushed_eq m c t) cover

end Cert.Kernel4Ideal.Merge

end
-- ==== Proof.SampleRef.lean ====
/- The reference's result, read at an entry: the row function of the arguments. -/
module

public import proofs.«01_k».proof.Proof.Gen.Reference4Ideal.Read
public import proofs.«01_k».proof.Proof.MergeRow

@[expose] public section

noncomputable section

namespace Cert.Reference4Ideal.Merge

open Cert.Reference4Ideal Cert.Reference4Ideal.Gen Cert.Reference4Ideal.Read Cert.MergeRow Idealize.ShloMosaic Idealize.ShloMosaic.ValueIdx
open scoped BigOperators

theorem ext2 {a b : ℕ} {i j : (⟨2, ![a, b]⟩ : Shape).Idx} (h0 : (i 0).val = (j 0).val) (h1 : (i 1).val = (j 1).val) : i = j := by
  funext d; apply Fin.ext
  match d with
  | ⟨0, _⟩ => exact h0
  | ⟨1, _⟩ => exact h1

theorem ext3 {a b c : ℕ} {i j : (⟨3, ![a, b, c]⟩ : Shape).Idx} (h0 : (i 0).val = (j 0).val) (h1 : (i 1).val = (j 1).val)
    (h2 : (i 2).val = (j 2).val) : i = j := by
  funext d; apply Fin.ext
  match d with
  | ⟨0, _⟩ => exact h0
  | ⟨1, _⟩ => exact h1
  | ⟨2, _⟩ => exact h2

variable (x0 : S128x8x1024.Idx → EReal) (x1 x2 x3 x4 : S128x8x512.Idx → EReal) (x5 : S128x8x2048.Idx → EReal)
  (x6 x7 : S1x512x1024.Idx → EReal) (x8 : S1x1024x1024.Idx → EReal) (x9 : S1x1024.Idx → EReal) (x10 : S1x1024x4096.Idx → EReal)
  (x11 : S1x4096x1024.Idx → EReal) (x12 : S1024.Idx → EReal)

theorem w6 (j : Fin 512) (k : Fin 1024) : val_main_v5 (F := Ideal) x6 (ix2 j k) = x6 (ix3 0 j k) := by
  rw [val_main_v5_apply]
  exact congrArg x6 (ext3 rfl (by show (j.val * 1024 + k.val) / 1024 % 512 = j.val; omega) (by show (j.val * 1024 + k.val) % 1024 = k.val; omega))
theorem w7 (j : Fin 512) (k : Fin 1024) : val_main_v9 (F := Ideal) x7 (ix2 j k) = x7 (ix3 0 j k) := by
  rw [val_main_v9_apply]
  exact congrArg x7 (ext3 rfl (by show (j.val * 1024 + k.val) / 1024 % 512 = j.val; omega) (by show (j.val * 1024 + k.val) % 1024 = k.val; omega))
theorem w8 (j : Fin 1024) (k : Fin 1024) : val_main_v13 (F := Ideal) x8 (ix2 j k) = x8 (ix3 0 j k) := by
  rw [val_main_v13_apply]
  exact congrArg x8 (ext3 rfl (by show (j.val * 1024 + k.val) / 1024 % 1024 = j.val; omega) (by show (j.val * 1024 + k.val) % 1024 = k.val; omega))
theorem w10 (j : Fin 1024) (k : Fin 4096) : val_main_v30 (F := Ideal) x10 (ix2 j k) = x10 (ix3 0 j k) := by
  rw [val_main_v30_apply]
  exact congrArg x10 (ext3 rfl (by show (j.val * 4096 + k.val) / 4096 % 1024 = j.val; omega) (by show (j.val * 4096 + k.val) % 4096 = k.val; omega))
theorem w11 (j : Fin 4096) (k : Fin 1024) : val_main_v34 (F := Ideal) x11 (ix2 j k) = x11 (ix3 0 j k) := by
  rw [val_main_v34_apply]
  exact congrArg x11 (ext3 rfl (by show (j.val * 1024 + k.val) / 1024 % 4096 = j.val; omega) (by show (j.val * 1024 + k.val) % 1024 = k.val; omega))

variable (b : Fin 128) (t : Fin 8)

/-- The merged row. -/
theorem v12_eq (k : Fin 1024) : val_main_v12 (F := Ideal) x1 x2 x3 x4 x5 x6 x7 (ix3 b t k)
    = gated (fun j => x1 (ix3 b t j)) (fun j => x2 (ix3 b t j)) (fun j => x3 (ix3 b t j)) (fun j => x4 (ix3 b t j))
        (fun j => x5 (ix3 b t j)) (fun j l => x6 (ix3 0 j l)) (fun j l => x7 (ix3 0 j l)) k := by
  rw [val_main_v12_apply, val_main_v7_apply, val_main_v11_apply, val_main_v3_apply, val_main_v4_apply, val_main_v6_apply, val_main_v10_apply]
  unfold gated
  show (x5 _ * _) + (x5 _ * _) = _
  congr 1
  · congr 1
    · exact congrArg x5 (ext3 rfl rfl rfl)
    · refine Finset.sum_congr rfl fun j _ => ?_
      rw [show lidx_main_v6 (ix3 b t k) j = ix3 b t j from ext3 rfl rfl rfl, show ridx_main_v6 (ix3 b t k) j = ix2 j k from ext2 rfl rfl, w6]
      rfl
  · congr 1
    · exact congrArg x5 (ext3 rfl rfl rfl)
    · refine Finset.sum_congr rfl fun j _ => ?_
      rw [show lidx_main_v10 (ix3 b t k) j = ix3 b t j from ext3 rfl rfl rfl, show ridx_main_v10 (ix3 b t k) j = ix2 j k from ext2 rfl rfl, w7]
      rfl

/-- The residual row. -/
abbrev m1 (k : Fin 1024) : EReal :=
  mid (fun j => x0 (ix3 b t j)) (gated (fun j => x1 (ix3 b t j)) (fun j => x2 (ix3 b t j)) (fun j => x3 (ix3 b t j)) (fun j => x4 (ix3 b t j))
        (fun j => x5 (ix3 b t j)) (fun j l => x6 (ix3 0 j l)) (fun j l => x7 (ix3 0 j l))) (fun j l => x8 (ix3 0 j l)) k

theorem v15_eq (k : Fin 1024) : val_main_v15 (F := Ideal) x0 x1 x2 x3 x4 x5 x6 x7 x8 (ix3 b t k) = m1 x0 x1 x2 x3 x4 x5 x6 x7 x8 b t k := by
  rw [val_main_v15_apply, val_main_v14_apply]
  unfold m1 mid
  show x0 _ + _ = _
  congr 1
  refine Finset.sum_congr rfl fun j _ => ?_
  rw [show lidx_main_v14 (ix3 b t k) j = ix3 b t j from ext3 rfl rfl rfl, show ridx_main_v14 (ix3 b t k) j = ix2 j k from ext2 rfl rfl, w8, v12_eq]

/-- A normalised row from its sum of squares and its gain. -/
theorem rms_of {x g : Fin 1024 → EReal} {k : Fin 1024} {s y : EReal} (hs : s = ∑ j, x j * x j) (hy : y = g k) :
    x k * Ideal.rsqrt (Ideal.div s (Ideal.ofBits .f32 0x44800000#32) + Ideal.ofBits .f32 0x358637BD#32) * y = rms x g k := by
  rw [hs, hy]; rfl

theorem v18_eq : val_main_v18 (F := Ideal) x0 x1 x2 x3 x4 x5 x6 x7 x8 (ix2 b t)
    = ∑ j, m1 x0 x1 x2 x3 x4 x5 x6 x7 x8 b t j * m1 x0 x1 x2 x3 x4 x5 x6 x7 x8 b t j := by
  rw [val_main_v18_apply]
  show Ideal.ofBits .f32 0x00000000#32 + _ = _
  rw [zero_bits, zero_add]
  refine Finset.sum_congr rfl fun j _ => ?_
  rw [show idx_main_v18 (ix2 b t) j = ix3 b t j from ext3 rfl rfl rfl, val_main_v17_apply, v15_eq]
  rfl

theorem v29_eq (k : Fin 1024) : val_main_v29 (F := Ideal) x0 x1 x2 x3 x4 x5 x6 x7 x8 x9 (ix3 b t k)
    = rms (m1 x0 x1 x2 x3 x4 x5 x6 x7 x8 b t) (fun j => x9 (ix2 0 j)) k := by
  rw [val_main_v29_apply, val_main_v26_apply, val_main_v25_apply, val_main_v24_apply, val_main_v23_apply, val_main_v22_apply, val_main_v21_apply,
    val_main_v20_apply, val_main_v19_apply, val_main_v28_apply, val_main_v27_apply, val_main_v16_apply, v15_eq]
  rw [show idx_main_v19 (idx_main_v25 (ix3 b t k)) = ix2 b t from ext2 rfl rfl]
  exact rms_of (v18_eq x0 x1 x2 x3 x4 x5 x6 x7 x8 b t) (congrArg x9 (ext2 rfl (by show k.val % 1024 = k.val; omega)))

theorem v36_eq (k : Fin 1024) : val_main_v36 (F := Ideal) x0 x1 x2 x3 x4 x5 x6 x7 x8 x9 x10 x11 (ix3 b t k)
    = ffn (m1 x0 x1 x2 x3 x4 x5 x6 x7 x8 b t) (fun j => x9 (ix2 0 j)) (fun j l => x10 (ix3 0 j l)) (fun j l => x11 (ix3 0 j l)) k := by
  rw [val_main_v36_apply, v15_eq, val_main_v35_apply]
  unfold ffn
  show _ + _ = _
  congr 1
  refine Finset.sum_congr rfl fun f _ => ?_
  rw [show lidx_main_v35 (ix3 b t k) f = ix3 b t f from ext3 rfl rfl rfl, show ridx_main_v35 (ix3 b t k) f = ix2 f k from ext2 rfl rfl, w11]
  congr 1
  rw [val_main_v33_apply, val_main_v32_apply]
  have e : val_main_v31 (F := Ideal) x0 x1 x2 x3 x4 x5 x6 x7 x8 x9 x10 (ix3 b t f)
      = ∑ j : Fin 1024, rms (m1 x0 x1 x2 x3 x4 x5 x6 x7 x8 b t) (fun j => x9 (ix2 0 j)) j * x10 (ix3 0 j f) := by
    rw [val_main_v31_apply]
    refine Finset.sum_congr rfl fun j _ => ?_
    rw [show lidx_main_v31 (ix3 b t f) j = ix3 b t j from ext3 rfl rfl rfl, show ridx_main_v31 (ix3 b t f) j = ix2 j f from ext2 rfl rfl, w10, v29_eq]
  rw [e, val_main_call0_v0_apply, val_main_call0_cst_apply]
  unfold MergeRow.hidden
  show max _ (Ideal.ofBits .f32 0x00000000#32) * max _ (Ideal.ofBits .f32 0x00000000#32) = _
  rw [zero_bits]

theorem v38_eq : val_main_v38 (F := Ideal) x0 x1 x2 x3 x4 x5 x6 x7 x8 x9 x10 x11 (ix2 b t)
    = ∑ l, ffn (m1 x0 x1 x2 x3 x4 x5 x6 x7 x8 b t) (fun j => x9 (ix2 0 j)) (fun j l => x10 (ix3 0 j l)) (fun j l => x11 (ix3 0 j l)) l
        * ffn (m1 x0 x1 x2 x3 x4 x5 x6 x7 x8 b t) (fun j => x9 (ix2 0 j)) (fun j l => x10 (ix3 0 j l)) (fun j l => x11 (ix3 0 j l)) l := by
  rw [val_main_v38_apply]
  show Ideal.ofBits .f32 0x00000000#32 + _ = _
  rw [zero_bits, zero_add]
  refine Finset.sum_congr rfl fun j _ => ?_
  rw [show idx_main_v38 (ix2 b t) j = ix3 b t j from ext3 rfl rfl rfl, val_main_v37_apply, v36_eq]
  rfl

theorem v49_eq (k : Fin 1024) : val_main_v49 (F := Ideal) x0 x1 x2 x3 x4 x5 x6 x7 x8 x9 x10 x11 x12 (ix3 b t k)
    = row (fun j => x0 (ix3 b t j)) (fun j => x1 (ix3 b t j)) (fun j => x2 (ix3 b t j)) (fun j => x3 (ix3 b t j)) (fun j => x4 (ix3 b t j))
        (fun j => x5 (ix3 b t j)) (fun j l => x6 (ix3 0 j l)) (fun j l => x7 (ix3 0 j l)) (fun j l => x8 (ix3 0 j l)) (fun j => x9 (ix2 0 j))
        (fun j l => x10 (ix3 0 j l)) (fun j l => x11 (ix3 0 j l)) (fun j => x12 (ix1 j)) k := by
  rw [val_main_v49_apply, val_main_v46_apply, val_main_v45_apply, val_main_v44_apply, val_main_v43_apply, val_main_v42_apply, val_main_v41_apply,
    val_main_v40_apply, val_main_v39_apply, val_main_v48_apply, val_main_v47_apply, v36_eq]
  rw [show idx_main_v39 (idx_main_v45 (ix3 b t k)) = ix2 b t from ext2 rfl rfl]
  exact rms_of (v38_eq x0 x1 x2 x3 x4 x5 x6 x7 x8 x9 x10 x11 b t)
    (g := fun j => x12 (ix1 j)) (congrArg x12 (by funext d; match d with | ⟨0, _⟩ => rfl))

/-- The flattened result. -/
theorem v50_eq (n : Fin 1024) (k : Fin 1024) : val_main_v50 (F := Ideal) x0 x1 x2 x3 x4 x5 x6 x7 x8 x9 x10 x11 x12 (ix2 n k)
    = val_main_v49 (F := Ideal) x0 x1 x2 x3 x4 x5 x6 x7 x8 x9 x10 x11 x12 (ix3 ⟨n.val / 8, by omega⟩ ⟨n.val % 8, by omega⟩ k) := by
  rw [val_main_v50_apply]
  refine congrArg _ (ext3 ?_ ?_ ?_)
  · show (n.val * 1024 + k.val) / 8192 = n.val / 8; omega
  · show (n.val * 1024 + k.val) / 1024 % 8 = n.val % 8; omega
  · show (n.val * 1024 + k.val) % 1024 = k.val; omega

end Cert.Reference4Ideal.Merge

end
-- ==== Proof.SampleClaims.lean ====
/- The merge and feed-forward call over the sampled tokens: its five claims. -/
module

public import proofs.«01_k».proof.Defs
public import proofs.«01_k».proof.Proof.SampleArray
public import proofs.«01_k».proof.Proof.SampleRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import Idealize.ShloMosaic.Lib.Quiescent

@[expose] public section

noncomputable section

namespace Cert.SampleClaims

open Idealize.ShloMosaic Idealize.SL.Sem Idealize.ShloMosaic.ValueIdx

/-- The two texts' values at an entry are the same row. -/
theorem ref_eq (x0 : Cert.Kernel4Ideal.S128x8x1024.Idx → EReal) (x1 x2 x3 x4 : Cert.Kernel4Ideal.S128x8x512.Idx → EReal) (x5 : Cert.Kernel4Ideal.S128x8x2048.Idx → EReal)
    (x6 x7 : Cert.Kernel4Ideal.S1x512x1024.Idx → EReal) (x8 : Cert.Kernel4Ideal.S1x1024x1024.Idx → EReal) (x9 : Cert.Kernel4Ideal.S1x1024.Idx → EReal)
    (x10 : Cert.Kernel4Ideal.S1x1024x4096.Idx → EReal) (x11 : Cert.Kernel4Ideal.S1x4096x1024.Idx → EReal) (x12 : Cert.Kernel4Ideal.S1024.Idx → EReal) :
    Cert.Reference4Ideal.Read.val_main_v50 (F := Ideal) x0 x1 x2 x3 x4 x5 x6 x7 x8 x9 x10 x11 x12
      = Cert.Kernel4Ideal.Merge.G x0 x1 x2 x3 x4 x5 x6 x7 x8 x9 x10 x11 x12 := by
  funext i
  obtain ⟨n, k, rfl⟩ : ∃ (n : Fin 1024) (k : Fin 1024), i = ix2 n k := ⟨i 0, i 1, by funext d; match d with | ⟨0, _⟩ => rfl | ⟨1, _⟩ => rfl⟩
  rw [Cert.Reference4Ideal.Merge.v50_eq, Cert.Reference4Ideal.Merge.v49_eq]
  rfl

theorem frameP : Cert.quiescent_Kernel4 (hKernel4 := Cert.Kernel4.Gen.facts) := fun m ρ _ => Cert.Kernel4.Gen.frame m ρ

theorem framePI : Cert.quiescent_Kernel4Ideal (hKernel4Ideal := Cert.Kernel4Ideal.Gen.facts) := fun m ρ _ => Cert.Kernel4Ideal.Gen.frame m ρ

theorem frameRI : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem alg : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Merge.Gm m c, ?_, ?_⟩
  · exact (θ_run Cert.Kernel4Ideal.defs _ _).mono (fun r h c => ⟨(h c).1.trans (Cert.Kernel4Ideal.Merge.final m c), (h c).2⟩)
      (Cert.Kernel4Ideal.Value.run_blocks m ρ)
  · refine (θ_run Cert.Reference4Ideal.defs _ _).mono (fun r h c => ⟨(h c).1.trans ?_, (h c).2⟩)
      (Cert.Reference4Ideal.Value.run (F := Ideal) m' ρ')
    obtain ⟨h0, h1, h2, h3, h4, h5, h6, h7, h8, h9, h10, h11, h12⟩ := hagree c
    rw [Cert.Reference4Ideal.Read.val_main_v50_eq, h0, h1, h2, h3, h4, h5, h6, h7, h8, h9, h10, h11, h12]
    exact ref_eq _ _ _ _ _ _ _ _ _ _ _ _ _

end Cert.SampleClaims

end
-- ==== Proof.lean ====
/- The claims of this directory, each proved in a module of its own: the four calls' values, their runs and what they keep. -/
module

public import proofs.«01_k».proof.Defs
public import proofs.«01_k».proof.Proof.AttnClaims
public import proofs.«01_k».proof.Proof.MergeClaims
public import proofs.«01_k».proof.Proof.InClaims
public import proofs.«01_k».proof.Proof.SampleClaims
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Pre_finite

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    Cert.AttnClaims.frameP, Cert.AttnClaims.framePI, Cert.AttnClaims.framePI', Cert.AttnClaims.frameRI, Cert.AttnClaims.frameRI',
    Cert.MergeClaims.frameP, Cert.MergeClaims.framePI, Cert.MergeClaims.frameRI,
    Cert.InClaims.frameP, Cert.InClaims.framePI, Cert.InClaims.frameRI,
    Cert.SampleClaims.frameP, Cert.SampleClaims.framePI, Cert.SampleClaims.frameRI,
    Cert.AttnClaims.pres, Cert.AttnClaims.alg, trivial, Cert.MergeClaims.alg, trivial, Cert.InClaims.alg, trivial, Cert.SampleClaims.alg⟩

end Cert.Proof

end
